-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v42_0)) (v1 : (c : Dev Cert.Kernel4Ideal.nD) → Buf (Elt Ideal) ((c.tc : Thread Cert.Kernel4Ideal.nD Cert.Kernel4Ideal.τ).loc Cert.Kernel4Ideal.main_v42_1)) (v2 : (c : Dev Cert.Kernel4Ideal.nD) → Buf (Elt Ideal) ((c.tc : Thread Cert.Kernel4Ideal.nD Cert.Kernel4Ideal.τ).loc Cert.Kernel4Ideal.main_v42_2)) (v3 : (c : Dev Cert.Kernel4Ideal.nD) → Buf (Elt Ideal) ((c.tc : Thread Cert.Kernel4Ideal.nD Cert.Kernel4Ideal.τ).loc Cert.Kernel4Ideal.main_v42_3)) (v4 : (c : Dev Cert.Kernel4Ideal.nD) → Buf (Elt Ideal) ((c.tc : Thread Cert.Kernel4Ideal.nD Cert.Kernel4Ideal.τ).loc Cert.Kernel4Ideal.main_v42_4)) (v5 : (c : Dev Cert.Kernel4Ideal.nD) → Buf (Elt Ideal) ((c.tc : Thread Cert.Kernel4Ideal.nD Cert.Kernel4Ideal.τ).loc Cert.Kernel4Ideal.main_v42_5)) (v6 : (c : Dev Cert.Kernel4Ideal.nD) → Buf (Elt Ideal) ((c.tc : Thread Cert.Kernel4Ideal.nD Cert.Kernel4Ideal.τ).loc Cert.Kernel4Ideal.main_v42_6)) (v7 : (c : Dev Cert.Kernel4Ideal.nD) → Buf (Elt Ideal) ((c.tc : Thread Cert.Kernel4Ideal.nD Cert.Kernel4Ideal.τ).loc Cert.Kernel4Ideal.main_v42_7)) (v8 : (c : Dev Cert.Kernel4Ideal.nD) → Buf (Elt Ideal) ((c.tc : Thread Cert.Kernel4Ideal.nD Cert.Kernel4Ideal.τ).loc Cert.Kernel4Ideal.main_v42_8)) (v9 : (c : Dev Cert.Kernel4Ideal.nD) → Buf (Elt Ideal) ((c.tc : Thread Cert.Kernel4Ideal.nD Cert.Kernel4Ideal.τ).loc Cert.Kernel4Ideal.main_v42_9)) (v10 : (c : Dev Cert.Kernel4Ideal.nD) → Buf (Elt Ideal) ((c.tc : Thread Cert.Kernel4Ideal.nD Cert.Kernel4Ideal.τ).loc Cert.Kernel4Ideal.main_v42_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42_0) = v0 c
          ∧ r.2.mem ((c.tc : Thread Cert.Kernel4Ideal.nD Cert.Kernel4Ideal.τ).loc Cert.Kernel4Ideal.main_v42_1) = v1 c
          ∧ r.2.mem ((c.tc : Thread Cert.Kernel4Ideal.nD Cert.Kernel4Ideal.τ).loc Cert.Kernel4Ideal.main_v42_2) = v2 c
          ∧ r.2.mem ((c.tc : Thread Cert.Kernel4Ideal.nD Cert.Kernel4Ideal.τ).loc Cert.Kernel4Ideal.main_v42_3) = v3 c
          ∧ r.2.mem ((c.tc : Thread Cert.Kernel4Ideal.nD Cert.Kernel4Ideal.τ).loc Cert.Kernel4Ideal.main_v42_4) = v4 c
          ∧ r.2.mem ((c.tc : Thread Cert.Kernel4Ideal.nD Cert.Kernel4Ideal.τ).loc Cert.Kernel4Ideal.main_v42_5) = v5 c
          ∧ r.2.mem ((c.tc : Thread Cert.Kernel4Ideal.nD Cert.Kernel4Ideal.τ).loc Cert.Kernel4Ideal.main_v42_6) = v6 c
          ∧ r.2.mem ((c.tc : Thread Cert.Kernel4Ideal.nD Cert.Kernel4Ideal.τ).loc Cert.Kernel4Ideal.main_v42_7) = v7 c
          ∧ r.2.mem ((c.tc : Thread Cert.Kernel4Ideal.nD Cert.Kernel4Ideal.τ).loc Cert.Kernel4Ideal.main_v42_8) = v8 c
          ∧ r.2.mem ((c.tc : Thread Cert.Kernel4Ideal.nD Cert.Kernel4Ideal.τ).loc Cert.Kernel4Ideal.main_v42_9) = v9 c
          ∧ r.2.mem ((c.tc : Thread Cert.Kernel4Ideal.nD Cert.Kernel4Ideal.τ).loc Cert.Kernel4Ideal.main_v42_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v65) = v2 c
          ∧ r.2.mem ((c.tc : Thread Cert.Reference4Ideal.nD Cert.Reference4Ideal.τ).loc Cert.Reference4Ideal.main_v68) = v3 c
          ∧ r.2.mem ((c.tc : Thread Cert.Reference4Ideal.nD Cert.Reference4Ideal.τ).loc Cert.Reference4Ideal.main_v123) = v4 c
          ∧ r.2.mem ((c.tc : Thread Cert.Reference4Ideal.nD Cert.Reference4Ideal.τ).loc Cert.Reference4Ideal.main_v124) = v5 c
          ∧ r.2.mem ((c.tc : Thread Cert.Reference4Ideal.nD Cert.Reference4Ideal.τ).loc Cert.Reference4Ideal.main_v138) = v6 c
          ∧ r.2.mem ((c.tc : Thread Cert.Reference4Ideal.nD Cert.Reference4Ideal.τ).loc Cert.Reference4Ideal.main_v140) = v7 c
          ∧ r.2.mem ((c.tc : Thread Cert.Reference4Ideal.nD Cert.Reference4Ideal.τ).loc Cert.Reference4Ideal.main_v141) = v8 c
          ∧ r.2.mem ((c.tc : Thread Cert.Reference4Ideal.nD Cert.Reference4Ideal.τ).loc Cert.Reference4Ideal.main_v131) = v9 c
          ∧ r.2.mem ((c.tc : Thread Cert.Reference4Ideal.nD Cert.Reference4Ideal.τ).loc Cert.Reference4Ideal.main_v137) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v246) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v112) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v55)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v55) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v144) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel2.lean ====
abbrev S2x8192x1024 : Shape := ⟨3, ![2, 8192, 1024]⟩
abbrev S2x8192x256 : Shape := ⟨3, ![2, 8192, 256]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S2x2x5632 : Shape := ⟨3, ![2, 2, 5632]⟩
abbrev S1x512x1024 : Shape := ⟨3, ![1, 512, 1024]⟩
abbrev S1x512x256 : Shape := ⟨3, ![1, 512, 256]⟩
abbrev S1x2x5632 : Shape := ⟨3, ![1, 2, 5632]⟩
abbrev S2x520x256 : Shape := ⟨3, ![2, 520, 256]⟩
abbrev S8x5632 : Shape := ⟨2, ![8, 5632]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S1x8x256 : Shape := ⟨3, ![1, 8, 256]⟩
abbrev S1x256 : Shape := ⟨2, ![1, 256]⟩
abbrev S2x5632 : Shape := ⟨2, ![2, 5632]⟩

abbrev nBuf : Space → Nat
  | .hbm => 17
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024x5632, .bf16⟩
  | .hbm, ⟨10, _⟩ => ⟨S2816x1024, .bf16⟩
  | .hbm, ⟨11, _⟩ => ⟨S1024x1024, .bf16⟩
  | .hbm, ⟨12, _⟩ => ⟨S256x1024, .bf16⟩
  | .hbm, ⟨13, _⟩ => ⟨S1x1024, .f32⟩
  | .hbm, ⟨14, _⟩ => ⟨S1x1024, .f32⟩
  | .hbm, ⟨15, _⟩ => ⟨S2x8192x1024, .f32⟩
  | .hbm, ⟨16, _⟩ => ⟨S2x2x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1024x5632, .bf16⟩
  | .local _ .vmem, ⟨6, _⟩ => ⟨S3x5632, .f32⟩
  | .local _ .vmem, ⟨7, _⟩ => ⟨S2816x1024, .bf16⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x2x5632, .f32⟩
  | .local _ .vmem, ⟨14, _⟩ => ⟨S1x2x5632, .f32⟩
  | .local _ .vmem, ⟨15, _⟩ => ⟨S2x520x256, .f32⟩
  | .local _ .vmem, ⟨16, _⟩ => ⟨S8x5632, .f32⟩
  | .local _ .vmem, ⟨17, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S2x8192x1024 : Shape := ⟨3, ![2, 8192, 1024]⟩
abbrev S2x8192x256 : Shape := ⟨3, ![2, 8192, 256]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x2x5632 : Shape := ⟨3, ![2, 2, 5632]⟩
abbrev S2x8194x5632 : Shape := ⟨3, ![2, 8194, 5632]⟩
abbrev S1x5632 : Shape := ⟨2, ![1, 5632]⟩
abbrev S5632 : Shape := ⟨1, ![5632]⟩
abbrev S1x1x5632 : Shape := ⟨3, ![1, 1, 5632]⟩
abbrev S2x8192x2816 : Shape := ⟨3, ![2, 8192, 2816]⟩

abbrev nBuf : Space → Nat
  | .hbm => 100
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x5632, .f32⟩
  | .hbm, ⟨26, _⟩ => ⟨S_, .f32⟩
  | .hbm, ⟨27, _⟩ => ⟨S2x2x5632, .f32⟩
  | .hbm, ⟨28, _⟩ => ⟨S2x8194x5632, .f32⟩
  | .hbm, ⟨29, _⟩ => ⟨S2x8192x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S2x8192x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S2x8192x5632, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S2x2x5632, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S_, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S_, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S_, .f32⟩
  | .hbm, ⟨62, _⟩ => ⟨S2x8192x2816, .f32⟩
  | .hbm, ⟨63, _⟩ => ⟨S2x8192x2816, .f32⟩
  | .hbm, ⟨64, _⟩ => ⟨S_, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S2x8192x2816, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S2x8192x1, .f32⟩
  | .hbm, ⟨83, _⟩ => ⟨S2x8192x1024, .f32⟩
  | .hbm, ⟨84, _⟩ => ⟨S2x8192x1024, .f32⟩
  | .hbm, ⟨85, _⟩ => ⟨S1x1x1024, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | .hbm, ⟨89, _⟩ => ⟨S2x8192x1024, .f32⟩
  | .hbm, ⟨90, _⟩ => ⟨S2x8192x1024, .f32⟩
  | .hbm, ⟨91, _⟩ => ⟨S_, .f32⟩
  | .hbm, ⟨92, _⟩ => ⟨S2x8192x1024, .f32⟩
  | .hbm, ⟨93, _⟩ => ⟨S2x8192x1024, .f32⟩
  | .hbm, ⟨94, _⟩ => ⟨S_, .f32⟩
  | .hbm, ⟨95, _⟩ => ⟨S2x8192x1024, .f32⟩
  | .hbm, ⟨96, _⟩ => ⟨S2x8192x1024, .f32⟩
  | .hbm, ⟨97, _⟩ => ⟨S2x8192x1024, .f32⟩
  | .hbm, ⟨98, _⟩ => ⟨S2x8192x1024, .f32⟩
  | .hbm, ⟨99, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Kernel3.lean ====
abbrev S16384x512 : Shape := ⟨2, ![16384, 512]⟩
abbrev S16384x3072 : Shape := ⟨2, ![16384, 3072]⟩
abbrev S16384x1024 : Shape := ⟨2, ![16384, 1024]⟩
abbrev S512x1024 : Shape := ⟨2, ![512, 1024]⟩
abbrev S1024x1024 : Shape := ⟨2, ![1024, 1024]⟩
abbrev S512x512 : Shape := ⟨2, ![512, 512]⟩
abbrev S512x3072 : Shape := ⟨2, ![512, 3072]⟩

abbrev nBuf : Space → Nat
  | .hbm => 14
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x3072, .f32⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .f32⟩
  | .local _ .vmem, ⟨7, _⟩ => ⟨S512x3072, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x512 : Shape := ⟨2, ![16384, 512]⟩
abbrev S16384x3072 : Shape := ⟨2, ![16384, 3072]⟩
abbrev S16384x1024 : Shape := ⟨2, ![16384, 1024]⟩
abbrev S512x1024 : Shape := ⟨2, ![512, 1024]⟩
abbrev S1024x1024 : Shape := ⟨2, ![1024, 1024]⟩
abbrev S16384x3x1024 : Shape := ⟨3, ![16384, 3, 1024]⟩
abbrev S16384x1x1024 : Shape := ⟨3, ![16384, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x3072, .f32⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16384x512, .f32⟩
  | .hbm, ⟨10, _⟩ => ⟨S16384x1024, .f32⟩
  | .hbm, ⟨11, _⟩ => ⟨S16384x512, .f32⟩
  | .hbm, ⟨12, _⟩ => ⟨S16384x1024, .f32⟩
  | .hbm, ⟨13, _⟩ => ⟨S16384x512, .f32⟩
  | .hbm, ⟨14, _⟩ => ⟨S16384x1024, .f32⟩
  | .hbm, ⟨15, _⟩ => ⟨S16384x3x1024, .f32⟩
  | .hbm, ⟨16, _⟩ => ⟨S16384x1x1024, .f32⟩
  | .hbm, ⟨17, _⟩ => ⟨S16384x1024, .f32⟩
  | .hbm, ⟨18, _⟩ => ⟨S16384x1024, .f32⟩
  | .hbm, ⟨19, _⟩ => ⟨S16384x1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x5912 : Shape := ⟨2, ![1024, 5912]⟩
abbrev S8192 : Shape := ⟨1, ![8192]⟩
abbrev S1024x1024 : Shape := ⟨2, ![1024, 1024]⟩
abbrev S1024x512 : Shape := ⟨2, ![1024, 512]⟩
abbrev S1024x768 : Shape := ⟨2, ![1024, 768]⟩
abbrev S1024x24 : Shape := ⟨2, ![1024, 24]⟩
abbrev S1024x3072 : Shape := ⟨2, ![1024, 3072]⟩
abbrev S_ : Shape := ⟨0, ![]⟩
abbrev S1024x128 : Shape := ⟨2, ![1024, 128]⟩
abbrev S1024x6016 : Shape := ⟨2, ![1024, 6016]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S16384x512 : Shape := ⟨2, ![16384, 512]⟩
abbrev S16384x256 : Shape := ⟨2, ![16384, 256]⟩
abbrev S16384x128 : Shape := ⟨2, ![16384, 128]⟩
abbrev S16384x3072 : Shape := ⟨2, ![16384, 3072]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩
abbrev S512x768 : Shape := ⟨2, ![512, 768]⟩

abbrev nBuf : Space → Nat
  | .hbm => 65
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5912, .f32⟩
  | .hbm, ⟨3, _⟩ => ⟨S8192, .i32⟩
  | .hbm, ⟨4, _⟩ => ⟨S1024x1024, .f32⟩
  | .hbm, ⟨5, _⟩ => ⟨S1024x512, .f32⟩
  | .hbm, ⟨6, _⟩ => ⟨S1024x512, .f32⟩
  | .hbm, ⟨7, _⟩ => ⟨S1024x768, .f32⟩
  | .hbm, ⟨8, _⟩ => ⟨S1024x24, .f32⟩
  | .hbm, ⟨9, _⟩ => ⟨S1024x3072, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x6016, .f32⟩
  | .hbm, ⟨14, _⟩ => ⟨S1024x6016, .bf16⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8192, .f32⟩
  | .hbm, ⟨27, _⟩ => ⟨S8192x1, .f32⟩
  | .hbm, ⟨28, _⟩ => ⟨S1x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S_, .f32⟩
  | .hbm, ⟨35, _⟩ => ⟨S8192x48, .f32⟩
  | .hbm, ⟨36, _⟩ => ⟨S_, .f32⟩
  | .hbm, ⟨37, _⟩ => ⟨S8192x48, .f32⟩
  | .hbm, ⟨38, _⟩ => ⟨S_, .f32⟩
  | .hbm, ⟨39, _⟩ => ⟨S8192x8, .f32⟩
  | .hbm, ⟨40, _⟩ => ⟨S8192x64, .f32⟩
  | .hbm, ⟨41, _⟩ => ⟨S8192x8, .f32⟩
  | .hbm, ⟨42, _⟩ => ⟨S8192x64, .f32⟩
  | .hbm, ⟨43, _⟩ => ⟨S8192x64, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S1x8192x1x64, .f32⟩
  | .hbm, ⟨48, _⟩ => ⟨S1x8192x2x64, .f32⟩
  | .hbm, ⟨49, _⟩ => ⟨S8192x128, .f32⟩
  | .hbm, ⟨50, _⟩ => ⟨S1x8192x1x64, .f32⟩
  | .hbm, ⟨51, _⟩ => ⟨S1x8192x2x64, .f32⟩
  | .hbm, ⟨52, _⟩ => ⟨S8192x128, .f32⟩
  | .hbm, ⟨53, _⟩ => ⟨S1x1024, .f32⟩
  | .hbm, ⟨54, _⟩ => ⟨S16384x512, .f32⟩
  | .hbm, ⟨55, _⟩ => ⟨S16384x512, .f32⟩
  | .hbm, ⟨56, _⟩ => ⟨S16384x512, .bf16⟩
  | .hbm, ⟨57, _⟩ => ⟨S16384x512, .bf16⟩
  | .hbm, ⟨58, _⟩ => ⟨S16384x512, .f32⟩
  | .hbm, ⟨59, _⟩ => ⟨S16384x256, .f32⟩
  | .hbm, ⟨60, _⟩ => ⟨S16384x256, .f32⟩
  | .hbm, ⟨61, _⟩ => ⟨S16384x256, .bf16⟩
  | .hbm, ⟨62, _⟩ => ⟨S16384x256, .bf16⟩
  | .hbm, ⟨63, _⟩ => ⟨S16384x128, .f32⟩
  | .hbm, ⟨64, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6016, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x128, .f32⟩
  | .local _ .vmem, ⟨29, _⟩ => ⟨S512x128, .f32⟩
  | .local _ .vmem, ⟨30, _⟩ => ⟨S512x3072, .f32⟩
  | .local _ .vmem, ⟨31, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev main_v42_4 : Ref sig .tc := ⟨.hbm, 58, rfl⟩
abbrev main_v42_5 : Ref sig .tc := ⟨.hbm, 59, rfl⟩
abbrev main_v42_6 : Ref sig .tc := ⟨.hbm, 60, rfl⟩
abbrev main_v42_7 : Ref sig .tc := ⟨.hbm, 61, rfl⟩
abbrev main_v42_8 : Ref sig .tc := ⟨.hbm, 62, rfl⟩
abbrev main_v42_9 : Ref sig .tc := ⟨.hbm, 63, rfl⟩
abbrev main_v42_10 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6016 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x3072 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S16384x1024 : Shape := ⟨2, ![16384, 1024]⟩
abbrev S1024 : Shape := ⟨1, ![1024]⟩
abbrev S1024x5912 : Shape := ⟨2, ![1024, 5912]⟩
abbrev S8192 : Shape := ⟨1, ![8192]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5912 : Shape := ⟨2, ![16384, 5912]⟩
abbrev S16384x512 : Shape := ⟨2, ![16384, 512]⟩
abbrev S16384x768 : Shape := ⟨2, ![16384, 768]⟩
abbrev S16384x24 : Shape := ⟨2, ![16384, 24]⟩
abbrev S16384x3072 : Shape := ⟨2, ![16384, 3072]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S16384x8 : Shape := ⟨2, ![16384, 8]⟩
abbrev S16384x1x8 : Shape := ⟨3, ![16384, 1, 8]⟩
abbrev S16384x8x64 : Shape := ⟨3, ![16384, 8, 64]⟩
abbrev S16384x8x8 : Shape := ⟨3, ![16384, 8, 8]⟩
abbrev S16384x8x48 : Shape := ⟨3, ![16384, 8, 48]⟩
abbrev S16384x128 : Shape := ⟨2, ![16384, 128]⟩
abbrev S16384x2x64 : Shape := ⟨3, ![16384, 2, 64]⟩
abbrev S16384x2x8 : Shape := ⟨3, ![16384, 2, 8]⟩
abbrev S16384x2x48 : Shape := ⟨3, ![16384, 2, 48]⟩
abbrev S16384x256 : Shape := ⟨2, ![16384, 256]⟩

abbrev nBuf : Space → Nat
  | .hbm => 161
  | .vmem => 0
  | .smem => 0
  | _ => 0

abbrev hbmTy0_0 (i : Nat) : BufTy := match i % 128 with
  | 0 => ⟨S16384x1024, .f32⟩
  | 1 => ⟨S1024, .f32⟩
  | 2 => ⟨S1024x5912, .f32⟩
  | 3 => ⟨S8192, .i32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S1x1024, .f32⟩
  | 18 => ⟨S16384x1024, .f32⟩
  | 19 => ⟨S16384x1024, .f32⟩
  | 20 => ⟨S16384x5912, .f32⟩
  | 21 => ⟨S16384x1024, .f32⟩
  | 22 => ⟨S16384x512, .f32⟩
  | 23 => ⟨S16384x512, .f32⟩
  | 24 => ⟨S16384x768, .f32⟩
  | 25 => ⟨S16384x24, .f32⟩
  | 26 => ⟨S16384x3072, .f32⟩
  | 27 => ⟨S16384x512, .f32⟩
  | 28 => ⟨S16384x512, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S16384x512, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S8192, .f32⟩
  | 50 => ⟨S8192x1, .f32⟩
  | 51 => ⟨S1x8, .f32⟩
  | 52 => ⟨S8192x8, .f32⟩
  | 53 => ⟨S8192x8, .f32⟩
  | 54 => ⟨S8192x8, .f32⟩
  | 55 => ⟨S16384x8, .f32⟩
  | 56 => ⟨S16384x1x8, .f32⟩
  | 57 => ⟨S16384x1x8, .f32⟩
  | 58 => ⟨S16384x1x8, .f32⟩
  | 59 => ⟨S16384x8x64, .f32⟩
  | 60 => ⟨S16384x8x8, .f32⟩
  | 61 => ⟨S16384x8x8, .f32⟩
  | 62 => ⟨S16384x8x8, .f32⟩
  | 63 => ⟨S16384x8x8, .f32⟩
  | 64 => ⟨S16384x8x8, .f32⟩
  | 65 => ⟨S16384x8x8, .f32⟩
  | 66 => ⟨S16384x8x8, .f32⟩
  | 67 => ⟨S16384x8x8, .f32⟩
  | 68 => ⟨S16384x8x8, .f32⟩
  | 69 => ⟨S16384x8x8, .f32⟩
  | 70 => ⟨S16384x8x8, .f32⟩
  | 71 => ⟨S16384x8x8, .f32⟩
  | 72 => ⟨S16384x8x48, .f32⟩
  | 73 => ⟨S16384x8x64, .f32⟩
  | 74 => ⟨S16384x512, .f32⟩
  | 75 => ⟨S_, .f32⟩
  | 76 => ⟨S16384x512, .f32⟩
  | 77 => ⟨S16384x512, .f32⟩
  | 78 => ⟨S16384x512, .bf16⟩
  | 79 => ⟨S16384x512, .f32⟩
  | 80 => ⟨S16384x512, .f32⟩
  | 81 => ⟨S16384x512, .bf16⟩
  | 82 => ⟨S16384x128, .f32⟩
  | 83 => ⟨S16384x128, .f32⟩
  | 84 => ⟨S16384x128, .f32⟩
  | 85 => ⟨S16384x128, .f32⟩
  | 86 => ⟨S16384x128, .f32⟩
  | 87 => ⟨S16384x128, .f32⟩
  | 88 => ⟨S16384x2x64, .f32⟩
  | 89 => ⟨S16384x2x8, .f32⟩
  | 90 => ⟨S16384x2x8, .f32⟩
  | 91 => ⟨S16384x2x8, .f32⟩
  | 92 => ⟨S16384x2x8, .f32⟩
  | 93 => ⟨S16384x2x8, .f32⟩
  | 94 => ⟨S16384x2x8, .f32⟩
  | 95 => ⟨S16384x2x8, .f32⟩
  | 96 => ⟨S16384x2x8, .f32⟩
  | 97 => ⟨S16384x2x8, .f32⟩
  | 98 => ⟨S16384x2x8, .f32⟩
  | 99 => ⟨S16384x2x8, .f32⟩
  | 100 => ⟨S16384x2x8, .f32⟩
  | 101 => ⟨S16384x2x48, .f32⟩
  | 102 => ⟨S16384x2x64, .f32⟩
  | 103 => ⟨S16384x128, .f32⟩
  | 104 => ⟨S16384x2x64, .f32⟩
  | 105 => ⟨S16384x2x8, .f32⟩
  | 106 => ⟨S16384x2x8, .f32⟩
  | 107 => ⟨S16384x2x8, .f32⟩
  | 108 => ⟨S16384x2x8, .f32⟩
  | 109 => ⟨S16384x2x8, .f32⟩
  | 110 => ⟨S16384x2x8, .f32⟩
  | 111 => ⟨S16384x2x8, .f32⟩
  | 112 => ⟨S16384x2x8, .f32⟩
  | 113 => ⟨S16384x2x8, .f32⟩
  | 114 => ⟨S16384x2x8, .f32⟩
  | 115 => ⟨S16384x2x8, .f32⟩
  | 116 => ⟨S16384x2x8, .f32⟩
  | 117 => ⟨S16384x2x48, .f32⟩
  | 118 => ⟨S16384x2x64, .f32⟩
  | 119 => ⟨S16384x128, .f32⟩
  | 120 => ⟨S16384x2x64, .f32⟩
  | 121 => ⟨S16384x2x8, .f32⟩
  | 122 => ⟨S16384x2x8, .f32⟩
  | 123 => ⟨S16384x2x8, .f32⟩
  | 124 => ⟨S16384x2x8, .f32⟩
  | 125 => ⟨S16384x2x8, .f32⟩
  | 126 => ⟨S16384x2x8, .f32⟩
  | 127 => ⟨S16384x2x8, .f32⟩
  | _ => ⟨S16384x1024, .f32⟩

abbrev hbmTy0_1 (i : Nat) : BufTy := match i % 128 with
  | 0 => ⟨S16384x2x8, .f32⟩
  | 1 => ⟨S16384x2x8, .f32⟩
  | 2 => ⟨S16384x2x8, .f32⟩
  | 3 => ⟨S16384x2x8, .f32⟩
  | 4 => ⟨S16384x2x8, .f32⟩
  | 5 => ⟨S16384x2x48, .f32⟩
  | 6 => ⟨S16384x2x64, .f32⟩
  | 7 => ⟨S16384x128, .f32⟩
  | 8 => ⟨S16384x512, .f32⟩
  | 9 => ⟨S16384x256, .f32⟩
  | 10 => ⟨S_, .i32⟩
  | 11 => ⟨S_, .f32⟩
  | 12 => ⟨S16384x128, .f32⟩
  | 13 => ⟨S16384x128, .f32⟩
  | 14 => ⟨S16384x128, .f32⟩
  | 15 => ⟨S_, .f32⟩
  | 16 => ⟨S16384x128, .f32⟩
  | 17 => ⟨S16384x128, .f32⟩
  | 18 => ⟨S_, .f32⟩
  | 19 => ⟨S16384x128, .f32⟩
  | 20 => ⟨S16384x128, .f32⟩
  | 21 => ⟨S16384x3072, .f32⟩
  | 22 => ⟨S16384x3072, .f32⟩
  | 23 => ⟨S_, .f32⟩
  | 24 => ⟨S16384x3072, .f32⟩
  | 25 => ⟨S16384x3072, .f32⟩
  | 26 => ⟨S_, .f32⟩
  | 27 => ⟨S16384x3072, .f32⟩
  | 28 => ⟨S16384x3072, .f32⟩
  | 29 => ⟨S16384x256, .f32⟩
  | 30 => ⟨S16384x256, .f32⟩
  | 31 => ⟨S16384x256, .bf16⟩
  | 32 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_c : Ref sig .tc := ⟨.hbm, 138, rfl⟩
abbrev main_call0_v0 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_cst_8 : Ref sig .tc := ⟨.hbm, 143, rfl⟩
abbrev main_v128 : Ref sig .tc := ⟨.hbm, 144, rfl⟩
abbrev main_v129 : Ref sig .tc := ⟨.hbm, 145, rfl⟩
abbrev main_cst_9 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_cst_10 : Ref sig .tc := ⟨.hbm, 151, rfl⟩
abbrev main_v134 : Ref sig .tc := ⟨.hbm, 152, rfl⟩
abbrev main_v135 : Ref sig .tc := ⟨.hbm, 153, rfl⟩
abbrev main_cst_11 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S2x8192x512 : Shape := ⟨3, ![2, 8192, 512]⟩
abbrev S31x512 : Shape := ⟨2, ![31, 512]⟩
abbrev S512 : Shape := ⟨1, ![512]⟩
abbrev S1x512 : Shape := ⟨2, ![1, 512]⟩
abbrev S1x256x512 : Shape := ⟨3, ![1, 256, 512]⟩
abbrev S288x512 : Shape := ⟨2, ![288, 512]⟩
abbrev S7x280x512 : Shape := ⟨3, ![7, 280, 512]⟩
abbrev S32x512 : Shape := ⟨2, ![32, 512]⟩
abbrev S256x512 : Shape := ⟨2, ![256, 512]⟩
abbrev S280x512 : Shape := ⟨2, ![280, 512]⟩
abbrev S1x280x512 : Shape := ⟨3, ![1, 280, 512]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x512, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S2x8192x512, .bf16⟩
  | .local _ .vmem, ⟨0, _⟩ => ⟨S1x256x512, .f32⟩
  | .local _ .vmem, ⟨1, _⟩ => ⟨S1x256x512, .f32⟩
  | .local _ .vmem, ⟨2, _⟩ => ⟨S31x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x256x512, .bf16⟩
  | .local _ .vmem, ⟨7, _⟩ => ⟨S1x256x512, .bf16⟩
  | .local _ .vmem, ⟨8, _⟩ => ⟨S288x512, .f32⟩
  | .local _ .vmem, ⟨9, _⟩ => ⟨S7x280x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x8192x512 : Shape := ⟨3, ![2, 8192, 512]⟩
abbrev S31x512 : Shape := ⟨2, ![31, 512]⟩
abbrev S512 : Shape := ⟨1, ![512]⟩
abbrev S_ : Shape := ⟨0, ![]⟩
abbrev S2x30x512 : Shape := ⟨3, ![2, 30, 512]⟩
abbrev S2x8222x512 : Shape := ⟨3, ![2, 8222, 512]⟩
abbrev S1x512 : Shape := ⟨2, ![1, 512]⟩
abbrev S1x1x512 : Shape := ⟨3, ![1, 1, 512]⟩
abbrev S2x8192 : Shape := ⟨2, ![2, 8192]⟩
abbrev S2x8192x1 : Shape := ⟨3, ![2, 8192, 1]⟩

abbrev nBuf : Space → Nat
  | .hbm => 266
  | .vmem => 0
  | .smem => 0
  | _ => 0

abbrev hbmTy0_0 (i : Nat) : BufTy := match i % 128 with
  | 0 => ⟨S2x8192x512, .f32⟩
  | 1 => ⟨S31x512, .f32⟩
  | 2 => ⟨S512, .f32⟩
  | 3 => ⟨S512, .f32⟩
  | 4 => ⟨S512, .f32⟩
  | 5 => ⟨S_, .f32⟩
  | 6 => ⟨S2x30x512, .f32⟩
  | 7 => ⟨S2x8222x512, .f32⟩
  | 8 => ⟨S2x8192x512, .f32⟩
  | 9 => ⟨S1x512, .f32⟩
  | 10 => ⟨S512, .f32⟩
  | 11 => ⟨S1x1x512, .f32⟩
  | 12 => ⟨S2x8192x512, .f32⟩
  | 13 => ⟨S2x8192x512, .f32⟩
  | 14 => ⟨S2x8192x512, .f32⟩
  | 15 => ⟨S1x512, .f32⟩
  | 16 => ⟨S512, .f32⟩
  | 17 => ⟨S1x1x512, .f32⟩
  | 18 => ⟨S2x8192x512, .f32⟩
  | 19 => ⟨S2x8192x512, .f32⟩
  | 20 => ⟨S2x8192x512, .f32⟩
  | 21 => ⟨S2x8192x512, .f32⟩
  | 22 => ⟨S1x512, .f32⟩
  | 23 => ⟨S512, .f32⟩
  | 24 => ⟨S1x1x512, .f32⟩
  | 25 => ⟨S2x8192x512, .f32⟩
  | 26 => ⟨S2x8192x512, .f32⟩
  | 27 => ⟨S2x8192x512, .f32⟩
  | 28 => ⟨S2x8192x512, .f32⟩
  | 29 => ⟨S1x512, .f32⟩
  | 30 => ⟨S512, .f32⟩
  | 31 => ⟨S1x1x512, .f32⟩
  | 32 => ⟨S2x8192x512, .f32⟩
  | 33 => ⟨S2x8192x512, .f32⟩
  | 34 => ⟨S2x8192x512, .f32⟩
  | 35 => ⟨S2x8192x512, .f32⟩
  | 36 => ⟨S1x512, .f32⟩
  | 37 => ⟨S512, .f32⟩
  | 38 => ⟨S1x1x512, .f32⟩
  | 39 => ⟨S2x8192x512, .f32⟩
  | 40 => ⟨S2x8192x512, .f32⟩
  | 41 => ⟨S2x8192x512, .f32⟩
  | 42 => ⟨S2x8192x512, .f32⟩
  | 43 => ⟨S1x512, .f32⟩
  | 44 => ⟨S512, .f32⟩
  | 45 => ⟨S1x1x512, .f32⟩
  | 46 => ⟨S2x8192x512, .f32⟩
  | 47 => ⟨S2x8192x512, .f32⟩
  | 48 => ⟨S2x8192x512, .f32⟩
  | 49 => ⟨S2x8192x512, .f32⟩
  | 50 => ⟨S1x512, .f32⟩
  | 51 => ⟨S512, .f32⟩
  | 52 => ⟨S1x1x512, .f32⟩
  | 53 => ⟨S2x8192x512, .f32⟩
  | 54 => ⟨S2x8192x512, .f32⟩
  | 55 => ⟨S2x8192x512, .f32⟩
  | 56 => ⟨S2x8192x512, .f32⟩
  | 57 => ⟨S1x512, .f32⟩
  | 58 => ⟨S512, .f32⟩
  | 59 => ⟨S1x1x512, .f32⟩
  | 60 => ⟨S2x8192x512, .f32⟩
  | 61 => ⟨S2x8192x512, .f32⟩
  | 62 => ⟨S2x8192x512, .f32⟩
  | 63 => ⟨S2x8192x512, .f32⟩
  | 64 => ⟨S1x512, .f32⟩
  | 65 => ⟨S512, .f32⟩
  | 66 => ⟨S1x1x512, .f32⟩
  | 67 => ⟨S2x8192x512, .f32⟩
  | 68 => ⟨S2x8192x512, .f32⟩
  | 69 => ⟨S2x8192x512, .f32⟩
  | 70 => ⟨S2x8192x512, .f32⟩
  | 71 => ⟨S1x512, .f32⟩
  | 72 => ⟨S512, .f32⟩
  | 73 => ⟨S1x1x512, .f32⟩
  | 74 => ⟨S2x8192x512, .f32⟩
  | 75 => ⟨S2x8192x512, .f32⟩
  | 76 => ⟨S2x8192x512, .f32⟩
  | 77 => ⟨S2x8192x512, .f32⟩
  | 78 => ⟨S1x512, .f32⟩
  | 79 => ⟨S512, .f32⟩
  | 80 => ⟨S1x1x512, .f32⟩
  | 81 => ⟨S2x8192x512, .f32⟩
  | 82 => ⟨S2x8192x512, .f32⟩
  | 83 => ⟨S2x8192x512, .f32⟩
  | 84 => ⟨S2x8192x512, .f32⟩
  | 85 => ⟨S1x512, .f32⟩
  | 86 => ⟨S512, .f32⟩
  | 87 => ⟨S1x1x512, .f32⟩
  | 88 => ⟨S2x8192x512, .f32⟩
  | 89 => ⟨S2x8192x512, .f32⟩
  | 90 => ⟨S2x8192x512, .f32⟩
  | 91 => ⟨S2x8192x512, .f32⟩
  | 92 => ⟨S1x512, .f32⟩
  | 93 => ⟨S512, .f32⟩
  | 94 => ⟨S1x1x512, .f32⟩
  | 95 => ⟨S2x8192x512, .f32⟩
  | 96 => ⟨S2x8192x512, .f32⟩
  | 97 => ⟨S2x8192x512, .f32⟩
  | 98 => ⟨S2x8192x512, .f32⟩
  | 99 => ⟨S1x512, .f32⟩
  | 100 => ⟨S512, .f32⟩
  | 101 => ⟨S1x1x512, .f32⟩
  | 102 => ⟨S2x8192x512, .f32⟩
  | 103 => ⟨S2x8192x512, .f32⟩
  | 104 => ⟨S2x8192x512, .f32⟩
  | 105 => ⟨S2x8192x512, .f32⟩
  | 106 => ⟨S1x512, .f32⟩
  | 107 => ⟨S512, .f32⟩
  | 108 => ⟨S1x1x512, .f32⟩
  | 109 => ⟨S2x8192x512, .f32⟩
  | 110 => ⟨S2x8192x512, .f32⟩
  | 111 => ⟨S2x8192x512, .f32⟩
  | 112 => ⟨S2x8192x512, .f32⟩
  | 113 => ⟨S1x512, .f32⟩
  | 114 => ⟨S512, .f32⟩
  | 115 => ⟨S1x1x512, .f32⟩
  | 116 => ⟨S2x8192x512, .f32⟩
  | 117 => ⟨S2x8192x512, .f32⟩
  | 118 => ⟨S2x8192x512, .f32⟩
  | 119 => ⟨S2x8192x512, .f32⟩
  | 120 => ⟨S1x512, .f32⟩
  | 121 => ⟨S512, .f32⟩
  | 122 => ⟨S1x1x512, .f32⟩
  | 123 => ⟨S2x8192x512, .f32⟩
  | 124 => ⟨S2x8192x512, .f32⟩
  | 125 => ⟨S2x8192x512, .f32⟩
  | 126 => ⟨S2x8192x512, .f32⟩
  | 127 => ⟨S1x512, .f32⟩
  | _ => ⟨S2x8192x512, .f32⟩

abbrev hbmTy0_1 (i : Nat) : BufTy := match i % 128 with
  | 0 => ⟨S512, .f32⟩
  | 1 => ⟨S1x1x512, .f32⟩
  | 2 => ⟨S2x8192x512, .f32⟩
  | 3 => ⟨S2x8192x512, .f32⟩
  | 4 => ⟨S2x8192x512, .f32⟩
  | 5 => ⟨S2x8192x512, .f32⟩
  | 6 => ⟨S1x512, .f32⟩
  | 7 => ⟨S512, .f32⟩
  | 8 => ⟨S1x1x512, .f32⟩
  | 9 => ⟨S2x8192x512, .f32⟩
  | 10 => ⟨S2x8192x512, .f32⟩
  | 11 => ⟨S2x8192x512, .f32⟩
  | 12 => ⟨S2x8192x512, .f32⟩
  | 13 => ⟨S1x512, .f32⟩
  | 14 => ⟨S512, .f32⟩
  | 15 => ⟨S1x1x512, .f32⟩
  | 16 => ⟨S2x8192x512, .f32⟩
  | 17 => ⟨S2x8192x512, .f32⟩
  | 18 => ⟨S2x8192x512, .f32⟩
  | 19 => ⟨S2x8192x512, .f32⟩
  | 20 => ⟨S1x512, .f32⟩
  | 21 => ⟨S512, .f32⟩
  | 22 => ⟨S1x1x512, .f32⟩
  | 23 => ⟨S2x8192x512, .f32⟩
  | 24 => ⟨S2x8192x512, .f32⟩
  | 25 => ⟨S2x8192x512, .f32⟩
  | 26 => ⟨S2x8192x512, .f32⟩
  | 27 => ⟨S1x512, .f32⟩
  | 28 => ⟨S512, .f32⟩
  | 29 => ⟨S1x1x512, .f32⟩
  | 30 => ⟨S2x8192x512, .f32⟩
  | 31 => ⟨S2x8192x512, .f32⟩
  | 32 => ⟨S2x8192x512, .f32⟩
  | 33 => ⟨S2x8192x512, .f32⟩
  | 34 => ⟨S1x512, .f32⟩
  | 35 => ⟨S512, .f32⟩
  | 36 => ⟨S1x1x512, .f32⟩
  | 37 => ⟨S2x8192x512, .f32⟩
  | 38 => ⟨S2x8192x512, .f32⟩
  | 39 => ⟨S2x8192x512, .f32⟩
  | 40 => ⟨S2x8192x512, .f32⟩
  | 41 => ⟨S1x512, .f32⟩
  | 42 => ⟨S512, .f32⟩
  | 43 => ⟨S1x1x512, .f32⟩
  | 44 => ⟨S2x8192x512, .f32⟩
  | 45 => ⟨S2x8192x512, .f32⟩
  | 46 => ⟨S2x8192x512, .f32⟩
  | 47 => ⟨S2x8192x512, .f32⟩
  | 48 => ⟨S1x512, .f32⟩
  | 49 => ⟨S512, .f32⟩
  | 50 => ⟨S1x1x512, .f32⟩
  | 51 => ⟨S2x8192x512, .f32⟩
  | 52 => ⟨S2x8192x512, .f32⟩
  | 53 => ⟨S2x8192x512, .f32⟩
  | 54 => ⟨S2x8192x512, .f32⟩
  | 55 => ⟨S1x512, .f32⟩
  | 56 => ⟨S512, .f32⟩
  | 57 => ⟨S1x1x512, .f32⟩
  | 58 => ⟨S2x8192x512, .f32⟩
  | 59 => ⟨S2x8192x512, .f32⟩
  | 60 => ⟨S2x8192x512, .f32⟩
  | 61 => ⟨S2x8192x512, .f32⟩
  | 62 => ⟨S1x512, .f32⟩
  | 63 => ⟨S512, .f32⟩
  | 64 => ⟨S1x1x512, .f32⟩
  | 65 => ⟨S2x8192x512, .f32⟩
  | 66 => ⟨S2x8192x512, .f32⟩
  | 67 => ⟨S2x8192x512, .f32⟩
  | 68 => ⟨S2x8192x512, .f32⟩
  | 69 => ⟨S1x512, .f32⟩
  | 70 => ⟨S512, .f32⟩
  | 71 => ⟨S1x1x512, .f32⟩
  | 72 => ⟨S2x8192x512, .f32⟩
  | 73 => ⟨S2x8192x512, .f32⟩
  | 74 => ⟨S2x8192x512, .f32⟩
  | 75 => ⟨S2x8192x512, .f32⟩
  | 76 => ⟨S1x512, .f32⟩
  | 77 => ⟨S512, .f32⟩
  | 78 => ⟨S1x1x512, .f32⟩
  | 79 => ⟨S2x8192x512, .f32⟩
  | 80 => ⟨S2x8192x512, .f32⟩
  | 81 => ⟨S2x8192x512, .f32⟩
  | 82 => ⟨S2x8192x512, .f32⟩
  | 83 => ⟨S1x512, .f32⟩
  | 84 => ⟨S512, .f32⟩
  | 85 => ⟨S1x1x512, .f32⟩
  | 86 => ⟨S2x8192x512, .f32⟩
  | 87 => ⟨S2x8192x512, .f32⟩
  | 88 => ⟨S2x8192x512, .f32⟩
  | 89 => ⟨S2x8192x512, .f32⟩
  | 90 => ⟨S1x512, .f32⟩
  | 91 => ⟨S512, .f32⟩
  | 92 => ⟨S1x1x512, .f32⟩
  | 93 => ⟨S2x8192x512, .f32⟩
  | 94 => ⟨S2x8192x512, .f32⟩
  | 95 => ⟨S2x8192x512, .f32⟩
  | 96 => ⟨S1x1x512, .f32⟩
  | 97 => ⟨S2x8192x512, .f32⟩
  | 98 => ⟨S2x8192x512, .f32⟩
  | 99 => ⟨S_, .f32⟩
  | 100 => ⟨S2x8192, .f32⟩
  | 101 => ⟨S2x8192x1, .f32⟩
  | 102 => ⟨S_, .f32⟩
  | 103 => ⟨S2x8192x1, .f32⟩
  | 104 => ⟨S2x8192x1, .f32⟩
  | 105 => ⟨S2x8192x512, .f32⟩
  | 106 => ⟨S2x8192x512, .f32⟩
  | 107 => ⟨S2x8192x512, .f32⟩
  | 108 => ⟨S_, .f32⟩
  | 109 => ⟨S2x8192, .f32⟩
  | 110 => ⟨S2x8192x1, .f32⟩
  | 111 => ⟨S_, .f32⟩
  | 112 => ⟨S2x8192x1, .f32⟩
  | 113 => ⟨S2x8192x1, .f32⟩
  | 114 => ⟨S2x8192x512, .f32⟩
  | 115 => ⟨S2x8192x512, .f32⟩
  | 116 => ⟨S_, .f32⟩
  | 117 => ⟨S2x8192x1, .f32⟩
  | 118 => ⟨S2x8192x1, .f32⟩
  | 119 => ⟨S2x8192x1, .f32⟩
  | 120 => ⟨S2x8192x512, .f32⟩
  | 121 => ⟨S2x8192x512, .f32⟩
  | 122 => ⟨S1x1x512, .f32⟩
  | 123 => ⟨S2x8192x512, .f32⟩
  | 124 => ⟨S2x8192x512, .f32⟩
  | 125 => ⟨S1x1x512, .f32⟩
  | 126 => ⟨S2x8192x512, .f32⟩
  | 127 => ⟨S2x8192x512, .f32⟩
  | _ => ⟨S2x8192x512, .f32⟩

abbrev hbmTy0_2 (i : Nat) : BufTy := match i % 128 with
  | 0 => ⟨S2x8192x512, .f32⟩
  | 1 => ⟨S2x8192x512, .f32⟩
  | 2 => ⟨S_, .f32⟩
  | 3 => ⟨S2x8192x512, .f32⟩
  | 4 => ⟨S2x8192x512, .f32⟩
  | 5 => ⟨S_, .f32⟩
  | 6 => ⟨S2x8192x512, .f32⟩
  | 7 => ⟨S2x8192x512, .f32⟩
  | 8 => ⟨S2x8192x512, .f32⟩
  | 9 => ⟨S2x8192x512, .bf16⟩
  | _ => ⟨S2x8192x512, .f32⟩

abbrev hbmTy (i : Nat) : BufTy := match i / 128 with
  | 0 => hbmTy0_0 i
  | 1 => hbmTy0_1 i
  | 2 => hbmTy0_2 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_cst_0 : Ref sig .tc := ⟨.hbm, 227, rfl⟩
abbrev main_v221 : Ref sig .tc := ⟨.hbm, 228, rfl⟩
abbrev main_v222 : Ref sig .tc := ⟨.hbm, 229, rfl⟩
abbrev main_cst_1 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_cst_2 : Ref sig .tc := ⟨.hbm, 236, rfl⟩
abbrev main_v228 : Ref sig .tc := ⟨.hbm, 237, rfl⟩
abbrev main_v229 : Ref sig .tc := ⟨.hbm, 238, rfl⟩
abbrev main_cst_3 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_cst_4 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_call0_v0 : Ref sig .tc := ⟨.hbm, 256, rfl⟩
abbrev main_call0_v1 : Ref sig .tc := ⟨.hbm, 257, rfl⟩
abbrev main_call0_cst : Ref sig .tc := ⟨.hbm, 258, rfl⟩
abbrev main_call0_v2 : Ref sig .tc := ⟨.hbm, 259, rfl⟩
abbrev main_call0_v3 : Ref sig .tc := ⟨.hbm, 260, rfl⟩
abbrev main_call0_cst_0 : Ref sig .tc := ⟨.hbm, 261, rfl⟩
abbrev main_call0_v4 : Ref sig .tc := ⟨.hbm, 262, rfl⟩
abbrev main_call0_v5 : Ref sig .tc := ⟨.hbm, 263, rfl⟩
abbrev main_v245 : Ref sig .tc := ⟨.hbm, 264, rfl⟩
abbrev main_v246 : Ref sig .tc := ⟨.hbm, 265, rfl⟩

abbrev nD : Nat := 1
abbrev τ : Topo := Topo.v7x

variable {F : FTy → Type} [FloatOps F]
-- ==== Kernel7.lean ====
abbrev S2x8192x512 : Shape := ⟨3, ![2, 8192, 512]⟩
abbrev S4x128x128 : Shape := ⟨3, ![4, 128, 128]⟩
abbrev S512 : Shape := ⟨1, ![512]⟩
abbrev S1x512 : Shape := ⟨2, ![1, 512]⟩
abbrev S1x512x512 : Shape := ⟨3, ![1, 512, 512]⟩
abbrev S528x512 : Shape := ⟨2, ![528, 512]⟩
abbrev S16x512 : Shape := ⟨2, ![16, 512]⟩
abbrev S512x512 : Shape := ⟨2, ![512, 512]⟩
abbrev S128x1 : Shape := ⟨2, ![128, 1]⟩
abbrev S128x128 : Shape := ⟨2, ![128, 128]⟩
abbrev S1x128x128 : Shape := ⟨3, ![1, 128, 128]⟩
abbrev S1x128 : Shape := ⟨2, ![1, 128]⟩

abbrev nBuf : Space → Nat
  | .hbm => 6
  | .vmem => 7
  | .smem => 0
  | _ => 0

abbrev bufTy : (tb : Table) → Fin (tcTables nBuf tb) → BufTy
  | .hbm, ⟨0, _⟩ => ⟨S2x8192x512, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S2x8192x512, .bf16⟩
  | .local _ .vmem, ⟨0, _⟩ => ⟨S1x512x512, .f32⟩
  | .local _ .vmem, ⟨1, _⟩ => ⟨S1x512x512, .f32⟩
  | .local _ .vmem, ⟨2, _⟩ => ⟨S4x128x128, .bf16⟩
  | .local _ .vmem, ⟨3, _⟩ => ⟨S1x512, .f32⟩
  | .local _ .vmem, ⟨4, _⟩ => ⟨S1x512x512, .bf16⟩
  | .local _ .vmem, ⟨5, _⟩ => ⟨S1x512x512, .bf16⟩
  | .local _ .vmem, ⟨6, _⟩ => ⟨S528x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x8192x512 : Shape := ⟨3, ![2, 8192, 512]⟩
abbrev S4x128x128 : Shape := ⟨3, ![4, 128, 128]⟩
abbrev S512 : Shape := ⟨1, ![512]⟩
abbrev S_ : Shape := ⟨0, ![]⟩
abbrev S2x15x512 : Shape := ⟨3, ![2, 15, 512]⟩
abbrev S2x8207x512 : Shape := ⟨3, ![2, 8207, 512]⟩
abbrev S8192 : Shape := ⟨1, ![8192]⟩
abbrev S2x8192x128 : Shape := ⟨3, ![2, 8192, 128]⟩
abbrev S1x8192x1 : Shape := ⟨3, ![1, 8192, 1]⟩
abbrev S1x128x128 : Shape := ⟨3, ![1, 128, 128]⟩
abbrev S128x128 : Shape := ⟨2, ![128, 128]⟩
abbrev S1x1x512 : Shape := ⟨3, ![1, 1, 512]⟩

abbrev nBuf : Space → Nat
  | .hbm => 125
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S4x128x128, .f32⟩
  | .hbm, ⟨2, _⟩ => ⟨S512, .f32⟩
  | .hbm, ⟨3, _⟩ => ⟨S_, .f32⟩
  | .hbm, ⟨4, _⟩ => ⟨S2x15x512, .f32⟩
  | .hbm, ⟨5, _⟩ => ⟨S2x8207x512, .f32⟩
  | .hbm, ⟨6, _⟩ => ⟨S8192, .i32⟩
  | .hbm, ⟨7, _⟩ => ⟨S8192, .f32⟩
  | .hbm, ⟨8, _⟩ => ⟨S2x8192x128, .f32⟩
  | .hbm, ⟨9, _⟩ => ⟨S2x8192x128, .f32⟩
  | .hbm, ⟨10, _⟩ => ⟨S2x8192x128, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S1x8192x1, .f32⟩
  | .hbm, ⟨18, _⟩ => ⟨S2x8192x128, .f32⟩
  | .hbm, ⟨19, _⟩ => ⟨S2x8192x128, .f32⟩
  | .hbm, ⟨20, _⟩ => ⟨S2x8192x128, .f32⟩
  | .hbm, ⟨21, _⟩ => ⟨S2x8192x128, .f32⟩
  | .hbm, ⟨22, _⟩ => ⟨S1x128x128, .f32⟩
  | .hbm, ⟨23, _⟩ => ⟨S128x128, .f32⟩
  | .hbm, ⟨24, _⟩ => ⟨S2x8192x128, .f32⟩
  | .hbm, ⟨25, _⟩ => ⟨S2x8192x128, .f32⟩
  | .hbm, ⟨26, _⟩ => ⟨S2x8192x128, .f32⟩
  | .hbm, ⟨27, _⟩ => ⟨S2x8192x128, .f32⟩
  | .hbm, ⟨28, _⟩ => ⟨S2x8192x128, .f32⟩
  | .hbm, ⟨29, _⟩ => ⟨S2x8192x128, .f32⟩
  | .hbm, ⟨30, _⟩ => ⟨S2x8192x128, .f32⟩
  | .hbm, ⟨31, _⟩ => ⟨S2x8192x128, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S1x8192x1, .f32⟩
  | .hbm, ⟨39, _⟩ => ⟨S2x8192x128, .f32⟩
  | .hbm, ⟨40, _⟩ => ⟨S2x8192x128, .f32⟩
  | .hbm, ⟨41, _⟩ => ⟨S2x8192x128, .f32⟩
  | .hbm, ⟨42, _⟩ => ⟨S2x8192x128, .f32⟩
  | .hbm, ⟨43, _⟩ => ⟨S1x128x128, .f32⟩
  | .hbm, ⟨44, _⟩ => ⟨S128x128, .f32⟩
  | .hbm, ⟨45, _⟩ => ⟨S2x8192x128, .f32⟩
  | .hbm, ⟨46, _⟩ => ⟨S2x8192x128, .f32⟩
  | .hbm, ⟨47, _⟩ => ⟨S2x8192x128, .f32⟩
  | .hbm, ⟨48, _⟩ => ⟨S2x8192x128, .f32⟩
  | .hbm, ⟨49, _⟩ => ⟨S2x8192x128, .f32⟩
  | .hbm, ⟨50, _⟩ => ⟨S2x8192x128, .f32⟩
  | .hbm, ⟨51, _⟩ => ⟨S2x8192x128, .f32⟩
  | .hbm, ⟨52, _⟩ => ⟨S2x8192x128, .f32⟩
  | .hbm, ⟨53, _⟩ => ⟨S2x8192x128, .f32⟩
  | .hbm, ⟨54, _⟩ => ⟨S2x8192x128, .f32⟩
  | .hbm, ⟨55, _⟩ => ⟨S2x8192x128, .f32⟩
  | .hbm, ⟨56, _⟩ => ⟨S2x8192x128, .f32⟩
  | .hbm, ⟨57, _⟩ => ⟨S2x8192x128, .f32⟩
  | .hbm, ⟨58, _⟩ => ⟨S2x8192x128, .f32⟩
  | .hbm, ⟨59, _⟩ => ⟨S2x8192x128, .f32⟩
  | .hbm, ⟨60, _⟩ => ⟨S2x8192x128, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S1x8192x1, .f32⟩
  | .hbm, ⟨68, _⟩ => ⟨S2x8192x128, .f32⟩
  | .hbm, ⟨69, _⟩ => ⟨S2x8192x128, .f32⟩
  | .hbm, ⟨70, _⟩ => ⟨S2x8192x128, .f32⟩
  | .hbm, ⟨71, _⟩ => ⟨S2x8192x128, .f32⟩
  | .hbm, ⟨72, _⟩ => ⟨S1x128x128, .f32⟩
  | .hbm, ⟨73, _⟩ => ⟨S128x128, .f32⟩
  | .hbm, ⟨74, _⟩ => ⟨S2x8192x128, .f32⟩
  | .hbm, ⟨75, _⟩ => ⟨S2x8192x128, .f32⟩
  | .hbm, ⟨76, _⟩ => ⟨S2x8192x128, .f32⟩
  | .hbm, ⟨77, _⟩ => ⟨S2x8192x128, .f32⟩
  | .hbm, ⟨78, _⟩ => ⟨S2x8192x128, .f32⟩
  | .hbm, ⟨79, _⟩ => ⟨S2x8192x128, .f32⟩
  | .hbm, ⟨80, _⟩ => ⟨S2x8192x128, .f32⟩
  | .hbm, ⟨81, _⟩ => ⟨S2x8192x128, .f32⟩
  | .hbm, ⟨82, _⟩ => ⟨S2x8192x128, .f32⟩
  | .hbm, ⟨83, _⟩ => ⟨S2x8192x128, .f32⟩
  | .hbm, ⟨84, _⟩ => ⟨S2x8192x128, .f32⟩
  | .hbm, ⟨85, _⟩ => ⟨S2x8192x128, .f32⟩
  | .hbm, ⟨86, _⟩ => ⟨S2x8192x128, .f32⟩
  | .hbm, ⟨87, _⟩ => ⟨S2x8192x128, .f32⟩
  | .hbm, ⟨88, _⟩ => ⟨S2x8192x128, .f32⟩
  | .hbm, ⟨89, _⟩ => ⟨S2x8192x128, .f32⟩
  | .hbm, ⟨90, _⟩ => ⟨S2x8192x128, .f32⟩
  | .hbm, ⟨91, _⟩ => ⟨S2x8192x128, .f32⟩
  | .hbm, ⟨92, _⟩ => ⟨S2x8192x128, .f32⟩
  | .hbm, ⟨93, _⟩ => ⟨S2x8192x128, .f32⟩
  | .hbm, ⟨94, _⟩ => ⟨S2x8192x128, .f32⟩
  | .hbm, ⟨95, _⟩ => ⟨S2x8192x128, .f32⟩
  | .hbm, ⟨96, _⟩ => ⟨S2x8192x128, .f32⟩
  | .hbm, ⟨97, _⟩ => ⟨S2x8192x128, .f32⟩
  | .hbm, ⟨98, _⟩ => ⟨S2x8192x128, .f32⟩
  | .hbm, ⟨99, _⟩ => ⟨S2x8192x128, .f32⟩
  | .hbm, ⟨100, _⟩ => ⟨S2x8192x128, .f32⟩
  | .hbm, ⟨101, _⟩ => ⟨S2x8192x128, .f32⟩
  | .hbm, ⟨102, _⟩ => ⟨S2x8192x128, .f32⟩
  | .hbm, ⟨103, _⟩ => ⟨S2x8192x128, .f32⟩
  | .hbm, ⟨104, _⟩ => ⟨S2x8192x128, .f32⟩
  | .hbm, ⟨105, _⟩ => ⟨S2x8192x128, .f32⟩
  | .hbm, ⟨106, _⟩ => ⟨S_, .f32⟩
  | .hbm, ⟨107, _⟩ => ⟨S8192, .f32⟩
  | .hbm, ⟨108, _⟩ => ⟨S8192, .f32⟩
  | .hbm, ⟨109, _⟩ => ⟨S_, .f32⟩
  | .hbm, ⟨110, _⟩ => ⟨S8192, .f32⟩
  | .hbm, ⟨111, _⟩ => ⟨S8192, .f32⟩
  | .hbm, ⟨112, _⟩ => ⟨S1x8192x1, .f32⟩
  | .hbm, ⟨113, _⟩ => ⟨S2x8192x128, .f32⟩
  | .hbm, ⟨114, _⟩ => ⟨S2x8192x128, .f32⟩
  | .hbm, ⟨115, _⟩ => ⟨S2x8192x128, .f32⟩
  | .hbm, ⟨116, _⟩ => ⟨S2x8192x128, .f32⟩
  | .hbm, ⟨117, _⟩ => ⟨S1x128x128, .f32⟩
  | .hbm, ⟨118, _⟩ => ⟨S128x128, .f32⟩
  | .hbm, ⟨119, _⟩ => ⟨S2x8192x128, .f32⟩
  | .hbm, ⟨120, _⟩ => ⟨S2x8192x512, .f32⟩
  | .hbm, ⟨121, _⟩ => ⟨S1x1x512, .f32⟩
  | .hbm, ⟨122, _⟩ => ⟨S2x8192x512, .f32⟩
  | .hbm, ⟨123, _⟩ => ⟨S2x8192x512, .f32⟩
  | .hbm, ⟨124, _⟩ => ⟨S2x8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_cst_6 : Ref sig .tc := ⟨.hbm, 106, rfl⟩
abbrev main_v96 : Ref sig .tc := ⟨.hbm, 107, rfl⟩
abbrev main_v97 : Ref sig .tc := ⟨.hbm, 108, rfl⟩
abbrev main_cst_7 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩

abbrev nD : Nat := 1
abbrev τ : Topo := Topo.v7x

variable {F : FTy → Type} [FloatOps F]
-- ==== Kernel8.lean ====
abbrev S2x8192x256 : Shape := ⟨3, ![2, 8192, 256]⟩
abbrev S2x32x64 : Shape := ⟨3, ![2, 32, 64]⟩
abbrev S2x2048x64 : Shape := ⟨3, ![2, 2048, 64]⟩
abbrev S2x64x64 : Shape := ⟨3, ![2, 64, 64]⟩
abbrev S2x2 : Shape := ⟨2, ![2, 2]⟩
abbrev S_ : Shape := ⟨0, ![]⟩
abbrev S2x32x64x64 : Shape := ⟨4, ![2, 32, 64, 64]⟩
abbrev S2x16x64x64 : Shape := ⟨4, ![2, 16, 64, 64]⟩
abbrev S16x2x64x64 : Shape := ⟨4, ![16, 2, 64, 64]⟩
abbrev S16x2x1x64x1x1x64 : Shape := ⟨7, ![16, 2, 1, 64, 1, 1, 64]⟩
abbrev S1x2x1x1x2x1x1 : Shape := ⟨7, ![1, 2, 1, 1, 2, 1, 1]⟩
abbrev S16x2x1x64x2x1x64 : Shape := ⟨7, ![16, 2, 1, 64, 2, 1, 64]⟩
abbrev S1x1x2x1x1x2x1 : Shape := ⟨7, ![1, 1, 2, 1, 1, 2, 1]⟩
abbrev S16x2x2x64x2x2x64 : Shape := ⟨7, ![16, 2, 2, 64, 2, 2, 64]⟩
abbrev S4096x256 : Shape := ⟨2, ![4096, 256]⟩
abbrev S2x1x64x1x1x64 : Shape := ⟨6, ![2, 1, 64, 1, 1, 64]⟩
abbrev S2x1x1x2x1x1 : Shape := ⟨6, ![2, 1, 1, 2, 1, 1]⟩
abbrev S2x1x64x2x1x64 : Shape := ⟨6, ![2, 1, 64, 2, 1, 64]⟩
abbrev S1x2x1x1x2x1 : Shape := ⟨6, ![1, 2, 1, 1, 2, 1]⟩
abbrev S2x2x64x2x2x64 : Shape := ⟨6, ![2, 2, 64, 2, 2, 64]⟩
abbrev S256x256 : Shape := ⟨2, ![256, 256]⟩
abbrev S2x16x64 : Shape := ⟨3, ![2, 16, 64]⟩
abbrev S16x2x64 : Shape := ⟨3, ![16, 2, 64]⟩
abbrev S16x2x1x64 : Shape := ⟨4, ![16, 2, 1, 64]⟩
abbrev S16x2x2x64 : Shape := ⟨4, ![16, 2, 2, 64]⟩
abbrev S1x4096 : Shape := ⟨2, ![1, 4096]⟩
abbrev S2x512x4096 : Shape := ⟨3, ![2, 512, 4096]⟩
abbrev S2x512x256 : Shape := ⟨3, ![2, 512, 256]⟩
abbrev S1x512x4096 : Shape := ⟨3, ![1, 512, 4096]⟩
abbrev S1x512x256 : Shape := ⟨3, ![1, 512, 256]⟩
abbrev S520x256 : Shape := ⟨2, ![520, 256]⟩
abbrev S512x4096 : Shape := ⟨2, ![512, 4096]⟩
abbrev S512x256 : Shape := ⟨2, ![512, 256]⟩
abbrev S8x256 : Shape := ⟨2, ![8, 256]⟩

abbrev nBuf : Space → Nat
  | .hbm => 61
  | .vmem => 10
  | .smem => 0
  | _ => 0

abbrev bufTy : (tb : Table) → Fin (tcTables nBuf tb) → BufTy
  | .hbm, ⟨0, _⟩ => ⟨S2x8192x256, .f32⟩
  | .hbm, ⟨1, _⟩ => ⟨S2x32x64, .f32⟩
  | .hbm, ⟨2, _⟩ => ⟨S2x2048x64, .f32⟩
  | .hbm, ⟨3, _⟩ => ⟨S2x64x64, .f32⟩
  | .hbm, ⟨4, _⟩ => ⟨S2x2, .i32⟩
  | .hbm, ⟨5, _⟩ => ⟨S2x2, .i32⟩
  | .hbm, ⟨6, _⟩ => ⟨S_, .i32⟩
  | .hbm, ⟨7, _⟩ => ⟨S2x2, .i32⟩
  | .hbm, ⟨8, _⟩ => ⟨S2x2, .i32⟩
  | .hbm, ⟨9, _⟩ => ⟨S2x2, .i1⟩
  | .hbm, ⟨10, _⟩ => ⟨S2x2, .f32⟩
  | .hbm, ⟨11, _⟩ => ⟨S2x32x64x64, .f32⟩
  | .hbm, ⟨12, _⟩ => ⟨S2x16x64x64, .f32⟩
  | .hbm, ⟨13, _⟩ => ⟨S16x2x64x64, .f32⟩
  | .hbm, ⟨14, _⟩ => ⟨S16x2x1x64x1x1x64, .f32⟩
  | .hbm, ⟨15, _⟩ => ⟨S1x2x1x1x2x1x1, .f32⟩
  | .hbm, ⟨16, _⟩ => ⟨S16x2x1x64x2x1x64, .f32⟩
  | .hbm, ⟨17, _⟩ => ⟨S16x2x1x64x2x1x64, .f32⟩
  | .hbm, ⟨18, _⟩ => ⟨S16x2x1x64x2x1x64, .f32⟩
  | .hbm, ⟨19, _⟩ => ⟨S1x1x2x1x1x2x1, .f32⟩
  | .hbm, ⟨20, _⟩ => ⟨S16x2x2x64x2x2x64, .f32⟩
  | .hbm, ⟨21, _⟩ => ⟨S16x2x2x64x2x2x64, .f32⟩
  | .hbm, ⟨22, _⟩ => ⟨S16x2x2x64x2x2x64, .f32⟩
  | .hbm, ⟨23, _⟩ => ⟨S4096x256, .f32⟩
  | .hbm, ⟨24, _⟩ => ⟨S4096x256, .bf16⟩
  | .hbm, ⟨25, _⟩ => ⟨S2x16x64x64, .f32⟩
  | .hbm, ⟨26, _⟩ => ⟨S16x2x64x64, .f32⟩
  | .hbm, ⟨27, _⟩ => ⟨S16x2x1x64x1x1x64, .f32⟩
  | .hbm, ⟨28, _⟩ => ⟨S1x2x1x1x2x1x1, .f32⟩
  | .hbm, ⟨29, _⟩ => ⟨S16x2x1x64x2x1x64, .f32⟩
  | .hbm, ⟨30, _⟩ => ⟨S16x2x1x64x2x1x64, .f32⟩
  | .hbm, ⟨31, _⟩ => ⟨S16x2x1x64x2x1x64, .f32⟩
  | .hbm, ⟨32, _⟩ => ⟨S1x1x2x1x1x2x1, .f32⟩
  | .hbm, ⟨33, _⟩ => ⟨S16x2x2x64x2x2x64, .f32⟩
  | .hbm, ⟨34, _⟩ => ⟨S16x2x2x64x2x2x64, .f32⟩
  | .hbm, ⟨35, _⟩ => ⟨S16x2x2x64x2x2x64, .f32⟩
  | .hbm, ⟨36, _⟩ => ⟨S4096x256, .f32⟩
  | .hbm, ⟨37, _⟩ => ⟨S4096x256, .bf16⟩
  | .hbm, ⟨38, _⟩ => ⟨S2x1x64x1x1x64, .f32⟩
  | .hbm, ⟨39, _⟩ => ⟨S2x1x1x2x1x1, .f32⟩
  | .hbm, ⟨40, _⟩ => ⟨S2x1x64x2x1x64, .f32⟩
  | .hbm, ⟨41, _⟩ => ⟨S2x1x64x2x1x64, .f32⟩
  | .hbm, ⟨42, _⟩ => ⟨S2x1x64x2x1x64, .f32⟩
  | .hbm, ⟨43, _⟩ => ⟨S1x2x1x1x2x1, .f32⟩
  | .hbm, ⟨44, _⟩ => ⟨S2x2x64x2x2x64, .f32⟩
  | .hbm, ⟨45, _⟩ => ⟨S2x2x64x2x2x64, .f32⟩
  | .hbm, ⟨46, _⟩ => ⟨S2x2x64x2x2x64, .f32⟩
  | .hbm, ⟨47, _⟩ => ⟨S256x256, .f32⟩
  | .hbm, ⟨48, _⟩ => ⟨S256x256, .bf16⟩
  | .hbm, ⟨49, _⟩ => ⟨S2x16x64, .f32⟩
  | .hbm, ⟨50, _⟩ => ⟨S16x2x64, .f32⟩
  | .hbm, ⟨51, _⟩ => ⟨S16x2x1x64, .f32⟩
  | .hbm, ⟨52, _⟩ => ⟨S16x2x2x64, .f32⟩
  | .hbm, ⟨53, _⟩ => ⟨S1x4096, .f32⟩
  | .hbm, ⟨54, _⟩ => ⟨S2x16x64, .f32⟩
  | .hbm, ⟨55, _⟩ => ⟨S16x2x64, .f32⟩
  | .hbm, ⟨56, _⟩ => ⟨S16x2x1x64, .f32⟩
  | .hbm, ⟨57, _⟩ => ⟨S16x2x2x64, .f32⟩
  | .hbm, ⟨58, _⟩ => ⟨S1x4096, .f32⟩
  | .hbm, ⟨59, _⟩ => ⟨S2x512x4096, .f32⟩
  | .hbm, ⟨60, _⟩ => ⟨S2x512x256, .f32⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x4096, .f32⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S1x512x256, .f32⟩
  | .local _ .vmem, ⟨8, _⟩ => ⟨S1x512x256, .f32⟩
  | .local _ .vmem, ⟨9, _⟩ => ⟨S520x256, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2x8192x256 : Shape := ⟨3, ![2, 8192, 256]⟩
abbrev S2x32x64 : Shape := ⟨3, ![2, 32, 64]⟩
abbrev S2x2048x64 : Shape := ⟨3, ![2, 2048, 64]⟩
abbrev S2x64x64 : Shape := ⟨3, ![2, 64, 64]⟩
abbrev S2x8192x64 : Shape := ⟨3, ![2, 8192, 64]⟩
abbrev S2x512x16x64 : Shape := ⟨4, ![2, 512, 16, 64]⟩
abbrev S1x16x64 : Shape := ⟨3, ![1, 16, 64]⟩
abbrev S16x64 : Shape := ⟨2, ![16, 64]⟩
abbrev S1x1x16x64 : Shape := ⟨4, ![1, 1, 16, 64]⟩
abbrev S2x511x16x64 : Shape := ⟨4, ![2, 511, 16, 64]⟩
abbrev S_ : Shape := ⟨0, ![]⟩
abbrev S2x1x16x64 : Shape := ⟨4, ![2, 1, 16, 64]⟩
abbrev S2x512x32x64 : Shape := ⟨4, ![2, 512, 32, 64]⟩
abbrev S2x512x2048 : Shape := ⟨3, ![2, 512, 2048]⟩
abbrev S1x2048x64 : Shape := ⟨3, ![1, 2048, 64]⟩
abbrev S2048x64 : Shape := ⟨2, ![2048, 64]⟩
abbrev S2x512x64 : Shape := ⟨3, ![2, 512, 64]⟩
abbrev S1x64x64 : Shape := ⟨3, ![1, 64, 64]⟩
abbrev S64x64 : Shape := ⟨2, ![64, 64]⟩
abbrev S2x512x256 : Shape := ⟨3, ![2, 512, 256]⟩

abbrev nBuf : Space → Nat
  | .hbm => 169
  | .vmem => 0
  | .smem => 0
  | _ => 0

abbrev hbmTy0_0 (i : Nat) : BufTy := match i % 128 with
  | 0 => ⟨S2x8192x256, .f32⟩
  | 1 => ⟨S2x32x64, .f32⟩
  | 2 => ⟨S2x2048x64, .f32⟩
  | 3 => ⟨S2x64x64, .f32⟩
  | 4 => ⟨S2x8192x64, .f32⟩
  | 5 => ⟨S2x512x16x64, .f32⟩
  | 6 => ⟨S1x16x64, .f32⟩
  | 7 => ⟨S16x64, .f32⟩
  | 8 => ⟨S1x1x16x64, .f32⟩
  | 9 => ⟨S2x512x16x64, .f32⟩
  | 10 => ⟨S2x512x16x64, .f32⟩
  | 11 => ⟨S2x511x16x64, .f32⟩
  | 12 => ⟨S1x16x64, .f32⟩
  | 13 => ⟨S16x64, .f32⟩
  | 14 => ⟨S1x1x16x64, .f32⟩
  | 15 => ⟨S2x511x16x64, .f32⟩
  | 16 => ⟨S2x511x16x64, .f32⟩
  | 17 => ⟨S_, .f32⟩
  | 18 => ⟨S2x1x16x64, .f32⟩
  | 19 => ⟨S2x512x16x64, .f32⟩
  | 20 => ⟨S2x512x32x64, .f32⟩
  | 21 => ⟨S2x512x2048, .f32⟩
  | 22 => ⟨S1x2048x64, .f32⟩
  | 23 => ⟨S2048x64, .f32⟩
  | 24 => ⟨S2x512x64, .f32⟩
  | 25 => ⟨S2x512x64, .f32⟩
  | 26 => ⟨S2x512x64, .f32⟩
  | 27 => ⟨S_, .f32⟩
  | 28 => ⟨S2x512x64, .f32⟩
  | 29 => ⟨S2x512x64, .f32⟩
  | 30 => ⟨S2x512x64, .f32⟩
  | 31 => ⟨S_, .f32⟩
  | 32 => ⟨S2x512x64, .f32⟩
  | 33 => ⟨S2x512x64, .f32⟩
  | 34 => ⟨S2x512x64, .f32⟩
  | 35 => ⟨S_, .f32⟩
  | 36 => ⟨S2x512x64, .f32⟩
  | 37 => ⟨S2x512x64, .f32⟩
  | 38 => ⟨S_, .f32⟩
  | 39 => ⟨S2x512x64, .f32⟩
  | 40 => ⟨S2x512x64, .f32⟩
  | 41 => ⟨S2x512x64, .f32⟩
  | 42 => ⟨S1x64x64, .f32⟩
  | 43 => ⟨S64x64, .f32⟩
  | 44 => ⟨S2x512x64, .f32⟩
  | 45 => ⟨S2x8192x64, .f32⟩
  | 46 => ⟨S2x512x16x64, .f32⟩
  | 47 => ⟨S1x16x64, .f32⟩
  | 48 => ⟨S16x64, .f32⟩
  | 49 => ⟨S1x1x16x64, .f32⟩
  | 50 => ⟨S2x512x16x64, .f32⟩
  | 51 => ⟨S2x512x16x64, .f32⟩
  | 52 => ⟨S2x511x16x64, .f32⟩
  | 53 => ⟨S1x16x64, .f32⟩
  | 54 => ⟨S16x64, .f32⟩
  | 55 => ⟨S1x1x16x64, .f32⟩
  | 56 => ⟨S2x511x16x64, .f32⟩
  | 57 => ⟨S2x511x16x64, .f32⟩
  | 58 => ⟨S_, .f32⟩
  | 59 => ⟨S2x1x16x64, .f32⟩
  | 60 => ⟨S2x512x16x64, .f32⟩
  | 61 => ⟨S2x512x32x64, .f32⟩
  | 62 => ⟨S2x512x2048, .f32⟩
  | 63 => ⟨S1x2048x64, .f32⟩
  | 64 => ⟨S2048x64, .f32⟩
  | 65 => ⟨S2x512x64, .f32⟩
  | 66 => ⟨S2x512x64, .f32⟩
  | 67 => ⟨S2x512x64, .f32⟩
  | 68 => ⟨S_, .f32⟩
  | 69 => ⟨S2x512x64, .f32⟩
  | 70 => ⟨S2x512x64, .f32⟩
  | 71 => ⟨S2x512x64, .f32⟩
  | 72 => ⟨S_, .f32⟩
  | 73 => ⟨S2x512x64, .f32⟩
  | 74 => ⟨S2x512x64, .f32⟩
  | 75 => ⟨S2x512x64, .f32⟩
  | 76 => ⟨S_, .f32⟩
  | 77 => ⟨S2x512x64, .f32⟩
  | 78 => ⟨S2x512x64, .f32⟩
  | 79 => ⟨S_, .f32⟩
  | 80 => ⟨S2x512x64, .f32⟩
  | 81 => ⟨S2x512x64, .f32⟩
  | 82 => ⟨S2x512x64, .f32⟩
  | 83 => ⟨S1x64x64, .f32⟩
  | 84 => ⟨S64x64, .f32⟩
  | 85 => ⟨S2x512x64, .f32⟩
  | 86 => ⟨S2x8192x64, .f32⟩
  | 87 => ⟨S2x512x16x64, .f32⟩
  | 88 => ⟨S1x16x64, .f32⟩
  | 89 => ⟨S16x64, .f32⟩
  | 90 => ⟨S1x1x16x64, .f32⟩
  | 91 => ⟨S2x512x16x64, .f32⟩
  | 92 => ⟨S2x512x16x64, .f32⟩
  | 93 => ⟨S2x511x16x64, .f32⟩
  | 94 => ⟨S1x16x64, .f32⟩
  | 95 => ⟨S16x64, .f32⟩
  | 96 => ⟨S1x1x16x64, .f32⟩
  | 97 => ⟨S2x511x16x64, .f32⟩
  | 98 => ⟨S2x511x16x64, .f32⟩
  | 99 => ⟨S_, .f32⟩
  | 100 => ⟨S2x1x16x64, .f32⟩
  | 101 => ⟨S2x512x16x64, .f32⟩
  | 102 => ⟨S2x512x32x64, .f32⟩
  | 103 => ⟨S2x512x2048, .f32⟩
  | 104 => ⟨S1x2048x64, .f32⟩
  | 105 => ⟨S2048x64, .f32⟩
  | 106 => ⟨S2x512x64, .f32⟩
  | 107 => ⟨S2x512x64, .f32⟩
  | 108 => ⟨S2x512x64, .f32⟩
  | 109 => ⟨S_, .f32⟩
  | 110 => ⟨S2x512x64, .f32⟩
  | 111 => ⟨S2x512x64, .f32⟩
  | 112 => ⟨S2x512x64, .f32⟩
  | 113 => ⟨S_, .f32⟩
  | 114 => ⟨S2x512x64, .f32⟩
  | 115 => ⟨S2x512x64, .f32⟩
  | 116 => ⟨S2x512x64, .f32⟩
  | 117 => ⟨S_, .f32⟩
  | 118 => ⟨S2x512x64, .f32⟩
  | 119 => ⟨S2x512x64, .f32⟩
  | 120 => ⟨S_, .f32⟩
  | 121 => ⟨S2x512x64, .f32⟩
  | 122 => ⟨S2x512x64, .f32⟩
  | 123 => ⟨S2x512x64, .f32⟩
  | 124 => ⟨S1x64x64, .f32⟩
  | 125 => ⟨S64x64, .f32⟩
  | 126 => ⟨S2x512x64, .f32⟩
  | 127 => ⟨S2x8192x64, .f32⟩
  | _ => ⟨S2x8192x256, .f32⟩

abbrev hbmTy0_1 (i : Nat) : BufTy := match i % 128 with
  | 0 => ⟨S2x512x16x64, .f32⟩
  | 1 => ⟨S1x16x64, .f32⟩
  | 2 => ⟨S16x64, .f32⟩
  | 3 => ⟨S1x1x16x64, .f32⟩
  | 4 => ⟨S2x512x16x64, .f32⟩
  | 5 => ⟨S2x512x16x64, .f32⟩
  | 6 => ⟨S2x511x16x64, .f32⟩
  | 7 => ⟨S1x16x64, .f32⟩
  | 8 => ⟨S16x64, .f32⟩
  | 9 => ⟨S1x1x16x64, .f32⟩
  | 10 => ⟨S2x511x16x64, .f32⟩
  | 11 => ⟨S2x511x16x64, .f32⟩
  | 12 => ⟨S_, .f32⟩
  | 13 => ⟨S2x1x16x64, .f32⟩
  | 14 => ⟨S2x512x16x64, .f32⟩
  | 15 => ⟨S2x512x32x64, .f32⟩
  | 16 => ⟨S2x512x2048, .f32⟩
  | 17 => ⟨S1x2048x64, .f32⟩
  | 18 => ⟨S2048x64, .f32⟩
  | 19 => ⟨S2x512x64, .f32⟩
  | 20 => ⟨S2x512x64, .f32⟩
  | 21 => ⟨S2x512x64, .f32⟩
  | 22 => ⟨S_, .f32⟩
  | 23 => ⟨S2x512x64, .f32⟩
  | 24 => ⟨S2x512x64, .f32⟩
  | 25 => ⟨S2x512x64, .f32⟩
  | 26 => ⟨S_, .f32⟩
  | 27 => ⟨S2x512x64, .f32⟩
  | 28 => ⟨S2x512x64, .f32⟩
  | 29 => ⟨S2x512x64, .f32⟩
  | 30 => ⟨S_, .f32⟩
  | 31 => ⟨S2x512x64, .f32⟩
  | 32 => ⟨S2x512x64, .f32⟩
  | 33 => ⟨S_, .f32⟩
  | 34 => ⟨S2x512x64, .f32⟩
  | 35 => ⟨S2x512x64, .f32⟩
  | 36 => ⟨S2x512x64, .f32⟩
  | 37 => ⟨S1x64x64, .f32⟩
  | 38 => ⟨S64x64, .f32⟩
  | 39 => ⟨S2x512x64, .f32⟩
  | 40 => ⟨S2x512x256, .f32⟩
  | _ => ⟨S2x8192x256, .f32⟩

abbrev hbmTy (i : Nat) : BufTy := match i / 128 with
  | 0 => hbmTy0_0 i
  | 1 => hbmTy0_1 i
  | _ => ⟨S2x8192x256, .f32⟩

abbrev bufTy : (tb : Table) → Fin (tcTables nBuf tb) → BufTy
  | .hbm, ⟨i, _⟩ => hbmTy i
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_6 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_9 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_10 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_11 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_cst_12 : Ref sig .tc := ⟨.hbm, 117, rfl⟩
abbrev main_v100 : Ref sig .tc := ⟨.hbm, 118, rfl⟩
abbrev main_v101 : Ref sig .tc := ⟨.hbm, 119, rfl⟩
abbrev main_cst_13 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_14 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_15 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_16 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_cst_17 : Ref sig .tc := ⟨.hbm, 158, rfl⟩
abbrev main_v136 : Ref sig .tc := ⟨.hbm, 159, rfl⟩
abbrev main_v137 : Ref sig .tc := ⟨.hbm, 160, rfl⟩
abbrev main_cst_18 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩

abbrev nD : Nat := 1
abbrev τ : Topo := Topo.v7x

variable {F : FTy → Type} [FloatOps F]
-- ==== Proof.FfnTile.lean ====
/- The gated MLP (the call `ffn`, program `Kernel2`): what one tile of 512 token rows computes from its input blocks and the
   rows carried from the tile before. -/
module

public import proofs.«01_k».proof.Proof.Gen.Kernel2Ideal.Value
public import Idealize.ShloMosaic.Lib.Pipeline.Value
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.FfnTile

open Cert.Kernel2Ideal Cert.Kernel2Ideal.Gen

/-- One entry of the up projection of the normalised rows `h`. -/
def up (h : FVec Ideal S512x1024 .bf16) (W : Vec Ideal S1024x5632 .bf16) (r : Fin 512) (j : Fin 5632) : EReal :=
  ∑ k : Fin 1024, h (ix2 r k) * W (ix2 k j)

/-- The up projection with the eight carried rows above it. -/
def ext (h : FVec Ideal S512x1024 .bf16) (W : Vec Ideal S1024x5632 .bf16) (K : Vec Ideal S8x5632 .f32) (n : ℕ) (hn : n < 520)
    (j : Fin 5632) : EReal :=
  if h8 : n < 8 then K (ix2 ⟨n, h8⟩ j) else up h W ⟨n - 8, by omega⟩ j

/-- One entry of the causal convolution of three rows. -/
def conv (h : FVec Ideal S512x1024 .bf16) (W : Vec Ideal S1024x5632 .bf16) (D : Vec Ideal S3x5632 .f32) (K : Vec Ideal S8x5632 .f32)
    (r : Fin 512) (j : Fin 5632) : EReal :=
  ext h W K (r.val + 6) (by omega) j * D (ix2 0 j) + ext h W K (r.val + 7) (by omega) j * D (ix2 1 j) + up h W r j * D (ix2 2 j)

/-- The smooth gate of the MLP, in its form by the hyperbolic tangent. -/
def gelu (x : EReal) : EReal :=
  (Ideal.ofBits .f32 0x3F000000#32 * x) * (Ideal.ofBits .f32 0x3F800000#32
    + Ideal.tanh (Ideal.ofBits .f32 0x3F4C422A#32 * (x + Ideal.ofBits .f32 0x3D372713#32 * (x * x * x))))

/-- The two halves of a chunk of 256 columns through the convolution, gated: the first chunk's own operations. -/
def chunk (h : FVec Ideal S512x1024 .bf16) (w0 w1 : Vec Ideal S1024x256 .bf16) (a6 a7 b6 b7 : Vec Ideal S1x512x256 .f32)
    (d00 d01 d02 d10 d11 d12 : Vec Ideal S1x256 .f32) : FVec Ideal S512x256 .bf16 :=
  k0_pay15 (k0_pay10 (k0_pay11 h w0) a6 d00 a7 d01 d02) (k0_pay11 h w1) b6 d10 b7 d11 d12

theorem pay11_apply (h : FVec Ideal S512x1024 .bf16) (w : Vec Ideal S1024x256 .bf16) (r : Fin 512) (q : Fin 256) :
    k0_pay11 h w (ix2 r q) = ∑ k : Fin 1024, h (ix2 r k) * w (ix2 k q) := by
  unfold k0_pay11
  pointwise

theorem pay10_apply (u : FVec Ideal S512x256 .f32) (a6 a7 : Vec Ideal S1x512x256 .f32)
    (d0 d1 d2 : Vec Ideal S1x256 .f32) (r : Fin 512) (q : Fin 256) :
    k0_pay10 u a6 d0 a7 d1 d2 (ix2 r q) = a6 (ix3 0 r q) * d0 (ix2 0 q) + a7 (ix3 0 r q) * d1 (ix2 0 q) + u (ix2 r q) * d2 (ix2 0 q) := by
  unfold k0_pay10
  pointwise

theorem pay15_apply (c u : FVec Ideal S512x256 .f32) (a6 a7 : Vec Ideal S1x512x256 .f32)
    (d0 d1 d2 : Vec Ideal S1x256 .f32) (r : Fin 512) (q : Fin 256) :
    k0_pay15 c u a6 d0 a7 d1 d2 (ix2 r q) = gelu (c (ix2 r q)) * (a6 (ix3 0 r q) * d0 (ix2 0 q) + a7 (ix3 0 r q) * d1 (ix2 0 q) + u (ix2 r q) * d2 (ix2 0 q)) := by
  unfold k0_pay15 gelu
  pointwise

theorem pay12_apply (k : Vec Ideal S8x256 .f32) (a : Fin 8) (q : Fin 256) : k0_pay12 k (ix3 0 a q) = k (ix2 a q) := by
  unfold k0_pay12
  pointwise

theorem pay13_apply (h : FVec Ideal S512x1024 .bf16) (w : Vec Ideal S1024x256 .bf16) (r : Fin 512) (q : Fin 256) :
    k0_pay13 h w (ix3 0 r q) = k0_pay11 h w (ix2 r q) := by
  unfold k0_pay13
  pointwise

theorem pay14_apply (h : FVec Ideal S512x1024 .bf16) (w : Vec Ideal S1024x256 .bf16) (a : Fin 8) (q : Fin 256) :
    k0_pay14 h w (ix2 a q) = k0_pay11 h w (ix2 ⟨504 + a.val, by omega⟩ q) := by
  unfold k0_pay14
  pointwise

/-- A load of 512 rows from row `o` on of the buffer that holds the carried rows and then the projection's rows. -/
def back (o : ℕ) (ho : o ≤ 8) (u : FVec Ideal S512x256 .f32) (k : Vec Ideal S8x256 .f32) : Vec Ideal S1x512x256 .f32 := fun j =>
  if h8 : (j 1).val + o < 8 then k (ix2 ⟨(j 1).val + o, h8⟩ (j 2))
  else u (ix2 ⟨(j 1).val + o - 8, by have h1 : (j 1).val < 512 := (j 1).isLt; omega⟩ (j 2))

theorem readBack {κ : Kind} {sp : Space} (v : View sig κ sp S2x520x256 .f32) (b o : ℕ) (ho : o ≤ 8)
    (i8 : ∀ a, (![b, 8, 0] : Fin 3 → ℕ) a + S1x512x256.size a ≤ S2x520x256.size a)
    (i0 : ∀ a, (![b, 0, 0] : Fin 3 → ℕ) a + S1x8x256.size a ≤ S2x520x256.size a)
    (io : ∀ a, (![b, o, 0] : Fin 3 → ℕ) a + S1x512x256.size a ≤ S2x520x256.size a)
    (h : FVec Ideal S512x1024 .bf16) (w : Vec Ideal S1024x256 .bf16) (k : Vec Ideal S8x256 .f32)
    (L : List (View.Piece (Elt Ideal) S2x520x256 .f32)) {U : FVec Ideal S1x512x256 .f32} {C : FVec Ideal S1x8x256 .f32}
    (hU : U = k0_pay13 h w) (hC : C = k0_pay12 k) :
    v.readCov (⟨Rect.unit ![b, 8, 0] S1x512x256.size i8, U⟩ :: ⟨Rect.unit ![b, 0, 0] S1x8x256.size i0, C⟩ :: L)
      (Rect.unit (s := S2x520x256) ![b, o, 0] S1x512x256.size io).toLoadRect = back o ho (k0_pay11 h w) k := by
  subst hU hC
  rw [View.readCov_eq_canon']
  funext j
  have hj1 : (j 1).val < 512 := (j 1).isLt
  have hj0 : (j 0).val = 0 := by have : (j 0).val < 1 := (j 0).isLt; omega
  unfold back
  split
  · rename_i h8
    rw [View.canon_cons_of_not_mem]
    · have e : (Rect.unit (s := S2x520x256) ![b, o, 0] S1x512x256.size io).toLoadRect.idx j
          = (Rect.unit (s := S2x520x256) ![b, 0, 0] S1x8x256.size i0).emb (ix3 0 ⟨(j 1).val + o, h8⟩ (j 2)) := by
        funext a; apply Fin.ext
        match a with
        | ⟨0, _⟩ => show b + 1 * (j 0).val = b + 1 * 0; rw [hj0]
        | ⟨1, _⟩ => show o + 1 * (j 1).val = 0 + 1 * ((j 1).val + o); omega
        | ⟨2, _⟩ => show 0 + 1 * (j 2).val = 0 + 1 * (j 2).val; rfl
      rw [e, View.canon_cons_emb]; exact pay12_apply k _ _
    · rw [Rect.mem_set_unit]
      intro hm
      have := (hm 1).1
      have h2 : 8 ≤ o + 1 * (j 1).val := this
      omega
  · rename_i h8
    have e : (Rect.unit (s := S2x520x256) ![b, o, 0] S1x512x256.size io).toLoadRect.idx j
        = (Rect.unit (s := S2x520x256) ![b, 8, 0] S1x512x256.size i8).emb (ix3 0 ⟨(j 1).val + o - 8, by omega⟩ (j 2)) := by
      funext a; apply Fin.ext
      match a with
      | ⟨0, _⟩ => show b + 1 * (j 0).val = b + 1 * 0; rw [hj0]
      | ⟨1, _⟩ => show o + 1 * (j 1).val = 8 + 1 * ((j 1).val + o - 8); omega
      | ⟨2, _⟩ => show 0 + 1 * (j 2).val = 0 + 1 * (j 2).val; rfl
    rw [e, View.canon_cons_emb]; exact pay13_apply h w _ _

theorem ldW (W : Vec Ideal S1024x5632 .bf16) (col : ℕ) (hc : col + 256 ≤ 5632)
    (i : ∀ a, (![0, col] : Fin 2 → ℕ) a + S1024x256.size a ≤ S1024x5632.size a) (k : Fin 1024) (q : Fin 256) :
    View.ld W (Rect.unit (s := S1024x5632) ![0, col] S1024x256.size i) (ix2 k q) = W (ix2 k ⟨col + q.val, by omega⟩) := by
  show W ((Rect.unit (s := S1024x5632) ![0, col] S1024x256.size i).emb (ix2 k q)) = _
  congr 1; funext a; apply Fin.ext
  match a with
  | ⟨0, _⟩ => show 0 + 1 * k.val = k.val; omega
  | ⟨1, _⟩ => show col + 1 * q.val = col + q.val; omega

theorem ldK (K : Vec Ideal S8x5632 .f32) (col : ℕ) (hc : col + 256 ≤ 5632)
    (i : ∀ a, (![0, col] : Fin 2 → ℕ) a + S8x256.size a ≤ S8x5632.size a) (k : Fin 8) (q : Fin 256) :
    View.ld K (Rect.unit (s := S8x5632) ![0, col] S8x256.size i) (ix2 k q) = K (ix2 k ⟨col + q.val, by omega⟩) := by
  show K ((Rect.unit (s := S8x5632) ![0, col] S8x256.size i).emb (ix2 k q)) = _
  congr 1; funext a; apply Fin.ext
  match a with
  | ⟨0, _⟩ => show 0 + 1 * k.val = k.val; omega
  | ⟨1, _⟩ => show col + 1 * q.val = col + q.val; omega

theorem ldD (D : Vec Ideal S3x5632 .f32) (b : ℕ) (hb : b < 3) (col : ℕ) (hc : col + 256 ≤ 5632)
    (i : ∀ a, (![b, col] : Fin 2 → ℕ) a + S1x256.size a ≤ S3x5632.size a) (q : Fin 256) :
    View.ld D (Rect.unit (s := S3x5632) ![b, col] S1x256.size i) (ix2 0 q) = D (ix2 ⟨b, hb⟩ ⟨col + q.val, by omega⟩) := by
  show D ((Rect.unit (s := S3x5632) ![b, col] S1x256.size i).emb (ix2 0 q)) = _
  congr 1; funext a; apply Fin.ext
  match a with
  | ⟨0, _⟩ => show b + 1 * 0 = b; omega
  | ⟨1, _⟩ => show col + 1 * q.val = col + q.val; omega

theorem up_ld (h : FVec Ideal S512x1024 .bf16) (W : Vec Ideal S1024x5632 .bf16) (col : ℕ) (hc : col + 256 ≤ 5632)
    (i : ∀ a, (![0, col] : Fin 2 → ℕ) a + S1024x256.size a ≤ S1024x5632.size a) (r : Fin 512) (q : Fin 256) :
    k0_pay11 h (View.ld W (Rect.unit (s := S1024x5632) ![0, col] S1024x256.size i)) (ix2 r q) = up h W r ⟨col + q.val, by omega⟩ := by
  rw [pay11_apply]
  exact Finset.sum_congr rfl fun k _ => by rw [ldW W col hc]

theorem back_ld (h : FVec Ideal S512x1024 .bf16) (W : Vec Ideal S1024x5632 .bf16) (K : Vec Ideal S8x5632 .f32) (o : ℕ) (ho : o ≤ 8)
    (col : ℕ) (hc : col + 256 ≤ 5632)
    (i : ∀ a, (![0, col] : Fin 2 → ℕ) a + S1024x256.size a ≤ S1024x5632.size a)
    (ik : ∀ a, (![0, col] : Fin 2 → ℕ) a + S8x256.size a ≤ S8x5632.size a) (r : Fin 512) (q : Fin 256) :
    back o ho (k0_pay11 h (View.ld W (Rect.unit (s := S1024x5632) ![0, col] S1024x256.size i)))
      (View.ld K (Rect.unit (s := S8x5632) ![0, col] S8x256.size ik)) (ix3 0 r q)
      = ext h W K (r.val + o) (by omega) ⟨col + q.val, by omega⟩ := by
  unfold back ext
  by_cases h8 : r.val + o < 8
  · rw [dif_pos h8]
    exact (dif_pos h8).trans (ldK K col hc ik ⟨r.val + o, h8⟩ q)
  · rw [dif_neg h8]
    exact (dif_neg h8).trans (up_ld h W col hc i ⟨r.val + o - 8, by omega⟩ q)

/-- A chunk's piece of the gated activations, at an entry: it depends on the chunk's column only through the arrays. -/
theorem chunk_apply (h : FVec Ideal S512x1024 .bf16) (W : Vec Ideal S1024x5632 .bf16) (D : Vec Ideal S3x5632 .f32)
    (K : Vec Ideal S8x5632 .f32) (col col' : ℕ) (hc : col + 256 ≤ 2816) (hc' : col' = 2816 + col)
    (iW0 : ∀ a, (![0, col] : Fin 2 → ℕ) a + S1024x256.size a ≤ S1024x5632.size a)
    (iW1 : ∀ a, (![0, col'] : Fin 2 → ℕ) a + S1024x256.size a ≤ S1024x5632.size a)
    (iK0 : ∀ a, (![0, col] : Fin 2 → ℕ) a + S8x256.size a ≤ S8x5632.size a)
    (iK1 : ∀ a, (![0, col'] : Fin 2 → ℕ) a + S8x256.size a ≤ S8x5632.size a)
    (i00 : ∀ a, (![0, col] : Fin 2 → ℕ) a + S1x256.size a ≤ S3x5632.size a)
    (i01 : ∀ a, (![1, col] : Fin 2 → ℕ) a + S1x256.size a ≤ S3x5632.size a)
    (i02 : ∀ a, (![2, col] : Fin 2 → ℕ) a + S1x256.size a ≤ S3x5632.size a)
    (i10 : ∀ a, (![0, col'] : Fin 2 → ℕ) a + S1x256.size a ≤ S3x5632.size a)
    (i11 : ∀ a, (![1, col'] : Fin 2 → ℕ) a + S1x256.size a ≤ S3x5632.size a)
    (i12 : ∀ a, (![2, col'] : Fin 2 → ℕ) a + S1x256.size a ≤ S3x5632.size a)
    (w0 w1 : Vec Ideal S1024x256 .bf16) (k0 k1 : Vec Ideal S8x256 .f32) (a6 a7 b6 b7 : Vec Ideal S1x512x256 .f32)
    (d00 d01 d02 d10 d11 d12 : Vec Ideal S1x256 .f32)
    (ha6 : a6 = back 6 (by decide) (k0_pay11 h w0) k0) (ha7 : a7 = back 7 (by decide) (k0_pay11 h w0) k0)
    (hb6 : b6 = back 6 (by decide) (k0_pay11 h w1) k1) (hb7 : b7 = back 7 (by decide) (k0_pay11 h w1) k1)
    (hw0 : w0 = View.ld W (Rect.unit ![0, col] S1024x256.size iW0)) (hw1 : w1 = View.ld W (Rect.unit ![0, col'] S1024x256.size iW1))
    (hk0 : k0 = View.ld K (Rect.unit ![0, col] S8x256.size iK0)) (hk1 : k1 = View.ld K (Rect.unit ![0, col'] S8x256.size iK1))
    (h00 : d00 = View.ld D (Rect.unit ![0, col] S1x256.size i00)) (h01 : d01 = View.ld D (Rect.unit ![1, col] S1x256.size i01))
    (h02 : d02 = View.ld D (Rect.unit ![2, col] S1x256.size i02)) (h10 : d10 = View.ld D (Rect.unit ![0, col'] S1x256.size i10))
    (h11 : d11 = View.ld D (Rect.unit ![1, col'] S1x256.size i11)) (h12 : d12 = View.ld D (Rect.unit ![2, col'] S1x256.size i12))
    (r : Fin 512) (q : Fin 256) :
    chunk h w0 w1 a6 a7 b6 b7 d00 d01 d02 d10 d11 d12 (ix2 r q)
      = gelu (conv h W D K r ⟨col + q.val, by omega⟩) * conv h W D K r ⟨2816 + (col + q.val), by omega⟩ := by
  subst hc' ha6 ha7 hb6 hb7 hw0 hw1 hk0 hk1 h00 h01 h02 h10 h11 h12
  unfold chunk
  rw [pay15_apply, pay10_apply]
  have e (x : ℕ) (h1 : x < 5632) (y : ℕ) (h2 : y < 5632) (hxy : x = y) : (⟨x, h1⟩ : Fin 5632) = ⟨y, h2⟩ := Fin.ext hxy
  rw [back_ld h W K 6 (by decide) col (by omega), back_ld h W K 7 (by decide) col (by omega), up_ld h W col (by omega),
    back_ld h W K 6 (by decide) (2816 + col) (by omega), back_ld h W K 7 (by decide) (2816 + col) (by omega), up_ld h W (2816 + col) (by omega),
    ldD D 0 (by decide) col (by omega), ldD D 1 (by decide) col (by omega), ldD D 2 (by decide) col (by omega),
    ldD D 0 (by decide) (2816 + col) (by omega), ldD D 1 (by decide) (2816 + col) (by omega), ldD D 2 (by decide) (2816 + col) (by omega),
    e (2816 + col + q.val) (by omega) (2816 + (col + q.val)) (by omega) (by omega)]
  rfl

end Cert.Proof.FfnTile

end
-- ==== Proof.FfnWords.lean ====
/- The gated MLP (the call `ffn`, program `Kernel2`): the body writes its eleven chunks of 256 columns as eleven separate texts; each is
   here equated with the first chunk's text. -/
module

public import proofs.«01_k».proof.Proof.FfnTile

@[expose] public section

set_option maxRecDepth 16384

noncomputable section

open Idealize.ShloMosaic Idealize.ShloMosaic.TcCoe Idealize.SL.Sem

namespace Cert.Proof.FfnTile

open Cert.Kernel2Ideal Cert.Kernel2Ideal.Gen

variable (x : Vec Ideal S1x512x1024 .f32) (g : Vec Ideal S1x1024 .f32) (h : FVec Ideal S512x1024 .bf16) (k : Vec Ideal S8x256 .f32)
variable (w0 w1 : Vec Ideal S1024x256 .bf16) (a6 a7 b6 b7 : Vec Ideal S1x512x256 .f32) (d00 d01 d02 d10 d11 d12 : Vec Ideal S1x256 .f32)

theorem gate_10 : k0_pay136 (k0_pay135 (k0_pay130 (k0_pay126 h w0) a6 d00 a7 d01 d02) (k0_pay131 h w1) b6 d10 b7 d11 d12) =
    chunk h w0 w1 a6 a7 b6 b7 d00 d01 d02 d10 d11 d12 := by
  unfold chunk k0_pay126 k0_pay130 k0_pay131 k0_pay135 k0_pay136 k0_pay15 k0_pay10 k0_pay11
  rfl

theorem gate_9 : k0_pay125 (k0_pay118 (k0_pay113 h w0) (k0_pay117 a6) d00 a7 d01 d02) (k0_pay119 h w1) (k0_pay123 b6) (k0_pay124 d10) b7 d11 d12 =
    chunk h w0 w1 a6 a7 b6 b7 d00 d01 d02 d10 d11 d12 := by
  unfold chunk k0_pay113 k0_pay117 k0_pay118 k0_pay119 k0_pay123 k0_pay124 k0_pay125 k0_pay15 k0_pay10 k0_pay11
  rfl

theorem gate_8 : k0_pay112 (k0_pay106 (k0_pay100 h w0) (k0_pay104 a6 d00 a7 d01) (k0_pay105 d02)) (k0_pay111 h w1 b6 d10 b7 d11 d12) (FloatOps.ofBits .f32 1056964608#32) =
    chunk h w0 w1 a6 a7 b6 b7 d00 d01 d02 d10 d11 d12 := by
  unfold chunk k0_pay100 k0_pay104 k0_pay105 k0_pay106 k0_pay111 k0_pay112 k0_pay15 k0_pay10 k0_pay11
  rfl

theorem gate_7 : k0_pay99 (k0_pay98 (k0_pay93 (k0_pay89 h w0) a6 d00 a7 d01 d02) (k0_pay94 h w1) b6 d10 b7 d11 d12) =
    chunk h w0 w1 a6 a7 b6 b7 d00 d01 d02 d10 d11 d12 := by
  unfold chunk k0_pay89 k0_pay93 k0_pay94 k0_pay98 k0_pay99 k0_pay15 k0_pay10 k0_pay11
  rfl

theorem gate_6 : k0_pay88 (k0_pay82 (k0_pay78 h w0) a6 d00 a7 d01 d02) (k0_pay83 h w1) (k0_pay87 b6) d10 b7 d11 d12 =
    chunk h w0 w1 a6 a7 b6 b7 d00 d01 d02 d10 d11 d12 := by
  unfold chunk k0_pay78 k0_pay82 k0_pay83 k0_pay87 k0_pay88 k0_pay15 k0_pay10 k0_pay11
  rfl

theorem gate_5 : k0_pay77 (k0_pay70 (k0_pay65 h w0) (k0_pay69 a6 d00 a7 d01) d02) (k0_pay71 h w1) (k0_pay75 b6 d10 b7 d11) (k0_pay76 d12) =
    chunk h w0 w1 a6 a7 b6 b7 d00 d01 d02 d10 d11 d12 := by
  unfold chunk k0_pay65 k0_pay69 k0_pay70 k0_pay71 k0_pay75 k0_pay76 k0_pay77 k0_pay15 k0_pay10 k0_pay11
  rfl

theorem gate_4 : k0_pay64 (k0_pay62 (k0_pay58 h w1) b6 d10 b7 d11 d12) (k0_pay63 (k0_pay57 (k0_pay53 h w0) a6 d00 a7 d01 d02)) =
    chunk h w0 w1 a6 a7 b6 b7 d00 d01 d02 d10 d11 d12 := by
  unfold chunk k0_pay53 k0_pay57 k0_pay58 k0_pay62 k0_pay63 k0_pay64 k0_pay15 k0_pay10 k0_pay11
  rfl

theorem gate_3 : k0_pay52 (k0_pay47 (k0_pay43 h w0) a6 d00 a7 d01 d02) (k0_pay48 h w1) b6 d10 b7 d11 d12 =
    chunk h w0 w1 a6 a7 b6 b7 d00 d01 d02 d10 d11 d12 := by
  unfold chunk k0_pay43 k0_pay47 k0_pay48 k0_pay52 k0_pay15 k0_pay10 k0_pay11
  rfl

theorem gate_2 : k0_pay42 (k0_pay36 (k0_pay29 h w0) (k0_pay33 a6 d00) (k0_pay34 a7) (k0_pay35 d01) d02) (k0_pay37 h w1) (k0_pay41 b6 d10 b7 d11) d12 =
    chunk h w0 w1 a6 a7 b6 b7 d00 d01 d02 d10 d11 d12 := by
  unfold chunk k0_pay29 k0_pay33 k0_pay34 k0_pay35 k0_pay36 k0_pay37 k0_pay41 k0_pay42 k0_pay15 k0_pay10 k0_pay11
  rfl

theorem gate_1 : k0_pay28 (k0_pay25 (k0_pay21 h w1) b6 d10 b7 d11 d12) (k0_pay26 (k0_pay20 (k0_pay16 h w0) a6 d00 a7 d01 d02)) (k0_pay27 (k0_pay20 (k0_pay16 h w0) a6 d00 a7 d01 d02)) (FloatOps.ofBits .f32 1065353216#32) =
    chunk h w0 w1 a6 a7 b6 b7 d00 d01 d02 d10 d11 d12 := by
  unfold chunk k0_pay16 k0_pay20 k0_pay21 k0_pay25 k0_pay26 k0_pay27 k0_pay28 k0_pay15 k0_pay10 k0_pay11
  rfl

theorem gate_0 : k0_pay15 (k0_pay10 (k0_pay5 x g w0) a6 d00 a7 d01 d02) (k0_pay11 (k0_pay4 x g) w1) b6 d10 b7 d11 d12 =
    chunk (k0_pay4 x g) w0 w1 a6 a7 b6 b7 d00 d01 d02 d10 d11 d12 := by
  unfold chunk k0_pay5
  rfl

theorem kc_0_0 : k0_pay6 k = k0_pay12 k := rfl

theorem uc_0_0 : k0_pay7 x g w0 = k0_pay13 (k0_pay4 x g) w0 := rfl

theorem kc_0_1 : k0_pay12 k = k0_pay12 k := rfl

theorem uc_0_1 : k0_pay13 h w1 = k0_pay13 h w1 := rfl

theorem kc_1_0 : k0_pay17 k = k0_pay12 k := rfl

theorem uc_1_0 : k0_pay18 (k0_pay16 h w0) = k0_pay13 h w0 := rfl

theorem kc_1_1 : k0_pay22 k = k0_pay12 k := rfl

theorem uc_1_1 : k0_pay23 (k0_pay21 h w1) = k0_pay13 h w1 := rfl

theorem kc_2_0 : k0_pay30 k = k0_pay12 k := rfl

theorem uc_2_0 : k0_pay31 h w0 = k0_pay13 h w0 := rfl

theorem kc_2_1 : k0_pay38 k = k0_pay12 k := rfl

theorem uc_2_1 : k0_pay39 h w1 = k0_pay13 h w1 := rfl

theorem kc_3_0 : k0_pay44 k = k0_pay12 k := rfl

theorem uc_3_0 : k0_pay45 h w0 = k0_pay13 h w0 := rfl

theorem kc_3_1 : k0_pay49 k = k0_pay12 k := rfl

theorem uc_3_1 : k0_pay50 h w1 = k0_pay13 h w1 := rfl

theorem kc_4_0 : k0_pay54 k = k0_pay12 k := rfl

theorem uc_4_0 : k0_pay55 (k0_pay53 h w0) = k0_pay13 h w0 := rfl

theorem kc_4_1 : k0_pay59 k = k0_pay12 k := rfl

theorem uc_4_1 : k0_pay60 (k0_pay58 h w1) = k0_pay13 h w1 := rfl

theorem kc_5_0 : k0_pay66 k = k0_pay12 k := rfl

theorem uc_5_0 : k0_pay67 h w0 = k0_pay13 h w0 := rfl

theorem kc_5_1 : k0_pay72 k = k0_pay12 k := rfl

theorem uc_5_1 : k0_pay73 h w1 = k0_pay13 h w1 := rfl

theorem kc_6_0 : k0_pay79 k = k0_pay12 k := rfl

theorem uc_6_0 : k0_pay80 h w0 = k0_pay13 h w0 := rfl

theorem kc_6_1 : k0_pay84 k = k0_pay12 k := rfl

theorem uc_6_1 : k0_pay85 h w1 = k0_pay13 h w1 := rfl

theorem kc_7_0 : k0_pay90 k = k0_pay12 k := rfl

theorem uc_7_0 : k0_pay91 (k0_pay89 h w0) = k0_pay13 h w0 := rfl

theorem kc_7_1 : k0_pay95 k = k0_pay12 k := rfl

theorem uc_7_1 : k0_pay96 (k0_pay94 h w1) = k0_pay13 h w1 := rfl

theorem kc_8_0 : k0_pay101 k = k0_pay12 k := rfl

theorem uc_8_0 : k0_pay102 h w0 = k0_pay13 h w0 := rfl

theorem kc_8_1 : k0_pay108 k = k0_pay12 k := rfl

theorem uc_8_1 : k0_pay109 h w1 = k0_pay13 h w1 := rfl

theorem kc_9_0 : k0_pay114 k = k0_pay12 k := rfl

theorem uc_9_0 : k0_pay115 h w0 = k0_pay13 h w0 := rfl

theorem kc_9_1 : k0_pay120 k = k0_pay12 k := rfl

theorem uc_9_1 : k0_pay121 h w1 = k0_pay13 h w1 := rfl

theorem kc_10_0 : k0_pay127 k = k0_pay12 k := rfl

theorem uc_10_0 : k0_pay128 (k0_pay126 h w0) = k0_pay13 h w0 := rfl

theorem kc_10_1 : k0_pay132 k = k0_pay12 k := rfl

theorem uc_10_1 : k0_pay133 (k0_pay131 h w1) = k0_pay13 h w1 := rfl

theorem cc_0_0 : k0_pay9 (k0_pay8 x g w0) = k0_pay14 (k0_pay4 x g) w0 := rfl

theorem cc_0_1 : k0_pay14 h w1 = k0_pay14 h w1 := rfl

theorem cc_1_0 : k0_pay19 (k0_pay16 h w0) = k0_pay14 h w0 := rfl

theorem cc_1_1 : k0_pay24 (k0_pay21 h w1) = k0_pay14 h w1 := rfl

theorem cc_2_0 : k0_pay32 h w0 = k0_pay14 h w0 := rfl

theorem cc_2_1 : k0_pay40 h w1 = k0_pay14 h w1 := rfl

theorem cc_3_0 : k0_pay46 h w0 = k0_pay14 h w0 := rfl

theorem cc_3_1 : k0_pay51 h w1 = k0_pay14 h w1 := rfl

theorem cc_4_0 : k0_pay56 (k0_pay53 h w0) = k0_pay14 h w0 := rfl

theorem cc_4_1 : k0_pay61 (k0_pay58 h w1) = k0_pay14 h w1 := rfl

theorem cc_5_0 : k0_pay68 h w0 = k0_pay14 h w0 := rfl

theorem cc_5_1 : k0_pay74 h w1 = k0_pay14 h w1 := rfl

theorem cc_6_0 : k0_pay81 h w0 = k0_pay14 h w0 := rfl

theorem cc_6_1 : k0_pay86 h w1 = k0_pay14 h w1 := rfl

theorem cc_7_0 : k0_pay92 (k0_pay89 h w0) = k0_pay14 h w0 := rfl

theorem cc_7_1 : k0_pay97 (k0_pay94 h w1) = k0_pay14 h w1 := rfl

theorem cc_8_0 : k0_pay103 h w0 = k0_pay14 h w0 := rfl

theorem cc_8_1 : k0_pay110 h w1 = k0_pay14 h w1 := rfl

theorem cc_9_0 : k0_pay116 h w0 = k0_pay14 h w0 := rfl

theorem cc_9_1 : k0_pay122 h w1 = k0_pay14 h w1 := rfl

theorem cc_10_0 : k0_pay129 (k0_pay126 h w0) = k0_pay14 h w0 := rfl

theorem cc_10_1 : k0_pay134 (k0_pay131 h w1) = k0_pay14 h w1 := rfl

end Cert.Proof.FfnTile

end
-- ==== Proof.FfnCases.lean ====
/- The gated MLP (the call `ffn`, program `Kernel2`): what the body leaves at a point, in its two cases (the first tile of a
   batch element, whose carried rows are zero, and the later ones), as functions of the blocks it loads. -/
module

public import proofs.«01_k».proof.Proof.FfnWords

@[expose] public section

set_option maxRecDepth 16384

noncomputable section

open Idealize.ShloMosaic Idealize.ShloMosaic.TcCoe Idealize.SL.Sem
open Idealize.ShloMosaic.Pipeline (Dat)

namespace Cert.Proof.FfnTile

open Cert.Kernel2Ideal Cert.Kernel2Ideal.Gen

/-- The gated activations of a tile. -/
def act (h : FVec Ideal S512x1024 .bf16) (W : Vec Ideal S1024x5632 .bf16) (D : Vec Ideal S3x5632 .f32) (K : Vec Ideal S8x5632 .f32) :
    Vec Ideal S512x2816 .bf16 := fun y =>
  gelu (conv h W D K (y 0) ⟨(y 1).val, by have h1 : (y 1).val < 2816 := (y 1).isLt; omega⟩)
    * conv h W D K (y 0) ⟨2816 + (y 1).val, by have h1 : (y 1).val < 2816 := (y 1).isLt; omega⟩

/-- The last eight rows of a tile's up projection: what it carries to the next tile. -/
def carry (h : FVec Ideal S512x1024 .bf16) (W : Vec Ideal S1024x5632 .bf16) : Vec Ideal S8x5632 .f32 := fun y =>
  up h W ⟨504 + (y 0).val, by have h1 : (y 0).val < 8 := (y 0).isLt; omega⟩ (y 1)

/-- A tile's result block. -/
def outV (x0 : Vec Ideal S1x512x1024 .f32) (x1 : Vec Ideal S1x512x256 .f32) (x2 : Vec Ideal S1x1024 .f32)
    (x3 : Vec Ideal S1024x5632 .bf16) (x4 : Vec Ideal S3x5632 .f32) (x5 : Vec Ideal S2816x1024 .bf16) (x6 : Vec Ideal S1x1024 .f32)
    (x7 : Vec Ideal S1024x1024 .bf16) (x8 : Vec Ideal S256x1024 .bf16) (K : Vec Ideal S8x5632 .f32) : Vec Ideal S1x512x1024 .f32 :=
  k0_pay1 (k0_pay138 (k0_pay3 x0) (act (k0_pay4 x0 x2) x3 x4 K) x5)
    (k0_pay139 (k0_pay3 x0) (act (k0_pay4 x0 x2) x3 x4 K) x5 x6 x7) (k0_pay140 x1) (k0_pay141 x8) (constant S512x1024 .f32 0x00000000#32)

theorem rd {sp : Space} {s : Shape} {e : EltTy} {a : Memref sig .tc sp s e} (ha : a.IsWhole) (X : Vec Ideal s e) (r : Rect s) :
    View.readAt (Elt Ideal) a.view r.toLoadRect (ha.unread X) = View.ld X r := by
  rw [View.readAt_eq_ld, ha.read_unread]

theorem hz2 : (![0, 0] : Fin 2 → ℕ) = fun _ => 0 := funext fun a => by fin_cases a <;> rfl
theorem hz3 : (![0, 0, 0] : Fin 3 → ℕ) = fun _ => 0 := funext fun a => by fin_cases a <;> rfl

/-- A load of a whole block. -/
theorem rdz {sp : Space} {s : Shape} {e : EltTy} {a : Memref sig .tc sp s e} (ha : a.IsWhole) (X : Vec Ideal s e) {off : Fin s.rank → ℕ}
    (h : off = fun _ => 0) (i : ∀ a, off a + s.size a ≤ s.size a) :
    View.readAt (Elt Ideal) a.view (Rect.unit (s := s) off s.size i).toLoadRect (ha.unread X) = X := by
  rw [rd, View.ld_unit_zero h]

/-- A stored piece of the gated activations is a block of `act`. -/
theorem act_piece (h : FVec Ideal S512x1024 .bf16) (W : Vec Ideal S1024x5632 .bf16) (D : Vec Ideal S3x5632 .f32)
    (K : Vec Ideal S8x5632 .f32) (col : ℕ) (hc : col + 256 ≤ 2816)
    (io : ∀ a, (![0, col] : Fin 2 → ℕ) a + S512x256.size a ≤ S512x2816.size a) (P : FVec Ideal S512x256 .bf16)
    (hP : ∀ (r : Fin 512) (q : Fin 256), P (ix2 r q) = gelu (conv h W D K r ⟨col + q.val, by omega⟩)
      * conv h W D K r ⟨2816 + (col + q.val), by omega⟩) (z : S512x256.Idx) :
    P z = act h W D K ((Rect.unit (s := S512x2816) ![0, col] S512x256.size io).emb z) := by
  obtain ⟨r, q, rfl⟩ : ∃ (r : Fin 512) (q : Fin 256), z = ix2 r q := ⟨z 0, z 1, eq_ix2 z⟩
  rw [hP]
  have e : (Rect.unit (s := S512x2816) ![0, col] S512x256.size io).emb (ix2 r q) = (ix2 r ⟨col + q.val, by omega⟩ : S512x2816.Idx) := by
    funext a; apply Fin.ext
    match a with
    | ⟨0, _⟩ => show 0 + 1 * r.val = r.val; omega
    | ⟨1, _⟩ => show col + 1 * q.val = col + q.val; omega
  rw [e]
  rfl

/-- A stored piece of the carried rows is a block of `carry`. -/
theorem carry_piece (h : FVec Ideal S512x1024 .bf16) (W : Vec Ideal S1024x5632 .bf16) (col : ℕ) (hc : col + 256 ≤ 5632)
    (iW : ∀ a, (![0, col] : Fin 2 → ℕ) a + S1024x256.size a ≤ S1024x5632.size a)
    (io : ∀ a, (![0, col] : Fin 2 → ℕ) a + S8x256.size a ≤ S8x5632.size a) (w : Vec Ideal S1024x256 .bf16)
    (hw : w = View.ld W (Rect.unit (s := S1024x5632) ![0, col] S1024x256.size iW)) {P : FVec Ideal S8x256 .f32}
    (hP : P = k0_pay14 h w) (z : S8x256.Idx) :
    P z = carry h W ((Rect.unit (s := S8x5632) ![0, col] S8x256.size io).emb z) := by
  subst hw hP
  obtain ⟨r, q, rfl⟩ : ∃ (r : Fin 8) (q : Fin 256), z = ix2 r q := ⟨z 0, z 1, eq_ix2 z⟩
  rw [pay14_apply, up_ld h W col hc]
  have e : (Rect.unit (s := S8x5632) ![0, col] S8x256.size io).emb (ix2 r q) = (ix2 r ⟨col + q.val, by omega⟩ : S8x5632.Idx) := by
    funext a; apply Fin.ext
    match a with
    | ⟨0, _⟩ => show 0 + 1 * r.val = r.val; omega
    | ⟨1, _⟩ => show col + 1 * q.val = col + q.val; omega
  rw [e]
  rfl

/-- The result block from the loads of the blocks. -/
theorem out_of {x0 y0 : Vec Ideal S1x512x1024 .f32} {x1 y1 : Vec Ideal S1x512x256 .f32} {x2 : Vec Ideal S1x1024 .f32}
    {x3 : Vec Ideal S1024x5632 .bf16} {x4 : Vec Ideal S3x5632 .f32} {x5 y5 : Vec Ideal S2816x1024 .bf16} {x6 y6 : Vec Ideal S1x1024 .f32}
    {x7 y7 : Vec Ideal S1024x1024 .bf16} {x8 y8 : Vec Ideal S256x1024 .bf16} {K : Vec Ideal S8x5632 .f32} {f : Vec Ideal S512x2816 .bf16}
    (h0 : y0 = x0) (h1 : y1 = x1) (h5 : y5 = x5) (h6 : y6 = x6) (h7 : y7 = x7) (h8 : y8 = x8) (hf : f = act (k0_pay4 x0 x2) x3 x4 K) :
    k0_pay1 (k0_pay138 (k0_pay3 y0) f y5) (k0_pay139 (k0_pay3 y0) f y5 y6 y7) (k0_pay140 y1) (k0_pay141 y8)
      (constant S512x1024 .f32 0x00000000#32) = outV x0 x1 x2 x3 x4 x5 x6 x7 x8 K := by
  subst h0 h1 h5 h6 h7 h8 hf
  rfl

theorem act_of {sp : Space} (v : View sig .tc sp S512x2816 .bf16) (L : List (View.Piece (Elt Ideal) S512x2816 .bf16))
    (i : ∀ a, (![0, 0] : Fin 2 → ℕ) a + S512x2816.size a ≤ S512x2816.size a)
    (h : FVec Ideal S512x1024 .bf16) (W : Vec Ideal S1024x5632 .bf16) (D : Vec Ideal S3x5632 .f32) (K : Vec Ideal S8x5632 .f32)
    (hL : View.PiecesOf (act h W D K) L) (hc : ∀ y, ∃ p ∈ L, y ∈ p.1.set) :
    v.readCov L (Rect.unit (s := S512x2816) ![0, 0] S512x2816.size i).toLoadRect = act h W D K := by
  rw [View.readCov_eq_canon']
  funext y
  have e : (Rect.unit (s := S512x2816) ![0, 0] S512x2816.size i).toLoadRect.idx y = y := by
    funext a; apply Fin.ext
    match a with
    | ⟨0, _⟩ => show 0 + 1 * (y 0).val = (y 0).val; omega
    | ⟨1, _⟩ => show 0 + 1 * (y 1).val = (y 1).val; omega
  rw [e]
  exact View.canon_apply_of_pieces _ L hL.mem y (hc y)

/-- The rows as the body loads and normalises them. -/
abbrev rowsOf {arg2 : Memref sig .tc .vmem S1x512x1024 .f32} (harg2 : arg2.IsWhole) {arg4 : Memref sig .tc .vmem S1x1024 .f32} (harg4 : arg4.IsWhole)
    (x0 : Vec Ideal S1x512x1024 .f32) (x2 : Vec Ideal S1x1024 .f32) : FVec Ideal S512x1024 .bf16 :=
  k0_pay4 (View.readAt (Elt Ideal) arg2.view (Rect.unit (s := S1x512x1024) ![0, 0, 0] S1x512x1024.size inb_S1x512x1024_S1x512x1024_0_0_0).toLoadRect (harg2.unread x0))
    (View.readAt (Elt Ideal) arg4.view (Rect.unit (s := S1x1024) ![0, 0] S1x1024.size inb_S1x1024_S1x1024_0_0).toLoadRect (harg4.unread x2))

/-- Stores that miss the cells of a load may be dropped, all together. -/
theorem skips {κ : Kind} {sp : Space} {s : Shape} {e : EltTy} (v : View sig κ sp s e) (B : LoadRect s) :
    ∀ (n : ℕ) (L : List (View.Piece (Elt Ideal) s e)), (L.take n).all (fun p => LoadRect.disj p.1 B) = true →
      v.readCov L B = v.readCov (L.drop n) B
  | 0, _, _ => rfl
  | n + 1, [], _ => rfl
  | n + 1, ⟨r, w⟩ :: L, h => by
    simp only [List.take_succ_cons, List.all_cons, Bool.and_eq_true] at h
    rw [View.readCov_skip v r w L B h.1, List.drop_succ_cons]
    exact skips v B n L h.2

/-- A load of the carried rows at a batch element's first tile: the zeros stored there, every later store missing its cells. -/
theorem zero_rows {κ : Kind} {sp : Space} (v : View sig κ sp S8x5632 .f32) (n : ℕ) (L : List (View.Piece (Elt Ideal) S8x5632 .f32))
    (r : Rect S8x5632) (h : (L.take n).all (fun p => LoadRect.disj p.1 r.toLoadRect) = true)
    (hd : L.drop n = [⟨Rect.unit (s := S8x5632) ![0, 0] S8x5632.size inb_S8x5632_S8x5632_0_0, k0_pay2 (F := Ideal)⟩]) :
    v.readCov L r.toLoadRect = View.ld (k0_pay2 (F := Ideal)) r := by
  rw [skips v _ n L h, hd]
  exact View.readCov_fill v _ _ _ _ (by decide)

variable (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S1x512x1024 .f32) (harg11 : arg11.IsWhole) (arg12 : Memref sig .tc .vmem S1x2x5632 .f32) (harg12 : arg12.IsWhole) (arg13 : Memref sig .tc .vmem S2x520x256 .f32) (harg13 : arg13.IsWhole) (arg14 : Memref sig .tc .vmem S8x5632 .f32) (harg14 : arg14.IsWhole) (arg15 : Memref sig .tc .vmem S512x2816 .bf16) (harg15 : arg15.IsWhole)
variable (x0 : Vec Ideal S1x512x1024 .f32) (x1 : Vec Ideal S1x512x256 .f32) (x2 : Vec Ideal S1x1024 .f32) (x3 : Vec Ideal S1024x5632 .bf16) (x4 : Vec Ideal S3x5632 .f32) (x5 : Vec Ideal S2816x1024 .bf16) (x6 : Vec Ideal S1x1024 .f32) (x7 : Vec Ideal S1024x1024 .bf16) (x8 : Vec Ideal S256x1024 .bf16)

theorem rows_eq : rowsOf harg2 harg4 x0 x2 = k0_pay4 x0 x2 := by
  unfold rowsOf
  rw [rdz harg2 x0 hz3, rdz harg4 x2 hz2]

set_option maxHeartbeats 2000000 in
/-- A later tile: the result block. -/
theorem out9_B (hc0 : ¬cond0_0 i) (xs1 : Vec Ideal S8x5632 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs1 = outV x0 x1 x2 x3 x4 x5 x6 x7 x8 xs1 := by
  unfold out0_B_9
  rw [View.read_writes_junk_eq_canon]
  unfold kernelRun0_B
  dsimp only
  rw [View.canon_unit_zero hz3]
  refine out_of (rdz harg2 x0 hz3 _) (rdz harg3 x1 hz3 _) (rdz harg7 x5 hz2 _) (rdz harg8 x6 hz2 _) (rdz harg9 x7 hz2 _) (rdz harg10 x8 hz2 _) ?_
  rw [← rows_eq (harg2 := harg2) (harg4 := harg4)]
  refine act_of _ _ _ _ _ _ _ ?_ ?_
  · refine ⟨?_, ?_, ?_, ?_, ?_, ?_, ?_, ?_, ?_, ?_, ?_, trivial⟩
    · exact fun z => act_piece (rowsOf harg2 harg4 x0 x2) x3 x4 xs1 2560 (by decide) inb_S512x2816_S512x256_0_2560 _ (fun r q =>
        (congrFun (gate_10 (rowsOf harg2 harg4 x0 x2) _ _ _ _ _ _ _ _ _ _ _ _) (ix2 r q)).trans
        (chunk_apply (rowsOf harg2 harg4 x0 x2) x3 x4 xs1 2560 5376 (by decide) rfl inb_S1024x5632_S1024x256_0_2560 inb_S1024x5632_S1024x256_0_5376
          inb_S8x5632_S8x256_0_2560 inb_S8x5632_S8x256_0_5376 inb_S3x5632_S1x256_0_2560 inb_S3x5632_S1x256_1_2560 inb_S3x5632_S1x256_2_2560 inb_S3x5632_S1x256_0_5376 inb_S3x5632_S1x256_1_5376 inb_S3x5632_S1x256_2_5376 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_10_0 (rowsOf harg2 harg4 x0 x2) _) (kc_10_0 _)) (readBack _ 0 7 (by decide) inb_S2x520x256_S1x512x256_0_8_0 inb_S2x520x256_S1x8x256_0_0_0 inb_S2x520x256_S1x512x256_0_7_0 _ _ _ _ (uc_10_0 (rowsOf harg2 harg4 x0 x2) _) (kc_10_0 _))
          (readBack _ 1 6 (by decide) inb_S2x520x256_S1x512x256_1_8_0 inb_S2x520x256_S1x8x256_1_0_0 inb_S2x520x256_S1x512x256_1_6_0 _ _ _ _ (uc_10_1 (rowsOf harg2 harg4 x0 x2) _) (kc_10_1 _)) (readBack _ 1 7 (by decide) inb_S2x520x256_S1x512x256_1_8_0 inb_S2x520x256_S1x8x256_1_0_0 inb_S2x520x256_S1x512x256_1_7_0 _ _ _ _ (uc_10_1 (rowsOf harg2 harg4 x0 x2) _) (kc_10_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
    · exact fun z => act_piece (rowsOf harg2 harg4 x0 x2) x3 x4 xs1 2304 (by decide) inb_S512x2816_S512x256_0_2304 _ (fun r q =>
        (congrFun (gate_9 (rowsOf harg2 harg4 x0 x2) _ _ _ _ _ _ _ _ _ _ _ _) (ix2 r q)).trans
        (chunk_apply (rowsOf harg2 harg4 x0 x2) x3 x4 xs1 2304 5120 (by decide) rfl inb_S1024x5632_S1024x256_0_2304 inb_S1024x5632_S1024x256_0_5120
          inb_S8x5632_S8x256_0_2304 inb_S8x5632_S8x256_0_5120 inb_S3x5632_S1x256_0_2304 inb_S3x5632_S1x256_1_2304 inb_S3x5632_S1x256_2_2304 inb_S3x5632_S1x256_0_5120 inb_S3x5632_S1x256_1_5120 inb_S3x5632_S1x256_2_5120 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_9_0 (rowsOf harg2 harg4 x0 x2) _) (kc_9_0 _)) (readBack _ 0 7 (by decide) inb_S2x520x256_S1x512x256_0_8_0 inb_S2x520x256_S1x8x256_0_0_0 inb_S2x520x256_S1x512x256_0_7_0 _ _ _ _ (uc_9_0 (rowsOf harg2 harg4 x0 x2) _) (kc_9_0 _))
          (readBack _ 1 6 (by decide) inb_S2x520x256_S1x512x256_1_8_0 inb_S2x520x256_S1x8x256_1_0_0 inb_S2x520x256_S1x512x256_1_6_0 _ _ _ _ (uc_9_1 (rowsOf harg2 harg4 x0 x2) _) (kc_9_1 _)) (readBack _ 1 7 (by decide) inb_S2x520x256_S1x512x256_1_8_0 inb_S2x520x256_S1x8x256_1_0_0 inb_S2x520x256_S1x512x256_1_7_0 _ _ _ _ (uc_9_1 (rowsOf harg2 harg4 x0 x2) _) (kc_9_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
    · exact fun z => act_piece (rowsOf harg2 harg4 x0 x2) x3 x4 xs1 2048 (by decide) inb_S512x2816_S512x256_0_2048 _ (fun r q =>
        (congrFun (gate_8 (rowsOf harg2 harg4 x0 x2) _ _ _ _ _ _ _ _ _ _ _ _) (ix2 r q)).trans
        (chunk_apply (rowsOf harg2 harg4 x0 x2) x3 x4 xs1 2048 4864 (by decide) rfl inb_S1024x5632_S1024x256_0_2048 inb_S1024x5632_S1024x256_0_4864
          inb_S8x5632_S8x256_0_2048 inb_S8x5632_S8x256_0_4864 inb_S3x5632_S1x256_0_2048 inb_S3x5632_S1x256_1_2048 inb_S3x5632_S1x256_2_2048 inb_S3x5632_S1x256_0_4864 inb_S3x5632_S1x256_1_4864 inb_S3x5632_S1x256_2_4864 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_8_0 (rowsOf harg2 harg4 x0 x2) _) (kc_8_0 _)) (readBack _ 0 7 (by decide) inb_S2x520x256_S1x512x256_0_8_0 inb_S2x520x256_S1x8x256_0_0_0 inb_S2x520x256_S1x512x256_0_7_0 _ _ _ _ (uc_8_0 (rowsOf harg2 harg4 x0 x2) _) (kc_8_0 _))
          (readBack _ 1 6 (by decide) inb_S2x520x256_S1x512x256_1_8_0 inb_S2x520x256_S1x8x256_1_0_0 inb_S2x520x256_S1x512x256_1_6_0 _ _ _ _ (uc_8_1 (rowsOf harg2 harg4 x0 x2) _) (kc_8_1 _)) (readBack _ 1 7 (by decide) inb_S2x520x256_S1x512x256_1_8_0 inb_S2x520x256_S1x8x256_1_0_0 inb_S2x520x256_S1x512x256_1_7_0 _ _ _ _ (uc_8_1 (rowsOf harg2 harg4 x0 x2) _) (kc_8_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
    · exact fun z => act_piece (rowsOf harg2 harg4 x0 x2) x3 x4 xs1 1792 (by decide) inb_S512x2816_S512x256_0_1792 _ (fun r q =>
        (congrFun (gate_7 (rowsOf harg2 harg4 x0 x2) _ _ _ _ _ _ _ _ _ _ _ _) (ix2 r q)).trans
        (chunk_apply (rowsOf harg2 harg4 x0 x2) x3 x4 xs1 1792 4608 (by decide) rfl inb_S1024x5632_S1024x256_0_1792 inb_S1024x5632_S1024x256_0_4608
          inb_S8x5632_S8x256_0_1792 inb_S8x5632_S8x256_0_4608 inb_S3x5632_S1x256_0_1792 inb_S3x5632_S1x256_1_1792 inb_S3x5632_S1x256_2_1792 inb_S3x5632_S1x256_0_4608 inb_S3x5632_S1x256_1_4608 inb_S3x5632_S1x256_2_4608 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_7_0 (rowsOf harg2 harg4 x0 x2) _) (kc_7_0 _)) (readBack _ 0 7 (by decide) inb_S2x520x256_S1x512x256_0_8_0 inb_S2x520x256_S1x8x256_0_0_0 inb_S2x520x256_S1x512x256_0_7_0 _ _ _ _ (uc_7_0 (rowsOf harg2 harg4 x0 x2) _) (kc_7_0 _))
          (readBack _ 1 6 (by decide) inb_S2x520x256_S1x512x256_1_8_0 inb_S2x520x256_S1x8x256_1_0_0 inb_S2x520x256_S1x512x256_1_6_0 _ _ _ _ (uc_7_1 (rowsOf harg2 harg4 x0 x2) _) (kc_7_1 _)) (readBack _ 1 7 (by decide) inb_S2x520x256_S1x512x256_1_8_0 inb_S2x520x256_S1x8x256_1_0_0 inb_S2x520x256_S1x512x256_1_7_0 _ _ _ _ (uc_7_1 (rowsOf harg2 harg4 x0 x2) _) (kc_7_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
    · exact fun z => act_piece (rowsOf harg2 harg4 x0 x2) x3 x4 xs1 1536 (by decide) inb_S512x2816_S512x256_0_1536 _ (fun r q =>
        (congrFun (gate_6 (rowsOf harg2 harg4 x0 x2) _ _ _ _ _ _ _ _ _ _ _ _) (ix2 r q)).trans
        (chunk_apply (rowsOf harg2 harg4 x0 x2) x3 x4 xs1 1536 4352 (by decide) rfl inb_S1024x5632_S1024x256_0_1536 inb_S1024x5632_S1024x256_0_4352
          inb_S8x5632_S8x256_0_1536 inb_S8x5632_S8x256_0_4352 inb_S3x5632_S1x256_0_1536 inb_S3x5632_S1x256_1_1536 inb_S3x5632_S1x256_2_1536 inb_S3x5632_S1x256_0_4352 inb_S3x5632_S1x256_1_4352 inb_S3x5632_S1x256_2_4352 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_6_0 (rowsOf harg2 harg4 x0 x2) _) (kc_6_0 _)) (readBack _ 0 7 (by decide) inb_S2x520x256_S1x512x256_0_8_0 inb_S2x520x256_S1x8x256_0_0_0 inb_S2x520x256_S1x512x256_0_7_0 _ _ _ _ (uc_6_0 (rowsOf harg2 harg4 x0 x2) _) (kc_6_0 _))
          (readBack _ 1 6 (by decide) inb_S2x520x256_S1x512x256_1_8_0 inb_S2x520x256_S1x8x256_1_0_0 inb_S2x520x256_S1x512x256_1_6_0 _ _ _ _ (uc_6_1 (rowsOf harg2 harg4 x0 x2) _) (kc_6_1 _)) (readBack _ 1 7 (by decide) inb_S2x520x256_S1x512x256_1_8_0 inb_S2x520x256_S1x8x256_1_0_0 inb_S2x520x256_S1x512x256_1_7_0 _ _ _ _ (uc_6_1 (rowsOf harg2 harg4 x0 x2) _) (kc_6_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
    · exact fun z => act_piece (rowsOf harg2 harg4 x0 x2) x3 x4 xs1 1280 (by decide) inb_S512x2816_S512x256_0_1280 _ (fun r q =>
        (congrFun (gate_5 (rowsOf harg2 harg4 x0 x2) _ _ _ _ _ _ _ _ _ _ _ _) (ix2 r q)).trans
        (chunk_apply (rowsOf harg2 harg4 x0 x2) x3 x4 xs1 1280 4096 (by decide) rfl inb_S1024x5632_S1024x256_0_1280 inb_S1024x5632_S1024x256_0_4096
          inb_S8x5632_S8x256_0_1280 inb_S8x5632_S8x256_0_4096 inb_S3x5632_S1x256_0_1280 inb_S3x5632_S1x256_1_1280 inb_S3x5632_S1x256_2_1280 inb_S3x5632_S1x256_0_4096 inb_S3x5632_S1x256_1_4096 inb_S3x5632_S1x256_2_4096 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_5_0 (rowsOf harg2 harg4 x0 x2) _) (kc_5_0 _)) (readBack _ 0 7 (by decide) inb_S2x520x256_S1x512x256_0_8_0 inb_S2x520x256_S1x8x256_0_0_0 inb_S2x520x256_S1x512x256_0_7_0 _ _ _ _ (uc_5_0 (rowsOf harg2 harg4 x0 x2) _) (kc_5_0 _))
          (readBack _ 1 6 (by decide) inb_S2x520x256_S1x512x256_1_8_0 inb_S2x520x256_S1x8x256_1_0_0 inb_S2x520x256_S1x512x256_1_6_0 _ _ _ _ (uc_5_1 (rowsOf harg2 harg4 x0 x2) _) (kc_5_1 _)) (readBack _ 1 7 (by decide) inb_S2x520x256_S1x512x256_1_8_0 inb_S2x520x256_S1x8x256_1_0_0 inb_S2x520x256_S1x512x256_1_7_0 _ _ _ _ (uc_5_1 (rowsOf harg2 harg4 x0 x2) _) (kc_5_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
    · exact fun z => act_piece (rowsOf harg2 harg4 x0 x2) x3 x4 xs1 1024 (by decide) inb_S512x2816_S512x256_0_1024 _ (fun r q =>
        (congrFun (gate_4 (rowsOf harg2 harg4 x0 x2) _ _ _ _ _ _ _ _ _ _ _ _) (ix2 r q)).trans
        (chunk_apply (rowsOf harg2 harg4 x0 x2) x3 x4 xs1 1024 3840 (by decide) rfl inb_S1024x5632_S1024x256_0_1024 inb_S1024x5632_S1024x256_0_3840
          inb_S8x5632_S8x256_0_1024 inb_S8x5632_S8x256_0_3840 inb_S3x5632_S1x256_0_1024 inb_S3x5632_S1x256_1_1024 inb_S3x5632_S1x256_2_1024 inb_S3x5632_S1x256_0_3840 inb_S3x5632_S1x256_1_3840 inb_S3x5632_S1x256_2_3840 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_4_0 (rowsOf harg2 harg4 x0 x2) _) (kc_4_0 _)) (readBack _ 0 7 (by decide) inb_S2x520x256_S1x512x256_0_8_0 inb_S2x520x256_S1x8x256_0_0_0 inb_S2x520x256_S1x512x256_0_7_0 _ _ _ _ (uc_4_0 (rowsOf harg2 harg4 x0 x2) _) (kc_4_0 _))
          (readBack _ 1 6 (by decide) inb_S2x520x256_S1x512x256_1_8_0 inb_S2x520x256_S1x8x256_1_0_0 inb_S2x520x256_S1x512x256_1_6_0 _ _ _ _ (uc_4_1 (rowsOf harg2 harg4 x0 x2) _) (kc_4_1 _)) (readBack _ 1 7 (by decide) inb_S2x520x256_S1x512x256_1_8_0 inb_S2x520x256_S1x8x256_1_0_0 inb_S2x520x256_S1x512x256_1_7_0 _ _ _ _ (uc_4_1 (rowsOf harg2 harg4 x0 x2) _) (kc_4_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
    · exact fun z => act_piece (rowsOf harg2 harg4 x0 x2) x3 x4 xs1 768 (by decide) inb_S512x2816_S512x256_0_768 _ (fun r q =>
        (congrFun (gate_3 (rowsOf harg2 harg4 x0 x2) _ _ _ _ _ _ _ _ _ _ _ _) (ix2 r q)).trans
        (chunk_apply (rowsOf harg2 harg4 x0 x2) x3 x4 xs1 768 3584 (by decide) rfl inb_S1024x5632_S1024x256_0_768 inb_S1024x5632_S1024x256_0_3584
          inb_S8x5632_S8x256_0_768 inb_S8x5632_S8x256_0_3584 inb_S3x5632_S1x256_0_768 inb_S3x5632_S1x256_1_768 inb_S3x5632_S1x256_2_768 inb_S3x5632_S1x256_0_3584 inb_S3x5632_S1x256_1_3584 inb_S3x5632_S1x256_2_3584 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_3_0 (rowsOf harg2 harg4 x0 x2) _) (kc_3_0 _)) (readBack _ 0 7 (by decide) inb_S2x520x256_S1x512x256_0_8_0 inb_S2x520x256_S1x8x256_0_0_0 inb_S2x520x256_S1x512x256_0_7_0 _ _ _ _ (uc_3_0 (rowsOf harg2 harg4 x0 x2) _) (kc_3_0 _))
          (readBack _ 1 6 (by decide) inb_S2x520x256_S1x512x256_1_8_0 inb_S2x520x256_S1x8x256_1_0_0 inb_S2x520x256_S1x512x256_1_6_0 _ _ _ _ (uc_3_1 (rowsOf harg2 harg4 x0 x2) _) (kc_3_1 _)) (readBack _ 1 7 (by decide) inb_S2x520x256_S1x512x256_1_8_0 inb_S2x520x256_S1x8x256_1_0_0 inb_S2x520x256_S1x512x256_1_7_0 _ _ _ _ (uc_3_1 (rowsOf harg2 harg4 x0 x2) _) (kc_3_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
    · exact fun z => act_piece (rowsOf harg2 harg4 x0 x2) x3 x4 xs1 512 (by decide) inb_S512x2816_S512x256_0_512 _ (fun r q =>
        (congrFun (gate_2 (rowsOf harg2 harg4 x0 x2) _ _ _ _ _ _ _ _ _ _ _ _) (ix2 r q)).trans
        (chunk_apply (rowsOf harg2 harg4 x0 x2) x3 x4 xs1 512 3328 (by decide) rfl inb_S1024x5632_S1024x256_0_512 inb_S1024x5632_S1024x256_0_3328
          inb_S8x5632_S8x256_0_512 inb_S8x5632_S8x256_0_3328 inb_S3x5632_S1x256_0_512 inb_S3x5632_S1x256_1_512 inb_S3x5632_S1x256_2_512 inb_S3x5632_S1x256_0_3328 inb_S3x5632_S1x256_1_3328 inb_S3x5632_S1x256_2_3328 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_2_0 (rowsOf harg2 harg4 x0 x2) _) (kc_2_0 _)) (readBack _ 0 7 (by decide) inb_S2x520x256_S1x512x256_0_8_0 inb_S2x520x256_S1x8x256_0_0_0 inb_S2x520x256_S1x512x256_0_7_0 _ _ _ _ (uc_2_0 (rowsOf harg2 harg4 x0 x2) _) (kc_2_0 _))
          (readBack _ 1 6 (by decide) inb_S2x520x256_S1x512x256_1_8_0 inb_S2x520x256_S1x8x256_1_0_0 inb_S2x520x256_S1x512x256_1_6_0 _ _ _ _ (uc_2_1 (rowsOf harg2 harg4 x0 x2) _) (kc_2_1 _)) (readBack _ 1 7 (by decide) inb_S2x520x256_S1x512x256_1_8_0 inb_S2x520x256_S1x8x256_1_0_0 inb_S2x520x256_S1x512x256_1_7_0 _ _ _ _ (uc_2_1 (rowsOf harg2 harg4 x0 x2) _) (kc_2_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
    · exact fun z => act_piece (rowsOf harg2 harg4 x0 x2) x3 x4 xs1 256 (by decide) inb_S512x2816_S512x256_0_256 _ (fun r q =>
        (congrFun (gate_1 (rowsOf harg2 harg4 x0 x2) _ _ _ _ _ _ _ _ _ _ _ _) (ix2 r q)).trans
        (chunk_apply (rowsOf harg2 harg4 x0 x2) x3 x4 xs1 256 3072 (by decide) rfl inb_S1024x5632_S1024x256_0_256 inb_S1024x5632_S1024x256_0_3072
          inb_S8x5632_S8x256_0_256 inb_S8x5632_S8x256_0_3072 inb_S3x5632_S1x256_0_256 inb_S3x5632_S1x256_1_256 inb_S3x5632_S1x256_2_256 inb_S3x5632_S1x256_0_3072 inb_S3x5632_S1x256_1_3072 inb_S3x5632_S1x256_2_3072 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_1_0 (rowsOf harg2 harg4 x0 x2) _) (kc_1_0 _)) (readBack _ 0 7 (by decide) inb_S2x520x256_S1x512x256_0_8_0 inb_S2x520x256_S1x8x256_0_0_0 inb_S2x520x256_S1x512x256_0_7_0 _ _ _ _ (uc_1_0 (rowsOf harg2 harg4 x0 x2) _) (kc_1_0 _))
          (readBack _ 1 6 (by decide) inb_S2x520x256_S1x512x256_1_8_0 inb_S2x520x256_S1x8x256_1_0_0 inb_S2x520x256_S1x512x256_1_6_0 _ _ _ _ (uc_1_1 (rowsOf harg2 harg4 x0 x2) _) (kc_1_1 _)) (readBack _ 1 7 (by decide) inb_S2x520x256_S1x512x256_1_8_0 inb_S2x520x256_S1x8x256_1_0_0 inb_S2x520x256_S1x512x256_1_7_0 _ _ _ _ (uc_1_1 (rowsOf harg2 harg4 x0 x2) _) (kc_1_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
    · exact fun z => act_piece (rowsOf harg2 harg4 x0 x2) x3 x4 xs1 0 (by decide) inb_S512x2816_S512x256_0_0 _ (fun r q =>
        (congrFun (gate_0 (View.readAt (Elt Ideal) arg2.view (Rect.unit (s := S1x512x1024) ![0, 0, 0] S1x512x1024.size inb_S1x512x1024_S1x512x1024_0_0_0).toLoadRect (harg2.unread x0)) (View.readAt (Elt Ideal) arg4.view (Rect.unit (s := S1x1024) ![0, 0] S1x1024.size inb_S1x1024_S1x1024_0_0).toLoadRect (harg4.unread x2)) _ _ _ _ _ _ _ _ _ _ _ _) (ix2 r q)).trans
        (chunk_apply (rowsOf harg2 harg4 x0 x2) x3 x4 xs1 0 2816 (by decide) rfl inb_S1024x5632_S1024x256_0_0 inb_S1024x5632_S1024x256_0_2816
          inb_S8x5632_S8x256_0_0 inb_S8x5632_S8x256_0_2816 inb_S3x5632_S1x256_0_0 inb_S3x5632_S1x256_1_0 inb_S3x5632_S1x256_2_0 inb_S3x5632_S1x256_0_2816 inb_S3x5632_S1x256_1_2816 inb_S3x5632_S1x256_2_2816 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_0_0 (View.readAt (Elt Ideal) arg2.view (Rect.unit (s := S1x512x1024) ![0, 0, 0] S1x512x1024.size inb_S1x512x1024_S1x512x1024_0_0_0).toLoadRect (harg2.unread x0)) (View.readAt (Elt Ideal) arg4.view (Rect.unit (s := S1x1024) ![0, 0] S1x1024.size inb_S1x1024_S1x1024_0_0).toLoadRect (harg4.unread x2)) _) (kc_0_0 _)) (readBack _ 0 7 (by decide) inb_S2x520x256_S1x512x256_0_8_0 inb_S2x520x256_S1x8x256_0_0_0 inb_S2x520x256_S1x512x256_0_7_0 _ _ _ _ (uc_0_0 (View.readAt (Elt Ideal) arg2.view (Rect.unit (s := S1x512x1024) ![0, 0, 0] S1x512x1024.size inb_S1x512x1024_S1x512x1024_0_0_0).toLoadRect (harg2.unread x0)) (View.readAt (Elt Ideal) arg4.view (Rect.unit (s := S1x1024) ![0, 0] S1x1024.size inb_S1x1024_S1x1024_0_0).toLoadRect (harg4.unread x2)) _) (kc_0_0 _))
          (readBack _ 1 6 (by decide) inb_S2x520x256_S1x512x256_1_8_0 inb_S2x520x256_S1x8x256_1_0_0 inb_S2x520x256_S1x512x256_1_6_0 _ _ _ _ (uc_0_1 (rowsOf harg2 harg4 x0 x2) _) (kc_0_1 _)) (readBack _ 1 7 (by decide) inb_S2x520x256_S1x512x256_1_8_0 inb_S2x520x256_S1x8x256_1_0_0 inb_S2x520x256_S1x512x256_1_7_0 _ _ _ _ (uc_0_1 (rowsOf harg2 harg4 x0 x2) _) (kc_0_1 _))
          (rd harg5 x3 _) (rd harg5 x3 _) (rd harg14 xs1 _) (rd harg14 xs1 _) (rd harg6 x4 _) (rd harg6 x4 _) (rd harg6 x4 _) (rd harg6 x4 _) (rd harg6 x4 _) (rd harg6 x4 _) r q)) z
  · exact View.cover_of_tiledL _ S512x256.size (by sl_kernel_rfl)

set_option maxHeartbeats 2000000 in
/-- A later tile: the rows it carries on. -/
theorem carried_B (y : S8x5632.Idx) : View.canon (kernelRun0_B.sl.HS1_22 (F := Ideal) c arg2 harg2 arg4 harg4 arg5 harg5 x0 x2 x3) y = carry (k0_pay4 x0 x2) x3 y := by
  rw [← rows_eq (harg2 := harg2) (harg4 := harg4)]
  refine View.canon_apply_of_pieces _ _ (View.PiecesOf.mem ?_) y ?_
  · refine ⟨?_, ?_, ?_, ?_, ?_, ?_, ?_, ?_, ?_, ?_, ?_, ?_, ?_, ?_, ?_, ?_, ?_, ?_, ?_, ?_, ?_, ?_, trivial⟩
    · exact fun z => carry_piece (rowsOf harg2 harg4 x0 x2) x3 5376 (by decide) inb_S1024x5632_S1024x256_0_5376 inb_S8x5632_S8x256_0_5376 _ (rd harg5 x3 _) (cc_10_1 (rowsOf harg2 harg4 x0 x2) _) z
    · exact fun z => carry_piece (rowsOf harg2 harg4 x0 x2) x3 2560 (by decide) inb_S1024x5632_S1024x256_0_2560 inb_S8x5632_S8x256_0_2560 _ (rd harg5 x3 _) (cc_10_0 (rowsOf harg2 harg4 x0 x2) _) z
    · exact fun z => carry_piece (rowsOf harg2 harg4 x0 x2) x3 5120 (by decide) inb_S1024x5632_S1024x256_0_5120 inb_S8x5632_S8x256_0_5120 _ (rd harg5 x3 _) (cc_9_1 (rowsOf harg2 harg4 x0 x2) _) z
    · exact fun z => carry_piece (rowsOf harg2 harg4 x0 x2) x3 2304 (by decide) inb_S1024x5632_S1024x256_0_2304 inb_S8x5632_S8x256_0_2304 _ (rd harg5 x3 _) (cc_9_0 (rowsOf harg2 harg4 x0 x2) _) z
    · exact fun z => carry_piece (rowsOf harg2 harg4 x0 x2) x3 4864 (by decide) inb_S1024x5632_S1024x256_0_4864 inb_S8x5632_S8x256_0_4864 _ (rd harg5 x3 _) (cc_8_1 (rowsOf harg2 harg4 x0 x2) _) z
    · exact fun z => carry_piece (rowsOf harg2 harg4 x0 x2) x3 2048 (by decide) inb_S1024x5632_S1024x256_0_2048 inb_S8x5632_S8x256_0_2048 _ (rd harg5 x3 _) (cc_8_0 (rowsOf harg2 harg4 x0 x2) _) z
    · exact fun z => carry_piece (rowsOf harg2 harg4 x0 x2) x3 4608 (by decide) inb_S1024x5632_S1024x256_0_4608 inb_S8x5632_S8x256_0_4608 _ (rd harg5 x3 _) (cc_7_1 (rowsOf harg2 harg4 x0 x2) _) z
    · exact fun z => carry_piece (rowsOf harg2 harg4 x0 x2) x3 1792 (by decide) inb_S1024x5632_S1024x256_0_1792 inb_S8x5632_S8x256_0_1792 _ (rd harg5 x3 _) (cc_7_0 (rowsOf harg2 harg4 x0 x2) _) z
    · exact fun z => carry_piece (rowsOf harg2 harg4 x0 x2) x3 4352 (by decide) inb_S1024x5632_S1024x256_0_4352 inb_S8x5632_S8x256_0_4352 _ (rd harg5 x3 _) (cc_6_1 (rowsOf harg2 harg4 x0 x2) _) z
    · exact fun z => carry_piece (rowsOf harg2 harg4 x0 x2) x3 1536 (by decide) inb_S1024x5632_S1024x256_0_1536 inb_S8x5632_S8x256_0_1536 _ (rd harg5 x3 _) (cc_6_0 (rowsOf harg2 harg4 x0 x2) _) z
    · exact fun z => carry_piece (rowsOf harg2 harg4 x0 x2) x3 4096 (by decide) inb_S1024x5632_S1024x256_0_4096 inb_S8x5632_S8x256_0_4096 _ (rd harg5 x3 _) (cc_5_1 (rowsOf harg2 harg4 x0 x2) _) z
    · exact fun z => carry_piece (rowsOf harg2 harg4 x0 x2) x3 1280 (by decide) inb_S1024x5632_S1024x256_0_1280 inb_S8x5632_S8x256_0_1280 _ (rd harg5 x3 _) (cc_5_0 (rowsOf harg2 harg4 x0 x2) _) z
    · exact fun z => carry_piece (rowsOf harg2 harg4 x0 x2) x3 3840 (by decide) inb_S1024x5632_S1024x256_0_3840 inb_S8x5632_S8x256_0_3840 _ (rd harg5 x3 _) (cc_4_1 (rowsOf harg2 harg4 x0 x2) _) z
    · exact fun z => carry_piece (rowsOf harg2 harg4 x0 x2) x3 1024 (by decide) inb_S1024x5632_S1024x256_0_1024 inb_S8x5632_S8x256_0_1024 _ (rd harg5 x3 _) (cc_4_0 (rowsOf harg2 harg4 x0 x2) _) z
    · exact fun z => carry_piece (rowsOf harg2 harg4 x0 x2) x3 3584 (by decide) inb_S1024x5632_S1024x256_0_3584 inb_S8x5632_S8x256_0_3584 _ (rd harg5 x3 _) (cc_3_1 (rowsOf harg2 harg4 x0 x2) _) z
    · exact fun z => carry_piece (rowsOf harg2 harg4 x0 x2) x3 768 (by decide) inb_S1024x5632_S1024x256_0_768 inb_S8x5632_S8x256_0_768 _ (rd harg5 x3 _) (cc_3_0 (rowsOf harg2 harg4 x0 x2) _) z
    · exact fun z => carry_piece (rowsOf harg2 harg4 x0 x2) x3 3328 (by decide) inb_S1024x5632_S1024x256_0_3328 inb_S8x5632_S8x256_0_3328 _ (rd harg5 x3 _) (cc_2_1 (rowsOf harg2 harg4 x0 x2) _) z
    · exact fun z => carry_piece (rowsOf harg2 harg4 x0 x2) x3 512 (by decide) inb_S1024x5632_S1024x256_0_512 inb_S8x5632_S8x256_0_512 _ (rd harg5 x3 _) (cc_2_0 (rowsOf harg2 harg4 x0 x2) _) z
    · exact fun z => carry_piece (rowsOf harg2 harg4 x0 x2) x3 3072 (by decide) inb_S1024x5632_S1024x256_0_3072 inb_S8x5632_S8x256_0_3072 _ (rd harg5 x3 _) (cc_1_1 (rowsOf harg2 harg4 x0 x2) _) z
    · exact fun z => carry_piece (rowsOf harg2 harg4 x0 x2) x3 256 (by decide) inb_S1024x5632_S1024x256_0_256 inb_S8x5632_S8x256_0_256 _ (rd harg5 x3 _) (cc_1_0 (rowsOf harg2 harg4 x0 x2) _) z
    · exact fun z => carry_piece (rowsOf harg2 harg4 x0 x2) x3 2816 (by decide) inb_S1024x5632_S1024x256_0_2816 inb_S8x5632_S8x256_0_2816 _ (rd harg5 x3 _) (cc_0_1 (rowsOf harg2 harg4 x0 x2) _) z
    · exact fun z => carry_piece (rowsOf harg2 harg4 x0 x2) x3 0 (by decide) inb_S1024x5632_S1024x256_0_0 inb_S8x5632_S8x256_0_0 _ (rd harg5 x3 _) (cc_0_0 (View.readAt (Elt Ideal) arg2.view (Rect.unit (s := S1x512x1024) ![0, 0, 0] S1x512x1024.size inb_S1x512x1024_S1x512x1024_0_0_0).toLoadRect (harg2.unread x0)) (View.readAt (Elt Ideal) arg4.view (Rect.unit (s := S1x1024) ![0, 0] S1x1024.size inb_S1x1024_S1x1024_0_0).toLoadRect (harg4.unread x2)) _) z
  · exact (fun y => View.cover_of_tiledL (kernelRun0_B.sl.HS1_22 (F := Ideal) c arg2 harg2 arg4 harg4 arg5 harg5 x0 x2 x3) S8x256.size (by sl_kernel_rfl) y) y

theorem sout_B (hc0 : ¬cond0_0 i) (xs1 : Vec Ideal S8x5632 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs1 = carry (k0_pay4 x0 x2) x3 := by
  unfold sout0_B_1
  rw [View.read_writes_junk_eq_canon]
  unfold kernelRun0_B
  dsimp only
  funext y
  exact carried_B c arg2 harg2 arg4 harg4 arg5 harg5 x0 x2 x3 y

set_option maxHeartbeats 2000000 in
/-- A batch element's first tile, the carried rows being zero: the result block. -/
theorem out9_A (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = outV x0 x1 x2 x3 x4 x5 x6 x7 x8 (k0_pay2 (F := Ideal)) := by
  unfold out0_A_9
  rw [View.read_writes_junk_eq_canon]
  unfold kernelRun0_A
  dsimp only
  rw [View.canon_unit_zero hz3]
  refine out_of (rdz harg2 x0 hz3 _) (rdz harg3 x1 hz3 _) (rdz harg7 x5 hz2 _) (rdz harg8 x6 hz2 _) (rdz harg9 x7 hz2 _) (rdz harg10 x8 hz2 _) ?_
  rw [← rows_eq (harg2 := harg2) (harg4 := harg4)]
  refine act_of _ _ _ _ _ _ _ ?_ ?_
  · refine ⟨?_, ?_, ?_, ?_, ?_, ?_, ?_, ?_, ?_, ?_, ?_, trivial⟩
    · exact fun z => act_piece (rowsOf harg2 harg4 x0 x2) x3 x4 (k0_pay2 (F := Ideal)) 2560 (by decide) inb_S512x2816_S512x256_0_2560 _ (fun r q =>
        (congrFun (gate_10 (rowsOf harg2 harg4 x0 x2) _ _ _ _ _ _ _ _ _ _ _ _) (ix2 r q)).trans
        (chunk_apply (rowsOf harg2 harg4 x0 x2) x3 x4 (k0_pay2 (F := Ideal)) 2560 5376 (by decide) rfl inb_S1024x5632_S1024x256_0_2560 inb_S1024x5632_S1024x256_0_5376
          inb_S8x5632_S8x256_0_2560 inb_S8x5632_S8x256_0_5376 inb_S3x5632_S1x256_0_2560 inb_S3x5632_S1x256_1_2560 inb_S3x5632_S1x256_2_2560 inb_S3x5632_S1x256_0_5376 inb_S3x5632_S1x256_1_5376 inb_S3x5632_S1x256_2_5376 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_10_0 (rowsOf harg2 harg4 x0 x2) _) (kc_10_0 _)) (readBack _ 0 7 (by decide) inb_S2x520x256_S1x512x256_0_8_0 inb_S2x520x256_S1x8x256_0_0_0 inb_S2x520x256_S1x512x256_0_7_0 _ _ _ _ (uc_10_0 (rowsOf harg2 harg4 x0 x2) _) (kc_10_0 _))
          (readBack _ 1 6 (by decide) inb_S2x520x256_S1x512x256_1_8_0 inb_S2x520x256_S1x8x256_1_0_0 inb_S2x520x256_S1x512x256_1_6_0 _ _ _ _ (uc_10_1 (rowsOf harg2 harg4 x0 x2) _) (kc_10_1 _)) (readBack _ 1 7 (by decide) inb_S2x520x256_S1x512x256_1_8_0 inb_S2x520x256_S1x8x256_1_0_0 inb_S2x520x256_S1x512x256_1_7_0 _ _ _ _ (uc_10_1 (rowsOf harg2 harg4 x0 x2) _) (kc_10_1 _))
          (rd harg5 x3 _) (rd harg5 x3 _) (zero_rows _ 20 _ _ (by sl_kernel_rfl) rfl) (zero_rows _ 21 _ _ (by sl_kernel_rfl) rfl) (rd harg6 x4 _) (rd harg6 x4 _) (rd harg6 x4 _) (rd harg6 x4 _) (rd harg6 x4 _) (rd harg6 x4 _) r q)) z
    · exact fun z => act_piece (rowsOf harg2 harg4 x0 x2) x3 x4 (k0_pay2 (F := Ideal)) 2304 (by decide) inb_S512x2816_S512x256_0_2304 _ (fun r q =>
        (congrFun (gate_9 (rowsOf harg2 harg4 x0 x2) _ _ _ _ _ _ _ _ _ _ _ _) (ix2 r q)).trans
        (chunk_apply (rowsOf harg2 harg4 x0 x2) x3 x4 (k0_pay2 (F := Ideal)) 2304 5120 (by decide) rfl inb_S1024x5632_S1024x256_0_2304 inb_S1024x5632_S1024x256_0_5120
          inb_S8x5632_S8x256_0_2304 inb_S8x5632_S8x256_0_5120 inb_S3x5632_S1x256_0_2304 inb_S3x5632_S1x256_1_2304 inb_S3x5632_S1x256_2_2304 inb_S3x5632_S1x256_0_5120 inb_S3x5632_S1x256_1_5120 inb_S3x5632_S1x256_2_5120 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_9_0 (rowsOf harg2 harg4 x0 x2) _) (kc_9_0 _)) (readBack _ 0 7 (by decide) inb_S2x520x256_S1x512x256_0_8_0 inb_S2x520x256_S1x8x256_0_0_0 inb_S2x520x256_S1x512x256_0_7_0 _ _ _ _ (uc_9_0 (rowsOf harg2 harg4 x0 x2) _) (kc_9_0 _))
          (readBack _ 1 6 (by decide) inb_S2x520x256_S1x512x256_1_8_0 inb_S2x520x256_S1x8x256_1_0_0 inb_S2x520x256_S1x512x256_1_6_0 _ _ _ _ (uc_9_1 (rowsOf harg2 harg4 x0 x2) _) (kc_9_1 _)) (readBack _ 1 7 (by decide) inb_S2x520x256_S1x512x256_1_8_0 inb_S2x520x256_S1x8x256_1_0_0 inb_S2x520x256_S1x512x256_1_7_0 _ _ _ _ (uc_9_1 (rowsOf harg2 harg4 x0 x2) _) (kc_9_1 _))
          (rd harg5 x3 _) (rd harg5 x3 _) (zero_rows _ 18 _ _ (by sl_kernel_rfl) rfl) (zero_rows _ 19 _ _ (by sl_kernel_rfl) rfl) (rd harg6 x4 _) (rd harg6 x4 _) (rd harg6 x4 _) (rd harg6 x4 _) (rd harg6 x4 _) (rd harg6 x4 _) r q)) z
    · exact fun z => act_piece (rowsOf harg2 harg4 x0 x2) x3 x4 (k0_pay2 (F := Ideal)) 2048 (by decide) inb_S512x2816_S512x256_0_2048 _ (fun r q =>
        (congrFun (gate_8 (rowsOf harg2 harg4 x0 x2) _ _ _ _ _ _ _ _ _ _ _ _) (ix2 r q)).trans
        (chunk_apply (rowsOf harg2 harg4 x0 x2) x3 x4 (k0_pay2 (F := Ideal)) 2048 4864 (by decide) rfl inb_S1024x5632_S1024x256_0_2048 inb_S1024x5632_S1024x256_0_4864
          inb_S8x5632_S8x256_0_2048 inb_S8x5632_S8x256_0_4864 inb_S3x5632_S1x256_0_2048 inb_S3x5632_S1x256_1_2048 inb_S3x5632_S1x256_2_2048 inb_S3x5632_S1x256_0_4864 inb_S3x5632_S1x256_1_4864 inb_S3x5632_S1x256_2_4864 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_8_0 (rowsOf harg2 harg4 x0 x2) _) (kc_8_0 _)) (readBack _ 0 7 (by decide) inb_S2x520x256_S1x512x256_0_8_0 inb_S2x520x256_S1x8x256_0_0_0 inb_S2x520x256_S1x512x256_0_7_0 _ _ _ _ (uc_8_0 (rowsOf harg2 harg4 x0 x2) _) (kc_8_0 _))
          (readBack _ 1 6 (by decide) inb_S2x520x256_S1x512x256_1_8_0 inb_S2x520x256_S1x8x256_1_0_0 inb_S2x520x256_S1x512x256_1_6_0 _ _ _ _ (uc_8_1 (rowsOf harg2 harg4 x0 x2) _) (kc_8_1 _)) (readBack _ 1 7 (by decide) inb_S2x520x256_S1x512x256_1_8_0 inb_S2x520x256_S1x8x256_1_0_0 inb_S2x520x256_S1x512x256_1_7_0 _ _ _ _ (uc_8_1 (rowsOf harg2 harg4 x0 x2) _) (kc_8_1 _))
          (rd harg5 x3 _) (rd harg5 x3 _) (zero_rows _ 16 _ _ (by sl_kernel_rfl) rfl) (zero_rows _ 17 _ _ (by sl_kernel_rfl) rfl) (rd harg6 x4 _) (rd harg6 x4 _) (rd harg6 x4 _) (rd harg6 x4 _) (rd harg6 x4 _) (rd harg6 x4 _) r q)) z
    · exact fun z => act_piece (rowsOf harg2 harg4 x0 x2) x3 x4 (k0_pay2 (F := Ideal)) 1792 (by decide) inb_S512x2816_S512x256_0_1792 _ (fun r q =>
        (congrFun (gate_7 (rowsOf harg2 harg4 x0 x2) _ _ _ _ _ _ _ _ _ _ _ _) (ix2 r q)).trans
        (chunk_apply (rowsOf harg2 harg4 x0 x2) x3 x4 (k0_pay2 (F := Ideal)) 1792 4608 (by decide) rfl inb_S1024x5632_S1024x256_0_1792 inb_S1024x5632_S1024x256_0_4608
          inb_S8x5632_S8x256_0_1792 inb_S8x5632_S8x256_0_4608 inb_S3x5632_S1x256_0_1792 inb_S3x5632_S1x256_1_1792 inb_S3x5632_S1x256_2_1792 inb_S3x5632_S1x256_0_4608 inb_S3x5632_S1x256_1_4608 inb_S3x5632_S1x256_2_4608 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_7_0 (rowsOf harg2 harg4 x0 x2) _) (kc_7_0 _)) (readBack _ 0 7 (by decide) inb_S2x520x256_S1x512x256_0_8_0 inb_S2x520x256_S1x8x256_0_0_0 inb_S2x520x256_S1x512x256_0_7_0 _ _ _ _ (uc_7_0 (rowsOf harg2 harg4 x0 x2) _) (kc_7_0 _))
          (readBack _ 1 6 (by decide) inb_S2x520x256_S1x512x256_1_8_0 inb_S2x520x256_S1x8x256_1_0_0 inb_S2x520x256_S1x512x256_1_6_0 _ _ _ _ (uc_7_1 (rowsOf harg2 harg4 x0 x2) _) (kc_7_1 _)) (readBack _ 1 7 (by decide) inb_S2x520x256_S1x512x256_1_8_0 inb_S2x520x256_S1x8x256_1_0_0 inb_S2x520x256_S1x512x256_1_7_0 _ _ _ _ (uc_7_1 (rowsOf harg2 harg4 x0 x2) _) (kc_7_1 _))
          (rd harg5 x3 _) (rd harg5 x3 _) (zero_rows _ 14 _ _ (by sl_kernel_rfl) rfl) (zero_rows _ 15 _ _ (by sl_kernel_rfl) rfl) (rd harg6 x4 _) (rd harg6 x4 _) (rd harg6 x4 _) (rd harg6 x4 _) (rd harg6 x4 _) (rd harg6 x4 _) r q)) z
    · exact fun z => act_piece (rowsOf harg2 harg4 x0 x2) x3 x4 (k0_pay2 (F := Ideal)) 1536 (by decide) inb_S512x2816_S512x256_0_1536 _ (fun r q =>
        (congrFun (gate_6 (rowsOf harg2 harg4 x0 x2) _ _ _ _ _ _ _ _ _ _ _ _) (ix2 r q)).trans
        (chunk_apply (rowsOf harg2 harg4 x0 x2) x3 x4 (k0_pay2 (F := Ideal)) 1536 4352 (by decide) rfl inb_S1024x5632_S1024x256_0_1536 inb_S1024x5632_S1024x256_0_4352
          inb_S8x5632_S8x256_0_1536 inb_S8x5632_S8x256_0_4352 inb_S3x5632_S1x256_0_1536 inb_S3x5632_S1x256_1_1536 inb_S3x5632_S1x256_2_1536 inb_S3x5632_S1x256_0_4352 inb_S3x5632_S1x256_1_4352 inb_S3x5632_S1x256_2_4352 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_6_0 (rowsOf harg2 harg4 x0 x2) _) (kc_6_0 _)) (readBack _ 0 7 (by decide) inb_S2x520x256_S1x512x256_0_8_0 inb_S2x520x256_S1x8x256_0_0_0 inb_S2x520x256_S1x512x256_0_7_0 _ _ _ _ (uc_6_0 (rowsOf harg2 harg4 x0 x2) _) (kc_6_0 _))
          (readBack _ 1 6 (by decide) inb_S2x520x256_S1x512x256_1_8_0 inb_S2x520x256_S1x8x256_1_0_0 inb_S2x520x256_S1x512x256_1_6_0 _ _ _ _ (uc_6_1 (rowsOf harg2 harg4 x0 x2) _) (kc_6_1 _)) (readBack _ 1 7 (by decide) inb_S2x520x256_S1x512x256_1_8_0 inb_S2x520x256_S1x8x256_1_0_0 inb_S2x520x256_S1x512x256_1_7_0 _ _ _ _ (uc_6_1 (rowsOf harg2 harg4 x0 x2) _) (kc_6_1 _))
          (rd harg5 x3 _) (rd harg5 x3 _) (zero_rows _ 12 _ _ (by sl_kernel_rfl) rfl) (zero_rows _ 13 _ _ (by sl_kernel_rfl) rfl) (rd harg6 x4 _) (rd harg6 x4 _) (rd harg6 x4 _) (rd harg6 x4 _) (rd harg6 x4 _) (rd harg6 x4 _) r q)) z
    · exact fun z => act_piece (rowsOf harg2 harg4 x0 x2) x3 x4 (k0_pay2 (F := Ideal)) 1280 (by decide) inb_S512x2816_S512x256_0_1280 _ (fun r q =>
        (congrFun (gate_5 (rowsOf harg2 harg4 x0 x2) _ _ _ _ _ _ _ _ _ _ _ _) (ix2 r q)).trans
        (chunk_apply (rowsOf harg2 harg4 x0 x2) x3 x4 (k0_pay2 (F := Ideal)) 1280 4096 (by decide) rfl inb_S1024x5632_S1024x256_0_1280 inb_S1024x5632_S1024x256_0_4096
          inb_S8x5632_S8x256_0_1280 inb_S8x5632_S8x256_0_4096 inb_S3x5632_S1x256_0_1280 inb_S3x5632_S1x256_1_1280 inb_S3x5632_S1x256_2_1280 inb_S3x5632_S1x256_0_4096 inb_S3x5632_S1x256_1_4096 inb_S3x5632_S1x256_2_4096 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_5_0 (rowsOf harg2 harg4 x0 x2) _) (kc_5_0 _)) (readBack _ 0 7 (by decide) inb_S2x520x256_S1x512x256_0_8_0 inb_S2x520x256_S1x8x256_0_0_0 inb_S2x520x256_S1x512x256_0_7_0 _ _ _ _ (uc_5_0 (rowsOf harg2 harg4 x0 x2) _) (kc_5_0 _))
          (readBack _ 1 6 (by decide) inb_S2x520x256_S1x512x256_1_8_0 inb_S2x520x256_S1x8x256_1_0_0 inb_S2x520x256_S1x512x256_1_6_0 _ _ _ _ (uc_5_1 (rowsOf harg2 harg4 x0 x2) _) (kc_5_1 _)) (readBack _ 1 7 (by decide) inb_S2x520x256_S1x512x256_1_8_0 inb_S2x520x256_S1x8x256_1_0_0 inb_S2x520x256_S1x512x256_1_7_0 _ _ _ _ (uc_5_1 (rowsOf harg2 harg4 x0 x2) _) (kc_5_1 _))
          (rd harg5 x3 _) (rd harg5 x3 _) (zero_rows _ 10 _ _ (by sl_kernel_rfl) rfl) (zero_rows _ 11 _ _ (by sl_kernel_rfl) rfl) (rd harg6 x4 _) (rd harg6 x4 _) (rd harg6 x4 _) (rd harg6 x4 _) (rd harg6 x4 _) (rd harg6 x4 _) r q)) z
    · exact fun z => act_piece (rowsOf harg2 harg4 x0 x2) x3 x4 (k0_pay2 (F := Ideal)) 1024 (by decide) inb_S512x2816_S512x256_0_1024 _ (fun r q =>
        (congrFun (gate_4 (rowsOf harg2 harg4 x0 x2) _ _ _ _ _ _ _ _ _ _ _ _) (ix2 r q)).trans
        (chunk_apply (rowsOf harg2 harg4 x0 x2) x3 x4 (k0_pay2 (F := Ideal)) 1024 3840 (by decide) rfl inb_S1024x5632_S1024x256_0_1024 inb_S1024x5632_S1024x256_0_3840
          inb_S8x5632_S8x256_0_1024 inb_S8x5632_S8x256_0_3840 inb_S3x5632_S1x256_0_1024 inb_S3x5632_S1x256_1_1024 inb_S3x5632_S1x256_2_1024 inb_S3x5632_S1x256_0_3840 inb_S3x5632_S1x256_1_3840 inb_S3x5632_S1x256_2_3840 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_4_0 (rowsOf harg2 harg4 x0 x2) _) (kc_4_0 _)) (readBack _ 0 7 (by decide) inb_S2x520x256_S1x512x256_0_8_0 inb_S2x520x256_S1x8x256_0_0_0 inb_S2x520x256_S1x512x256_0_7_0 _ _ _ _ (uc_4_0 (rowsOf harg2 harg4 x0 x2) _) (kc_4_0 _))
          (readBack _ 1 6 (by decide) inb_S2x520x256_S1x512x256_1_8_0 inb_S2x520x256_S1x8x256_1_0_0 inb_S2x520x256_S1x512x256_1_6_0 _ _ _ _ (uc_4_1 (rowsOf harg2 harg4 x0 x2) _) (kc_4_1 _)) (readBack _ 1 7 (by decide) inb_S2x520x256_S1x512x256_1_8_0 inb_S2x520x256_S1x8x256_1_0_0 inb_S2x520x256_S1x512x256_1_7_0 _ _ _ _ (uc_4_1 (rowsOf harg2 harg4 x0 x2) _) (kc_4_1 _))
          (rd harg5 x3 _) (rd harg5 x3 _) (zero_rows _ 8 _ _ (by sl_kernel_rfl) rfl) (zero_rows _ 9 _ _ (by sl_kernel_rfl) rfl) (rd harg6 x4 _) (rd harg6 x4 _) (rd harg6 x4 _) (rd harg6 x4 _) (rd harg6 x4 _) (rd harg6 x4 _) r q)) z
    · exact fun z => act_piece (rowsOf harg2 harg4 x0 x2) x3 x4 (k0_pay2 (F := Ideal)) 768 (by decide) inb_S512x2816_S512x256_0_768 _ (fun r q =>
        (congrFun (gate_3 (rowsOf harg2 harg4 x0 x2) _ _ _ _ _ _ _ _ _ _ _ _) (ix2 r q)).trans
        (chunk_apply (rowsOf harg2 harg4 x0 x2) x3 x4 (k0_pay2 (F := Ideal)) 768 3584 (by decide) rfl inb_S1024x5632_S1024x256_0_768 inb_S1024x5632_S1024x256_0_3584
          inb_S8x5632_S8x256_0_768 inb_S8x5632_S8x256_0_3584 inb_S3x5632_S1x256_0_768 inb_S3x5632_S1x256_1_768 inb_S3x5632_S1x256_2_768 inb_S3x5632_S1x256_0_3584 inb_S3x5632_S1x256_1_3584 inb_S3x5632_S1x256_2_3584 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_3_0 (rowsOf harg2 harg4 x0 x2) _) (kc_3_0 _)) (readBack _ 0 7 (by decide) inb_S2x520x256_S1x512x256_0_8_0 inb_S2x520x256_S1x8x256_0_0_0 inb_S2x520x256_S1x512x256_0_7_0 _ _ _ _ (uc_3_0 (rowsOf harg2 harg4 x0 x2) _) (kc_3_0 _))
          (readBack _ 1 6 (by decide) inb_S2x520x256_S1x512x256_1_8_0 inb_S2x520x256_S1x8x256_1_0_0 inb_S2x520x256_S1x512x256_1_6_0 _ _ _ _ (uc_3_1 (rowsOf harg2 harg4 x0 x2) _) (kc_3_1 _)) (readBack _ 1 7 (by decide) inb_S2x520x256_S1x512x256_1_8_0 inb_S2x520x256_S1x8x256_1_0_0 inb_S2x520x256_S1x512x256_1_7_0 _ _ _ _ (uc_3_1 (rowsOf harg2 harg4 x0 x2) _) (kc_3_1 _))
          (rd harg5 x3 _) (rd harg5 x3 _) (zero_rows _ 6 _ _ (by sl_kernel_rfl) rfl) (zero_rows _ 7 _ _ (by sl_kernel_rfl) rfl) (rd harg6 x4 _) (rd harg6 x4 _) (rd harg6 x4 _) (rd harg6 x4 _) (rd harg6 x4 _) (rd harg6 x4 _) r q)) z
    · exact fun z => act_piece (rowsOf harg2 harg4 x0 x2) x3 x4 (k0_pay2 (F := Ideal)) 512 (by decide) inb_S512x2816_S512x256_0_512 _ (fun r q =>
        (congrFun (gate_2 (rowsOf harg2 harg4 x0 x2) _ _ _ _ _ _ _ _ _ _ _ _) (ix2 r q)).trans
        (chunk_apply (rowsOf harg2 harg4 x0 x2) x3 x4 (k0_pay2 (F := Ideal)) 512 3328 (by decide) rfl inb_S1024x5632_S1024x256_0_512 inb_S1024x5632_S1024x256_0_3328
          inb_S8x5632_S8x256_0_512 inb_S8x5632_S8x256_0_3328 inb_S3x5632_S1x256_0_512 inb_S3x5632_S1x256_1_512 inb_S3x5632_S1x256_2_512 inb_S3x5632_S1x256_0_3328 inb_S3x5632_S1x256_1_3328 inb_S3x5632_S1x256_2_3328 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_2_0 (rowsOf harg2 harg4 x0 x2) _) (kc_2_0 _)) (readBack _ 0 7 (by decide) inb_S2x520x256_S1x512x256_0_8_0 inb_S2x520x256_S1x8x256_0_0_0 inb_S2x520x256_S1x512x256_0_7_0 _ _ _ _ (uc_2_0 (rowsOf harg2 harg4 x0 x2) _) (kc_2_0 _))
          (readBack _ 1 6 (by decide) inb_S2x520x256_S1x512x256_1_8_0 inb_S2x520x256_S1x8x256_1_0_0 inb_S2x520x256_S1x512x256_1_6_0 _ _ _ _ (uc_2_1 (rowsOf harg2 harg4 x0 x2) _) (kc_2_1 _)) (readBack _ 1 7 (by decide) inb_S2x520x256_S1x512x256_1_8_0 inb_S2x520x256_S1x8x256_1_0_0 inb_S2x520x256_S1x512x256_1_7_0 _ _ _ _ (uc_2_1 (rowsOf harg2 harg4 x0 x2) _) (kc_2_1 _))
          (rd harg5 x3 _) (rd harg5 x3 _) (zero_rows _ 4 _ _ (by sl_kernel_rfl) rfl) (zero_rows _ 5 _ _ (by sl_kernel_rfl) rfl) (rd harg6 x4 _) (rd harg6 x4 _) (rd harg6 x4 _) (rd harg6 x4 _) (rd harg6 x4 _) (rd harg6 x4 _) r q)) z
    · exact fun z => act_piece (rowsOf harg2 harg4 x0 x2) x3 x4 (k0_pay2 (F := Ideal)) 256 (by decide) inb_S512x2816_S512x256_0_256 _ (fun r q =>
        (congrFun (gate_1 (rowsOf harg2 harg4 x0 x2) _ _ _ _ _ _ _ _ _ _ _ _) (ix2 r q)).trans
        (chunk_apply (rowsOf harg2 harg4 x0 x2) x3 x4 (k0_pay2 (F := Ideal)) 256 3072 (by decide) rfl inb_S1024x5632_S1024x256_0_256 inb_S1024x5632_S1024x256_0_3072
          inb_S8x5632_S8x256_0_256 inb_S8x5632_S8x256_0_3072 inb_S3x5632_S1x256_0_256 inb_S3x5632_S1x256_1_256 inb_S3x5632_S1x256_2_256 inb_S3x5632_S1x256_0_3072 inb_S3x5632_S1x256_1_3072 inb_S3x5632_S1x256_2_3072 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_1_0 (rowsOf harg2 harg4 x0 x2) _) (kc_1_0 _)) (readBack _ 0 7 (by decide) inb_S2x520x256_S1x512x256_0_8_0 inb_S2x520x256_S1x8x256_0_0_0 inb_S2x520x256_S1x512x256_0_7_0 _ _ _ _ (uc_1_0 (rowsOf harg2 harg4 x0 x2) _) (kc_1_0 _))
          (readBack _ 1 6 (by decide) inb_S2x520x256_S1x512x256_1_8_0 inb_S2x520x256_S1x8x256_1_0_0 inb_S2x520x256_S1x512x256_1_6_0 _ _ _ _ (uc_1_1 (rowsOf harg2 harg4 x0 x2) _) (kc_1_1 _)) (readBack _ 1 7 (by decide) inb_S2x520x256_S1x512x256_1_8_0 inb_S2x520x256_S1x8x256_1_0_0 inb_S2x520x256_S1x512x256_1_7_0 _ _ _ _ (uc_1_1 (rowsOf harg2 harg4 x0 x2) _) (kc_1_1 _))
          (rd harg5 x3 _) (rd harg5 x3 _) (zero_rows _ 2 _ _ (by sl_kernel_rfl) rfl) (zero_rows _ 3 _ _ (by sl_kernel_rfl) rfl) (rd harg6 x4 _) (rd harg6 x4 _) (rd harg6 x4 _) (rd harg6 x4 _) (rd harg6 x4 _) (rd harg6 x4 _) r q)) z
    · exact fun z => act_piece (rowsOf harg2 harg4 x0 x2) x3 x4 (k0_pay2 (F := Ideal)) 0 (by decide) inb_S512x2816_S512x256_0_0 _ (fun r q =>
        (congrFun (gate_0 (View.readAt (Elt Ideal) arg2.view (Rect.unit (s := S1x512x1024) ![0, 0, 0] S1x512x1024.size inb_S1x512x1024_S1x512x1024_0_0_0).toLoadRect (harg2.unread x0)) (View.readAt (Elt Ideal) arg4.view (Rect.unit (s := S1x1024) ![0, 0] S1x1024.size inb_S1x1024_S1x1024_0_0).toLoadRect (harg4.unread x2)) _ _ _ _ _ _ _ _ _ _ _ _) (ix2 r q)).trans
        (chunk_apply (rowsOf harg2 harg4 x0 x2) x3 x4 (k0_pay2 (F := Ideal)) 0 2816 (by decide) rfl inb_S1024x5632_S1024x256_0_0 inb_S1024x5632_S1024x256_0_2816
          inb_S8x5632_S8x256_0_0 inb_S8x5632_S8x256_0_2816 inb_S3x5632_S1x256_0_0 inb_S3x5632_S1x256_1_0 inb_S3x5632_S1x256_2_0 inb_S3x5632_S1x256_0_2816 inb_S3x5632_S1x256_1_2816 inb_S3x5632_S1x256_2_2816 _ _ _ _ _ _ _ _ _ _ _ _ _ _
          (readBack _ 0 6 (by decide) inb_S2x520x256_S1x512x256_0_8_0 inb_S2x520x256_S1x8x256_0_0_0 inb_S2x520x256_S1x512x256_0_6_0 _ _ _ _ (uc_0_0 (View.readAt (Elt Ideal) arg2.view (Rect.unit (s := S1x512x1024) ![0, 0, 0] S1x512x1024.size inb_S1x512x1024_S1x512x1024_0_0_0).toLoadRect (harg2.unread x0)) (View.readAt (Elt Ideal) arg4.view (Rect.unit (s := S1x1024) ![0, 0] S1x1024.size inb_S1x1024_S1x1024_0_0).toLoadRect (harg4.unread x2)) _) (kc_0_0 _)) (readBack _ 0 7 (by decide) inb_S2x520x256_S1x512x256_0_8_0 inb_S2x520x256_S1x8x256_0_0_0 inb_S2x520x256_S1x512x256_0_7_0 _ _ _ _ (uc_0_0 (View.readAt (Elt Ideal) arg2.view (Rect.unit (s := S1x512x1024) ![0, 0, 0] S1x512x1024.size inb_S1x512x1024_S1x512x1024_0_0_0).toLoadRect (harg2.unread x0)) (View.readAt (Elt Ideal) arg4.view (Rect.unit (s := S1x1024) ![0, 0] S1x1024.size inb_S1x1024_S1x1024_0_0).toLoadRect (harg4.unread x2)) _) (kc_0_0 _))
          (readBack _ 1 6 (by decide) inb_S2x520x256_S1x512x256_1_8_0 inb_S2x520x256_S1x8x256_1_0_0 inb_S2x520x256_S1x512x256_1_6_0 _ _ _ _ (uc_0_1 (rowsOf harg2 harg4 x0 x2) _) (kc_0_1 _)) (readBack _ 1 7 (by decide) inb_S2x520x256_S1x512x256_1_8_0 inb_S2x520x256_S1x8x256_1_0_0 inb_S2x520x256_S1x512x256_1_7_0 _ _ _ _ (uc_0_1 (rowsOf harg2 harg4 x0 x2) _) (kc_0_1 _))
          (rd harg5 x3 _) (rd harg5 x3 _) (zero_rows _ 0 _ _ (by sl_kernel_rfl) rfl) (zero_rows _ 1 _ _ (by sl_kernel_rfl) rfl) (rd harg6 x4 _) (rd harg6 x4 _) (rd harg6 x4 _) (rd harg6 x4 _) (rd harg6 x4 _) (rd harg6 x4 _) r q)) z
  · exact View.cover_of_tiledL _ S512x256.size (by sl_kernel_rfl)

set_option maxHeartbeats 2000000 in
/-- A batch element's first tile: the rows it carries on. -/
theorem carried_A (y : S8x5632.Idx) : View.canon (kernelRun0_A.sl.HS1_23 (F := Ideal) c arg2 harg2 arg4 harg4 arg5 harg5 x0 x2 x3) y = carry (k0_pay4 x0 x2) x3 y := by
  rw [← rows_eq (harg2 := harg2) (harg4 := harg4), ← List.take_append_drop 22 (kernelRun0_A.sl.HS1_23 (F := Ideal) c arg2 harg2 arg4 harg4 arg5 harg5 x0 x2 x3)]
  refine View.canon_append_of_piecesOf _ _ _ ?_ y ?_
  · refine ⟨?_, ?_, ?_, ?_, ?_, ?_, ?_, ?_, ?_, ?_, ?_, ?_, ?_, ?_, ?_, ?_, ?_, ?_, ?_, ?_, ?_, ?_, trivial⟩
    · exact fun z => carry_piece (rowsOf harg2 harg4 x0 x2) x3 5376 (by decide) inb_S1024x5632_S1024x256_0_5376 inb_S8x5632_S8x256_0_5376 _ (rd harg5 x3 _) (cc_10_1 (rowsOf harg2 harg4 x0 x2) _) z
    · exact fun z => carry_piece (rowsOf harg2 harg4 x0 x2) x3 2560 (by decide) inb_S1024x5632_S1024x256_0_2560 inb_S8x5632_S8x256_0_2560 _ (rd harg5 x3 _) (cc_10_0 (rowsOf harg2 harg4 x0 x2) _) z
    · exact fun z => carry_piece (rowsOf harg2 harg4 x0 x2) x3 5120 (by decide) inb_S1024x5632_S1024x256_0_5120 inb_S8x5632_S8x256_0_5120 _ (rd harg5 x3 _) (cc_9_1 (rowsOf harg2 harg4 x0 x2) _) z
    · exact fun z => carry_piece (rowsOf harg2 harg4 x0 x2) x3 2304 (by decide) inb_S1024x5632_S1024x256_0_2304 inb_S8x5632_S8x256_0_2304 _ (rd harg5 x3 _) (cc_9_0 (rowsOf harg2 harg4 x0 x2) _) z
    · exact fun z => carry_piece (rowsOf harg2 harg4 x0 x2) x3 4864 (by decide) inb_S1024x5632_S1024x256_0_4864 inb_S8x5632_S8x256_0_4864 _ (rd harg5 x3 _) (cc_8_1 (rowsOf harg2 harg4 x0 x2) _) z
    · exact fun z => carry_piece (rowsOf harg2 harg4 x0 x2) x3 2048 (by decide) inb_S1024x5632_S1024x256_0_2048 inb_S8x5632_S8x256_0_2048 _ (rd harg5 x3 _) (cc_8_0 (rowsOf harg2 harg4 x0 x2) _) z
    · exact fun z => carry_piece (rowsOf harg2 harg4 x0 x2) x3 4608 (by decide) inb_S1024x5632_S1024x256_0_4608 inb_S8x5632_S8x256_0_4608 _ (rd harg5 x3 _) (cc_7_1 (rowsOf harg2 harg4 x0 x2) _) z
    · exact fun z => carry_piece (rowsOf harg2 harg4 x0 x2) x3 1792 (by decide) inb_S1024x5632_S1024x256_0_1792 inb_S8x5632_S8x256_0_1792 _ (rd harg5 x3 _) (cc_7_0 (rowsOf harg2 harg4 x0 x2) _) z
    · exact fun z => carry_piece (rowsOf harg2 harg4 x0 x2) x3 4352 (by decide) inb_S1024x5632_S1024x256_0_4352 inb_S8x5632_S8x256_0_4352 _ (rd harg5 x3 _) (cc_6_1 (rowsOf harg2 harg4 x0 x2) _) z
    · exact fun z => carry_piece (rowsOf harg2 harg4 x0 x2) x3 1536 (by decide) inb_S1024x5632_S1024x256_0_1536 inb_S8x5632_S8x256_0_1536 _ (rd harg5 x3 _) (cc_6_0 (rowsOf harg2 harg4 x0 x2) _) z
    · exact fun z => carry_piece (rowsOf harg2 harg4 x0 x2) x3 4096 (by decide) inb_S1024x5632_S1024x256_0_4096 inb_S8x5632_S8x256_0_4096 _ (rd harg5 x3 _) (cc_5_1 (rowsOf harg2 harg4 x0 x2) _) z
    · exact fun z => carry_piece (rowsOf harg2 harg4 x0 x2) x3 1280 (by decide) inb_S1024x5632_S1024x256_0_1280 inb_S8x5632_S8x256_0_1280 _ (rd harg5 x3 _) (cc_5_0 (rowsOf harg2 harg4 x0 x2) _) z
    · exact fun z => carry_piece (rowsOf harg2 harg4 x0 x2) x3 3840 (by decide) inb_S1024x5632_S1024x256_0_3840 inb_S8x5632_S8x256_0_3840 _ (rd harg5 x3 _) (cc_4_1 (rowsOf harg2 harg4 x0 x2) _) z
    · exact fun z => carry_piece (rowsOf harg2 harg4 x0 x2) x3 1024 (by decide) inb_S1024x5632_S1024x256_0_1024 inb_S8x5632_S8x256_0_1024 _ (rd harg5 x3 _) (cc_4_0 (rowsOf harg2 harg4 x0 x2) _) z
    · exact fun z => carry_piece (rowsOf harg2 harg4 x0 x2) x3 3584 (by decide) inb_S1024x5632_S1024x256_0_3584 inb_S8x5632_S8x256_0_3584 _ (rd harg5 x3 _) (cc_3_1 (rowsOf harg2 harg4 x0 x2) _) z
    · exact fun z => carry_piece (rowsOf harg2 harg4 x0 x2) x3 768 (by decide) inb_S1024x5632_S1024x256_0_768 inb_S8x5632_S8x256_0_768 _ (rd harg5 x3 _) (cc_3_0 (rowsOf harg2 harg4 x0 x2) _) z
    · exact fun z => carry_piece (rowsOf harg2 harg4 x0 x2) x3 3328 (by decide) inb_S1024x5632_S1024x256_0_3328 inb_S8x5632_S8x256_0_3328 _ (rd harg5 x3 _) (cc_2_1 (rowsOf harg2 harg4 x0 x2) _) z
    · exact fun z => carry_piece (rowsOf harg2 harg4 x0 x2) x3 512 (by decide) inb_S1024x5632_S1024x256_0_512 inb_S8x5632_S8x256_0_512 _ (rd harg5 x3 _) (cc_2_0 (rowsOf harg2 harg4 x0 x2) _) z
    · exact fun z => carry_piece (rowsOf harg2 harg4 x0 x2) x3 3072 (by decide) inb_S1024x5632_S1024x256_0_3072 inb_S8x5632_S8x256_0_3072 _ (rd harg5 x3 _) (cc_1_1 (rowsOf harg2 harg4 x0 x2) _) z
    · exact fun z => carry_piece (rowsOf harg2 harg4 x0 x2) x3 256 (by decide) inb_S1024x5632_S1024x256_0_256 inb_S8x5632_S8x256_0_256 _ (rd harg5 x3 _) (cc_1_0 (rowsOf harg2 harg4 x0 x2) _) z
    · exact fun z => carry_piece (rowsOf harg2 harg4 x0 x2) x3 2816 (by decide) inb_S1024x5632_S1024x256_0_2816 inb_S8x5632_S8x256_0_2816 _ (rd harg5 x3 _) (cc_0_1 (rowsOf harg2 harg4 x0 x2) _) z
    · exact fun z => carry_piece (rowsOf harg2 harg4 x0 x2) x3 0 (by decide) inb_S1024x5632_S1024x256_0_0 inb_S8x5632_S8x256_0_0 _ (rd harg5 x3 _) (cc_0_0 (View.readAt (Elt Ideal) arg2.view (Rect.unit (s := S1x512x1024) ![0, 0, 0] S1x512x1024.size inb_S1x512x1024_S1x512x1024_0_0_0).toLoadRect (harg2.unread x0)) (View.readAt (Elt Ideal) arg4.view (Rect.unit (s := S1x1024) ![0, 0] S1x1024.size inb_S1x1024_S1x1024_0_0).toLoadRect (harg4.unread x2)) _) z
  · exact View.cover_of_tiledL (List.take 22 (kernelRun0_A.sl.HS1_23 (F := Ideal) c arg2 harg2 arg4 harg4 arg5 harg5 x0 x2 x3)) S8x256.size (by sl_kernel_rfl) y

theorem sout_A (hc0 : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = carry (k0_pay4 x0 x2) x3 := by
  unfold sout0_A_1
  rw [View.read_writes_junk_eq_canon]
  unfold kernelRun0_A
  dsimp only
  funext y
  exact carried_A c arg2 harg2 arg4 harg4 arg5 harg5 x0 x2 x3 y

/-- The convolution's state that a tile leaves: the last two rows it carries. -/
def tailV (x0 : Vec Ideal S1x512x1024 .f32) (x2 : Vec Ideal S1x1024 .f32) (x3 : Vec Ideal S1024x5632 .bf16) : Vec Ideal S1x2x5632 .f32 :=
  k0_pay137 (View.ld (carry (k0_pay4 x0 x2) x3) (Rect.unit (s := S8x5632) ![6, 0] S2x5632.size inb_S8x5632_S2x5632_6_0))

theorem out10_B (hc0 : ¬cond0_0 i) (xs1 : Vec Ideal S8x5632 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs1 = tailV x0 x2 x3 := by
  unfold out0_B_10
  rw [View.read_writes_junk_eq_canon]
  unfold kernelRun0_B
  dsimp only
  rw [View.canon_unit_zero hz3]
  unfold tailV
  refine congrArg (k0_pay137 (F := Ideal)) ?_
  refine (View.readCov_eq_canon' _ _ _).trans ?_
  funext j
  exact carried_B c arg2 harg2 arg4 harg4 arg5 harg5 x0 x2 x3 _

end Cert.Proof.FfnTile

end
-- ==== Proof.Row.lean ====
/- The normalisation of a row of the stream, which several calls begin with. -/
module

public import proofs.«01_k».proof.Defs
public import Idealize.ShloMosaic.Lib.Pointwise

@[expose] public section

noncomputable section

open Idealize.ShloMosaic

namespace Cert.Proof

/-- A row divided by the root of its mean square, times the gains. -/
def normRow (x g : Fin 1024 → EReal) (k : Fin 1024) : EReal :=
  x k * Ideal.rsqrt (Ideal.div (∑ j : Fin 1024, x j * x j) (Ideal.ofBits .f32 0x44800000#32) + Ideal.ofBits .f32 0x358637BD#32) * g k

end Cert.Proof

end
-- ==== Proof.FfnSpec.lean ====
/- The gated MLP (the call `ffn`): the layer's formula, entry by entry, over the whole arrays, and what a tile computes as that
   formula at the tile's rows. -/
module

public import proofs.«01_k».proof.Proof.FfnCases
public import proofs.«01_k».proof.Proof.Row

@[expose] public section

set_option maxRecDepth 16384

noncomputable section

open Idealize.ShloMosaic Idealize.ShloMosaic.TcCoe Idealize.SL.Sem
open Idealize.ShloMosaic.Pipeline (Dat)

namespace Cert.Proof.FfnTile

open Cert.Kernel2Ideal Cert.Kernel2Ideal.Gen

/-- The residual row with the down projection of the activations added. -/
def midRow (x : Fin 1024 → EReal) (f : Fin 2816 → EReal) (wd : Fin 2816 → Fin 1024 → EReal) (q : Fin 1024) : EReal :=
  x q + ∑ j : Fin 2816, f j * wd j q

/-- An entry of the result: that row `y` with the gated per-layer embedding added. -/
def plusEmb (y : Fin 1024 → EReal) (pe : Fin 256 → EReal) (g : Fin 1024 → EReal) (wg : Fin 1024 → EReal)
    (wp : Fin 256 → EReal) (q : Fin 1024) : EReal :=
  y q + Ideal.logistic (∑ k : Fin 1024, normRow y g k * wg k) * ∑ i : Fin 256, pe i * wp i

theorem pay4_apply (x : Vec Ideal S1x512x1024 .f32) (g : Vec Ideal S1x1024 .f32) (r : Fin 512) (k : Fin 1024) :
    k0_pay4 (F := Ideal) x g (ix2 r k) = normRow (fun k => x (ix3 0 r k)) (fun k => g (ix2 0 k)) k := by
  unfold k0_pay4 k0_pay3 normRow
  pointwise

theorem pay138_apply (x : FVec Ideal S512x1024 .f32) (f : Vec Ideal S512x2816 .bf16) (w : Vec Ideal S2816x1024 .bf16)
    (r : Fin 512) (q : Fin 1024) :
    k0_pay138 (F := Ideal) x f w (ix2 r q)
      = midRow (fun k => x (ix2 r k)) (fun j => f (ix2 r j)) (fun j k => w (ix2 j k)) q := by
  unfold k0_pay138 midRow
  pointwise

theorem pay139_apply (x : FVec Ideal S512x1024 .f32) (f : Vec Ideal S512x2816 .bf16) (w : Vec Ideal S2816x1024 .bf16)
    (g : Vec Ideal S1x1024 .f32) (wg : Vec Ideal S1024x1024 .bf16) (r : Fin 512) (q : Fin 1024) :
    k0_pay139 (F := Ideal) x f w g wg (ix2 r q) = Ideal.logistic (∑ k : Fin 1024,
      normRow (fun k => k0_pay138 (F := Ideal) x f w (ix2 r k)) (fun k => g (ix2 0 k)) k * wg (ix2 k q)) := by
  unfold k0_pay139 normRow
  generalize k0_pay138 (F := Ideal) x f w = y
  pointwise

theorem pay1_apply (y s : FVec Ideal S512x1024 .f32) (pe : Vec Ideal S1x512x256 .f32) (w : Vec Ideal S256x1024 .bf16)
    (r : Fin 512) (q : Fin 1024) :
    k0_pay1 (F := Ideal) y s (k0_pay140 pe) (k0_pay141 w) (constant S512x1024 .f32 0x00000000#32) (ix3 0 r q)
      = y (ix2 r q) + s (ix2 r q) * ∑ i : Fin 256, pe (ix3 0 r i) * w (ix2 i q) := by
  unfold k0_pay1 k0_pay140 k0_pay141
  pointwise

theorem pay3_apply (x : Vec Ideal S1x512x1024 .f32) (r : Fin 512) (k : Fin 1024) :
    k0_pay3 (F := Ideal) x (ix2 r k) = x (ix3 0 r k) := by
  unfold k0_pay3
  pointwise

theorem pay2_apply (a : Fin 8) (j : Fin 5632) : k0_pay2 (F := Ideal) (ix2 a j) = 0 := by
  unfold k0_pay2
  pointwise

theorem pay137_apply (x : Vec Ideal S2x5632 .f32) (a : Fin 2) (j : Fin 5632) :
    k0_pay137 (F := Ideal) x (ix3 0 a j) = x (ix2 a j) := by
  unfold k0_pay137
  pointwise

/-- An entry of a tile's result block. -/
theorem outV_apply (x0 : Vec Ideal S1x512x1024 .f32) (x1 : Vec Ideal S1x512x256 .f32) (x2 : Vec Ideal S1x1024 .f32)
    (x3 : Vec Ideal S1024x5632 .bf16) (x4 : Vec Ideal S3x5632 .f32) (x5 : Vec Ideal S2816x1024 .bf16) (x6 : Vec Ideal S1x1024 .f32)
    (x7 : Vec Ideal S1024x1024 .bf16) (x8 : Vec Ideal S256x1024 .bf16) (K : Vec Ideal S8x5632 .f32) (r : Fin 512) (q : Fin 1024) :
    outV x0 x1 x2 x3 x4 x5 x6 x7 x8 K (ix3 0 r q)
      = plusEmb (midRow (fun k => x0 (ix3 0 r k)) (fun j => act (k0_pay4 x0 x2) x3 x4 K (ix2 r j)) (fun j k => x5 (ix2 j k)))
          (fun i => x1 (ix3 0 r i)) (fun k => x6 (ix2 0 k)) (fun k => x7 (ix2 k q)) (fun i => x8 (ix2 i q)) q := by
  unfold outV plusEmb
  rw [pay1_apply, pay139_apply]
  simp only [pay138_apply, pay3_apply]

/-! ## The formula over the whole arrays -/

section
variable (X : FVec Ideal S2x8192x1024 .f32) (g : FVec Ideal S1024 .f32) (W : FVec Ideal S1024x5632 .f32)

/-- The up projection of token `n` of batch element `b`. -/
def upG (b : Fin 2) (n : Fin 8192) (j : Fin 5632) : EReal :=
  ∑ k : Fin 1024, normRow (fun k => X (ix3 b n k)) (fun k => g (ix1 k)) k * W (ix2 k j)

/-- The same with two zero rows before the first token. -/
def padG (b : Fin 2) (n : ℕ) (hn : n < 8194) (j : Fin 5632) : EReal :=
  if h : n < 2 then 0 else upG X g W b ⟨n - 2, by omega⟩ j

/-- The causal convolution over a token and the two before it. -/
def convG (D : FVec Ideal S3x5632 .f32) (b : Fin 2) (n : Fin 8192) (j : Fin 5632) : EReal :=
  padG X g W b n.val (by omega) j * D (ix2 0 j) + padG X g W b (n.val + 1) (by omega) j * D (ix2 1 j)
    + upG X g W b n j * D (ix2 2 j)

/-- The gated activations. -/
def actG (D : FVec Ideal S3x5632 .f32) (b : Fin 2) (n : Fin 8192) (j : Fin 2816) : EReal :=
  gelu (convG X g W D b n ⟨j.val, by omega⟩) * convG X g W D b n ⟨2816 + j.val, by omega⟩

/-- The layer's result. -/
def outG (PE : FVec Ideal S2x8192x256 .f32) (D : FVec Ideal S3x5632 .f32) (Wd : FVec Ideal S2816x1024 .f32)
    (g2 : FVec Ideal S1024 .f32) (Wg : FVec Ideal S1024x1024 .f32) (Wp : FVec Ideal S256x1024 .f32)
    (b : Fin 2) (n : Fin 8192) (q : Fin 1024) : EReal :=
  plusEmb (midRow (fun k => X (ix3 b n k)) (fun j => actG X g W D b n j) (fun j k => Wd (ix2 j k)))
    (fun i => PE (ix3 b n i)) (fun k => g2 (ix1 k)) (fun k => Wg (ix2 k q)) (fun i => Wp (ix2 i q)) q

/-- The rows a next call would continue from: the last two of the up projection. -/
def tailG (b : Fin 2) (a : Fin 2) (j : Fin 5632) : EReal := upG X g W b ⟨8190 + a.val, by omega⟩ j

end

/-! ## A tile at its rows -/

/-- Row `r` of tile `e`. -/
def tok (e : Fin 16) (r : Fin 512) : Fin 8192 := ⟨e.val * 512 + r.val, by omega⟩

section
variable {X : FVec Ideal S2x8192x1024 .f32} {g : FVec Ideal S1024 .f32} {W : FVec Ideal S1024x5632 .f32}
  {b : Fin 2} {e : Fin 16} {x0 : Vec Ideal S1x512x1024 .f32} {x2 : Vec Ideal S1x1024 .f32} {x3 : Vec Ideal S1024x5632 .bf16}

theorem up_tile (h0 : ∀ (r : Fin 512) (k : Fin 1024), x0 (ix3 0 r k) = X (ix3 b (tok e r) k))
    (h2 : ∀ k : Fin 1024, x2 (ix2 0 k) = g (ix1 k)) (h3 : ∀ (k : Fin 1024) (j : Fin 5632), x3 (ix2 k j) = W (ix2 k j))
    (r : Fin 512) (j : Fin 5632) : up (k0_pay4 x0 x2) x3 r j = upG X g W b (tok e r) j := by
  unfold up upG
  simp only [pay4_apply, h0, h2, h3]

theorem conv_tile {h : FVec Ideal S512x1024 .bf16} {x4 : Vec Ideal S3x5632 .f32} {D : FVec Ideal S3x5632 .f32} {K : Vec Ideal S8x5632 .f32}
    (hu : ∀ (r : Fin 512) (j : Fin 5632), up h x3 r j = upG X g W b (tok e r) j)
    (h4 : ∀ (a : Fin 3) (j : Fin 5632), x4 (ix2 a j) = D (ix2 a j))
    (hK : ∀ (a : Fin 8) (h6 : 6 ≤ a.val) (j : Fin 5632), K (ix2 a j) = padG X g W b (e.val * 512 + (a.val - 6)) (by omega) j)
    (r : Fin 512) (j : Fin 5632) : conv h x3 x4 K r j = convG X g W D b (tok e r) j := by
  have hx : ∀ (d : ℕ) (hd : d < 2), ext h x3 K (r.val + 6 + d) (by omega) j = padG X g W b ((tok e r).val + d) (by omega) j := by
    intro d hd
    unfold ext
    split
    · rename_i h8
      rw [hK _ (by show 6 ≤ r.val + 6 + d; omega)]
      congr 1
      show e.val * 512 + (r.val + 6 + d - 6) = e.val * 512 + r.val + d
      omega
    · rename_i h8
      rw [hu]
      unfold padG
      have : ¬ (tok e r).val + d < 2 := by show ¬ e.val * 512 + r.val + d < 2; omega
      rw [dif_neg this]
      congr 1
      apply Fin.ext
      show e.val * 512 + (r.val + 6 + d - 8) = e.val * 512 + r.val + d - 2
      omega
  unfold conv convG
  rw [hu, h4, h4, h4]
  exact congrArg₂ (· + ·) (congrArg₂ (· + ·) (congrArg (· * _) (hx 0 (by omega))) (congrArg (· * _) (hx 1 (by omega)))) rfl

theorem out_tile {PE : FVec Ideal S2x8192x256 .f32} {D : FVec Ideal S3x5632 .f32} {Wd : FVec Ideal S2816x1024 .f32}
    {g2 : FVec Ideal S1024 .f32} {Wg : FVec Ideal S1024x1024 .f32} {Wp : FVec Ideal S256x1024 .f32}
    {x1 : Vec Ideal S1x512x256 .f32} {x4 : Vec Ideal S3x5632 .f32} {x5 : Vec Ideal S2816x1024 .bf16} {x6 : Vec Ideal S1x1024 .f32}
    {x7 : Vec Ideal S1024x1024 .bf16} {x8 : Vec Ideal S256x1024 .bf16} {K : Vec Ideal S8x5632 .f32}
    (h0 : ∀ (r : Fin 512) (k : Fin 1024), x0 (ix3 0 r k) = X (ix3 b (tok e r) k))
    (h1 : ∀ (r : Fin 512) (k : Fin 256), x1 (ix3 0 r k) = PE (ix3 b (tok e r) k))
    (h2 : ∀ k : Fin 1024, x2 (ix2 0 k) = g (ix1 k)) (h3 : ∀ (k : Fin 1024) (j : Fin 5632), x3 (ix2 k j) = W (ix2 k j))
    (h4 : ∀ (a : Fin 3) (j : Fin 5632), x4 (ix2 a j) = D (ix2 a j))
    (h5 : ∀ (j : Fin 2816) (k : Fin 1024), x5 (ix2 j k) = Wd (ix2 j k)) (h6 : ∀ k : Fin 1024, x6 (ix2 0 k) = g2 (ix1 k))
    (h7 : ∀ k q : Fin 1024, x7 (ix2 k q) = Wg (ix2 k q)) (h8 : ∀ (i : Fin 256) (q : Fin 1024), x8 (ix2 i q) = Wp (ix2 i q))
    (hK : ∀ (a : Fin 8) (h6 : 6 ≤ a.val) (j : Fin 5632), K (ix2 a j) = padG X g W b (e.val * 512 + (a.val - 6)) (by omega) j)
    (r : Fin 512) (q : Fin 1024) :
    outV x0 x1 x2 x3 x4 x5 x6 x7 x8 K (ix3 0 r q) = outG X g W PE D Wd g2 Wg Wp b (tok e r) q := by
  rw [outV_apply]
  have ha : ∀ j : Fin 2816, act (k0_pay4 x0 x2) x3 x4 K (ix2 r j) = actG X g W D b (tok e r) j := by
    intro j
    show gelu (conv (k0_pay4 x0 x2) x3 x4 K r _) * conv (k0_pay4 x0 x2) x3 x4 K r _ = _
    rw [conv_tile (up_tile h0 h2 h3) h4 hK, conv_tile (up_tile h0 h2 h3) h4 hK]
    rfl
  unfold outG
  simp only [ha, h0, h1, h5, h6, h7, h8]

end

end Cert.Proof.FfnTile

end
-- ==== Proof.FfnValue.lean ====
/- The gated MLP (the call `ffn`, program `Kernel2`): the arrays after the tiled kernel are the layer's formula, entry by entry. -/
module

public import proofs.«01_k».proof.Proof.FfnSpec

@[expose] public section

set_option maxRecDepth 16384

noncomputable section

open Idealize.ShloMosaic Idealize.ShloMosaic.TcCoe Idealize.SL.Sem
open Idealize.ShloMosaic.Pipeline (Dat)

namespace Cert.Proof.FfnValue

open Cert.Kernel2Ideal Cert.Kernel2Ideal.Gen Cert.Proof.FfnTile

variable (m : (ℓ : Loc nD τ sig) → Buf (Elt Ideal) ℓ)

theorem V_v0 (c : Dev nD) : V m c main_v0 = m ((c : Thread nD τ).loc main_arg3) := by
  unfold_abbrev_sides
  after_results
  rfl
theorem V_v1 (c : Dev nD) : V m c main_v1 = m ((c : Thread nD τ).loc main_arg5) := by
  unfold_abbrev_sides
  after_results
  rfl
theorem V_v2 (c : Dev nD) : V m c main_v2 = m ((c : Thread nD τ).loc main_arg7) := by
  unfold_abbrev_sides
  after_results
  rfl
theorem V_v3 (c : Dev nD) : V m c main_v3 = m ((c : Thread nD τ).loc main_arg8) := by
  unfold_abbrev_sides
  after_results
  rfl
theorem V_v4 (c : Dev nD) : V m c main_v4 = shapeCast S1x1024 (m ((c : Thread nD τ).loc main_arg2)) shapeCasts_S1024_S1x1024 := by
  unfold_abbrev_sides
  after_results
  rfl
theorem V_v5 (c : Dev nD) : V m c main_v5 = shapeCast S1x1024 (m ((c : Thread nD τ).loc main_arg6)) shapeCasts_S1024_S1x1024 := by
  unfold_abbrev_sides
  after_results
  rfl

theorem cast_row (x : FVec Ideal S1024 .f32) (k : Fin 1024) : shapeCast S1x1024 x shapeCasts_S1024_S1x1024 (ix2 0 k) = x (ix1 k) := by
  pointwise

/-- The batch element of a grid point, and its tile within it. -/
def bat (t : Fin cfg0.N) : Fin 2 := ⟨t.val / 16, by have := t.isLt; have h : cfg0.N = 32 := N_0; omega⟩
def til (t : Fin cfg0.N) : Fin 16 := ⟨t.val % 16, by omega⟩

theorem blk0 (c : Dev nD) (t : Fin cfg0.N) (r : Fin 512) (k : Fin 1024) :
    iblk m c 0 t (ix3 0 r k) = m ((c : Thread nD τ).loc main_arg0) (ix3 (bat t) (tok (til t) r) k) := by
  have hi : ∀ t : Fin cfg0.N, win0_0.index t 0 = t.val / 16 ∧ win0_0.index t 1 = t.val % 16 ∧ win0_0.index t 2 = 0 :=
    (by decide +kernel : ∀ t : Fin grid0.N, win0_0.index t 0 = t.val / 16 ∧ win0_0.index t 1 = t.val % 16 ∧ win0_0.index t 2 = 0)
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 16; rw [(hi t).1]; omega
  | ⟨1, _⟩ => show win0_0.index t 1 * 512 + 1 * r.val = t.val % 16 * 512 + r.val; rw [(hi t).2.1]; omega
  | ⟨2, _⟩ => show win0_0.index t 2 * 1024 + 1 * k.val = k.val; rw [(hi t).2.2]; omega

theorem blk1 (c : Dev nD) (t : Fin cfg0.N) (r : Fin 512) (k : Fin 256) :
    iblk m c 1 t (ix3 0 r k) = m ((c : Thread nD τ).loc main_arg1) (ix3 (bat t) (tok (til t) r) k) := by
  have hi : ∀ t : Fin cfg0.N, win0_1.index t 0 = t.val / 16 ∧ win0_1.index t 1 = t.val % 16 ∧ win0_1.index t 2 = 0 :=
    (by decide +kernel : ∀ t : Fin grid0.N, win0_1.index t 0 = t.val / 16 ∧ win0_1.index t 1 = t.val % 16 ∧ win0_1.index t 2 = 0)
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 16; rw [(hi t).1]; omega
  | ⟨1, _⟩ => show win0_1.index t 1 * 512 + 1 * r.val = t.val % 16 * 512 + r.val; rw [(hi t).2.1]; omega
  | ⟨2, _⟩ => show win0_1.index t 2 * 256 + 1 * k.val = k.val; rw [(hi t).2.2]; omega

theorem blk2 (c : Dev nD) (t : Fin cfg0.N) (k : Fin 1024) :
    iblk m c 2 t (ix2 0 k) = m ((c : Thread nD τ).loc main_arg2) (ix1 k) := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply]
  show V m c main_v4 _ = _
  rw [V_v4]
  refine Eq.trans ?_ (cast_row (m ((c : Thread nD τ).loc main_arg2)) k)
  congr 1
  funext d
  apply Fin.ext
  match d with
  | ⟨0, _⟩ => show win0_2.index t 0 * 1 + 1 * 0 = 0; rw [(hi t).1]
  | ⟨1, _⟩ => show win0_2.index t 1 * 1024 + 1 * k.val = k.val; rw [(hi t).2]; omega

theorem blk3 (c : Dev nD) (t : Fin cfg0.N) (a : Fin 1024) (k : Fin 5632) :
    iblk m c 3 t (ix2 a k) = m ((c : Thread nD τ).loc main_arg3) (ix2 a k) := by
  have hi : ∀ t : Fin cfg0.N, win0_3.index t 0 = 0 ∧ win0_3.index t 1 = 0 :=
    (by decide +kernel : ∀ t : Fin grid0.N, win0_3.index t 0 = 0 ∧ win0_3.index t 1 = 0)
  unfold iblk
  rw [View.read_apply]
  show V m c main_v0 _ = m (c.tc.loc main_arg3) _
  rw [V_v0]
  congr 1
  funext d
  apply Fin.ext
  match d with
  | ⟨0, _⟩ => show win0_3.index t 0 * 1024 + 1 * a.val = a.val; rw [(hi t).1]; omega
  | ⟨1, _⟩ => show win0_3.index t 1 * 5632 + 1 * k.val = k.val; rw [(hi t).2]; omega

theorem blk4 (c : Dev nD) (t : Fin cfg0.N) (a : Fin 3) (k : Fin 5632) :
    iblk m c 4 t (ix2 a k) = m ((c : Thread nD τ).loc main_arg4) (ix2 a k) := by
  have hi : ∀ t : Fin cfg0.N, win0_4.index t 0 = 0 ∧ win0_4.index t 1 = 0 :=
    (by decide +kernel : ∀ t : Fin grid0.N, win0_4.index t 0 = 0 ∧ win0_4.index t 1 = 0)
  unfold iblk
  rw [View.read_apply]
  show V m c main_arg4 _ = m (c.tc.loc main_arg4) _
  rw [V_main_arg4]
  congr 1
  funext d
  apply Fin.ext
  match d with
  | ⟨0, _⟩ => show win0_4.index t 0 * 3 + 1 * a.val = a.val; rw [(hi t).1]; omega
  | ⟨1, _⟩ => show win0_4.index t 1 * 5632 + 1 * k.val = k.val; rw [(hi t).2]; omega

theorem blk5 (c : Dev nD) (t : Fin cfg0.N) (a : Fin 2816) (k : Fin 1024) :
    iblk m c 5 t (ix2 a k) = m ((c : Thread nD τ).loc main_arg5) (ix2 a k) := by
  have hi : ∀ t : Fin cfg0.N, win0_5.index t 0 = 0 ∧ win0_5.index t 1 = 0 :=
    (by decide +kernel : ∀ t : Fin grid0.N, win0_5.index t 0 = 0 ∧ win0_5.index t 1 = 0)
  unfold iblk
  rw [View.read_apply]
  show V m c main_v1 _ = m (c.tc.loc main_arg5) _
  rw [V_v1]
  congr 1
  funext d
  apply Fin.ext
  match d with
  | ⟨0, _⟩ => show win0_5.index t 0 * 2816 + 1 * a.val = a.val; rw [(hi t).1]; omega
  | ⟨1, _⟩ => show win0_5.index t 1 * 1024 + 1 * k.val = k.val; rw [(hi t).2]; omega

theorem blk6 (c : Dev nD) (t : Fin cfg0.N) (k : Fin 1024) :
    iblk m c 6 t (ix2 0 k) = m ((c : Thread nD τ).loc main_arg6) (ix1 k) := by
  have hi : ∀ t : Fin cfg0.N, win0_6.index t 0 = 0 ∧ win0_6.index t 1 = 0 :=
    (by decide +kernel : ∀ t : Fin grid0.N, win0_6.index t 0 = 0 ∧ win0_6.index t 1 = 0)
  unfold iblk
  rw [View.read_apply]
  show V m c main_v5 _ = _
  rw [V_v5]
  refine Eq.trans ?_ (cast_row (m ((c : Thread nD τ).loc main_arg6)) k)
  congr 1
  funext d
  apply Fin.ext
  match d with
  | ⟨0, _⟩ => show win0_6.index t 0 * 1 + 1 * 0 = 0; rw [(hi t).1]
  | ⟨1, _⟩ => show win0_6.index t 1 * 1024 + 1 * k.val = k.val; rw [(hi t).2]; omega

theorem blk7 (c : Dev nD) (t : Fin cfg0.N) (a : Fin 1024) (k : Fin 1024) :
    iblk m c 7 t (ix2 a k) = m ((c : Thread nD τ).loc main_arg7) (ix2 a k) := by
  have hi : ∀ t : Fin cfg0.N, win0_7.index t 0 = 0 ∧ win0_7.index t 1 = 0 :=
    (by decide +kernel : ∀ t : Fin grid0.N, win0_7.index t 0 = 0 ∧ win0_7.index t 1 = 0)
  unfold iblk
  rw [View.read_apply]
  show V m c main_v2 _ = m (c.tc.loc main_arg7) _
  rw [V_v2]
  congr 1
  funext d
  apply Fin.ext
  match d with
  | ⟨0, _⟩ => show win0_7.index t 0 * 1024 + 1 * a.val = a.val; rw [(hi t).1]; omega
  | ⟨1, _⟩ => show win0_7.index t 1 * 1024 + 1 * k.val = k.val; rw [(hi t).2]; omega

theorem blk8 (c : Dev nD) (t : Fin cfg0.N) (a : Fin 256) (k : Fin 1024) :
    iblk m c 8 t (ix2 a k) = m ((c : Thread nD τ).loc main_arg8) (ix2 a k) := by
  have hi : ∀ t : Fin cfg0.N, win0_8.index t 0 = 0 ∧ win0_8.index t 1 = 0 :=
    (by decide +kernel : ∀ t : Fin grid0.N, win0_8.index t 0 = 0 ∧ win0_8.index t 1 = 0)
  unfold iblk
  rw [View.read_apply]
  show V m c main_v3 _ = m (c.tc.loc main_arg8) _
  rw [V_v3]
  congr 1
  funext d
  apply Fin.ext
  match d with
  | ⟨0, _⟩ => show win0_8.index t 0 * 256 + 1 * a.val = a.val; rw [(hi t).1]; omega
  | ⟨1, _⟩ => show win0_8.index t 1 * 1024 + 1 * k.val = k.val; rw [(hi t).2]; omega

/-- The result, entry by entry, as a function of the argument arrays. -/
def G9 (c : Dev nD) : S2x8192x1024.Idx → EReal := fun i =>
  outG (m ((c : Thread nD τ).loc main_arg0)) (m ((c : Thread nD τ).loc main_arg2)) (m ((c : Thread nD τ).loc main_arg3))
    (m ((c : Thread nD τ).loc main_arg1)) (m ((c : Thread nD τ).loc main_arg4)) (m ((c : Thread nD τ).loc main_arg5))
    (m ((c : Thread nD τ).loc main_arg6)) (m ((c : Thread nD τ).loc main_arg7)) (m ((c : Thread nD τ).loc main_arg8))
    (i 0) (i 1) (i 2)

/-- The last two rows of the up projection, entry by entry. -/
def G10 (c : Dev nD) : S2x2x5632.Idx → EReal := fun i =>
  tailG (m ((c : Thread nD τ).loc main_arg0)) (m ((c : Thread nD τ).loc main_arg2)) (m ((c : Thread nD τ).loc main_arg3))
    (i 0) (i 1) (i 2)

/-- A tile's up projection at its rows of the whole array. -/
theorem up_at (c : Dev nD) (t : Fin cfg0.N) (r : Fin 512) (j : Fin 5632) :
    up (k0_pay4 (iblk m c 0 t) (iblk m c 2 t)) (iblk m c 3 t) r j
      = upG (m ((c : Thread nD τ).loc main_arg0)) (m ((c : Thread nD τ).loc main_arg2)) (m ((c : Thread nD τ).loc main_arg3))
          (bat t) (tok (til t) r) j :=
  up_tile (blk0 m c t) (blk2 m c t) (blk3 m c t) r j

/-- What a point leaves in the carried rows: the last eight rows of its up projection. -/
theorem carried (c : Dev nD) (t : Fin cfg0.N) :
    (outsAt0 m c t.val t.isLt).2.2 = carry (k0_pay4 (iblk m c 0 t) (iblk m c 2 t)) (iblk m c 3 t) := by
  by_cases h0 : t.val % 16 = 0
  · rw [outsAt0_A m c t h0]; dsimp only; rw [sout_A]
  · rw [outsAt0_B m c t h0]; dsimp only; rw [sout_B]

/-- The carried rows a later tile finds: the two rows before its first. -/
theorem carried_before (c : Dev nD) (t : Fin cfg0.N) (h0 : ¬t.val % 16 = 0) (a : Fin 8) (h6 : 6 ≤ a.val) (j : Fin 5632) :
    (outsAt0 m c (t.val - 1) (Nat.lt_of_le_of_lt (Nat.sub_le _ _) t.isLt)).2.2 (ix2 a j)
      = padG (m ((c : Thread nD τ).loc main_arg0)) (m ((c : Thread nD τ).loc main_arg2)) (m ((c : Thread nD τ).loc main_arg3))
          (bat t) ((til t).val * 512 + (a.val - 6)) (by omega) j := by
  have hN : cfg0.N = 32 := N_0
  have ht := t.isLt
  obtain ⟨s, hs⟩ : ∃ s : Fin cfg0.N, s.val = t.val - 1 := ⟨⟨t.val - 1, by omega⟩, rfl⟩
  have hc := carried m c s
  have hc' : (outsAt0 m c (t.val - 1) (Nat.lt_of_le_of_lt (Nat.sub_le _ _) t.isLt)).2.2
      = carry (k0_pay4 (iblk m c 0 s) (iblk m c 2 s)) (iblk m c 3 s) := by
    rw [← hc]; congr 2; simp only [hs]
  rw [hc']
  show up (k0_pay4 (iblk m c 0 s) (iblk m c 2 s)) (iblk m c 3 s) ⟨504 + a.val, by omega⟩ j = _
  rw [up_at]
  unfold padG
  have : ¬ (til t).val * 512 + (a.val - 6) < 2 := by
    show ¬ t.val % 16 * 512 + (a.val - 6) < 2; omega
  rw [dif_neg this]
  have hb : bat s = bat t := by apply Fin.ext; show s.val / 16 = t.val / 16; omega
  rw [hb]
  congr 1
  apply Fin.ext
  show s.val % 16 * 512 + (504 + a.val) = t.val % 16 * 512 + (a.val - 6) - 2
  omega

theorem emb9 (t : Fin cfg0.N) (r : Fin 512) (q : Fin 1024) :
    (win0_9.blk t).view.emb (ix3 0 r q) = (ix3 (bat t) (tok (til t) r) q : S2x8192x1024.Idx) := by
  have hi : ∀ t : Fin cfg0.N, win0_9.index t 0 = t.val / 16 ∧ win0_9.index t 1 = t.val % 16 ∧ win0_9.index t 2 = 0 :=
    (by decide +kernel : ∀ t : Fin grid0.N, win0_9.index t 0 = t.val / 16 ∧ win0_9.index t 1 = t.val % 16 ∧ win0_9.index t 2 = 0)
  funext a
  apply Fin.ext
  match a with
  | ⟨0, _⟩ => show win0_9.index t 0 * 1 + 1 * 0 = t.val / 16; rw [(hi t).1]; omega
  | ⟨1, _⟩ => show win0_9.index t 1 * 512 + 1 * r.val = t.val % 16 * 512 + r.val; rw [(hi t).2.1]; omega
  | ⟨2, _⟩ => show win0_9.index t 2 * 1024 + 1 * q.val = q.val; rw [(hi t).2.2]; omega

theorem flushed9_eq (c : Dev nD) (t : Fin cfg0.N) :
    (dats m 0 c).flushed 9 t = (win0_9.blk t).view.read (Elt Ideal) (G9 m c) := by
  have key : ∀ (K : Vec Ideal S8x5632 .f32) (_ : ∀ (a : Fin 8) (h6 : 6 ≤ a.val) (j : Fin 5632), K (ix2 a j)
        = padG (m ((c : Thread nD τ).loc main_arg0)) (m ((c : Thread nD τ).loc main_arg2)) (m ((c : Thread nD τ).loc main_arg3))
            (bat t) ((til t).val * 512 + (a.val - 6)) (by omega) j),
      outV (iblk m c 0 t) (iblk m c 1 t) (iblk m c 2 t) (iblk m c 3 t) (iblk m c 4 t) (iblk m c 5 t) (iblk m c 6 t)
        (iblk m c 7 t) (iblk m c 8 t) K = (win0_9.blk t).view.read (Elt Ideal) (G9 m c) := by
    intro K hK
    funext y
    obtain ⟨r, q, rfl⟩ : ∃ (r : Fin 512) (q : Fin 1024), y = ix3 0 r q := by
      refine ⟨y 1, y 2, ?_⟩
      have h1 : y 0 = (0 : Fin 1) := Fin.ext (by have h : (y 0).val < 1 := (y 0).isLt; show (y 0).val = 0; omega)
      rw [← h1]; exact eq_ix3 y
    rw [View.read_apply, emb9, out_tile (blk0 m c t) (blk1 m c t) (blk2 m c t) (blk3 m c t) (blk4 m c t) (blk5 m c t)
      (blk6 m c t) (blk7 m c t) (blk8 m c t) hK]
    rfl
  by_cases h0 : t.val % 16 = 0
  · rw [Value.flushed9_A m c t h0]
    refine (congrArg ((cfg0.win 9).cut (grid0.coords t)) (out9_A ..)).trans ?_
    refine Eq.trans ?_ (key (k0_pay2 (F := Ideal)) ?_)
    · rfl
    · intro a h6 j
      rw [pay2_apply]
      unfold padG
      rw [dif_pos (by show t.val % 16 * 512 + (a.val - 6) < 2; omega)]
  · rw [Value.flushed9_B m c t h0]
    refine (congrArg ((cfg0.win 9).cut (grid0.coords t)) (out9_B ..)).trans ?_
    refine Eq.trans ?_ (key _ (carried_before m c t h0))
    rfl

theorem mem_blk9 (t : Fin cfg0.N) (i : S2x8192x1024.Idx) :
    i ∈ ((cfg0.win 9).blk t).view.set ↔ (i 0 : Nat) = t.val / 16
      ∧ t.val % 16 * 512 ≤ (i 1 : Nat) ∧ (i 1 : Nat) < t.val % 16 * 512 + 512 := by
  have e : ∀ t : Fin cfg0.N, win0_9.index t 0 = t.val / 16 ∧ win0_9.index t 1 = t.val % 16 ∧ win0_9.index t 2 = 0 :=
    (by decide +kernel : ∀ t : Fin grid0.N, win0_9.index t 0 = t.val / 16 ∧ win0_9.index t 1 = t.val % 16 ∧ win0_9.index t 2 = 0)
  show i ∈ ((View.whole main_v6_0).slice (win0_9.rect t)).set ↔ _
  rw [View.set_slice_whole, Rect.mem_set_unit]
  have h2 : (i 2 : Nat) < 1024 := (i 2).isLt
  refine ⟨fun h => ?_, fun h a => ?_⟩
  · have a0 : win0_9.index t 0 * 1 ≤ (i 0 : Nat) ∧ (i 0 : Nat) < win0_9.index t 0 * 1 + 1 := h 0
    have a1 : win0_9.index t 1 * 512 ≤ (i 1 : Nat) ∧ (i 1 : Nat) < win0_9.index t 1 * 512 + 512 := h 1
    rw [(e t).1] at a0
    rw [(e t).2.1] at a1
    exact ⟨by omega, a1⟩
  · match a with
    | ⟨0, _⟩ => show win0_9.index t 0 * 1 ≤ (i 0 : Nat) ∧ (i 0 : Nat) < win0_9.index t 0 * 1 + 1
                rw [(e t).1]; omega
    | ⟨1, _⟩ => show win0_9.index t 1 * 512 ≤ (i 1 : Nat) ∧ (i 1 : Nat) < win0_9.index t 1 * 512 + 512
                rw [(e t).2.1]; exact h.2
    | ⟨2, _⟩ => show win0_9.index t 2 * 1024 ≤ (i 2 : Nat) ∧ (i 2 : Nat) < win0_9.index t 2 * 1024 + 1024
                rw [(e t).2.2, Nat.zero_mul, Nat.zero_add]; exact ⟨Nat.zero_le _, h2⟩

theorem cover9 (i : S2x8192x1024.Idx) :
    ∃ t : Fin cfg0.N, (cfg0.win 9).flush t = true ∧ i ∈ ((cfg0.win 9).blk t).view.set := by
  have h0 : (i 0 : Nat) < 2 := (i 0).isLt
  have h1 : (i 1 : Nat) < 8192 := (i 1).isLt
  have hN : cfg0.N = 32 := N_0
  obtain ⟨t, ht⟩ : ∃ t : Fin cfg0.N, t.val = (i 0 : Nat) * 16 + (i 1 : Nat) / 512 := ⟨⟨_, by rw [hN]; omega⟩, rfl⟩
  refine ⟨t, flush0_9 t, ?_⟩
  rw [mem_blk9]
  omega

theorem final9 (c : Dev nD) : (dats m 0 c).arrAt 9 cfg0.N = G9 m c :=
  (dats m 0 c).arrAt_eq_of_cover 9 (G9 m c) (fun t _ => flushed9_eq m c t) cover9

theorem emb10 (t : Fin cfg0.N) (r : Fin 2) (q : Fin 5632) :
    (win0_10.blk t).view.emb (ix3 0 r q) = (ix3 (bat t) r q : S2x2x5632.Idx) := by
  have hi : ∀ t : Fin cfg0.N, win0_10.index t 0 = t.val / 16 ∧ win0_10.index t 1 = 0 ∧ win0_10.index t 2 = 0 :=
    (by decide +kernel : ∀ t : Fin grid0.N, win0_10.index t 0 = t.val / 16 ∧ win0_10.index t 1 = 0 ∧ win0_10.index t 2 = 0)
  funext a
  apply Fin.ext
  match a with
  | ⟨0, _⟩ => show win0_10.index t 0 * 1 + 1 * 0 = t.val / 16; rw [(hi t).1]; omega
  | ⟨1, _⟩ => show win0_10.index t 1 * 2 + 1 * r.val = r.val; rw [(hi t).2.1]; omega
  | ⟨2, _⟩ => show win0_10.index t 2 * 5632 + 1 * q.val = q.val; rw [(hi t).2.2]; omega

theorem flushed10_eq (c : Dev nD) (t : Fin cfg0.N) (hf : (cfg0.win 10).flush t = true) :
    (dats m 0 c).flushed 10 t = (win0_10.blk t).view.read (Elt Ideal) (G10 m c) := by
  have hl : t.val % 16 = 15 := (flush0_10 t).mp hf
  rw [Value.flushed10_B m c t (by omega)]
  refine (congrArg ((cfg0.win 10).cut (grid0.coords t)) (out10_B ..)).trans ?_
  have key : tailV (iblk m c 0 t) (iblk m c 2 t) (iblk m c 3 t) = (win0_10.blk t).view.read (Elt Ideal) (G10 m c) := by
    funext y
    obtain ⟨r, q, rfl⟩ : ∃ (r : Fin 2) (q : Fin 5632), y = ix3 0 r q := by
      refine ⟨y 1, y 2, ?_⟩
      have h1 : y 0 = (0 : Fin 1) := Fin.ext (by have h : (y 0).val < 1 := (y 0).isLt; show (y 0).val = 0; omega)
      rw [← h1]; exact eq_ix3 y
    rw [View.read_apply, emb10]
    unfold tailV
    rw [pay137_apply]
    have e : (Rect.unit (s := S8x5632) ![6, 0] S2x5632.size inb_S8x5632_S2x5632_6_0).idx (ix2 r q)
        = (ix2 ⟨6 + r.val, by omega⟩ q : S8x5632.Idx) := by
      funext a
      apply Fin.ext
      match a with
      | ⟨0, _⟩ => show 6 + 1 * r.val = 6 + r.val; omega
      | ⟨1, _⟩ => show 0 + 1 * q.val = q.val; omega
    show carry _ _ ((Rect.unit (s := S8x5632) ![6, 0] S2x5632.size inb_S8x5632_S2x5632_6_0).idx (ix2 r q)) = _
    rw [e]
    show up (k0_pay4 (iblk m c 0 t) (iblk m c 2 t)) (iblk m c 3 t) ⟨504 + (6 + r.val), by omega⟩ q = _
    rw [up_at]
    show upG _ _ _ _ _ _ = upG _ _ _ _ _ _
    congr 1
    apply Fin.ext
    show t.val % 16 * 512 + (504 + (6 + r.val)) = 8190 + r.val
    omega
  refine Eq.trans ?_ key
  rfl

theorem mem_blk10 (t : Fin cfg0.N) (i : S2x2x5632.Idx) :
    i ∈ ((cfg0.win 10).blk t).view.set ↔ (i 0 : Nat) = t.val / 16 := by
  have e : ∀ t : Fin cfg0.N, win0_10.index t 0 = t.val / 16 ∧ win0_10.index t 1 = 0 ∧ win0_10.index t 2 = 0 :=
    (by decide +kernel : ∀ t : Fin grid0.N, win0_10.index t 0 = t.val / 16 ∧ win0_10.index t 1 = 0 ∧ win0_10.index t 2 = 0)
  show i ∈ ((View.whole main_v6_1).slice (win0_10.rect t)).set ↔ _
  rw [View.set_slice_whole, Rect.mem_set_unit]
  have h1 : (i 1 : Nat) < 2 := (i 1).isLt
  have h2 : (i 2 : Nat) < 5632 := (i 2).isLt
  refine ⟨fun h => ?_, fun h a => ?_⟩
  · have a0 : win0_10.index t 0 * 1 ≤ (i 0 : Nat) ∧ (i 0 : Nat) < win0_10.index t 0 * 1 + 1 := h 0
    rw [(e t).1] at a0
    omega
  · match a with
    | ⟨0, _⟩ => show win0_10.index t 0 * 1 ≤ (i 0 : Nat) ∧ (i 0 : Nat) < win0_10.index t 0 * 1 + 1
                rw [(e t).1]; omega
    | ⟨1, _⟩ => show win0_10.index t 1 * 2 ≤ (i 1 : Nat) ∧ (i 1 : Nat) < win0_10.index t 1 * 2 + 2
                rw [(e t).2.1, Nat.zero_mul, Nat.zero_add]; exact ⟨Nat.zero_le _, h1⟩
    | ⟨2, _⟩ => show win0_10.index t 2 * 5632 ≤ (i 2 : Nat) ∧ (i 2 : Nat) < win0_10.index t 2 * 5632 + 5632
                rw [(e t).2.2, Nat.zero_mul, Nat.zero_add]; exact ⟨Nat.zero_le _, h2⟩

theorem cover10 (i : S2x2x5632.Idx) :
    ∃ t : Fin cfg0.N, (cfg0.win 10).flush t = true ∧ i ∈ ((cfg0.win 10).blk t).view.set := by
  have h0 : (i 0 : Nat) < 2 := (i 0).isLt
  have hN : cfg0.N = 32 := N_0
  obtain ⟨t, ht⟩ : ∃ t : Fin cfg0.N, t.val = (i 0 : Nat) * 16 + 15 := ⟨⟨_, by rw [hN]; omega⟩, rfl⟩
  refine ⟨t, (flush0_10 t).mpr (by omega), ?_⟩
  rw [mem_blk10]
  omega

theorem final10 (c : Dev nD) : (dats m 0 c).arrAt 10 cfg0.N = G10 m c :=
  (dats m 0 c).arrAt_eq_of_cover 10 (G10 m c) (flushed10_eq m c) cover10

end Cert.Proof.FfnValue

end
-- ==== Proof.FfnRef.lean ====
/- The gated MLP's reference (program `Reference2Ideal`): its results are the layer's formula, entry by entry. -/
module

public import proofs.«01_k».proof.Proof.FfnSpec
public import proofs.«01_k».proof.Proof.Gen.Reference2Ideal.Run

@[expose] public section

set_option maxRecDepth 16384

noncomputable section

open Idealize.ShloMosaic Idealize.ShloMosaic.TcCoe Idealize.SL.Sem

namespace Cert.Proof.FfnRef

open Cert.Reference2Ideal Cert.Reference2Ideal.Gen Cert.Reference2Ideal.Value
open Cert.Proof.FfnTile (midRow plusEmb gelu upG padG convG actG outG tailG)

variable (V : Valuation τ sig (Elt Ideal))

theorem v15_apply (b : Fin 2) (n : Fin 8194) (j : Fin 5632) :
    res_main_v15 V (ix3 b n j) = padG (V (Proc.devRef .tc main_arg0)) (V (Proc.devRef .tc main_arg2)) (V (Proc.devRef .tc main_arg3))
      b n.val n.isLt j := by
  unfold res_main_v15 padG upG normRow
  pointwise

theorem v35_apply (b : Fin 2) (n : Fin 8192) (j : Fin 5632) :
    res_main_v35 V (ix3 b n j) = convG (V (Proc.devRef .tc main_arg0)) (V (Proc.devRef .tc main_arg2)) (V (Proc.devRef .tc main_arg3))
      (V (Proc.devRef .tc main_arg4)) b n j := by
  have h2 : padG (V (Proc.devRef .tc main_arg0)) (V (Proc.devRef .tc main_arg2)) (V (Proc.devRef .tc main_arg3)) b (2 + n.val)
      (by omega) j = upG (V (Proc.devRef .tc main_arg0)) (V (Proc.devRef .tc main_arg2)) (V (Proc.devRef .tc main_arg3)) b n j := by
    unfold padG
    rw [dif_neg (by omega)]
    congr 1
    apply Fin.ext
    show 2 + n.val - 2 = n.val
    omega
  unfold res_main_v35
  pointwise
  simp only [v15_apply]
  unfold convG
  rw [← h2]
  simp only [Nat.add_comm 1 n.val]

theorem gelu_assoc (x : EReal) : x * (Ideal.ofBits .f32 0x3F000000#32 * (1
    + Ideal.tanh (Ideal.ofBits .f32 0x3F4C422A#32 * (x + Ideal.ofBits .f32 0x3D372713#32 * (x * x * x))))) = gelu x := by
  have h1 : Ideal.ofBits .f32 0x3F800000#32 = 1 := by pointwise
  unfold gelu
  rw [← mul_assoc, mul_comm x, h1]

theorem v54_apply (b : Fin 2) (n : Fin 8192) (q : Fin 1024) :
    res_main_v54 V (ix3 b n q) = midRow (fun k => (V (Proc.devRef .tc main_arg0) : FVec Ideal S2x8192x1024 .f32) (ix3 b n k))
      (fun j => actG (V (Proc.devRef .tc main_arg0)) (V (Proc.devRef .tc main_arg2)) (V (Proc.devRef .tc main_arg3))
      (V (Proc.devRef .tc main_arg4)) b n j) (fun j k => (V (Proc.devRef .tc main_arg5) : FVec Ideal S2816x1024 .f32) (ix2 j k)) q := by
  unfold res_main_v54 res_main_v37 midRow actG
  pointwise
  simp only [v35_apply]
  simp only [gelu_assoc]

theorem tail_apply (b a : Fin 2) (j : Fin 5632) :
    extractStridedSlice S2x2x5632 ![0, 8192, 0] (res_main_v15 V) slices_S2x8194x5632_S2x2x5632_0_8192_0 (ix3 b a j)
      = tailG (V (Proc.devRef .tc main_arg0)) (V (Proc.devRef .tc main_arg2)) (V (Proc.devRef .tc main_arg3)) b a j := by
  pointwise
  rw [v15_apply]
  unfold padG tailG
  rw [dif_neg (by show ¬ 8192 + a.val < 2; omega)]
  congr 1
  apply Fin.ext
  show 8192 + a.val - 2 = 8190 + a.val
  omega

theorem emb_apply (y : FVec Ideal S2x8192x1024 .f32) (pe : FVec Ideal S2x8192x256 .f32) (g : FVec Ideal S1024 .f32)
    (wg : FVec Ideal S1024x1024 .f32) (wp : FVec Ideal S256x1024 .f32) (b : Fin 2) (n : Fin 8192) (q : Fin 1024) :
    addf y (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (Host.dotGeneral dot_S2x8192x1024_S1024x1024_S2x8192x1024_2_0_01_1_n_n none (mulf (mulf y (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf y y) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) wg))))) (Host.dotGeneral dot_S2x8192x256_S256x1024_S2x8192x1024_2_0_01_1_n_n none pe wp)) (ix3 b n q)
      = plusEmb (fun k => y (ix3 b n k)) (fun i => pe (ix3 b n i)) (fun k => g (ix1 k)) (fun k => wg (ix2 k q))
          (fun i => wp (ix2 i q)) q := by
  unfold plusEmb normRow Ideal.logistic
  pointwise

end Cert.Proof.FfnRef

end
-- ==== Proof.Ffn.lean ====
/- The gated MLP (the call `ffn`, program `Kernel2`): its frames and its values. -/
module

public import proofs.«01_k».proof.Defs
public import proofs.«01_k».proof.Proof.Gen.Kernel2.Frame
public import proofs.«01_k».proof.Proof.Gen.Reference2Ideal.Run
public import proofs.«01_k».proof.Proof.FfnValue
public import proofs.«01_k».proof.Proof.FfnRef
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.Ffn

theorem frame_k : Cert.quiescent_Kernel2 := fun m ρ _ => Cert.Kernel2.Gen.frame m ρ
theorem frame_ki : Cert.quiescent_Kernel2Ideal := fun m ρ _ => Cert.Kernel2Ideal.Gen.frame m ρ
theorem frame_r : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
theorem preserves : Cert.preserves_Kernel2_Kernel2Ideal := trivial

theorem algebraic : Cert.algebraic_Kernel2Ideal_Reference2Ideal := by
  intro m ρ m' ρ' _ hagree
  refine ⟨fun c => FfnValue.G9 m c, fun c => FfnValue.G10 m c, ?_, ?_⟩
  · exact (θ_run Cert.Kernel2Ideal.defs _ _).mono
      (fun _ h c => ⟨(h c).1.trans (FfnValue.final9 m c), (h c).2.1.trans (FfnValue.final10 m c), (h c).2.2⟩)
      (Cert.Kernel2Ideal.Value.run_blocks (F := Ideal) m ρ)
  refine (θ_run Cert.Reference2Ideal.defs _ _).mono (fun _ h c => ⟨(h c).1.trans ?_, (h c).2.1.trans ?_, (h c).2.2⟩)
    (Cert.Reference2Ideal.Value.run (F := Ideal) m' ρ')
  all_goals
    obtain ⟨h0, h1, h2, h3, h4, h5, h6, h7, h8⟩ := hagree c
    funext i
    obtain ⟨b, n, q, rfl⟩ : ∃ b n q, i = ix3 b n q := ⟨i 0, i 1, i 2, eq_ix3 i⟩
  · refine (FfnRef.emb_apply _ _ _ _ _ b n q).trans ?_
    simp only [FfnRef.v54_apply]
    show FfnTile.outG (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) b n q
      = FfnTile.outG (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) b n q
    rw [h0, h1, h2, h3, h4, h5, h6, h7, h8]
  · refine (FfnRef.tail_apply _ b n q).trans ?_
    show FfnTile.tailG (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) b n q
      = FfnTile.tailG (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) b n q
    rw [h0, h2, h3]

end Cert.Proof.Ffn

end
-- ==== Proof.Merge.lean ====
/- The merge (the call `merge`, program `Kernel3`): what the tiled kernel leaves is, over the extended reals, the reference's
   result. A tile holds 512 token rows and every row of the result depends on that row of the inputs only, so one
   description of an entry, `entry`, is shown of both sides. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.Value
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Merge

open Cert.Kernel3Ideal Cert.Kernel3Ideal.Gen

/-- One entry of the merge: the three branch rows `a`, `b`, `o` through their projections, gated and summed, through column
    `wo` of the output projection, added to the residual. -/
def entry (a b o : Fin 512 → EReal) (g0 g1 g2 : Fin 1024 → EReal) (wa wb wc : Fin 512 → Fin 1024 → EReal)
    (wo : Fin 1024 → EReal) (x : EReal) : EReal :=
  x + ∑ k : Fin 1024, ((g0 k * ∑ i : Fin 512, a i * wa i k) + (g1 k * ∑ i : Fin 512, b i * wb i k)
    + (g2 k * ∑ i : Fin 512, o i * wc i k)) * wo k

theorem pay_apply (v0 v4 v8 : FVec Ideal S512x512 .bf16) (v1 v5 v9 : FVec Ideal S512x1024 .bf16)
    (v12 v14 v17 v20 : FVec Ideal S512x1024 .f32) (v22 : FVec Ideal S1024x1024 .bf16) (r : Fin 512) (c : Fin 1024) :
    k0_pay1 (F := Ideal) v0 v1 v4 v5 v8 v9 v12 v14 v17 v20 v22 (ix2 r c)
      = entry (fun i => v0 (ix2 r i)) (fun i => v4 (ix2 r i)) (fun i => v8 (ix2 r i)) (fun k => v12 (ix2 r k))
          (fun k => v14 (ix2 r k)) (fun k => v17 (ix2 r k)) (fun i k => v1 (ix2 i k)) (fun i k => v5 (ix2 i k))
          (fun i k => v9 (ix2 i k)) (fun k => v22 (ix2 k c)) (v20 (ix2 r c)) := by
  unfold k0_pay1 entry
  pointwise

variable (m : (ℓ : Loc nD τ sig) → Buf (Elt Ideal) ℓ)

/-- The converted weights are the weights: a conversion is the identity over the extended reals. -/
theorem V_v0 (c : Dev nD) : V m c main_v0 = m ((c : Thread nD τ).loc main_arg5) := by
  unfold_abbrev_sides
  after_results
  rfl
theorem V_v1 (c : Dev nD) : V m c main_v1 = m ((c : Thread nD τ).loc main_arg6) := by
  unfold_abbrev_sides
  after_results
  rfl
theorem V_v2 (c : Dev nD) : V m c main_v2 = m ((c : Thread nD τ).loc main_arg7) := by
  unfold_abbrev_sides
  after_results
  rfl
theorem V_v3 (c : Dev nD) : V m c main_v3 = m ((c : Thread nD τ).loc main_arg8) := by
  unfold_abbrev_sides
  after_results
  rfl

/-- Row `r` of tile `t` of the tokens. -/
def row (t : Fin cfg0.N) (r : Fin 512) : Fin 16384 := ⟨t.val * 512 + r.val, by
  have := t.isLt; have h : cfg0.N = 32 := N_0; omega⟩

theorem blk0 (c : Dev nD) (t : Fin cfg0.N) (r : Fin 512) (k : Fin 512) :
    View.ld (iblk m c 0 t) r0_0 (ix2 r k) = m ((c : Thread nD τ).loc main_arg0) (ix2 (row t r) k) := by
  have hi : ∀ t : Fin cfg0.N, win0_0.index t 0 = t.val ∧ win0_0.index t 1 = 0 :=
    (by decide +kernel : ∀ t : Fin grid0.N, win0_0.index t 0 = t.val ∧ win0_0.index t 1 = 0)
  show iblk m c 0 t ((r0_0).emb (ix2 r k)) = _
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * (0 + 1 * r.val) = t.val * 512 + r.val; rw [(hi t).1]; omega
  | ⟨1, _⟩ => show win0_0.index t 1 * 512 + 1 * (0 + 1 * k.val) = k.val; rw [(hi t).2]; omega

theorem blk1 (c : Dev nD) (t : Fin cfg0.N) (r : Fin 512) (k : Fin 512) :
    View.ld (iblk m c 1 t) r0_0 (ix2 r k) = m ((c : Thread nD τ).loc main_arg1) (ix2 (row t r) k) := by
  have hi : ∀ t : Fin cfg0.N, win0_1.index t 0 = t.val ∧ win0_1.index t 1 = 0 :=
    (by decide +kernel : ∀ t : Fin grid0.N, win0_1.index t 0 = t.val ∧ win0_1.index t 1 = 0)
  show iblk m c 1 t ((r0_0).emb (ix2 r k)) = _
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * (0 + 1 * r.val) = t.val * 512 + r.val; rw [(hi t).1]; omega
  | ⟨1, _⟩ => show win0_1.index t 1 * 512 + 1 * (0 + 1 * k.val) = k.val; rw [(hi t).2]; omega

theorem blk2 (c : Dev nD) (t : Fin cfg0.N) (r : Fin 512) (k : Fin 512) :
    View.ld (iblk m c 2 t) r0_0 (ix2 r k) = m ((c : Thread nD τ).loc main_arg2) (ix2 (row t r) k) := by
  have hi : ∀ t : Fin cfg0.N, win0_2.index t 0 = t.val ∧ win0_2.index t 1 = 0 :=
    (by decide +kernel : ∀ t : Fin grid0.N, win0_2.index t 0 = t.val ∧ win0_2.index t 1 = 0)
  show iblk m c 2 t ((r0_0).emb (ix2 r k)) = _
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * (0 + 1 * r.val) = t.val * 512 + r.val; rw [(hi t).1]; omega
  | ⟨1, _⟩ => show win0_2.index t 1 * 512 + 1 * (0 + 1 * k.val) = k.val; rw [(hi t).2]; omega

theorem blk3_0 (c : Dev nD) (t : Fin cfg0.N) (r : Fin 512) (k : Fin 1024) :
    View.ld (iblk m c 3 t) r0_2 (ix2 r k) = m ((c : Thread nD τ).loc main_arg3) (ix2 (row t r) ⟨k.val, by omega⟩) := by
  have hi : ∀ t : Fin cfg0.N, win0_3.index t 0 = t.val ∧ win0_3.index t 1 = 0 :=
    (by decide +kernel : ∀ t : Fin grid0.N, win0_3.index t 0 = t.val ∧ win0_3.index t 1 = 0)
  show iblk m c 3 t ((r0_2).emb (ix2 r k)) = _
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * (0 + 1 * r.val) = t.val * 512 + r.val; rw [(hi t).1]; omega
  | ⟨1, _⟩ => show win0_3.index t 1 * 3072 + 1 * (0 + 1 * k.val) = k.val; rw [(hi t).2]; omega

theorem blk3_1 (c : Dev nD) (t : Fin cfg0.N) (r : Fin 512) (k : Fin 1024) :
    View.ld (iblk m c 3 t) r0_3 (ix2 r k) = m ((c : Thread nD τ).loc main_arg3) (ix2 (row t r) ⟨1024 + k.val, by omega⟩) := by
  have hi : ∀ t : Fin cfg0.N, win0_3.index t 0 = t.val ∧ win0_3.index t 1 = 0 :=
    (by decide +kernel : ∀ t : Fin grid0.N, win0_3.index t 0 = t.val ∧ win0_3.index t 1 = 0)
  show iblk m c 3 t ((r0_3).emb (ix2 r k)) = _
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * (0 + 1 * r.val) = t.val * 512 + r.val; rw [(hi t).1]; omega
  | ⟨1, _⟩ => show win0_3.index t 1 * 3072 + 1 * (1024 + 1 * k.val) = 1024 + k.val; rw [(hi t).2]; omega

theorem blk3_2 (c : Dev nD) (t : Fin cfg0.N) (r : Fin 512) (k : Fin 1024) :
    View.ld (iblk m c 3 t) r0_4 (ix2 r k) = m ((c : Thread nD τ).loc main_arg3) (ix2 (row t r) ⟨2048 + k.val, by omega⟩) := by
  have hi : ∀ t : Fin cfg0.N, win0_3.index t 0 = t.val ∧ win0_3.index t 1 = 0 :=
    (by decide +kernel : ∀ t : Fin grid0.N, win0_3.index t 0 = t.val ∧ win0_3.index t 1 = 0)
  show iblk m c 3 t ((r0_4).emb (ix2 r k)) = _
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * (0 + 1 * r.val) = t.val * 512 + r.val; rw [(hi t).1]; omega
  | ⟨1, _⟩ => show win0_3.index t 1 * 3072 + 1 * (2048 + 1 * k.val) = 2048 + k.val; rw [(hi t).2]; omega

theorem blk4 (c : Dev nD) (t : Fin cfg0.N) (r : Fin 512) (k : Fin 1024) :
    View.ld (iblk m c 4 t) r0_1 (ix2 r k) = m ((c : Thread nD τ).loc main_arg4) (ix2 (row t r) k) := by
  have hi : ∀ t : Fin cfg0.N, win0_4.index t 0 = t.val ∧ win0_4.index t 1 = 0 :=
    (by decide +kernel : ∀ t : Fin grid0.N, win0_4.index t 0 = t.val ∧ win0_4.index t 1 = 0)
  show iblk m c 4 t ((r0_1).emb (ix2 r k)) = _
  unfold iblk
  rw [View.read_apply]
  show V m c main_arg4 _ = m (c.tc.loc main_arg4) _
  rw [V_main_arg4]
  congr 1
  funext a
  apply Fin.ext
  match a with
  | ⟨0, _⟩ => show win0_4.index t 0 * 512 + 1 * (0 + 1 * r.val) = t.val * 512 + r.val; rw [(hi t).1]; omega
  | ⟨1, _⟩ => show win0_4.index t 1 * 1024 + 1 * (0 + 1 * k.val) = k.val; rw [(hi t).2]; omega

theorem blk5 (c : Dev nD) (t : Fin cfg0.N) (r : Fin 512) (k : Fin 1024) :
    View.ld (iblk m c 5 t) r0_1 (ix2 r k) = m ((c : Thread nD τ).loc main_arg5) (ix2 r k) := by
  have hi : ∀ t : Fin cfg0.N, win0_5.index t 0 = 0 ∧ win0_5.index t 1 = 0 :=
    (by decide +kernel : ∀ t : Fin grid0.N, win0_5.index t 0 = 0 ∧ win0_5.index t 1 = 0)
  show iblk m c 5 t ((r0_1).emb (ix2 r k)) = _
  unfold iblk
  rw [View.read_apply]
  show V m c main_v0 _ = m (c.tc.loc main_arg5) _
  rw [V_v0]
  congr 1
  funext a
  apply Fin.ext
  match a with
  | ⟨0, _⟩ => show win0_5.index t 0 * 512 + 1 * (0 + 1 * r.val) = r.val; rw [(hi t).1]; omega
  | ⟨1, _⟩ => show win0_5.index t 1 * 1024 + 1 * (0 + 1 * k.val) = k.val; rw [(hi t).2]; omega

theorem blk6 (c : Dev nD) (t : Fin cfg0.N) (r : Fin 512) (k : Fin 1024) :
    View.ld (iblk m c 6 t) r0_1 (ix2 r k) = m ((c : Thread nD τ).loc main_arg6) (ix2 r k) := by
  have hi : ∀ t : Fin cfg0.N, win0_6.index t 0 = 0 ∧ win0_6.index t 1 = 0 :=
    (by decide +kernel : ∀ t : Fin grid0.N, win0_6.index t 0 = 0 ∧ win0_6.index t 1 = 0)
  show iblk m c 6 t ((r0_1).emb (ix2 r k)) = _
  unfold iblk
  rw [View.read_apply]
  show V m c main_v1 _ = m (c.tc.loc main_arg6) _
  rw [V_v1]
  congr 1
  funext a
  apply Fin.ext
  match a with
  | ⟨0, _⟩ => show win0_6.index t 0 * 512 + 1 * (0 + 1 * r.val) = r.val; rw [(hi t).1]; omega
  | ⟨1, _⟩ => show win0_6.index t 1 * 1024 + 1 * (0 + 1 * k.val) = k.val; rw [(hi t).2]; omega

theorem blk7 (c : Dev nD) (t : Fin cfg0.N) (r : Fin 512) (k : Fin 1024) :
    View.ld (iblk m c 7 t) r0_1 (ix2 r k) = m ((c : Thread nD τ).loc main_arg7) (ix2 r k) := by
  have hi : ∀ t : Fin cfg0.N, win0_7.index t 0 = 0 ∧ win0_7.index t 1 = 0 :=
    (by decide +kernel : ∀ t : Fin grid0.N, win0_7.index t 0 = 0 ∧ win0_7.index t 1 = 0)
  show iblk m c 7 t ((r0_1).emb (ix2 r k)) = _
  unfold iblk
  rw [View.read_apply]
  show V m c main_v2 _ = m (c.tc.loc main_arg7) _
  rw [V_v2]
  congr 1
  funext a
  apply Fin.ext
  match a with
  | ⟨0, _⟩ => show win0_7.index t 0 * 512 + 1 * (0 + 1 * r.val) = r.val; rw [(hi t).1]; omega
  | ⟨1, _⟩ => show win0_7.index t 1 * 1024 + 1 * (0 + 1 * k.val) = k.val; rw [(hi t).2]; omega

theorem blk8 (c : Dev nD) (t : Fin cfg0.N) (r : Fin 1024) (k : Fin 1024) :
    View.ld (iblk m c 8 t) r0_5 (ix2 r k) = m ((c : Thread nD τ).loc main_arg8) (ix2 r k) := by
  have hi : ∀ t : Fin cfg0.N, win0_8.index t 0 = 0 ∧ win0_8.index t 1 = 0 :=
    (by decide +kernel : ∀ t : Fin grid0.N, win0_8.index t 0 = 0 ∧ win0_8.index t 1 = 0)
  show iblk m c 8 t ((r0_5).emb (ix2 r k)) = _
  unfold iblk
  rw [View.read_apply]
  show V m c main_v3 _ = m (c.tc.loc main_arg8) _
  rw [V_v3]
  congr 1
  funext a
  apply Fin.ext
  match a with
  | ⟨0, _⟩ => show win0_8.index t 0 * 1024 + 1 * (0 + 1 * r.val) = r.val; rw [(hi t).1]; omega
  | ⟨1, _⟩ => show win0_8.index t 1 * 1024 + 1 * (0 + 1 * k.val) = k.val; rw [(hi t).2]; omega

/-- The result, entry by entry, as a function of the argument arrays. -/
def G (c : Dev nD) : S16384x1024.Idx → EReal := fun i =>
  entry (fun k => m ((c : Thread nD τ).loc main_arg0) (ix2 (i 0) k)) (fun k => m ((c : Thread nD τ).loc main_arg1) (ix2 (i 0) k))
    (fun k => m ((c : Thread nD τ).loc main_arg2) (ix2 (i 0) k))
    (fun k => m ((c : Thread nD τ).loc main_arg3) (ix2 (i 0) ⟨k.val, by omega⟩))
    (fun k => m ((c : Thread nD τ).loc main_arg3) (ix2 (i 0) ⟨1024 + k.val, by omega⟩))
    (fun k => m ((c : Thread nD τ).loc main_arg3) (ix2 (i 0) ⟨2048 + k.val, by omega⟩))
    (fun k q => m ((c : Thread nD τ).loc main_arg5) (ix2 k q)) (fun k q => m ((c : Thread nD τ).loc main_arg6) (ix2 k q))
    (fun k q => m ((c : Thread nD τ).loc main_arg7) (ix2 k q)) (fun k => m ((c : Thread nD τ).loc main_arg8) (ix2 k (i 1)))
    (m ((c : Thread nD τ).loc main_arg4) (ix2 (i 0) (i 1)))

theorem flushed_eq (c : Dev nD) (t : Fin cfg0.N) :
    (dats m 0 c).flushed 9 t = (win0_9.blk t).view.read (Elt Ideal) (G m c) := by
  rw [Value.flushed9]
  funext j
  rw [View.read_apply]
  show out0_9 (iblk m c 0 t) (iblk m c 1 t) (iblk m c 2 t) (iblk m c 3 t) (iblk m c 4 t) (iblk m c 5 t) (iblk m c 6 t) (iblk m c 7 t) (iblk m c 8 t) j = _
  unfold out0_9
  rw [View.canon_unit_zero (by funext a; fin_cases a <;> rfl)]
  obtain ⟨r, q, rfl⟩ : ∃ (r : Fin 512) (q : Fin 1024), j = ix2 r q := ⟨j 0, j 1, eq_ix2 j⟩
  rw [pay_apply]
  simp only [blk0, blk1, blk2, blk3_0, blk3_1, blk3_2, blk4, blk5, blk6, blk7, blk8]
  have hi : ∀ t : Fin cfg0.N, win0_9.index t 0 = t.val ∧ win0_9.index t 1 = 0 :=
    (by decide +kernel : ∀ t : Fin grid0.N, win0_9.index t 0 = t.val ∧ win0_9.index t 1 = 0)
  have e : (win0_9.blk t).view.emb (ix2 r q) = (ix2 (row t r) q : S16384x1024.Idx) := by
    funext a
    apply Fin.ext
    match a with
    | ⟨0, _⟩ => show win0_9.index t 0 * 512 + 1 * r.val = t.val * 512 + r.val; rw [(hi t).1]; omega
    | ⟨1, _⟩ => show win0_9.index t 1 * 1024 + 1 * q.val = q.val; rw [(hi t).2]; omega
  rw [e]
  rfl

theorem mem_blk (t : Fin cfg0.N) (i : S16384x1024.Idx) :
    i ∈ ((cfg0.win 9).blk t).view.set ↔ t.val * 512 ≤ (i 0 : Nat) ∧ (i 0 : Nat) < t.val * 512 + 512 := by
  have e : ∀ t : Fin cfg0.N, win0_9.index t 0 = t.val ∧ win0_9.index t 1 = 0 :=
    (by decide +kernel : ∀ t : Fin grid0.N, win0_9.index t 0 = t.val ∧ win0_9.index t 1 = 0)
  show i ∈ ((View.whole main_v4).slice (win0_9.rect t)).set ↔ _
  rw [View.set_slice_whole, Rect.mem_set_unit]
  have h1 : (i 1 : Nat) < 1024 := (i 1).isLt
  refine ⟨fun h => ?_, fun h a => ?_⟩
  · have : win0_9.index t 0 * 512 ≤ (i 0 : Nat) ∧ (i 0 : Nat) < win0_9.index t 0 * 512 + 512 := h 0
    rw [(e t).1] at this; exact this
  · match a with
    | ⟨0, _⟩ => show win0_9.index t 0 * 512 ≤ (i 0 : Nat) ∧ (i 0 : Nat) < win0_9.index t 0 * 512 + 512
                rw [(e t).1]; exact h
    | ⟨1, _⟩ => show win0_9.index t 1 * 1024 ≤ (i 1 : Nat) ∧ (i 1 : Nat) < win0_9.index t 1 * 1024 + 1024
                rw [(e t).2, Nat.zero_mul, Nat.zero_add]; exact ⟨Nat.zero_le _, h1⟩

theorem cover (i : S16384x1024.Idx) :
    ∃ t : Fin cfg0.N, (cfg0.win 9).flush t = true ∧ i ∈ ((cfg0.win 9).blk t).view.set := by
  have h0 : (i 0 : Nat) < 16384 := (i 0).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  refine ⟨t, flush0_9 t, ?_⟩
  rw [mem_blk]
  omega

theorem final (c : Dev nD) : (dats m 0 c).arrAt 9 cfg0.N = G m c :=
  (dats m 0 c).arrAt_eq_of_cover 9 (G m c) (fun t _ => flushed_eq m c t) cover

end Cert.Proof.Merge

namespace Cert.Proof.MergeRef

open Cert.Reference3Ideal Cert.Reference3Ideal.Gen

/-- The reference's result is the same function of its arguments. -/
theorem entry_eq (a0 a1 a2 : FVec Ideal S16384x512 .bf16) (a3 : FVec Ideal S16384x3072 .f32) (a4 : FVec Ideal S16384x1024 .f32)
    (a5 a6 a7 : FVec Ideal S512x1024 .f32) (a8 : FVec Ideal S1024x1024 .f32) (r : Fin 16384) (q : Fin 1024) :
    (addf a4 (Host.dotGeneral dot_S16384x1024_S1024x1024_S16384x1024_1_0_0_1_n_n none (addf (addf (mulf (shapeCast _ (extractStridedSlice S16384x1x1024 ![0, 0, 0] (shapeCast _ a3 shapeCasts_S16384x3072_S16384x3x1024) slices_S16384x3x1024_S16384x1x1024_0_0_0) shapeCasts_S16384x1x1024_S16384x1024) (Host.dotGeneral dot_S16384x512_S512x1024_S16384x1024_1_0_0_1_n_n none (extf .f32 a0 bitsLt_bf16_f32) a5)) (mulf (shapeCast _ (extractStridedSlice S16384x1x1024 ![0, 1, 0] (shapeCast _ a3 shapeCasts_S16384x3072_S16384x3x1024) slices_S16384x3x1024_S16384x1x1024_0_1_0) shapeCasts_S16384x1x1024_S16384x1024) (Host.dotGeneral dot_S16384x512_S512x1024_S16384x1024_1_0_0_1_n_n none (extf .f32 a1 bitsLt_bf16_f32) a6))) (mulf (shapeCast _ (extractStridedSlice S16384x1x1024 ![0, 2, 0] (shapeCast _ a3 shapeCasts_S16384x3072_S16384x3x1024) slices_S16384x3x1024_S16384x1x1024_0_2_0) shapeCasts_S16384x1x1024_S16384x1024) (Host.dotGeneral dot_S16384x512_S512x1024_S16384x1024_1_0_0_1_n_n none (extf .f32 a2 bitsLt_bf16_f32) a7))) a8) : FVec Ideal S16384x1024 .f32) (ix2 r q)
      = Merge.entry (fun k => a0 (ix2 r k)) (fun k => a1 (ix2 r k)) (fun k => a2 (ix2 r k))
          (fun k => a3 (ix2 r ⟨k.val, by omega⟩)) (fun k => a3 (ix2 r ⟨1024 + k.val, by omega⟩)) (fun k => a3 (ix2 r ⟨2048 + k.val, by omega⟩))
          (fun k q => a5 (ix2 k q)) (fun k q => a6 (ix2 k q)) (fun k q => a7 (ix2 k q)) (fun k => a8 (ix2 k q)) (a4 (ix2 r q)) := by
  unfold Merge.entry
  pointwise

end Cert.Proof.MergeRef

namespace Cert.Proof.Merge

theorem algebraic : Cert.algebraic_Kernel3Ideal_Reference3Ideal := by
  intro m ρ m' ρ' _ hagree
  refine ⟨fun c => G m c, ?_, ?_⟩
  · exact (θ_run Cert.Kernel3Ideal.defs _ _).mono (fun _ h c => ⟨(h c).1.trans (final m c), (h c).2⟩)
      (Cert.Kernel3Ideal.Value.run_blocks (F := Ideal) m ρ)
  refine (θ_run Cert.Reference3Ideal.defs _ _).mono (fun _ h c => ⟨(h c).1.trans ?_, (h c).2⟩)
    (Cert.Reference3Ideal.Value.run (F := Ideal) m' ρ')
  obtain ⟨h0, h1, h2, h3, h4, h5, h6, h7, h8⟩ := hagree c
  rw [h0, h1, h2, h3, h4, h5, h6, h7, h8]
  funext i
  obtain ⟨r, q, rfl⟩ : ∃ (r : Fin 16384) (q : Fin 1024), i = ix2 r q := ⟨i 0, i 1, eq_ix2 i⟩
  exact MergeRef.entry_eq _ _ _ _ _ _ _ _ _ r q

theorem frame_k : Cert.quiescent_Kernel3 := fun m ρ _ => Cert.Kernel3.Gen.frame m ρ
theorem frame_ki : Cert.quiescent_Kernel3Ideal := fun m ρ _ => Cert.Kernel3Ideal.Gen.frame m ρ
theorem frame_r : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem preserves : Cert.preserves_Kernel3_Kernel3Ideal := trivial

end Cert.Proof.Merge
-- ==== Proof.ProjSpec.lean ====
/- The input projection (the call `inproj`): its results, entry by entry, as functions of the stream, the gains, the weights and
   the positions. A column of the projection is named by its number in the weights as the caller gives them.  -/
module

public import proofs.«01_k».proof.Proof.Gen.Kernel4Ideal.Frame
public import proofs.«01_k».proof.Proof.Row
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Proj

open Cert.Kernel4Ideal Cert.Kernel4Ideal.Gen

/-- Column `c` of the weights. -/
def Wn (W : FVec Ideal S1024x5912 .f32) (k : Fin 1024) (c : ℕ) : EReal := if h : c < 5912 then W (ix2 k ⟨c, h⟩) else 0

/-- Column `c` of token `n`'s projection. -/
def proj (X : FVec Ideal S16384x1024 .f32) (g : FVec Ideal S1024 .f32) (W : FVec Ideal S1024x5912 .f32) (n : Fin 16384) (c : ℕ) :
    EReal :=
  ∑ k : Fin 1024, normRow (fun k => X (ix2 n k)) (fun k => g (ix1 k)) k * Wn W k c

/-- The angles of the rotary embedding: a position times each of the eight inverse wavelengths. -/
def ang (p : Vec Ideal S8192 .i32) : FVec Ideal S8192x8 .f32 :=
  mulf (broadcastInDim S8192x8 ![0, 1] bcast_S8192x1_S8192x8_0_1
    (broadcastInDim S8192x1 ![0] bcast_S8192_S8192x1_0 (sitofp .f32 p)))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32)))
          (broadcastInDim S8 ![] bcast_S_S8 (constant S_ .f32 0x41800000#32))))))

/-- The position of token `n` in its sequence. -/
def pos (n : Fin 16384) : Fin 8192 := ⟨n.val % 8192, Nat.mod_lt _ (by norm_num)⟩

/-- The cosine of angle `i` at token `n`. -/
def cosA (p : Vec Ideal S8192 .i32) (n : Fin 16384) (i : ℕ) : EReal := if h : i < 8 then Ideal.cos (ang p (ix2 (pos n) ⟨i, h⟩)) else 0

/-- The sine of angle `i` at token `n`. -/
def sinA (p : Vec Ideal S8192 .i32) (n : Fin 16384) (i : ℕ) : EReal := if h : i < 8 then Ideal.sin (ang p (ix2 (pos n) ⟨i, h⟩)) else 0

/-- The partial rotary embedding over heads of 64 lanes: lanes 0 to 7 and 8 to 15 of a head are rotated as pairs, the others
    are kept. -/
def rotL (z C S : ℕ → EReal) (c : ℕ) : EReal :=
  if c % 64 < 8 then z c * C (c % 64) - z (c + 8) * S (c % 64)
  else if c % 64 < 16 then z c * C (c % 64 - 8) + z (c - 8) * S (c % 64 - 8)
  else z c

variable (X : FVec Ideal S16384x1024 .f32) (g : FVec Ideal S1024 .f32) (W : FVec Ideal S1024x5912 .f32) (p : Vec Ideal S8192 .i32)

/-- The gated values of the convolution branch. -/
def aG (n : Fin 16384) (j : ℕ) : EReal := proj X g W n j * Ideal.logistic (proj X g W n (512 + j))

/-- The values of the pooling branch. -/
def zbG (n : Fin 16384) (j : ℕ) : EReal := proj X g W n (1024 + j)

/-- The rotated, scaled queries. -/
def qG (n : Fin 16384) (j : ℕ) : EReal :=
  rotL (fun c => proj X g W n (1536 + c)) (cosA p n) (sinA p n) j * Ideal.ofBits .f32 0x3E38AA3B#32

/-- What of the queries their first half leaves. -/
def qlG (n : Fin 16384) (j : ℕ) : EReal := qG X g W p n j - qG X g W p n j

/-- The keys and values of the three attention branches, by blocks of 128 columns: the keys (the even blocks) rotated. -/
def kvG (n : Fin 16384) (j : ℕ) : EReal :=
  if j / 128 % 2 = 0 then rotL (fun c => proj X g W n (2048 + c)) (cosA p n) (sinA p n) j else proj X g W n (2048 + j)

/-- The branch gates of the attention, padded. -/
def ngG (n : Fin 16384) (j : ℕ) : EReal := Ideal.logistic (if j < 24 then proj X g W n (2816 + j) else 0)

/-- The merge gates. -/
def mgG (n : Fin 16384) (j : ℕ) : EReal := Ideal.logistic (proj X g W n (2840 + j))

end Cert.Proof.Proj

end
-- ==== Proof.ProjTile.lean ====
/- The input projection: what the kernel computes from a tile's blocks, entry by entry.  -/
module

public import proofs.«01_k».proof.Proof.ProjSpec

@[expose] public section

set_option maxRecDepth 16384

noncomputable section

open Idealize.ShloMosaic Idealize.ShloMosaic.TcCoe Idealize.SL.Sem
open Idealize.ShloMosaic.Pipeline (Dat)

namespace Cert.Proof.Proj

open Cert.Kernel4Ideal Cert.Kernel4Ideal.Gen

theorem pay5_apply (x : Vec Ideal S512x1024 .f32) (g : Vec Ideal S1x1024 .f32) (r : Fin 512) (k : Fin 1024) :
    k0_pay5 (F := Ideal) x g (ix2 r k) = normRow (fun k => x (ix2 r k)) (fun k => g (ix2 0 k)) k := by
  unfold k0_pay5 normRow
  pointwise

/-- One lane of the rotation as the kernel computes it: the lane and the lanes eight after and eight before it, around the end,
    each times its table. -/
def ropeL (u : Fin 128 → EReal) (c s d : EReal) (l : Fin 128) : EReal :=
  u l * c + u ⟨(l.val + 128 - 120) % 128, Nat.mod_lt _ (by norm_num)⟩ * s + u ⟨(l.val + 128 - 8) % 128, Nat.mod_lt _ (by norm_num)⟩ * d

/-- With the tables of a head's lanes, that is the partial rotary embedding. -/
theorem ropeL_eq (z C S : ℕ → EReal) (o : ℕ) (ho : o % 64 = 0) (l : Fin 128) :
    ropeL (fun l => z (o + l.val)) (if l.val % 64 < 8 then C (l.val % 64) else if l.val % 64 < 16 then C (l.val % 64 - 8) else 1)
      (if l.val % 64 < 8 then - S (l.val % 64) else 0)
      (if l.val % 64 < 8 then 0 else if l.val % 64 < 16 then S (l.val % 64 - 8) else 0) l = rotL z C S (o + l.val) := by
  have hl := l.isLt
  have e : (o + l.val) % 64 = l.val % 64 := by omega
  unfold ropeL rotL
  simp only [e]
  by_cases h1 : l.val % 64 < 8
  · have a : o + (l.val + 128 - 120) % 128 = o + l.val + 8 := by omega
    simp only [if_pos h1, a, mul_neg, mul_zero, add_zero, sub_eq_add_neg]
  · by_cases h2 : l.val % 64 < 16
    · have a : o + (l.val + 128 - 8) % 128 = o + l.val - 8 := by omega
      simp only [if_neg h1, if_pos h2, a, mul_zero, add_zero]
    · simp only [if_neg h1, if_neg h2, mul_one, mul_zero, add_zero]

section
variable (h : FVec Ideal S512x1024 .bf16) (c s d : FVec Ideal S512x128 .f32)

/-- The product of a row of the normalised stream and a column of a block of the weights. -/
def dotR (h : FVec Ideal S512x1024 .bf16) (w : Fin 1024 → EReal) (r : Fin 512) : EReal := ∑ k : Fin 1024, h (ix2 r k) * w k

theorem a_apply (x : Vec Ideal S512x1024 .f32) (g : Vec Ideal S1x1024 .f32) (w : Vec Ideal S1024x1024 .bf16) (r : Fin 512) (l : Fin 512) :
    k0_pay6 (F := Ideal) x g w (ix2 r l)
      = dotR (k0_pay5 x g) (fun k => w (ix2 k ⟨0 + l.val, by omega⟩)) r * Ideal.logistic (dotR (k0_pay5 x g) (fun k => w (ix2 k ⟨512 + l.val, by omega⟩)) r) := by
  unfold k0_pay6 dotR
  generalize k0_pay5 x g = y
  simp only [Nat.zero_add]
  pointwise

theorem zb_apply (x : Vec Ideal S512x1024 .f32) (g : Vec Ideal S1x1024 .f32) (w : Vec Ideal S1024x512 .bf16) (r : Fin 512) (l : Fin 512) :
    k0_pay7 (F := Ideal) x g w (ix2 r l)
      = dotR (k0_pay5 x g) (fun k => w (ix2 k l)) r := by
  unfold k0_pay7 dotR
  generalize k0_pay5 x g = y
  pointwise

theorem ng_apply (w : Vec Ideal S1024x128 .bf16) (r : Fin 512) (l : Fin 128) :
    k0_pay3 (F := Ideal) h w (ix2 r l)
      = Ideal.logistic (dotR h (fun k => w (ix2 k l)) r) := by
  unfold k0_pay3 dotR
  pointwise

theorem mg_apply (w : Vec Ideal S1024x3072 .bf16) (r : Fin 512) (l : Fin 3072) :
    k0_pay4 (F := Ideal) h w (ix2 r l)
      = Ideal.logistic (dotR h (fun k => w (ix2 k l)) r) := by
  unfold k0_pay4 dotR
  pointwise

theorem q0_apply (w : Vec Ideal S1024x512 .bf16) (r : Fin 512) (l : Fin 128) :
    k0_pay12 (F := Ideal) h c s d w (ix2 r l)
      = ropeL (fun l => dotR h (fun k => w (ix2 k ⟨0 + l.val, by omega⟩)) r) (c (ix2 r l)) (s (ix2 r l)) (d (ix2 r l)) l * Ideal.ofBits .f32 0x3E38AA3B#32 := by
  unfold k0_pay12 k0_pay11 ropeL dotR
  simp only [Nat.zero_add]
  pointwise

theorem q1_apply (w : Vec Ideal S1024x512 .bf16) (r : Fin 512) (l : Fin 128) :
    k0_pay15 (F := Ideal) h c s d w (ix2 r l)
      = ropeL (fun l => dotR h (fun k => w (ix2 k ⟨128 + l.val, by omega⟩)) r) (c (ix2 r l)) (s (ix2 r l)) (d (ix2 r l)) l * Ideal.ofBits .f32 0x3E38AA3B#32 := by
  unfold k0_pay15 k0_pay11 ropeL dotR
  pointwise

theorem q2_apply (w : Vec Ideal S1024x512 .bf16) (r : Fin 512) (l : Fin 128) :
    k0_pay21 (F := Ideal) s d (k0_pay18 h w) (k0_pay19 h c w) (k0_pay20 h w) (ix2 r l)
      = ropeL (fun l => dotR h (fun k => w (ix2 k ⟨256 + l.val, by omega⟩)) r) (c (ix2 r l)) (s (ix2 r l)) (d (ix2 r l)) l * Ideal.ofBits .f32 0x3E38AA3B#32 := by
  unfold k0_pay21 k0_pay20 k0_pay19 k0_pay18 k0_pay11 ropeL dotR
  pointwise

theorem q3_apply (w : Vec Ideal S1024x512 .bf16) (r : Fin 512) (l : Fin 128) :
    k0_pay24 (F := Ideal) c s d (k0_pay11 h w) (ix2 r l)
      = ropeL (fun l => dotR h (fun k => w (ix2 k ⟨384 + l.val, by omega⟩)) r) (c (ix2 r l)) (s (ix2 r l)) (d (ix2 r l)) l * Ideal.ofBits .f32 0x3E38AA3B#32 := by
  unfold k0_pay24 k0_pay11 ropeL dotR
  pointwise

theorem kv0_apply (w : Vec Ideal S1024x768 .bf16) (r : Fin 512) (l : Fin 128) :
    k0_pay35 (F := Ideal) s d (k0_pay28 h w) (k0_pay34 h c w) 120#32 (ix2 r l)
      = ropeL (fun l => dotR h (fun k => w (ix2 k ⟨0 + l.val, by omega⟩)) r) (c (ix2 r l)) (s (ix2 r l)) (d (ix2 r l)) l := by
  unfold k0_pay35 k0_pay34 k0_pay28 k0_pay27 ropeL dotR
  simp only [Nat.zero_add]
  pointwise

theorem kv1_apply (w : Vec Ideal S1024x768 .bf16) (r : Fin 512) (l : Fin 128) :
    k0_pay29 (F := Ideal) h w (ix2 r l)
      = dotR h (fun k => w (ix2 k ⟨128 + l.val, by omega⟩)) r := by
  unfold k0_pay29 k0_pay27 dotR
  pointwise

theorem kv2_apply (w : Vec Ideal S1024x768 .bf16) (r : Fin 512) (l : Fin 128) :
    k0_pay36 (F := Ideal) c s d (k0_pay30 h w) (ix2 r l)
      = ropeL (fun l => dotR h (fun k => w (ix2 k ⟨256 + l.val, by omega⟩)) r) (c (ix2 r l)) (s (ix2 r l)) (d (ix2 r l)) l := by
  unfold k0_pay36 k0_pay30 k0_pay27 ropeL dotR
  pointwise

theorem kv3_apply (w : Vec Ideal S1024x768 .bf16) (r : Fin 512) (l : Fin 128) :
    k0_pay31 (F := Ideal) h w (ix2 r l)
      = dotR h (fun k => w (ix2 k ⟨384 + l.val, by omega⟩)) r := by
  unfold k0_pay31 k0_pay27 dotR
  pointwise

theorem kv4_apply (w : Vec Ideal S1024x768 .bf16) (r : Fin 512) (l : Fin 128) :
    k0_pay37 (F := Ideal) c s d (k0_pay32 h w) (ix2 r l)
      = ropeL (fun l => dotR h (fun k => w (ix2 k ⟨512 + l.val, by omega⟩)) r) (c (ix2 r l)) (s (ix2 r l)) (d (ix2 r l)) l := by
  unfold k0_pay37 k0_pay32 k0_pay27 ropeL dotR
  pointwise

theorem kv5_apply (w : Vec Ideal S1024x768 .bf16) (r : Fin 512) (l : Fin 128) :
    k0_pay33 (F := Ideal) h w (ix2 r l)
      = dotR h (fun k => w (ix2 k ⟨640 + l.val, by omega⟩)) r := by
  unfold k0_pay33 k0_pay27 dotR
  pointwise

end

end Cert.Proof.Proj

end
-- ==== Proof.ProjEntry.lean ====
/- The input projection: the arrays the kernel's tiles are cut from (the weights packed with the padded gate columns, and the
   rotary tables), and the blocks of a tile.  -/
module

public import proofs.«01_k».proof.Proof.ProjTile
public import proofs.«01_k».proof.Proof.Gen.Kernel4Ideal.Value
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Proof.Proj

open Cert.Kernel4Ideal Cert.Kernel4Ideal.Gen

/-- Column `c` of the packed weights: 24 gate columns are followed by 104 columns of zeros. -/
def Wp (W : FVec Ideal S1024x5912 .f32) (k : Fin 1024) (c : ℕ) : EReal :=
  if c < 2840 then Wn W k c else if c < 2944 then 0 else Wn W k (c - 104)

/-- The packed weights as the host lays them out. -/
def packed (W : FVec Ideal S1024x5912 .f32) : FVec Ideal S1024x6016 .bf16 :=
  truncf .bf16 (concatenate S1024x6016 1
    [⟨S1024x1024, extractStridedSlice S1024x1024 ![0, 0] W slices_S1024x5912_S1024x1024_0_0⟩,
     ⟨S1024x512, extractStridedSlice S1024x512 ![0, 1024] W slices_S1024x5912_S1024x512_0_1024⟩,
     ⟨S1024x512, extractStridedSlice S1024x512 ![0, 1536] W slices_S1024x5912_S1024x512_0_1536⟩,
     ⟨S1024x768, extractStridedSlice S1024x768 ![0, 2048] W slices_S1024x5912_S1024x768_0_2048⟩,
     ⟨S1024x128, pad S1024x128 ![0, 0] ![0, 104] ![0, 0]
       (extractStridedSlice S1024x24 ![0, 2816] W slices_S1024x5912_S1024x24_0_2816) (sitofp .f32 (constantI S_ 32 0#32))
       pads_S1024x24_S1024x128_000_01040 h_S_⟩,
     ⟨S1024x3072, extractStridedSlice S1024x3072 ![0, 2840] W slices_S1024x5912_S1024x3072_0_2840⟩]
    concatenates_S1024x1024_S1024x512_S1024x512_S1024x768_S1024x128_S1024x3072_S1024x6016_d1) bitsLt_bf16_f32

theorem packed_apply (W : FVec Ideal S1024x5912 .f32) (k : Fin 1024) (q : Fin 6016) : packed W (ix2 k q) = Wp W k q.val := by
  have hq := q.isLt
  have hz : (FloatOps.sitofp .f32 0#32 : Ideal .f32) = 0 := sitofp_zero
  have hw : ∀ (a : ℕ) (ha : a < 5912), a = q.val ∧ q.val < 2840 ∨ a + 104 = q.val ∧ 2944 ≤ q.val →
      W (ix2 k ⟨a, ha⟩) = Wp W k q.val := by
    intro a ha h
    unfold Wp
    rcases h with ⟨rfl, h⟩ | ⟨h, h'⟩
    · rw [if_pos h, Wn, dif_pos ha]
    · rw [if_neg (by omega), if_neg (by omega), Wn, dif_pos (by omega)]
      congr 2
      exact Fin.ext (by dsimp only; omega)
  have h0 : 2840 ≤ q.val → q.val < 2944 → (0 : EReal) = Wp W k q.val := fun h h' => by
    rw [Wp, if_neg (by omega), if_pos h']
  unfold packed
  pointwise
  split_ifs <;> first | (apply hw; omega) | exact hz.trans (h0 (by omega) (by omega)) | omega

/-- A table of 64 lanes, twice over, as the host lays it out. -/
def table (x : FVec Ideal S8192x64 .f32) : FVec Ideal S8192x128 .f32 :=
  shapeCast S8192x128 (broadcastInDim S1x8192x2x64 ![0, 1, 2, 3] bcast_S1x8192x1x64_S1x8192x2x64_0_1_2_3
    (shapeCast S1x8192x1x64 x shapeCasts_S8192x64_S1x8192x1x64)) shapeCasts_S1x8192x2x64_S8192x128

/-- A head's lanes: eight, eight, and forty-eight more. -/
def lanes (a b : FVec Ideal S8192x8 .f32) (r : FVec Ideal S8192x48 .f32) : FVec Ideal S8192x64 .f32 :=
  concatenate S8192x64 1 [⟨S8192x8, a⟩, ⟨S8192x8, b⟩, ⟨S8192x48, r⟩] concatenates_S8192x8_S8192x8_S8192x48_S8192x64_d1

theorem table_apply (a b : FVec Ideal S8192x8 .f32) (r : FVec Ideal S8192x48 .f32) (n : Fin 8192) (l : Fin 128) (A B R : ℕ → EReal)
    (hA : ∀ i : Fin 8, a (ix2 n i) = A i.val) (hB : ∀ i : Fin 8, b (ix2 n i) = B i.val) (hR : ∀ i : Fin 48, r (ix2 n i) = R i.val) :
    table (lanes a b r) (ix2 n l)
      = if l.val % 64 < 8 then A (l.val % 64) else if l.val % 64 < 16 then B (l.val % 64 - 8) else R (l.val % 64 - 16) := by
  have hl := l.isLt
  unfold table lanes
  pointwise
  simp only [hA, hB, hR]
  split_ifs <;> first | rfl | omega

variable (m : (ℓ : Loc nD τ sig) → Buf (Elt Ideal) ℓ) (c : Dev nD) (t : Fin cfg0.N)

abbrev Xm : FVec Ideal S16384x1024 .f32 := m ((c : Thread nD τ).loc main_arg0)
abbrev gm : FVec Ideal S1024 .f32 := m ((c : Thread nD τ).loc main_arg1)
abbrev Wm : FVec Ideal S1024x5912 .f32 := m ((c : Thread nD τ).loc main_arg2)
abbrev pm : Vec Ideal S8192 .i32 := m ((c : Thread nD τ).loc main_arg3)

theorem V_v8 : V m c main_v8 = packed (Wm m c) := by
  show StableHlo.after (List.flatten [hostOps0, hostOps0_1, hostOps0_2]) (fun b => m (c, b)) (Proc.devRef .tc main_v8) = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl

theorem V_v34 : V m c main_v34 = table (lanes (Host.cos (ang (pm m c))) (Host.cos (ang (pm m c))) (broadcastInDim S8192x48 ![] bcast_S_S8192x48 (constant S_ .f32 0x3F800000#32))) := by
  show StableHlo.after (List.flatten [hostOps0, hostOps0_1, hostOps0_2]) (fun b => m (c, b)) (Proc.devRef .tc main_v34) = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl

theorem V_v37 : V m c main_v37 = table (lanes (Host.negf (Host.sin (ang (pm m c)))) (broadcastInDim S8192x8 ![] bcast_S_S8192x8 (constant S_ .f32 0x00000000#32)) (broadcastInDim S8192x48 ![] bcast_S_S8192x48 (constant S_ .f32 0x00000000#32))) := by
  show StableHlo.after (List.flatten [hostOps0, hostOps0_1, hostOps0_2]) (fun b => m (c, b)) (Proc.devRef .tc main_v37) = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl

theorem V_v40 : V m c main_v40 = table (lanes (broadcastInDim S8192x8 ![] bcast_S_S8192x8 (constant S_ .f32 0x00000000#32)) (Host.sin (ang (pm m c))) (broadcastInDim S8192x48 ![] bcast_S_S8192x48 (constant S_ .f32 0x00000000#32))) := by
  show StableHlo.after (List.flatten [hostOps0, hostOps0_1, hostOps0_2]) (fun b => m (c, b)) (Proc.devRef .tc main_v40) = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl

theorem V_v41 : V m c main_v41 = (shapeCast S1x1024 (gm m c) shapeCasts_S1024_S1x1024 : FVec Ideal S1x1024 .f32) := by
  show StableHlo.after (List.flatten [hostOps0, hostOps0_1, hostOps0_2]) (fun b => m (c, b)) (Proc.devRef .tc main_v41) = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl

/-- Row `r` of tile `t` of the tokens. -/
def row (t : Fin cfg0.N) (r : Fin 512) : Fin 16384 := ⟨t.val * 512 + r.val, by
  have := t.isLt; have h : cfg0.N = 32 := N_0; omega⟩

theorem blk0 (r : Fin 512) (k : Fin 1024) : View.ld (iblk m c 0 t) r0_0 (ix2 r k) = Xm m c (ix2 (row t r) k) := by
  have hi : ∀ t : Fin cfg0.N, win0_0.index t 0 = t.val ∧ win0_0.index t 1 = 0 :=
    (by decide +kernel : ∀ t : Fin grid0.N, win0_0.index t 0 = t.val ∧ win0_0.index t 1 = 0)
  show iblk m c 0 t ((r0_0).emb (ix2 r k)) = _
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * (0 + 1 * r.val) = t.val * 512 + r.val; rw [(hi t).1]; omega
  | ⟨1, _⟩ => show win0_0.index t 1 * 1024 + 1 * (0 + 1 * k.val) = k.val; rw [(hi t).2]; omega

theorem blk1 (k : Fin 1024) : View.ld (iblk m c 1 t) r0_1 (ix2 0 k) = gm m c (ix1 k) := by
  have hi : ∀ t : Fin cfg0.N, win0_1.index t 0 = 0 ∧ win0_1.index t 1 = 0 :=
    (by decide +kernel : ∀ t : Fin grid0.N, win0_1.index t 0 = 0 ∧ win0_1.index t 1 = 0)
  have hV : (shapeCast S1x1024 (gm m c) shapeCasts_S1024_S1x1024 : FVec Ideal S1x1024 .f32) (ix2 0 k) = gm m c (ix1 k) := by
    pointwise
  show iblk m c 1 t ((r0_1).emb (ix2 0 k)) = _
  unfold iblk
  rw [View.read_apply, ← hV]
  show V m c main_v41 _ = _
  rw [V_v41]
  congr 1
  funext a
  apply Fin.ext
  match a with
  | ⟨0, _⟩ => show win0_1.index t 0 * 1 + 1 * (0 + 1 * 0) = 0; rw [(hi t).1]
  | ⟨1, _⟩ => show win0_1.index t 1 * 1024 + 1 * (0 + 1 * k.val) = k.val; rw [(hi t).2]; omega

/-- Every tile sees the packed weights whole. -/
theorem blk2 (k : Fin 1024) (q : Fin 6016) : iblk m c 2 t (ix2 k q) = Wp (Wm m c) k q.val := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply, ← packed_apply]
  show V m c main_v8 _ = _
  rw [V_v8]
  congr 1
  funext a
  apply Fin.ext
  match a with
  | ⟨0, _⟩ => show win0_2.index t 0 * 1024 + 1 * k.val = k.val; rw [(hi t).1]; omega
  | ⟨1, _⟩ => show win0_2.index t 1 * 6016 + 1 * q.val = q.val; rw [(hi t).2]; omega

theorem ld_r2 (k : Fin 1024) (j : Fin 1024) : View.ld (iblk m c 2 t) r0_2 (ix2 k j) = Wp (Wm m c) k (0 + j.val) := by
  have e : (r0_2).emb (ix2 k j) = (ix2 k ⟨0 + j.val, by omega⟩ : S1024x6016.Idx) := by
    funext a
    apply Fin.ext
    match a with
    | ⟨0, _⟩ => show 0 + 1 * k.val = k.val; omega
    | ⟨1, _⟩ => show 0 + 1 * j.val = 0 + j.val; omega
  show iblk m c 2 t ((r0_2).emb (ix2 k j)) = _
  rw [e]
  exact blk2 m c t k _

theorem ld_r4 (k : Fin 1024) (j : Fin 512) : View.ld (iblk m c 2 t) r0_4 (ix2 k j) = Wp (Wm m c) k (1024 + j.val) := by
  have e : (r0_4).emb (ix2 k j) = (ix2 k ⟨1024 + j.val, by omega⟩ : S1024x6016.Idx) := by
    funext a
    apply Fin.ext
    match a with
    | ⟨0, _⟩ => show 0 + 1 * k.val = k.val; omega
    | ⟨1, _⟩ => show 1024 + 1 * j.val = 1024 + j.val; omega
  show iblk m c 2 t ((r0_4).emb (ix2 k j)) = _
  rw [e]
  exact blk2 m c t k _

theorem ld_r6 (k : Fin 1024) (j : Fin 512) : View.ld (iblk m c 2 t) r0_6 (ix2 k j) = Wp (Wm m c) k (1536 + j.val) := by
  have e : (r0_6).emb (ix2 k j) = (ix2 k ⟨1536 + j.val, by omega⟩ : S1024x6016.Idx) := by
    funext a
    apply Fin.ext
    match a with
    | ⟨0, _⟩ => show 0 + 1 * k.val = k.val; omega
    | ⟨1, _⟩ => show 1536 + 1 * j.val = 1536 + j.val; omega
  show iblk m c 2 t ((r0_6).emb (ix2 k j)) = _
  rw [e]
  exact blk2 m c t k _

theorem ld_r11 (k : Fin 1024) (j : Fin 768) : View.ld (iblk m c 2 t) r0_11 (ix2 k j) = Wp (Wm m c) k (2048 + j.val) := by
  have e : (r0_11).emb (ix2 k j) = (ix2 k ⟨2048 + j.val, by omega⟩ : S1024x6016.Idx) := by
    funext a
    apply Fin.ext
    match a with
    | ⟨0, _⟩ => show 0 + 1 * k.val = k.val; omega
    | ⟨1, _⟩ => show 2048 + 1 * j.val = 2048 + j.val; omega
  show iblk m c 2 t ((r0_11).emb (ix2 k j)) = _
  rw [e]
  exact blk2 m c t k _

theorem ld_r14 (k : Fin 1024) (j : Fin 128) : View.ld (iblk m c 2 t) r0_14 (ix2 k j) = Wp (Wm m c) k (2816 + j.val) := by
  have e : (r0_14).emb (ix2 k j) = (ix2 k ⟨2816 + j.val, by omega⟩ : S1024x6016.Idx) := by
    funext a
    apply Fin.ext
    match a with
    | ⟨0, _⟩ => show 0 + 1 * k.val = k.val; omega
    | ⟨1, _⟩ => show 2816 + 1 * j.val = 2816 + j.val; omega
  show iblk m c 2 t ((r0_14).emb (ix2 k j)) = _
  rw [e]
  exact blk2 m c t k _

theorem ld_r15 (k : Fin 1024) (j : Fin 3072) : View.ld (iblk m c 2 t) r0_15 (ix2 k j) = Wp (Wm m c) k (2944 + j.val) := by
  have e : (r0_15).emb (ix2 k j) = (ix2 k ⟨2944 + j.val, by omega⟩ : S1024x6016.Idx) := by
    funext a
    apply Fin.ext
    match a with
    | ⟨0, _⟩ => show 0 + 1 * k.val = k.val; omega
    | ⟨1, _⟩ => show 2944 + 1 * j.val = 2944 + j.val; omega
  show iblk m c 2 t ((r0_15).emb (ix2 k j)) = _
  rw [e]
  exact blk2 m c t k _

theorem blk3 (r : Fin 512) (l : Fin 128) : View.ld (iblk m c 3 t) r0_5 (ix2 r l)
    = if l.val % 64 < 8 then cosA (pm m c) (row t r) (l.val % 64) else if l.val % 64 < 16 then cosA (pm m c) (row t r) (l.val % 64 - 8) else 1 := by
  have hi : ∀ t : Fin cfg0.N, win0_3.index t 0 = t.val % 16 ∧ win0_3.index t 1 = 0 :=
    (by decide +kernel : ∀ t : Fin grid0.N, win0_3.index t 0 = t.val % 16 ∧ win0_3.index t 1 = 0)
  have e : View.ld (iblk m c 3 t) r0_5 (ix2 r l) = V m c main_v34 (ix2 (pos (row t r)) l : S8192x128.Idx) := by
    show iblk m c 3 t ((r0_5).emb (ix2 r l)) = _
    unfold iblk
    rw [View.read_apply]
    show V m c main_v34 _ = _
    congr 1
    funext a
    apply Fin.ext
    match a with
    | ⟨0, _⟩ => show win0_3.index t 0 * 512 + 1 * (0 + 1 * r.val) = (t.val * 512 + r.val) % 8192; rw [(hi t).1]; omega
    | ⟨1, _⟩ => show win0_3.index t 1 * 128 + 1 * (0 + 1 * l.val) = l.val; rw [(hi t).2]; omega
  rw [e, V_v34]
  exact (table_apply _ _ _ (pos (row t r)) l (cosA (pm m c) (row t r)) (cosA (pm m c) (row t r)) (fun _ => 1)
    (fun i => by unfold cosA; rw [dif_pos i.isLt]; rfl) (fun i => by unfold cosA; rw [dif_pos i.isLt]; rfl) (fun i => by pointwise)).trans rfl

theorem blk4 (r : Fin 512) (l : Fin 128) : View.ld (iblk m c 4 t) r0_5 (ix2 r l)
    = if l.val % 64 < 8 then - sinA (pm m c) (row t r) (l.val % 64) else 0 := by
  have hi : ∀ t : Fin cfg0.N, win0_4.index t 0 = t.val % 16 ∧ win0_4.index t 1 = 0 :=
    (by decide +kernel : ∀ t : Fin grid0.N, win0_4.index t 0 = t.val % 16 ∧ win0_4.index t 1 = 0)
  have e : View.ld (iblk m c 4 t) r0_5 (ix2 r l) = V m c main_v37 (ix2 (pos (row t r)) l : S8192x128.Idx) := by
    show iblk m c 4 t ((r0_5).emb (ix2 r l)) = _
    unfold iblk
    rw [View.read_apply]
    show V m c main_v37 _ = _
    congr 1
    funext a
    apply Fin.ext
    match a with
    | ⟨0, _⟩ => show win0_4.index t 0 * 512 + 1 * (0 + 1 * r.val) = (t.val * 512 + r.val) % 8192; rw [(hi t).1]; omega
    | ⟨1, _⟩ => show win0_4.index t 1 * 128 + 1 * (0 + 1 * l.val) = l.val; rw [(hi t).2]; omega
  rw [e, V_v37]
  refine (table_apply _ _ _ (pos (row t r)) l (fun i => - sinA (pm m c) (row t r) i) (fun _ => 0) (fun _ => 0)
    (fun i => by unfold sinA; rw [dif_pos i.isLt]; rfl) (fun i => by pointwise) (fun i => by pointwise)).trans ?_
  split_ifs <;> rfl

theorem blk5 (r : Fin 512) (l : Fin 128) : View.ld (iblk m c 5 t) r0_5 (ix2 r l)
    = if l.val % 64 < 8 then 0 else if l.val % 64 < 16 then sinA (pm m c) (row t r) (l.val % 64 - 8) else 0 := by
  have hi : ∀ t : Fin cfg0.N, win0_5.index t 0 = t.val % 16 ∧ win0_5.index t 1 = 0 :=
    (by decide +kernel : ∀ t : Fin grid0.N, win0_5.index t 0 = t.val % 16 ∧ win0_5.index t 1 = 0)
  have e : View.ld (iblk m c 5 t) r0_5 (ix2 r l) = V m c main_v40 (ix2 (pos (row t r)) l : S8192x128.Idx) := by
    show iblk m c 5 t ((r0_5).emb (ix2 r l)) = _
    unfold iblk
    rw [View.read_apply]
    show V m c main_v40 _ = _
    congr 1
    funext a
    apply Fin.ext
    match a with
    | ⟨0, _⟩ => show win0_5.index t 0 * 512 + 1 * (0 + 1 * r.val) = (t.val * 512 + r.val) % 8192; rw [(hi t).1]; omega
    | ⟨1, _⟩ => show win0_5.index t 1 * 128 + 1 * (0 + 1 * l.val) = l.val; rw [(hi t).2]; omega
  rw [e, V_v40]
  refine (table_apply _ _ _ (pos (row t r)) l (fun _ => 0) (sinA (pm m c) (row t r)) (fun _ => 0)
    (fun i => by pointwise) (fun i => by unfold sinA; rw [dif_pos i.isLt]; rfl) (fun i => by pointwise)).trans ?_
  split_ifs <;> rfl

end Cert.Proof.Proj

end
-- ==== Proof.ProjValue.lean ====
/- The input projection: each tile's results, and the arrays the kernel leaves, entry by entry.  -/
module

public import proofs.«01_k».proof.Proof.ProjEntry
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Proj

open Cert.Kernel4Ideal Cert.Kernel4Ideal.Gen

variable (m : (ℓ : Loc nD τ sig) → Buf (Elt Ideal) ℓ) (c : Dev nD) (t : Fin cfg0.N)

/-- The tile's normalised rows. -/
abbrev hT : FVec Ideal S512x1024 .bf16 := k0_pay40 (iblk m c 0 t) (iblk m c 1 t) (iblk m c 2 t) (iblk m c 3 t) (iblk m c 4 t) (iblk m c 5 t)

theorem dot_eq (w : Fin 1024 → EReal) (r : Fin 512) : dotR (hT m c t) w r
    = ∑ k : Fin 1024, normRow (fun k => Xm m c (ix2 (row t r) k)) (fun k => gm m c (ix1 k)) k * w k := by
  refine Finset.sum_congr rfl fun k _ => ?_
  congr 1
  refine (pay5_apply (View.ld (iblk m c 0 t) r0_0) (View.ld (iblk m c 1 t) r0_1) r k).trans ?_
  simp only [blk0, blk1]

/-- The product with a column before the padding. -/
theorem dot_lo (w : Fin 1024 → EReal) (r : Fin 512) (q : ℕ) (hw : ∀ k, w k = Wp (Wm m c) k q) (hq : q < 2840) :
    dotR (hT m c t) w r = proj (Xm m c) (gm m c) (Wm m c) (row t r) q := by
  rw [dot_eq]
  refine Finset.sum_congr rfl fun k _ => ?_
  rw [hw, Wp, if_pos hq]

/-- The product with a column of the padding. -/
theorem dot_pad (w : Fin 1024 → EReal) (r : Fin 512) (q : ℕ) (hw : ∀ k, w k = Wp (Wm m c) k q) (hq : 2840 ≤ q) (hq' : q < 2944) :
    dotR (hT m c t) w r = 0 := by
  rw [dot_eq]
  refine Finset.sum_eq_zero fun k _ => ?_
  rw [hw, Wp, if_neg (by omega), if_pos hq', mul_zero]

/-- The product with a column after the padding. -/
theorem dot_hi (w : Fin 1024 → EReal) (r : Fin 512) (q : ℕ) (hw : ∀ k, w k = Wp (Wm m c) k q) (hq : 2944 ≤ q) :
    dotR (hT m c t) w r = proj (Xm m c) (gm m c) (Wm m c) (row t r) (q - 104) := by
  rw [dot_eq]
  refine Finset.sum_congr rfl fun k _ => ?_
  rw [hw, Wp, if_neg (by omega), if_neg (by omega)]

theorem same_apply (v : Vec Ideal S512x128 .f32) (r : Fin 512) (l : Fin 128) : k0_pay8 (F := Ideal) v (ix2 r l) = v (ix2 r l) := by
  unfold k0_pay8
  pointwise

/-- A block of 128 columns rotated with the tile's tables. -/
theorem rope_tile (r : Fin 512) (l : Fin 128) (b o : ℕ) (ho : o % 64 = 0) (hb : b + o + 128 ≤ 2840) (w : Fin 1024 → Fin 128 → EReal)
    (hw : ∀ k l, w k l = Wp (Wm m c) k (b + (o + l.val))) :
    ropeL (fun l => dotR (hT m c t) (fun k => w k l) r) ((k0_pay41 (iblk m c 0 t) (iblk m c 1 t) (iblk m c 2 t) (iblk m c 3 t) (iblk m c 4 t) (iblk m c 5 t)) (ix2 r l)) ((k0_pay42 (iblk m c 0 t) (iblk m c 1 t) (iblk m c 2 t) (iblk m c 3 t) (iblk m c 4 t) (iblk m c 5 t)) (ix2 r l)) ((k0_pay43 (iblk m c 0 t) (iblk m c 1 t) (iblk m c 2 t) (iblk m c 3 t) (iblk m c 4 t) (iblk m c 5 t)) (ix2 r l)) l
      = rotL (fun q => proj (Xm m c) (gm m c) (Wm m c) (row t r) (b + q)) (cosA (pm m c) (row t r)) (sinA (pm m c) (row t r)) (o + l.val) := by
  have hu : ∀ l : Fin 128, dotR (hT m c t) (fun k => w k l) r = proj (Xm m c) (gm m c) (Wm m c) (row t r) (b + (o + l.val)) := fun l =>
    dot_lo m c t _ r _ (fun k => hw k l) (by have := l.isLt; omega)
  have h3 : (k0_pay41 (iblk m c 0 t) (iblk m c 1 t) (iblk m c 2 t) (iblk m c 3 t) (iblk m c 4 t) (iblk m c 5 t)) (ix2 r l) = _ := (same_apply _ r l).trans (blk3 m c t r l)
  have h4 : (k0_pay42 (iblk m c 0 t) (iblk m c 1 t) (iblk m c 2 t) (iblk m c 3 t) (iblk m c 4 t) (iblk m c 5 t)) (ix2 r l) = _ := (same_apply _ r l).trans (blk4 m c t r l)
  have h5 : (k0_pay43 (iblk m c 0 t) (iblk m c 1 t) (iblk m c 2 t) (iblk m c 3 t) (iblk m c 4 t) (iblk m c 5 t)) (ix2 r l) = _ := (same_apply _ r l).trans (blk5 m c t r l)
  rw [h3, h4, h5]
  simp only [hu]
  exact ropeL_eq (fun q => proj (Xm m c) (gm m c) (Wm m c) (row t r) (b + q)) _ _ o ho l

theorem q_tile0 (r : Fin 512) (l : Fin 128) :
    k0_pay12 (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_6) (ix2 r l) = qG (Xm m c) (gm m c) (Wm m c) (pm m c) (row t r) (0 + l.val) :=
  (q0_apply (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_6) r l).trans
    (congrArg (· * Ideal.ofBits .f32 0x3E38AA3B#32) (rope_tile m c t r l 1536 0 (by norm_num) (by norm_num) _ fun k l => ld_r6 m c t k _))

theorem q_tile1 (r : Fin 512) (l : Fin 128) :
    k0_pay15 (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_6) (ix2 r l) = qG (Xm m c) (gm m c) (Wm m c) (pm m c) (row t r) (128 + l.val) :=
  (q1_apply (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_6) r l).trans
    (congrArg (· * Ideal.ofBits .f32 0x3E38AA3B#32) (rope_tile m c t r l 1536 128 (by norm_num) (by norm_num) _ fun k l => ld_r6 m c t k _))

theorem q_tile2 (r : Fin 512) (l : Fin 128) :
    k0_pay21 (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (k0_pay45 (iblk m c 0 t) (iblk m c 1 t) (iblk m c 2 t) (iblk m c 3 t) (iblk m c 4 t) (iblk m c 5 t)) (k0_pay46 (iblk m c 0 t) (iblk m c 1 t) (iblk m c 2 t) (iblk m c 3 t) (iblk m c 4 t) (iblk m c 5 t)) (k0_pay47 (iblk m c 0 t) (iblk m c 1 t) (iblk m c 2 t) (iblk m c 3 t) (iblk m c 4 t) (iblk m c 5 t)) (ix2 r l) = qG (Xm m c) (gm m c) (Wm m c) (pm m c) (row t r) (256 + l.val) :=
  (q2_apply (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_6) r l).trans
    (congrArg (· * Ideal.ofBits .f32 0x3E38AA3B#32) (rope_tile m c t r l 1536 256 (by norm_num) (by norm_num) _ fun k l => ld_r6 m c t k _))

theorem q_tile3 (r : Fin 512) (l : Fin 128) :
    k0_pay24 (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (k0_pay44 (iblk m c 0 t) (iblk m c 1 t) (iblk m c 2 t) (iblk m c 3 t) (iblk m c 4 t) (iblk m c 5 t)) (ix2 r l) = qG (Xm m c) (gm m c) (Wm m c) (pm m c) (row t r) (384 + l.val) :=
  (q3_apply (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_6) r l).trans
    (congrArg (· * Ideal.ofBits .f32 0x3E38AA3B#32) (rope_tile m c t r l 1536 384 (by norm_num) (by norm_num) _ fun k l => ld_r6 m c t k _))

/-- The second half of a value split in two. -/
theorem low_apply (v : FVec Ideal S512x128 .f32) (r : Fin 512) (l : Fin 128) :
    (truncf .bf16 (subf v (extf .f32 (truncf .bf16 v bitsLt_bf16_f32 : FVec Ideal S512x128 .bf16) bitsLt_bf16_f32)) bitsLt_bf16_f32 :
      FVec Ideal S512x128 .bf16) (ix2 r l) = v (ix2 r l) - v (ix2 r l) := rfl

theorem ql_tile0 (r : Fin 512) (l : Fin 128) :
    k0_pay14 (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_6) (ix2 r l) = qlG (Xm m c) (gm m c) (Wm m c) (pm m c) (row t r) (0 + l.val) := by
  unfold k0_pay14 k0_pay13 qlG
  refine (low_apply _ r l).trans ?_
  rw [q_tile0]

theorem ql_tile1 (r : Fin 512) (l : Fin 128) :
    k0_pay17 (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_6) (ix2 r l) = qlG (Xm m c) (gm m c) (Wm m c) (pm m c) (row t r) (128 + l.val) := by
  unfold k0_pay17 k0_pay16 qlG
  refine (low_apply _ r l).trans ?_
  rw [q_tile1]

theorem ql_tile2 (r : Fin 512) (l : Fin 128) :
    k0_pay23 (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (k0_pay45 (iblk m c 0 t) (iblk m c 1 t) (iblk m c 2 t) (iblk m c 3 t) (iblk m c 4 t) (iblk m c 5 t)) (k0_pay46 (iblk m c 0 t) (iblk m c 1 t) (iblk m c 2 t) (iblk m c 3 t) (iblk m c 4 t) (iblk m c 5 t)) (k0_pay47 (iblk m c 0 t) (iblk m c 1 t) (iblk m c 2 t) (iblk m c 3 t) (iblk m c 4 t) (iblk m c 5 t)) (ix2 r l) = qlG (Xm m c) (gm m c) (Wm m c) (pm m c) (row t r) (256 + l.val) := by
  unfold k0_pay23 k0_pay22 qlG
  refine (low_apply _ r l).trans ?_
  rw [q_tile2]

theorem ql_tile3 (r : Fin 512) (l : Fin 128) :
    k0_pay26 (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (k0_pay44 (iblk m c 0 t) (iblk m c 1 t) (iblk m c 2 t) (iblk m c 3 t) (iblk m c 4 t) (iblk m c 5 t)) (ix2 r l) = qlG (Xm m c) (gm m c) (Wm m c) (pm m c) (row t r) (384 + l.val) := by
  unfold k0_pay26 k0_pay25 qlG
  refine (low_apply _ r l).trans ?_
  rw [q_tile3]

theorem kv_tile0 (r : Fin 512) (l : Fin 128) :
    k0_pay35 (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (k0_pay48 (iblk m c 0 t) (iblk m c 1 t) (iblk m c 2 t) (iblk m c 3 t) (iblk m c 4 t) (iblk m c 5 t)) (k0_pay53 (iblk m c 0 t) (iblk m c 1 t) (iblk m c 2 t) (iblk m c 3 t) (iblk m c 4 t) (iblk m c 5 t)) 120#32 (ix2 r l) = kvG (Xm m c) (gm m c) (Wm m c) (pm m c) (row t r) (0 + l.val) := by
  rw [kvG, if_pos (by omega)]
  exact (kv0_apply (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_11) r l).trans (rope_tile m c t r l 2048 0 (by norm_num) (by norm_num) _ fun k l => ld_r11 m c t k _)

theorem kv_tile1 (r : Fin 512) (l : Fin 128) :
    (k0_pay49 (iblk m c 0 t) (iblk m c 1 t) (iblk m c 2 t) (iblk m c 3 t) (iblk m c 4 t) (iblk m c 5 t)) (ix2 r l) = kvG (Xm m c) (gm m c) (Wm m c) (pm m c) (row t r) (128 + l.val) := by
  rw [kvG, if_neg (by omega)]
  exact (kv1_apply (hT m c t) (View.ld (iblk m c 2 t) r0_11) r l).trans (dot_lo m c t _ r (2048 + (128 + l.val)) (fun k => ld_r11 m c t k _) (by omega))

theorem kv_tile2 (r : Fin 512) (l : Fin 128) :
    k0_pay36 (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (k0_pay50 (iblk m c 0 t) (iblk m c 1 t) (iblk m c 2 t) (iblk m c 3 t) (iblk m c 4 t) (iblk m c 5 t)) (ix2 r l) = kvG (Xm m c) (gm m c) (Wm m c) (pm m c) (row t r) (256 + l.val) := by
  rw [kvG, if_pos (by omega)]
  exact (kv2_apply (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_11) r l).trans (rope_tile m c t r l 2048 256 (by norm_num) (by norm_num) _ fun k l => ld_r11 m c t k _)

theorem kv_tile3 (r : Fin 512) (l : Fin 128) :
    (k0_pay51 (iblk m c 0 t) (iblk m c 1 t) (iblk m c 2 t) (iblk m c 3 t) (iblk m c 4 t) (iblk m c 5 t)) (ix2 r l) = kvG (Xm m c) (gm m c) (Wm m c) (pm m c) (row t r) (384 + l.val) := by
  rw [kvG, if_neg (by omega)]
  exact (kv3_apply (hT m c t) (View.ld (iblk m c 2 t) r0_11) r l).trans (dot_lo m c t _ r (2048 + (384 + l.val)) (fun k => ld_r11 m c t k _) (by omega))

theorem kv_tile4 (r : Fin 512) (l : Fin 128) :
    (k0_pay54 (iblk m c 0 t) (iblk m c 1 t) (iblk m c 2 t) (iblk m c 3 t) (iblk m c 4 t) (iblk m c 5 t)) (ix2 r l) = kvG (Xm m c) (gm m c) (Wm m c) (pm m c) (row t r) (512 + l.val) := by
  rw [kvG, if_pos (by omega)]
  exact (kv4_apply (hT m c t) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (k0_pay43 (iblk m c 0 t) (iblk m c 1 t) (iblk m c 2 t) (iblk m c 3 t) (iblk m c 4 t) (iblk m c 5 t)) (View.ld (iblk m c 2 t) r0_11) r l).trans (rope_tile m c t r l 2048 512 (by norm_num) (by norm_num) _ fun k l => ld_r11 m c t k _)

theorem kv_tile5 (r : Fin 512) (l : Fin 128) :
    (k0_pay52 (iblk m c 0 t) (iblk m c 1 t) (iblk m c 2 t) (iblk m c 3 t) (iblk m c 4 t) (iblk m c 5 t)) (ix2 r l) = kvG (Xm m c) (gm m c) (Wm m c) (pm m c) (row t r) (640 + l.val) := by
  rw [kvG, if_neg (by omega)]
  exact (kv5_apply (hT m c t) (View.ld (iblk m c 2 t) r0_11) r l).trans (dot_lo m c t _ r (2048 + (640 + l.val)) (fun k => ld_r11 m c t k _) (by omega))

theorem emb_r7 (r : Fin 512) (l : Fin 128) : (r0_7).emb (ix2 r l) = (ix2 r ⟨0 + l.val, by omega⟩ : S512x512.Idx) := by
  funext a
  apply Fin.ext
  match a with
  | ⟨0, _⟩ => show 0 + 1 * r.val = r.val; omega
  | ⟨1, _⟩ => show 0 + 1 * l.val = 0 + l.val; omega

theorem emb_r8 (r : Fin 512) (l : Fin 128) : (r0_8).emb (ix2 r l) = (ix2 r ⟨128 + l.val, by omega⟩ : S512x512.Idx) := by
  funext a
  apply Fin.ext
  match a with
  | ⟨0, _⟩ => show 0 + 1 * r.val = r.val; omega
  | ⟨1, _⟩ => show 128 + 1 * l.val = 128 + l.val; omega

theorem emb_r9 (r : Fin 512) (l : Fin 128) : (r0_9).emb (ix2 r l) = (ix2 r ⟨256 + l.val, by omega⟩ : S512x512.Idx) := by
  funext a
  apply Fin.ext
  match a with
  | ⟨0, _⟩ => show 0 + 1 * r.val = r.val; omega
  | ⟨1, _⟩ => show 256 + 1 * l.val = 256 + l.val; omega

theorem emb_r10 (r : Fin 512) (l : Fin 128) : (r0_10).emb (ix2 r l) = (ix2 r ⟨384 + l.val, by omega⟩ : S512x512.Idx) := by
  funext a
  apply Fin.ext
  match a with
  | ⟨0, _⟩ => show 0 + 1 * r.val = r.val; omega
  | ⟨1, _⟩ => show 384 + 1 * l.val = 384 + l.val; omega

theorem emb_r12 (r : Fin 512) (l : Fin 128) : (r0_12).emb (ix2 r l) = (ix2 r ⟨0 + l.val, by omega⟩ : S512x256.Idx) := by
  funext a
  apply Fin.ext
  match a with
  | ⟨0, _⟩ => show 0 + 1 * r.val = r.val; omega
  | ⟨1, _⟩ => show 0 + 1 * l.val = 0 + l.val; omega

theorem emb_r13 (r : Fin 512) (l : Fin 128) : (r0_13).emb (ix2 r l) = (ix2 r ⟨128 + l.val, by omega⟩ : S512x256.Idx) := by
  funext a
  apply Fin.ext
  match a with
  | ⟨0, _⟩ => show 0 + 1 * r.val = r.val; omega
  | ⟨1, _⟩ => show 128 + 1 * l.val = 128 + l.val; omega

theorem tile6 (j : S512x512.Idx) : out0_6 (iblk m c 0 t) (iblk m c 1 t) (iblk m c 2 t) (iblk m c 3 t) (iblk m c 4 t) (iblk m c 5 t) j = aG (Xm m c) (gm m c) (Wm m c) (row t (j 0)) (j 1).val := by
  unfold out0_6
  rw [View.canon_unit_zero (by funext a; fin_cases a <;> rfl)]
  obtain ⟨r, l, rfl⟩ : ∃ (r : Fin 512) (l : Fin 512), j = ix2 r l := ⟨j 0, j 1, eq_ix2 j⟩
  refine (a_apply (View.ld (iblk m c 0 t) r0_0) (View.ld (iblk m c 1 t) r0_1) (View.ld (iblk m c 2 t) r0_2) r l).trans
    ((congrArg₂ (fun a b => a * Ideal.logistic b) (dot_lo m c t _ r _ (fun k => ld_r2 m c t k _) ?_) (dot_lo m c t _ r _ (fun k => ld_r2 m c t k _) ?_)).trans ?_)
  · show 0 + (0 + l.val) < 2840; omega
  · show 0 + (512 + l.val) < 2840; omega
  · show proj (Xm m c) (gm m c) (Wm m c) (row t r) (0 + (0 + l.val)) * Ideal.logistic (proj (Xm m c) (gm m c) (Wm m c) (row t r) (0 + (512 + l.val))) = aG (Xm m c) (gm m c) (Wm m c) (row t r) l.val
    simp only [Nat.zero_add]
    rfl

/-- Result 0, entry by entry, as a function of the argument arrays. -/
def G6 : S16384x512.Idx → EReal := fun i => aG (Xm m c) (gm m c) (Wm m c) (i 0) (i 1).val

theorem flushed_eq6 : (dats m 0 c).flushed 6 t = (win0_6.blk t).view.read (Elt Ideal) (G6 m c) := by
  rw [Value.flushed6]
  funext j
  rw [View.read_apply]
  show out0_6 (iblk m c 0 t) (iblk m c 1 t) (iblk m c 2 t) (iblk m c 3 t) (iblk m c 4 t) (iblk m c 5 t) j = _
  obtain ⟨r, q, rfl⟩ : ∃ (r : Fin 512) (q : Fin 512), j = ix2 r q := ⟨j 0, j 1, eq_ix2 j⟩
  rw [tile6]
  have hi : ∀ t : Fin cfg0.N, win0_6.index t 0 = t.val ∧ win0_6.index t 1 = 0 :=
    (by decide +kernel : ∀ t : Fin grid0.N, win0_6.index t 0 = t.val ∧ win0_6.index t 1 = 0)
  have e : (win0_6.blk t).view.emb (ix2 r q) = (ix2 (row t r) q : S16384x512.Idx) := by
    funext a
    apply Fin.ext
    match a with
    | ⟨0, _⟩ => show win0_6.index t 0 * 512 + 1 * r.val = t.val * 512 + r.val; rw [(hi t).1]; omega
    | ⟨1, _⟩ => show win0_6.index t 1 * 512 + 1 * q.val = q.val; rw [(hi t).2]; omega
  rw [e]
  rfl

theorem final6 : (dats m 0 c).arrAt 6 cfg0.N = G6 m c := by
  refine (dats m 0 c).arrAt_eq_of_cover 6 (G6 m c) (fun t _ => flushed_eq6 m c t) fun i => ?_
  have h0 : (i 0 : Nat) < 16384 := (i 0).isLt
  have h1 : (i 1 : Nat) < 512 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_6.index t 0 = t.val ∧ win0_6.index t 1 = 0 :=
    (by decide +kernel : ∀ t : Fin grid0.N, win0_6.index t 0 = t.val ∧ win0_6.index t 1 = 0)
  refine ⟨t, flush0_6 t, ?_⟩
  show i ∈ ((View.whole main_v42_0).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512
              rw [(e t).1]; omega
  | ⟨1, _⟩ => show win0_6.index t 1 * 512 ≤ (i 1 : Nat) ∧ (i 1 : Nat) < win0_6.index t 1 * 512 + 512
              rw [(e t).2]; omega

theorem tile7 (j : S512x512.Idx) : out0_7 (iblk m c 0 t) (iblk m c 1 t) (iblk m c 2 t) (iblk m c 3 t) (iblk m c 4 t) (iblk m c 5 t) j = zbG (Xm m c) (gm m c) (Wm m c) (row t (j 0)) (j 1).val := by
  unfold out0_7
  rw [View.canon_unit_zero (by funext a; fin_cases a <;> rfl)]
  obtain ⟨r, l, rfl⟩ : ∃ (r : Fin 512) (l : Fin 512), j = ix2 r l := ⟨j 0, j 1, eq_ix2 j⟩
  exact (zb_apply (View.ld (iblk m c 0 t) r0_0) (View.ld (iblk m c 1 t) r0_1) (View.ld (iblk m c 2 t) r0_4) r l).trans
    (dot_lo m c t _ r (1024 + l.val) (fun k => ld_r4 m c t k _) (by omega))

/-- Result 1, entry by entry, as a function of the argument arrays. -/
def G7 : S16384x512.Idx → EReal := fun i => zbG (Xm m c) (gm m c) (Wm m c) (i 0) (i 1).val

theorem flushed_eq7 : (dats m 0 c).flushed 7 t = (win0_7.blk t).view.read (Elt Ideal) (G7 m c) := by
  rw [Value.flushed7]
  funext j
  rw [View.read_apply]
  show out0_7 (iblk m c 0 t) (iblk m c 1 t) (iblk m c 2 t) (iblk m c 3 t) (iblk m c 4 t) (iblk m c 5 t) j = _
  obtain ⟨r, q, rfl⟩ : ∃ (r : Fin 512) (q : Fin 512), j = ix2 r q := ⟨j 0, j 1, eq_ix2 j⟩
  rw [tile7]
  have hi : ∀ t : Fin cfg0.N, win0_7.index t 0 = t.val ∧ win0_7.index t 1 = 0 :=
    (by decide +kernel : ∀ t : Fin grid0.N, win0_7.index t 0 = t.val ∧ win0_7.index t 1 = 0)
  have e : (win0_7.blk t).view.emb (ix2 r q) = (ix2 (row t r) q : S16384x512.Idx) := by
    funext a
    apply Fin.ext
    match a with
    | ⟨0, _⟩ => show win0_7.index t 0 * 512 + 1 * r.val = t.val * 512 + r.val; rw [(hi t).1]; omega
    | ⟨1, _⟩ => show win0_7.index t 1 * 512 + 1 * q.val = q.val; rw [(hi t).2]; omega
  rw [e]
  rfl

theorem final7 : (dats m 0 c).arrAt 7 cfg0.N = G7 m c := by
  refine (dats m 0 c).arrAt_eq_of_cover 7 (G7 m c) (fun t _ => flushed_eq7 m c t) fun i => ?_
  have h0 : (i 0 : Nat) < 16384 := (i 0).isLt
  have h1 : (i 1 : Nat) < 512 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_7.index t 0 = t.val ∧ win0_7.index t 1 = 0 :=
    (by decide +kernel : ∀ t : Fin grid0.N, win0_7.index t 0 = t.val ∧ win0_7.index t 1 = 0)
  refine ⟨t, flush0_7 t, ?_⟩
  show i ∈ ((View.whole main_v42_1).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [(e t).1]; omega
  | ⟨1, _⟩ => show win0_7.index t 1 * 512 ≤ (i 1 : Nat) ∧ (i 1 : Nat) < win0_7.index t 1 * 512 + 512
              rw [(e t).2]; omega

theorem tile8 (j : S512x512.Idx) : out0_8 (iblk m c 0 t) (iblk m c 1 t) (iblk m c 2 t) (iblk m c 3 t) (iblk m c 4 t) (iblk m c 5 t) j = qG (Xm m c) (gm m c) (Wm m c) (pm m c) (row t (j 0)) (j 1).val := by
  unfold out0_8
  refine View.canon_apply_of_pieces (Val := Elt Ideal) (fun j => qG (Xm m c) (gm m c) (Wm m c) (pm m c) (row t (j 0)) (j 1).val : S512x512.Idx → Elt Ideal .bf16) _
    (View.PiecesOf.mem ?_) j (cover0_8 _ _ _ _ j)
  refine ⟨?_, ?_, ?_, ?_, trivial⟩
  · intro x
    obtain ⟨r, l, rfl⟩ : ∃ (r : Fin 512) (l : Fin 128), x = ix2 r l := ⟨x 0, x 1, eq_ix2 x⟩
    beta_reduce
    rw [emb_r10]
    exact q_tile3 m c t r l
  · intro x
    obtain ⟨r, l, rfl⟩ : ∃ (r : Fin 512) (l : Fin 128), x = ix2 r l := ⟨x 0, x 1, eq_ix2 x⟩
    beta_reduce
    rw [emb_r9]
    exact q_tile2 m c t r l
  · intro x
    obtain ⟨r, l, rfl⟩ : ∃ (r : Fin 512) (l : Fin 128), x = ix2 r l := ⟨x 0, x 1, eq_ix2 x⟩
    beta_reduce
    rw [emb_r8]
    exact q_tile1 m c t r l
  · intro x
    obtain ⟨r, l, rfl⟩ : ∃ (r : Fin 512) (l : Fin 128), x = ix2 r l := ⟨x 0, x 1, eq_ix2 x⟩
    beta_reduce
    rw [emb_r7]
    exact q_tile0 m c t r l

/-- Result 2, entry by entry, as a function of the argument arrays. -/
def G8 : S16384x512.Idx → EReal := fun i => qG (Xm m c) (gm m c) (Wm m c) (pm m c) (i 0) (i 1).val

theorem flushed_eq8 : (dats m 0 c).flushed 8 t = (win0_8.blk t).view.read (Elt Ideal) (G8 m c) := by
  rw [Value.flushed8]
  funext j
  rw [View.read_apply]
  show out0_8 (iblk m c 0 t) (iblk m c 1 t) (iblk m c 2 t) (iblk m c 3 t) (iblk m c 4 t) (iblk m c 5 t) j = _
  obtain ⟨r, q, rfl⟩ : ∃ (r : Fin 512) (q : Fin 512), j = ix2 r q := ⟨j 0, j 1, eq_ix2 j⟩
  rw [tile8]
  have hi : ∀ t : Fin cfg0.N, win0_8.index t 0 = t.val ∧ win0_8.index t 1 = 0 :=
    (by decide +kernel : ∀ t : Fin grid0.N, win0_8.index t 0 = t.val ∧ win0_8.index t 1 = 0)
  have e : (win0_8.blk t).view.emb (ix2 r q) = (ix2 (row t r) q : S16384x512.Idx) := by
    funext a
    apply Fin.ext
    match a with
    | ⟨0, _⟩ => show win0_8.index t 0 * 512 + 1 * r.val = t.val * 512 + r.val; rw [(hi t).1]; omega
    | ⟨1, _⟩ => show win0_8.index t 1 * 512 + 1 * q.val = q.val; rw [(hi t).2]; omega
  rw [e]
  rfl

theorem final8 : (dats m 0 c).arrAt 8 cfg0.N = G8 m c := by
  refine (dats m 0 c).arrAt_eq_of_cover 8 (G8 m c) (fun t _ => flushed_eq8 m c t) fun i => ?_
  have h0 : (i 0 : Nat) < 16384 := (i 0).isLt
  have h1 : (i 1 : Nat) < 512 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_8.index t 0 = t.val ∧ win0_8.index t 1 = 0 :=
    (by decide +kernel : ∀ t : Fin grid0.N, win0_8.index t 0 = t.val ∧ win0_8.index t 1 = 0)
  refine ⟨t, flush0_8 t, ?_⟩
  show i ∈ ((View.whole main_v42_2).slice (win0_8.rect t)).set
  rw [View.set_slice_whole, Rect.mem_set_unit]
  intro a
  match a with
  | ⟨0, _⟩ => show win0_8.index t 0 * 512 ≤ (i 0 : Nat) ∧ (i 0 : Nat) < win0_8.index t 0 * 512 + 512
              rw [(e t).1]; omega
  | ⟨1, _⟩ => show win0_8.index t 1 * 512 ≤ (i 1 : Nat) ∧ (i 1 : Nat) < win0_8.index t 1 * 512 + 512
              rw [(e t).2]; omega

theorem tile9 (j : S512x512.Idx) : out0_9 (iblk m c 0 t) (iblk m c 1 t) (iblk m c 2 t) (iblk m c 3 t) (iblk m c 4 t) (iblk m c 5 t) j = qlG (Xm m c) (gm m c) (Wm m c) (pm m c) (row t (j 0)) (j 1).val := by
  unfold out0_9
  refine View.canon_apply_of_pieces (Val := Elt Ideal) (fun j => qlG (Xm m c) (gm m c) (Wm m c) (pm m c) (row t (j 0)) (j 1).val : S512x512.Idx → Elt Ideal .bf16) _
    (View.PiecesOf.mem ?_) j (cover0_9 _ _ _ _ j)
  refine ⟨?_, ?_, ?_, ?_, trivial⟩
  · intro x
    obtain ⟨r, l, rfl⟩ : ∃ (r : Fin 512) (l : Fin 128), x = ix2 r l := ⟨x 0, x 1, eq_ix2 x⟩
    beta_reduce
    rw [emb_r10]
    exact ql_tile3 m c t r l
  · intro x
    obtain ⟨r, l, rfl⟩ : ∃ (r : Fin 512) (l : Fin 128), x = ix2 r l := ⟨x 0, x 1, eq_ix2 x⟩
    beta_reduce
    rw [emb_r9]
    exact ql_tile2 m c t r l
  · intro x
    obtain ⟨r, l, rfl⟩ : ∃ (r : Fin 512) (l : Fin 128), x = ix2 r l := ⟨x 0, x 1, eq_ix2 x⟩
    beta_reduce
    rw [emb_r8]
    exact ql_tile1 m c t r l
  · intro x
    obtain ⟨r, l, rfl⟩ : ∃ (r : Fin 512) (l : Fin 128), x = ix2 r l := ⟨x 0, x 1, eq_ix2 x⟩
    beta_reduce
    rw [emb_r7]
    exact ql_tile0 m c t r l

/-- Result 3, entry by entry, as a function of the argument arrays. -/
def G9 : S16384x512.Idx → EReal := fun i => qlG (Xm m c) (gm m c) (Wm m c) (pm m c) (i 0) (i 1).val

theorem flushed_eq9 : (dats m 0 c).flushed 9 t = (win0_9.blk t).view.read (Elt Ideal) (G9 m c) := by
  rw [Value.flushed9]
  funext j
  rw [View.read_apply]
  show out0_9 (iblk m c 0 t) (iblk m c 1 t) (iblk m c 2 t) (iblk m c 3 t) (iblk m c 4 t) (iblk m c 5 t) j = _
  obtain ⟨r, q, rfl⟩ : ∃ (r : Fin 512) (q : Fin 512), j = ix2 r q := ⟨j 0, j 1, eq_ix2 j⟩
  rw [tile9]
  have hi : ∀ t : Fin cfg0.N, win0_9.index t 0 = t.val ∧ win0_9.index t 1 = 0 :=
    (by decide +kernel : ∀ t : Fin grid0.N, win0_9.index t 0 = t.val ∧ win0_9.index t 1 = 0)
  have e : (win0_9.blk t).view.emb (ix2 r q) = (ix2 (row t r) q : S16384x512.Idx) := by
    funext a
    apply Fin.ext
    match a with
    | ⟨0, _⟩ => show win0_9.index t 0 * 512 + 1 * r.val = t.val * 512 + r.val; rw [(hi t).1]; omega
    | ⟨1, _⟩ => show win0_9.index t 1 * 512 + 1 * q.val = q.val; rw [(hi t).2]; omega
  rw [e]
  rfl

theorem final9 : (dats m 0 c).arrAt 9 cfg0.N = G9 m c := by
  refine (dats m 0 c).arrAt_eq_of_cover 9 (G9 m c) (fun t _ => flushed_eq9 m c t) fun i => ?_
  have h0 : (i 0 : Nat) < 16384 := (i 0).isLt
  have h1 : (i 1 : Nat) < 512 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_9.index t 0 = t.val ∧ win0_9.index t 1 = 0 :=
    (by decide +kernel : ∀ t : Fin grid0.N, win0_9.index t 0 = t.val ∧ win0_9.index t 1 = 0)
  refine ⟨t, flush0_9 t, ?_⟩
  show i ∈ ((View.whole main_v42_3).slice (win0_9.rect t)).set
  rw [View.set_slice_whole, Rect.mem_set_unit]
  intro a
  match a with
  | ⟨0, _⟩ => show win0_9.index t 0 * 512 ≤ (i 0 : Nat) ∧ (i 0 : Nat) < win0_9.index t 0 * 512 + 512
              rw [(e t).1]; omega
  | ⟨1, _⟩ => show win0_9.index t 1 * 512 ≤ (i 1 : Nat) ∧ (i 1 : Nat) < win0_9.index t 1 * 512 + 512
              rw [(e t).2]; omega

theorem tile10 (j : S512x512.Idx) : out0_10 (iblk m c 0 t) (iblk m c 1 t) (iblk m c 2 t) (iblk m c 3 t) (iblk m c 4 t) (iblk m c 5 t) j = kvG (Xm m c) (gm m c) (Wm m c) (pm m c) (row t (j 0)) (j 1).val := by
  unfold out0_10
  refine View.canon_apply_of_pieces (Val := Elt Ideal) (fun j => kvG (Xm m c) (gm m c) (Wm m c) (pm m c) (row t (j 0)) (j 1).val : S512x512.Idx → Elt Ideal .f32) _
    (View.PiecesOf.mem ?_) j (cover0_10 _ _ _ _ j)
  refine ⟨?_, ?_, ?_, ?_, trivial⟩
  · intro x
    obtain ⟨r, l, rfl⟩ : ∃ (r : Fin 512) (l : Fin 128), x = ix2 r l := ⟨x 0, x 1, eq_ix2 x⟩
    beta_reduce
    rw [emb_r10]
    exact kv_tile3 m c t r l
  · intro x
    obtain ⟨r, l, rfl⟩ : ∃ (r : Fin 512) (l : Fin 128), x = ix2 r l := ⟨x 0, x 1, eq_ix2 x⟩
    beta_reduce
    rw [emb_r9]
    exact kv_tile2 m c t r l
  · intro x
    obtain ⟨r, l, rfl⟩ : ∃ (r : Fin 512) (l : Fin 128), x = ix2 r l := ⟨x 0, x 1, eq_ix2 x⟩
    beta_reduce
    rw [emb_r8]
    exact kv_tile1 m c t r l
  · intro x
    obtain ⟨r, l, rfl⟩ : ∃ (r : Fin 512) (l : Fin 128), x = ix2 r l := ⟨x 0, x 1, eq_ix2 x⟩
    beta_reduce
    rw [emb_r7]
    exact kv_tile0 m c t r l

/-- Result 4, entry by entry, as a function of the argument arrays. -/
def G10 : S16384x512.Idx → EReal := fun i => kvG (Xm m c) (gm m c) (Wm m c) (pm m c) (i 0) (i 1).val

theorem flushed_eq10 : (dats m 0 c).flushed 10 t = (win0_10.blk t).view.read (Elt Ideal) (G10 m c) := by
  rw [Value.flushed10]
  funext j
  rw [View.read_apply]
  show out0_10 (iblk m c 0 t) (iblk m c 1 t) (iblk m c 2 t) (iblk m c 3 t) (iblk m c 4 t) (iblk m c 5 t) j = _
  obtain ⟨r, q, rfl⟩ : ∃ (r : Fin 512) (q : Fin 512), j = ix2 r q := ⟨j 0, j 1, eq_ix2 j⟩
  rw [tile10]
  have hi : ∀ t : Fin cfg0.N, win0_10.index t 0 = t.val ∧ win0_10.index t 1 = 0 :=
    (by decide +kernel : ∀ t : Fin grid0.N, win0_10.index t 0 = t.val ∧ win0_10.index t 1 = 0)
  have e : (win0_10.blk t).view.emb (ix2 r q) = (ix2 (row t r) q : S16384x512.Idx) := by
    funext a
    apply Fin.ext
    match a with
    | ⟨0, _⟩ => show win0_10.index t 0 * 512 + 1 * r.val = t.val * 512 + r.val; rw [(hi t).1]; omega
    | ⟨1, _⟩ => show win0_10.index t 1 * 512 + 1 * q.val = q.val; rw [(hi t).2]; omega
  rw [e]
  rfl

theorem final10 : (dats m 0 c).arrAt 10 cfg0.N = G10 m c := by
  refine (dats m 0 c).arrAt_eq_of_cover 10 (G10 m c) (fun t _ => flushed_eq10 m c t) fun i => ?_
  have h0 : (i 0 : Nat) < 16384 := (i 0).isLt
  have h1 : (i 1 : Nat) < 512 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_10.index t 0 = t.val ∧ win0_10.index t 1 = 0 :=
    (by decide +kernel : ∀ t : Fin grid0.N, win0_10.index t 0 = t.val ∧ win0_10.index t 1 = 0)
  refine ⟨t, flush0_10 t, ?_⟩
  show i ∈ ((View.whole main_v42_4).slice (win0_10.rect t)).set
  rw [View.set_slice_whole, Rect.mem_set_unit]
  intro a
  match a with
  | ⟨0, _⟩ => show win0_10.index t 0 * 512 ≤ (i 0 : Nat) ∧ (i 0 : Nat) < win0_10.index t 0 * 512 + 512
              rw [(e t).1]; omega
  | ⟨1, _⟩ => show win0_10.index t 1 * 512 ≤ (i 1 : Nat) ∧ (i 1 : Nat) < win0_10.index t 1 * 512 + 512
              rw [(e t).2]; omega

theorem tile11 (j : S512x256.Idx) : out0_11 (iblk m c 0 t) (iblk m c 1 t) (iblk m c 2 t) (iblk m c 3 t) (iblk m c 4 t) (iblk m c 5 t) j = kvG (Xm m c) (gm m c) (Wm m c) (pm m c) (row t (j 0)) (512 + (j 1).val) := by
  unfold out0_11
  refine View.canon_apply_of_pieces (Val := Elt Ideal) (fun j => kvG (Xm m c) (gm m c) (Wm m c) (pm m c) (row t (j 0)) (512 + (j 1).val) : S512x256.Idx → Elt Ideal .f32) _
    (View.PiecesOf.mem ?_) j (cover0_11 _ _ j)
  refine ⟨?_, ?_, trivial⟩
  · intro x
    obtain ⟨r, l, rfl⟩ : ∃ (r : Fin 512) (l : Fin 128), x = ix2 r l := ⟨x 0, x 1, eq_ix2 x⟩
    beta_reduce
    rw [emb_r13]
    exact (kv_tile5 m c t r l).trans (congrArg (kvG (Xm m c) (gm m c) (Wm m c) (pm m c) (row t r)) (by show 640 + l.val = 512 + (128 + l.val); omega))
  · intro x
    obtain ⟨r, l, rfl⟩ : ∃ (r : Fin 512) (l : Fin 128), x = ix2 r l := ⟨x 0, x 1, eq_ix2 x⟩
    beta_reduce
    rw [emb_r12]
    exact (kv_tile4 m c t r l).trans (congrArg (kvG (Xm m c) (gm m c) (Wm m c) (pm m c) (row t r)) (by show 512 + l.val = 512 + (0 + l.val); omega))

/-- Result 5, entry by entry, as a function of the argument arrays. -/
def G11 : S16384x256.Idx → EReal := fun i => kvG (Xm m c) (gm m c) (Wm m c) (pm m c) (i 0) (512 + (i 1).val)

theorem flushed_eq11 : (dats m 0 c).flushed 11 t = (win0_11.blk t).view.read (Elt Ideal) (G11 m c) := by
  rw [Value.flushed11]
  funext j
  rw [View.read_apply]
  show out0_11 (iblk m c 0 t) (iblk m c 1 t) (iblk m c 2 t) (iblk m c 3 t) (iblk m c 4 t) (iblk m c 5 t) j = _
  obtain ⟨r, q, rfl⟩ : ∃ (r : Fin 512) (q : Fin 256), j = ix2 r q := ⟨j 0, j 1, eq_ix2 j⟩
  rw [tile11]
  have hi : ∀ t : Fin cfg0.N, win0_11.index t 0 = t.val ∧ win0_11.index t 1 = 0 :=
    (by decide +kernel : ∀ t : Fin grid0.N, win0_11.index t 0 = t.val ∧ win0_11.index t 1 = 0)
  have e : (win0_11.blk t).view.emb (ix2 r q) = (ix2 (row t r) q : S16384x256.Idx) := by
    funext a
    apply Fin.ext
    match a with
    | ⟨0, _⟩ => show win0_11.index t 0 * 512 + 1 * r.val = t.val * 512 + r.val; rw [(hi t).1]; omega
    | ⟨1, _⟩ => show win0_11.index t 1 * 256 + 1 * q.val = q.val; rw [(hi t).2]; omega
  rw [e]
  rfl

theorem final11 : (dats m 0 c).arrAt 11 cfg0.N = G11 m c := by
  refine (dats m 0 c).arrAt_eq_of_cover 11 (G11 m c) (fun t _ => flushed_eq11 m c t) fun i => ?_
  have h0 : (i 0 : Nat) < 16384 := (i 0).isLt
  have h1 : (i 1 : Nat) < 256 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_11.index t 0 = t.val ∧ win0_11.index t 1 = 0 :=
    (by decide +kernel : ∀ t : Fin grid0.N, win0_11.index t 0 = t.val ∧ win0_11.index t 1 = 0)
  refine ⟨t, flush0_11 t, ?_⟩
  show i ∈ ((View.whole main_v42_5).slice (win0_11.rect t)).set
  rw [View.set_slice_whole, Rect.mem_set_unit]
  intro a
  match a with
  | ⟨0, _⟩ => show win0_11.index t 0 * 512 ≤ (i 0 : Nat) ∧ (i 0 : Nat) < win0_11.index t 0 * 512 + 512
              rw [(e t).1]; omega
  | ⟨1, _⟩ => show win0_11.index t 1 * 256 ≤ (i 1 : Nat) ∧ (i 1 : Nat) < win0_11.index t 1 * 256 + 256
              rw [(e t).2]; omega

theorem tile12 (j : S512x256.Idx) : out0_12 (iblk m c 0 t) (iblk m c 1 t) (iblk m c 2 t) (iblk m c 3 t) (iblk m c 4 t) (iblk m c 5 t) j = kvG (Xm m c) (gm m c) (Wm m c) (pm m c) (row t (j 0)) (j 1).val := by
  unfold out0_12
  refine View.canon_apply_of_pieces (Val := Elt Ideal) (fun j => kvG (Xm m c) (gm m c) (Wm m c) (pm m c) (row t (j 0)) (j 1).val : S512x256.Idx → Elt Ideal .f32) _
    (View.PiecesOf.mem ?_) j (cover0_12 _ _ j)
  refine ⟨?_, ?_, trivial⟩
  · intro x
    obtain ⟨r, l, rfl⟩ : ∃ (r : Fin 512) (l : Fin 128), x = ix2 r l := ⟨x 0, x 1, eq_ix2 x⟩
    beta_reduce
    rw [emb_r13]
    exact kv_tile1 m c t r l
  · intro x
    obtain ⟨r, l, rfl⟩ : ∃ (r : Fin 512) (l : Fin 128), x = ix2 r l := ⟨x 0, x 1, eq_ix2 x⟩
    beta_reduce
    rw [emb_r12]
    exact kv_tile0 m c t r l

/-- Result 6, entry by entry, as a function of the argument arrays. -/
def G12 : S16384x256.Idx → EReal := fun i => kvG (Xm m c) (gm m c) (Wm m c) (pm m c) (i 0) (i 1).val

theorem flushed_eq12 : (dats m 0 c).flushed 12 t = (win0_12.blk t).view.read (Elt Ideal) (G12 m c) := by
  rw [Value.flushed12]
  funext j
  rw [View.read_apply]
  show out0_12 (iblk m c 0 t) (iblk m c 1 t) (iblk m c 2 t) (iblk m c 3 t) (iblk m c 4 t) (iblk m c 5 t) j = _
  obtain ⟨r, q, rfl⟩ : ∃ (r : Fin 512) (q : Fin 256), j = ix2 r q := ⟨j 0, j 1, eq_ix2 j⟩
  rw [tile12]
  have hi : ∀ t : Fin cfg0.N, win0_12.index t 0 = t.val ∧ win0_12.index t 1 = 0 :=
    (by decide +kernel : ∀ t : Fin grid0.N, win0_12.index t 0 = t.val ∧ win0_12.index t 1 = 0)
  have e : (win0_12.blk t).view.emb (ix2 r q) = (ix2 (row t r) q : S16384x256.Idx) := by
    funext a
    apply Fin.ext
    match a with
    | ⟨0, _⟩ => show win0_12.index t 0 * 512 + 1 * r.val = t.val * 512 + r.val; rw [(hi t).1]; omega
    | ⟨1, _⟩ => show win0_12.index t 1 * 256 + 1 * q.val = q.val; rw [(hi t).2]; omega
  rw [e]
  rfl

theorem final12 : (dats m 0 c).arrAt 12 cfg0.N = G12 m c := by
  refine (dats m 0 c).arrAt_eq_of_cover 12 (G12 m c) (fun t _ => flushed_eq12 m c t) fun i => ?_
  have h0 : (i 0 : Nat) < 16384 := (i 0).isLt
  have h1 : (i 1 : Nat) < 256 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_12.index t 0 = t.val ∧ win0_12.index t 1 = 0 :=
    (by decide +kernel : ∀ t : Fin grid0.N, win0_12.index t 0 = t.val ∧ win0_12.index t 1 = 0)
  refine ⟨t, flush0_12 t, ?_⟩
  show i ∈ ((View.whole main_v42_6).slice (win0_12.rect t)).set
  rw [View.set_slice_whole, Rect.mem_set_unit]
  intro a
  match a with
  | ⟨0, _⟩ => show win0_12.index t 0 * 512 ≤ (i 0 : Nat) ∧ (i 0 : Nat) < win0_12.index t 0 * 512 + 512
              rw [(e t).1]; omega
  | ⟨1, _⟩ => show win0_12.index t 1 * 256 ≤ (i 1 : Nat) ∧ (i 1 : Nat) < win0_12.index t 1 * 256 + 256
              rw [(e t).2]; omega

theorem tile13 (j : S512x256.Idx) : out0_13 (iblk m c 0 t) (iblk m c 1 t) (iblk m c 2 t) (iblk m c 3 t) (iblk m c 4 t) (iblk m c 5 t) j = kvG (Xm m c) (gm m c) (Wm m c) (pm m c) (row t (j 0)) (256 + (j 1).val) := by
  unfold out0_13
  refine View.canon_apply_of_pieces (Val := Elt Ideal) (fun j => kvG (Xm m c) (gm m c) (Wm m c) (pm m c) (row t (j 0)) (256 + (j 1).val) : S512x256.Idx → Elt Ideal .bf16) _
    (View.PiecesOf.mem ?_) j (cover0_13 _ _ j)
  refine ⟨?_, ?_, trivial⟩
  · intro x
    obtain ⟨r, l, rfl⟩ : ∃ (r : Fin 512) (l : Fin 128), x = ix2 r l := ⟨x 0, x 1, eq_ix2 x⟩
    beta_reduce
    rw [emb_r13]
    exact (kv_tile3 m c t r l).trans (congrArg (kvG (Xm m c) (gm m c) (Wm m c) (pm m c) (row t r)) (by show 384 + l.val = 256 + (128 + l.val); omega))
  · intro x
    obtain ⟨r, l, rfl⟩ : ∃ (r : Fin 512) (l : Fin 128), x = ix2 r l := ⟨x 0, x 1, eq_ix2 x⟩
    beta_reduce
    rw [emb_r12]
    exact (kv_tile2 m c t r l).trans (congrArg (kvG (Xm m c) (gm m c) (Wm m c) (pm m c) (row t r)) (by show 256 + l.val = 256 + (0 + l.val); omega))

/-- Result 7, entry by entry, as a function of the argument arrays. -/
def G13 : S16384x256.Idx → EReal := fun i => kvG (Xm m c) (gm m c) (Wm m c) (pm m c) (i 0) (256 + (i 1).val)

theorem flushed_eq13 : (dats m 0 c).flushed 13 t = (win0_13.blk t).view.read (Elt Ideal) (G13 m c) := by
  rw [Value.flushed13]
  funext j
  rw [View.read_apply]
  show out0_13 (iblk m c 0 t) (iblk m c 1 t) (iblk m c 2 t) (iblk m c 3 t) (iblk m c 4 t) (iblk m c 5 t) j = _
  obtain ⟨r, q, rfl⟩ : ∃ (r : Fin 512) (q : Fin 256), j = ix2 r q := ⟨j 0, j 1, eq_ix2 j⟩
  rw [tile13]
  have hi : ∀ t : Fin cfg0.N, win0_13.index t 0 = t.val ∧ win0_13.index t 1 = 0 :=
    (by decide +kernel : ∀ t : Fin grid0.N, win0_13.index t 0 = t.val ∧ win0_13.index t 1 = 0)
  have e : (win0_13.blk t).view.emb (ix2 r q) = (ix2 (row t r) q : S16384x256.Idx) := by
    funext a
    apply Fin.ext
    match a with
    | ⟨0, _⟩ => show win0_13.index t 0 * 512 + 1 * r.val = t.val * 512 + r.val; rw [(hi t).1]; omega
    | ⟨1, _⟩ => show win0_13.index t 1 * 256 + 1 * q.val = q.val; rw [(hi t).2]; omega
  rw [e]
  rfl

theorem final13 : (dats m 0 c).arrAt 13 cfg0.N = G13 m c := by
  refine (dats m 0 c).arrAt_eq_of_cover 13 (G13 m c) (fun t _ => flushed_eq13 m c t) fun i => ?_
  have h0 : (i 0 : Nat) < 16384 := (i 0).isLt
  have h1 : (i 1 : Nat) < 256 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_13.index t 0 = t.val ∧ win0_13.index t 1 = 0 :=
    (by decide +kernel : ∀ t : Fin grid0.N, win0_13.index t 0 = t.val ∧ win0_13.index t 1 = 0)
  refine ⟨t, flush0_13 t, ?_⟩
  show i ∈ ((View.whole main_v42_7).slice (win0_13.rect t)).set
  rw [View.set_slice_whole, Rect.mem_set_unit]
  intro a
  match a with
  | ⟨0, _⟩ => show win0_13.index t 0 * 512 ≤ (i 0 : Nat) ∧ (i 0 : Nat) < win0_13.index t 0 * 512 + 512
              rw [(e t).1]; omega
  | ⟨1, _⟩ => show win0_13.index t 1 * 256 ≤ (i 1 : Nat) ∧ (i 1 : Nat) < win0_13.index t 1 * 256 + 256
              rw [(e t).2]; omega

theorem tile14 (j : S512x256.Idx) : out0_14 (iblk m c 0 t) (iblk m c 1 t) (iblk m c 2 t) (iblk m c 3 t) (iblk m c 4 t) (iblk m c 5 t) j = kvG (Xm m c) (gm m c) (Wm m c) (pm m c) (row t (j 0)) (512 + (j 1).val) := by
  unfold out0_14
  refine View.canon_apply_of_pieces (Val := Elt Ideal) (fun j => kvG (Xm m c) (gm m c) (Wm m c) (pm m c) (row t (j 0)) (512 + (j 1).val) : S512x256.Idx → Elt Ideal .bf16) _
    (View.PiecesOf.mem ?_) j (cover0_14 _ _ j)
  refine ⟨?_, ?_, trivial⟩
  · intro x
    obtain ⟨r, l, rfl⟩ : ∃ (r : Fin 512) (l : Fin 128), x = ix2 r l := ⟨x 0, x 1, eq_ix2 x⟩
    beta_reduce
    rw [emb_r13]
    exact (kv_tile5 m c t r l).trans (congrArg (kvG (Xm m c) (gm m c) (Wm m c) (pm m c) (row t r)) (by show 640 + l.val = 512 + (128 + l.val); omega))
  · intro x
    obtain ⟨r, l, rfl⟩ : ∃ (r : Fin 512) (l : Fin 128), x = ix2 r l := ⟨x 0, x 1, eq_ix2 x⟩
    beta_reduce
    rw [emb_r12]
    exact (kv_tile4 m c t r l).trans (congrArg (kvG (Xm m c) (gm m c) (Wm m c) (pm m c) (row t r)) (by show 512 + l.val = 512 + (0 + l.val); omega))

/-- Result 8, entry by entry, as a function of the argument arrays. -/
def G14 : S16384x256.Idx → EReal := fun i => kvG (Xm m c) (gm m c) (Wm m c) (pm m c) (i 0) (512 + (i 1).val)

theorem flushed_eq14 : (dats m 0 c).flushed 14 t = (win0_14.blk t).view.read (Elt Ideal) (G14 m c) := by
  rw [Value.flushed14]
  funext j
  rw [View.read_apply]
  show out0_14 (iblk m c 0 t) (iblk m c 1 t) (iblk m c 2 t) (iblk m c 3 t) (iblk m c 4 t) (iblk m c 5 t) j = _
  obtain ⟨r, q, rfl⟩ : ∃ (r : Fin 512) (q : Fin 256), j = ix2 r q := ⟨j 0, j 1, eq_ix2 j⟩
  rw [tile14]
  have hi : ∀ t : Fin cfg0.N, win0_14.index t 0 = t.val ∧ win0_14.index t 1 = 0 :=
    (by decide +kernel : ∀ t : Fin grid0.N, win0_14.index t 0 = t.val ∧ win0_14.index t 1 = 0)
  have e : (win0_14.blk t).view.emb (ix2 r q) = (ix2 (row t r) q : S16384x256.Idx) := by
    funext a
    apply Fin.ext
    match a with
    | ⟨0, _⟩ => show win0_14.index t 0 * 512 + 1 * r.val = t.val * 512 + r.val; rw [(hi t).1]; omega
    | ⟨1, _⟩ => show win0_14.index t 1 * 256 + 1 * q.val = q.val; rw [(hi t).2]; omega
  rw [e]
  rfl

theorem final14 : (dats m 0 c).arrAt 14 cfg0.N = G14 m c := by
  refine (dats m 0 c).arrAt_eq_of_cover 14 (G14 m c) (fun t _ => flushed_eq14 m c t) fun i => ?_
  have h0 : (i 0 : Nat) < 16384 := (i 0).isLt
  have h1 : (i 1 : Nat) < 256 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_14.index t 0 = t.val ∧ win0_14.index t 1 = 0 :=
    (by decide +kernel : ∀ t : Fin grid0.N, win0_14.index t 0 = t.val ∧ win0_14.index t 1 = 0)
  refine ⟨t, flush0_14 t, ?_⟩
  show i ∈ ((View.whole main_v42_8).slice (win0_14.rect t)).set
  rw [View.set_slice_whole, Rect.mem_set_unit]
  intro a
  match a with
  | ⟨0, _⟩ => show win0_14.index t 0 * 512 ≤ (i 0 : Nat) ∧ (i 0 : Nat) < win0_14.index t 0 * 512 + 512
              rw [(e t).1]; omega
  | ⟨1, _⟩ => show win0_14.index t 1 * 256 ≤ (i 1 : Nat) ∧ (i 1 : Nat) < win0_14.index t 1 * 256 + 256
              rw [(e t).2]; omega

theorem tile15 (j : S512x128.Idx) : out0_15 (iblk m c 0 t) (iblk m c 1 t) (iblk m c 2 t) (iblk m c 3 t) (iblk m c 4 t) (iblk m c 5 t) j = ngG (Xm m c) (gm m c) (Wm m c) (row t (j 0)) (j 1).val := by
  unfold out0_15
  rw [View.canon_unit_zero (by funext a; fin_cases a <;> rfl)]
  obtain ⟨r, l, rfl⟩ : ∃ (r : Fin 512) (l : Fin 128), j = ix2 r l := ⟨j 0, j 1, eq_ix2 j⟩
  refine (ng_apply (hT m c t) (View.ld (iblk m c 2 t) r0_14) r l).trans (congrArg Ideal.logistic ?_)
  show _ = if l.val < 24 then proj (Xm m c) (gm m c) (Wm m c) (row t r) (2816 + l.val) else 0
  have hl := l.isLt
  by_cases h : l.val < 24
  · rw [if_pos h]
    exact dot_lo m c t _ r _ (fun k => ld_r14 m c t k _) (by omega)
  · rw [if_neg h]
    exact dot_pad m c t _ r _ (fun k => ld_r14 m c t k _) (by omega) (by omega)

/-- Result 9, entry by entry, as a function of the argument arrays. -/
def G15 : S16384x128.Idx → EReal := fun i => ngG (Xm m c) (gm m c) (Wm m c) (i 0) (i 1).val

theorem flushed_eq15 : (dats m 0 c).flushed 15 t = (win0_15.blk t).view.read (Elt Ideal) (G15 m c) := by
  rw [Value.flushed15]
  funext j
  rw [View.read_apply]
  show out0_15 (iblk m c 0 t) (iblk m c 1 t) (iblk m c 2 t) (iblk m c 3 t) (iblk m c 4 t) (iblk m c 5 t) j = _
  obtain ⟨r, q, rfl⟩ : ∃ (r : Fin 512) (q : Fin 128), j = ix2 r q := ⟨j 0, j 1, eq_ix2 j⟩
  rw [tile15]
  have hi : ∀ t : Fin cfg0.N, win0_15.index t 0 = t.val ∧ win0_15.index t 1 = 0 :=
    (by decide +kernel : ∀ t : Fin grid0.N, win0_15.index t 0 = t.val ∧ win0_15.index t 1 = 0)
  have e : (win0_15.blk t).view.emb (ix2 r q) = (ix2 (row t r) q : S16384x128.Idx) := by
    funext a
    apply Fin.ext
    match a with
    | ⟨0, _⟩ => show win0_15.index t 0 * 512 + 1 * r.val = t.val * 512 + r.val; rw [(hi t).1]; omega
    | ⟨1, _⟩ => show win0_15.index t 1 * 128 + 1 * q.val = q.val; rw [(hi t).2]; omega
  rw [e]
  rfl

theorem final15 : (dats m 0 c).arrAt 15 cfg0.N = G15 m c := by
  refine (dats m 0 c).arrAt_eq_of_cover 15 (G15 m c) (fun t _ => flushed_eq15 m c t) fun i => ?_
  have h0 : (i 0 : Nat) < 16384 := (i 0).isLt
  have h1 : (i 1 : Nat) < 128 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_15.index t 0 = t.val ∧ win0_15.index t 1 = 0 :=
    (by decide +kernel : ∀ t : Fin grid0.N, win0_15.index t 0 = t.val ∧ win0_15.index t 1 = 0)
  refine ⟨t, flush0_15 t, ?_⟩
  show i ∈ ((View.whole main_v42_9).slice (win0_15.rect t)).set
  rw [View.set_slice_whole, Rect.mem_set_unit]
  intro a
  match a with
  | ⟨0, _⟩ => show win0_15.index t 0 * 512 ≤ (i 0 : Nat) ∧ (i 0 : Nat) < win0_15.index t 0 * 512 + 512
              rw [(e t).1]; omega
  | ⟨1, _⟩ => show win0_15.index t 1 * 128 ≤ (i 1 : Nat) ∧ (i 1 : Nat) < win0_15.index t 1 * 128 + 128
              rw [(e t).2]; omega

theorem tile16 (j : S512x3072.Idx) : out0_16 (iblk m c 0 t) (iblk m c 1 t) (iblk m c 2 t) (iblk m c 3 t) (iblk m c 4 t) (iblk m c 5 t) j = mgG (Xm m c) (gm m c) (Wm m c) (row t (j 0)) (j 1).val := by
  unfold out0_16
  rw [View.canon_unit_zero (by funext a; fin_cases a <;> rfl)]
  obtain ⟨r, l, rfl⟩ : ∃ (r : Fin 512) (l : Fin 3072), j = ix2 r l := ⟨j 0, j 1, eq_ix2 j⟩
  refine (mg_apply (hT m c t) (View.ld (iblk m c 2 t) r0_15) r l).trans
    (congrArg Ideal.logistic ((dot_hi m c t _ r _ (fun k => ld_r15 m c t k _) (by omega)).trans ?_))
  congr 1
  show 2944 + l.val - 104 = 2840 + l.val
  omega

/-- Result 10, entry by entry, as a function of the argument arrays. -/
def G16 : S16384x3072.Idx → EReal := fun i => mgG (Xm m c) (gm m c) (Wm m c) (i 0) (i 1).val

theorem flushed_eq16 : (dats m 0 c).flushed 16 t = (win0_16.blk t).view.read (Elt Ideal) (G16 m c) := by
  rw [Value.flushed16]
  funext j
  rw [View.read_apply]
  show out0_16 (iblk m c 0 t) (iblk m c 1 t) (iblk m c 2 t) (iblk m c 3 t) (iblk m c 4 t) (iblk m c 5 t) j = _
  obtain ⟨r, q, rfl⟩ : ∃ (r : Fin 512) (q : Fin 3072), j = ix2 r q := ⟨j 0, j 1, eq_ix2 j⟩
  rw [tile16]
  have hi : ∀ t : Fin cfg0.N, win0_16.index t 0 = t.val ∧ win0_16.index t 1 = 0 :=
    (by decide +kernel : ∀ t : Fin grid0.N, win0_16.index t 0 = t.val ∧ win0_16.index t 1 = 0)
  have e : (win0_16.blk t).view.emb (ix2 r q) = (ix2 (row t r) q : S16384x3072.Idx) := by
    funext a
    apply Fin.ext
    match a with
    | ⟨0, _⟩ => show win0_16.index t 0 * 512 + 1 * r.val = t.val * 512 + r.val; rw [(hi t).1]; omega
    | ⟨1, _⟩ => show win0_16.index t 1 * 3072 + 1 * q.val = q.val; rw [(hi t).2]; omega
  rw [e]
  rfl

theorem final16 : (dats m 0 c).arrAt 16 cfg0.N = G16 m c := by
  refine (dats m 0 c).arrAt_eq_of_cover 16 (G16 m c) (fun t _ => flushed_eq16 m c t) fun i => ?_
  have h0 : (i 0 : Nat) < 16384 := (i 0).isLt
  have h1 : (i 1 : Nat) < 3072 := (i 1).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  have e : ∀ t : Fin cfg0.N, win0_16.index t 0 = t.val ∧ win0_16.index t 1 = 0 :=
    (by decide +kernel : ∀ t : Fin grid0.N, win0_16.index t 0 = t.val ∧ win0_16.index t 1 = 0)
  refine ⟨t, flush0_16 t, ?_⟩
  show i ∈ ((View.whole main_v42_10).slice (win0_16.rect t)).set
  rw [View.set_slice_whole, Rect.mem_set_unit]
  intro a
  match a with
  | ⟨0, _⟩ => show win0_16.index t 0 * 512 ≤ (i 0 : Nat) ∧ (i 0 : Nat) < win0_16.index t 0 * 512 + 512
              rw [(e t).1]; omega
  | ⟨1, _⟩ => show win0_16.index t 1 * 3072 ≤ (i 1 : Nat) ∧ (i 1 : Nat) < win0_16.index t 1 * 3072 + 3072
              rw [(e t).2]; omega

end Cert.Proof.Proj

end
-- ==== Proof.ProjRef.lean ====
/- The reference of the input projection, entry by entry: the same functions of the stream, the gains, the weights and the
   positions as the kernel's results.  -/
module

public import proofs.«01_k».proof.Proof.Gen.Reference4Ideal.Run
public import proofs.«01_k».proof.Proof.ProjSpec
public import Idealize.ShloMosaic.Lib.KernelVsHost

@[expose] public section

set_option maxRecDepth 16384

noncomputable section

open Idealize.ShloMosaic Idealize.ShloMosaic.TcCoe Idealize.SL.Sem

namespace Cert.Proof.ProjRef

open Cert.Reference4Ideal Cert.Reference4Ideal.Gen
open Cert.Proof.Proj (Wn proj ang pos cosA sinA rotL aG zbG qG qlG kvG ngG mgG)

/-- The projection. -/
def zR (X : FVec Ideal S16384x1024 .f32) (g : FVec Ideal S1024 .f32) (W : FVec Ideal S1024x5912 .f32) : FVec Ideal S16384x5912 .f32 :=
  Host.dotGeneral dot_S16384x1024_S1024x5912_S16384x5912_1_0_0_1_n_n none (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) W

/-- The angles of both sequences. -/
def angR (p : Vec Ideal S8192 .i32) : FVec Ideal S16384x1x8 .f32 :=
  broadcastInDim S16384x1x8 ![0, 2] bcast_S16384x8_S16384x1x8_0_2
    (concatenate S16384x8 0 [⟨S8192x8, ang p⟩, ⟨S8192x8, ang p⟩] concatenates_S8192x8_S8192x8_S16384x8_d0)

theorem angR_apply (p : Vec Ideal S8192 .i32) (n : Fin 16384) (i : Fin 8) : angR p (ix3 n 0 i) = ang p (ix2 (pos n) i) := by
  have hn := n.isLt
  unfold angR
  pointwise
  by_cases h : n.val < 8192
  · rw [dif_pos h]
    exact congrArg (fun k => ang p (ix2 k i)) (Fin.ext (Nat.mod_eq_of_lt h).symm)
  · rw [dif_neg h]
    have e : n.val - 8192 = n.val % 8192 := by omega
    exact congrArg (fun k => ang p (ix2 k i)) (Fin.ext e)

theorem cosR_apply (p : Vec Ideal S8192 .i32) (n : Fin 16384) (i : Fin 8) : Host.cos (angR p) (ix3 n 0 i) = cosA p n i.val := by
  unfold cosA
  rw [dif_pos i.isLt]
  exact congrArg Ideal.cos (angR_apply p n i)

theorem sinR_apply (p : Vec Ideal S8192 .i32) (n : Fin 16384) (i : Fin 8) : Host.sin (angR p) (ix3 n 0 i) = sinA p n i.val := by
  unfold sinA
  rw [dif_pos i.isLt]
  exact congrArg Ideal.sin (angR_apply p n i)

/-- The partial rotary embedding of 8 heads of 64 lanes, with tables of eight angles. -/
def rot8 (u : FVec Ideal S16384x512 .f32) (C S : FVec Ideal S16384x1x8 .f32) : FVec Ideal S16384x512 .f32 :=
  shapeCast S16384x512 (concatenate S16384x8x64 2
    [⟨S16384x8x8, subf (mulf (extractStridedSlice S16384x8x8 ![0, 0, 0] (shapeCast S16384x8x64 u shapeCasts_S16384x512_S16384x8x64) slices_S16384x8x64_S16384x8x8_0_0_0) (broadcastInDim S16384x8x8 ![0, 1, 2] bcast_S16384x1x8_S16384x8x8_0_1_2 C)) (mulf (extractStridedSlice S16384x8x8 ![0, 0, 8] (shapeCast S16384x8x64 u shapeCasts_S16384x512_S16384x8x64) slices_S16384x8x64_S16384x8x8_0_0_8) (broadcastInDim S16384x8x8 ![0, 1, 2] bcast_S16384x1x8_S16384x8x8_0_1_2 S))⟩,
     ⟨S16384x8x8, addf (mulf (extractStridedSlice S16384x8x8 ![0, 0, 8] (shapeCast S16384x8x64 u shapeCasts_S16384x512_S16384x8x64) slices_S16384x8x64_S16384x8x8_0_0_8) (broadcastInDim S16384x8x8 ![0, 1, 2] bcast_S16384x1x8_S16384x8x8_0_1_2 C)) (mulf (extractStridedSlice S16384x8x8 ![0, 0, 0] (shapeCast S16384x8x64 u shapeCasts_S16384x512_S16384x8x64) slices_S16384x8x64_S16384x8x8_0_0_0) (broadcastInDim S16384x8x8 ![0, 1, 2] bcast_S16384x1x8_S16384x8x8_0_1_2 S))⟩,
     ⟨S16384x8x48, (extractStridedSlice S16384x8x48 ![0, 0, 16] (shapeCast S16384x8x64 u shapeCasts_S16384x512_S16384x8x64) slices_S16384x8x64_S16384x8x48_0_0_16)⟩] concatenates_S16384x8x8_S16384x8x8_S16384x8x48_S16384x8x64_d2) shapeCasts_S16384x8x64_S16384x512

theorem rot8_apply (u : FVec Ideal S16384x512 .f32) (C S : FVec Ideal S16384x1x8 .f32) (n : Fin 16384) (z C' S' : ℕ → EReal) (o : ℕ)
    (ho : o % 64 = 0) (hu : ∀ j : Fin 512, u (ix2 n j) = z (o + j.val)) (hC : ∀ i : Fin 8, C (ix3 n 0 i) = C' i.val)
    (hS : ∀ i : Fin 8, S (ix3 n 0 i) = S' i.val) (j : Fin 512) : rot8 u C S (ix2 n j) = rotL z C' S' (o + j.val) := by
  have hj := j.isLt
  have e : rot8 u C S (ix2 n j) = rotL (fun c => z (o + c)) C' S' j.val := by
    unfold rot8
    pointwise
    simp only [hu, hC, hS]
    unfold rotL
    by_cases h1 : j.val % 64 < 8
    · rw [dif_pos h1, if_pos h1]
      congr 3
      omega
    · by_cases h2 : j.val % 64 < 16
      · rw [dif_neg h1, dif_pos (by omega), if_neg h1, if_pos h2]
        congr 3 <;> first | rfl | omega
      · rw [dif_neg h1, dif_neg (by omega), if_neg h1, if_neg h2]
        congr 1
        omega
  rw [e]
  unfold rotL
  have hm : (o + j.val) % 64 = j.val % 64 := by omega
  rw [hm]
  by_cases h1 : j.val % 64 < 8
  · rw [if_pos h1, if_pos h1]
    rfl
  · by_cases h2 : j.val % 64 < 16
    · rw [if_neg h1, if_pos h2, if_neg h1, if_pos h2]
      have e8 : o + (j.val - 8) = o + j.val - 8 := by omega
      beta_reduce
      rw [e8]
    · rw [if_neg h1, if_neg h2, if_neg h1, if_neg h2]

/-- The partial rotary embedding of 2 heads of 64 lanes, with tables of eight angles. -/
def rot2 (u : FVec Ideal S16384x128 .f32) (C S : FVec Ideal S16384x1x8 .f32) : FVec Ideal S16384x128 .f32 :=
  shapeCast S16384x128 (concatenate S16384x2x64 2
    [⟨S16384x2x8, subf (mulf (extractStridedSlice S16384x2x8 ![0, 0, 0] (shapeCast S16384x2x64 u shapeCasts_S16384x128_S16384x2x64) slices_S16384x2x64_S16384x2x8_0_0_0) (broadcastInDim S16384x2x8 ![0, 1, 2] bcast_S16384x1x8_S16384x2x8_0_1_2 C)) (mulf (extractStridedSlice S16384x2x8 ![0, 0, 8] (shapeCast S16384x2x64 u shapeCasts_S16384x128_S16384x2x64) slices_S16384x2x64_S16384x2x8_0_0_8) (broadcastInDim S16384x2x8 ![0, 1, 2] bcast_S16384x1x8_S16384x2x8_0_1_2 S))⟩,
     ⟨S16384x2x8, addf (mulf (extractStridedSlice S16384x2x8 ![0, 0, 8] (shapeCast S16384x2x64 u shapeCasts_S16384x128_S16384x2x64) slices_S16384x2x64_S16384x2x8_0_0_8) (broadcastInDim S16384x2x8 ![0, 1, 2] bcast_S16384x1x8_S16384x2x8_0_1_2 C)) (mulf (extractStridedSlice S16384x2x8 ![0, 0, 0] (shapeCast S16384x2x64 u shapeCasts_S16384x128_S16384x2x64) slices_S16384x2x64_S16384x2x8_0_0_0) (broadcastInDim S16384x2x8 ![0, 1, 2] bcast_S16384x1x8_S16384x2x8_0_1_2 S))⟩,
     ⟨S16384x2x48, (extractStridedSlice S16384x2x48 ![0, 0, 16] (shapeCast S16384x2x64 u shapeCasts_S16384x128_S16384x2x64) slices_S16384x2x64_S16384x2x48_0_0_16)⟩] concatenates_S16384x2x8_S16384x2x8_S16384x2x48_S16384x2x64_d2) shapeCasts_S16384x2x64_S16384x128

theorem rot2_apply (u : FVec Ideal S16384x128 .f32) (C S : FVec Ideal S16384x1x8 .f32) (n : Fin 16384) (z C' S' : ℕ → EReal) (o : ℕ)
    (ho : o % 64 = 0) (hu : ∀ j : Fin 128, u (ix2 n j) = z (o + j.val)) (hC : ∀ i : Fin 8, C (ix3 n 0 i) = C' i.val)
    (hS : ∀ i : Fin 8, S (ix3 n 0 i) = S' i.val) (j : Fin 128) : rot2 u C S (ix2 n j) = rotL z C' S' (o + j.val) := by
  have hj := j.isLt
  have e : rot2 u C S (ix2 n j) = rotL (fun c => z (o + c)) C' S' j.val := by
    unfold rot2
    pointwise
    simp only [hu, hC, hS]
    unfold rotL
    by_cases h1 : j.val % 64 < 8
    · rw [dif_pos h1, if_pos h1]
      congr 3
      omega
    · by_cases h2 : j.val % 64 < 16
      · rw [dif_neg h1, dif_pos (by omega), if_neg h1, if_pos h2]
        congr 3 <;> first | rfl | omega
      · rw [dif_neg h1, dif_neg (by omega), if_neg h1, if_neg h2]
        congr 1
        omega
  rw [e]
  unfold rotL
  have hm : (o + j.val) % 64 = j.val % 64 := by omega
  rw [hm]
  by_cases h1 : j.val % 64 < 8
  · rw [if_pos h1, if_pos h1]
    rfl
  · by_cases h2 : j.val % 64 < 16
    · rw [if_neg h1, if_pos h2, if_neg h1, if_pos h2]
      have e8 : o + (j.val - 8) = o + j.val - 8 := by omega
      beta_reduce
      rw [e8]
    · rw [if_neg h1, if_neg h2, if_neg h1, if_neg h2]

theorem cat2_apply (a b : FVec Ideal S16384x128 .f32) (G : ℕ → EReal) (o : ℕ) (n : Fin 16384)
    (ha : ∀ l : Fin 128, a (ix2 n l) = G (o + (0 + l.val))) (hb : ∀ l : Fin 128, b (ix2 n l) = G (o + (128 + l.val)))
    (j : Fin 256) :
    (concatenate S16384x256 1 [⟨S16384x128, a⟩, ⟨S16384x128, b⟩] concatenates_S16384x128_S16384x128_S16384x256_d1 : FVec Ideal S16384x256 .f32) (ix2 n j) = G (o + j.val) := by
  have hj := j.isLt
  pointwise
  simp only [ha, hb]
  split_ifs <;> congr 1 <;> omega

theorem cat4_apply (a b c d : FVec Ideal S16384x128 .f32) (G : ℕ → EReal) (o : ℕ) (n : Fin 16384)
    (ha : ∀ l : Fin 128, a (ix2 n l) = G (o + (0 + l.val))) (hb : ∀ l : Fin 128, b (ix2 n l) = G (o + (128 + l.val))) (hc : ∀ l : Fin 128, c (ix2 n l) = G (o + (256 + l.val))) (hd : ∀ l : Fin 128, d (ix2 n l) = G (o + (384 + l.val)))
    (j : Fin 512) :
    (concatenate S16384x512 1 [⟨S16384x128, a⟩, ⟨S16384x128, b⟩, ⟨S16384x128, c⟩, ⟨S16384x128, d⟩] concatenates_S16384x128_S16384x128_S16384x128_S16384x128_S16384x512_d1 : FVec Ideal S16384x512 .f32) (ix2 n j) = G (o + j.val) := by
  have hj := j.isLt
  pointwise
  simp only [ha, hb, hc, hd]
  split_ifs <;> congr 1 <;> omega

variable (X : FVec Ideal S16384x1024 .f32) (g : FVec Ideal S1024 .f32) (W : FVec Ideal S1024x5912 .f32) (p : Vec Ideal S8192 .i32)
    (n : Fin 16384)

theorem zR_apply (q : Fin 5912) : zR X g W (ix2 n q) = proj X g W n q.val := by
  unfold zR proj normRow Wn
  simp only [Fin.isLt, dite_true]
  pointwise

theorem a_ref (j : Fin 512) :
    (mulf (extractStridedSlice S16384x512 ![0, 0] (extractStridedSlice S16384x1024 ![0, 0] (zR X g W) slices_S16384x5912_S16384x1024_0_0) slices_S16384x1024_S16384x512_0_0) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 512] (extractStridedSlice S16384x1024 ![0, 0] (zR X g W) slices_S16384x5912_S16384x1024_0_0) slices_S16384x1024_S16384x512_0_512))))) : FVec Ideal S16384x512 .f32) (ix2 n j) = aG X g W n j.val := by
  unfold aG
  pointwise
  simp only [zR_apply]
  rfl

theorem zb_ref (j : Fin 512) :
    (extractStridedSlice S16384x512 ![0, 1024] (zR X g W) slices_S16384x5912_S16384x512_0_1024 : FVec Ideal S16384x512 .f32) (ix2 n j) = zbG X g W n j.val := by
  unfold zbG
  pointwise
  simp only [zR_apply]

theorem mg_ref (j : Fin 3072) :
    (Host.divf (broadcastInDim S16384x3072 ![] bcast_S_S16384x3072 (constant S_ .f32 0x3F800000#32)) (addf (broadcastInDim S16384x3072 ![] bcast_S_S16384x3072 (constant S_ .f32 0x3F800000#32)) (Host.exp (Host.negf (extractStridedSlice S16384x3072 ![0, 2840] (zR X g W) slices_S16384x5912_S16384x3072_0_2840)))) : FVec Ideal S16384x3072 .f32) (ix2 n j) = mgG X g W n j.val := by
  unfold mgG
  pointwise
  simp only [zR_apply]
  rfl

theorem ng_ref (j : Fin 128) :
    (Host.divf (broadcastInDim S16384x128 ![] bcast_S_S16384x128 (constant S_ .f32 0x3F800000#32)) (addf (broadcastInDim S16384x128 ![] bcast_S_S16384x128 (constant S_ .f32 0x3F800000#32)) (Host.exp (Host.negf (pad S16384x128 ![0, 0] ![0, 104] ![0, 0] (extractStridedSlice S16384x24 ![0, 2816] (zR X g W) slices_S16384x5912_S16384x24_0_2816) (sitofp .f32 (constantI S_ 32 0#32)) pads_S16384x24_S16384x128_000_01040 h_S_)))) : FVec Ideal S16384x128 .f32) (ix2 n j) = ngG X g W n j.val := by
  unfold ngG
  have hj := j.isLt
  pointwise
  simp only [zR_apply]
  by_cases h : j.val < 24
  · simp only [h]
    rfl
  · rw [dif_neg h, if_neg h]
    exact congrArg Ideal.logistic (sitofp_zero (φ := .f32))

/-- The rotated, scaled queries. -/
def qR : FVec Ideal S16384x512 .f32 :=
  mulf (rot8 (extractStridedSlice S16384x512 ![0, 1536] (zR X g W) slices_S16384x5912_S16384x512_0_1536) (Host.cos (angR p)) (Host.sin (angR p)))
    (broadcastInDim S16384x512 ![] bcast_S_S16384x512 (constant S_ .f32 0x3E38AA3B#32))

theorem qR_apply (j : Fin 512) : qR X g W p (ix2 n j) = qG X g W p n j.val := by
  have e := rot8_apply (extractStridedSlice S16384x512 ![0, 1536] (zR X g W) slices_S16384x5912_S16384x512_0_1536) (Host.cos (angR p))
    (Host.sin (angR p)) n (fun c => proj X g W n (1536 + c)) (cosA p n) (sinA p n) 0 (by norm_num)
    (fun j => by pointwise; rw [zR_apply])
    (cosR_apply p n) (sinR_apply p n) j
  rw [Nat.zero_add] at e
  exact congrArg (· * Ideal.ofBits .f32 0x3E38AA3B#32) e

theorem qh_ref (j : Fin 512) : (truncf .bf16 (qR X g W p) bitsLt_bf16_f32 : FVec Ideal S16384x512 .bf16) (ix2 n j) = qG X g W p n j.val :=
  qR_apply X g W p n j

theorem ql_ref (j : Fin 512) :
    (truncf .bf16 (subf (qR X g W p) (extf .f32 (truncf .bf16 (qR X g W p) bitsLt_bf16_f32 : FVec Ideal S16384x512 .bf16) bitsLt_bf16_f32))
      bitsLt_bf16_f32 : FVec Ideal S16384x512 .bf16) (ix2 n j) = qlG X g W p n j.val := by
  show qR X g W p (ix2 n j) - qR X g W p (ix2 n j) = qG X g W p n j.val - qG X g W p n j.val
  rw [qR_apply]

/-- Block 0 of the keys and values. -/
def b0R : FVec Ideal S16384x128 .f32 :=
  rot2 (extractStridedSlice S16384x128 ![0, 0] (extractStridedSlice S16384x768 ![0, 2048] (zR X g W) slices_S16384x5912_S16384x768_0_2048) slices_S16384x768_S16384x128_0_0 : FVec Ideal S16384x128 .f32) (Host.cos (angR p)) (Host.sin (angR p))

theorem b0R_apply (l : Fin 128) : b0R X g W p (ix2 n l) = kvG X g W p n (0 + l.val) := by
  have hl := l.isLt
  have hu : ∀ l : Fin 128, (extractStridedSlice S16384x128 ![0, 0] (extractStridedSlice S16384x768 ![0, 2048] (zR X g W) slices_S16384x5912_S16384x768_0_2048) slices_S16384x768_S16384x128_0_0 : FVec Ideal S16384x128 .f32) (ix2 n l) = proj X g W n (2048 + (0 + l.val)) := fun l => by
    pointwise
    rw [zR_apply]
  rw [kvG, if_pos (by omega)]
  exact rot2_apply _ (Host.cos (angR p)) (Host.sin (angR p)) n (fun c => proj X g W n (2048 + c)) (cosA p n) (sinA p n) 0 (by norm_num)
    hu (cosR_apply p n) (sinR_apply p n) l

/-- Block 1 of the keys and values. -/
def b1R : FVec Ideal S16384x128 .f32 :=
  (extractStridedSlice S16384x128 ![0, 128] (extractStridedSlice S16384x768 ![0, 2048] (zR X g W) slices_S16384x5912_S16384x768_0_2048) slices_S16384x768_S16384x128_0_128 : FVec Ideal S16384x128 .f32)

theorem b1R_apply (l : Fin 128) : b1R X g W (ix2 n l) = kvG X g W p n (128 + l.val) := by
  have hl := l.isLt
  have hu : ∀ l : Fin 128, (extractStridedSlice S16384x128 ![0, 128] (extractStridedSlice S16384x768 ![0, 2048] (zR X g W) slices_S16384x5912_S16384x768_0_2048) slices_S16384x768_S16384x128_0_128 : FVec Ideal S16384x128 .f32) (ix2 n l) = proj X g W n (2048 + (128 + l.val)) := fun l => by
    pointwise
    rw [zR_apply]
  rw [kvG, if_neg (by omega)]
  exact hu l

/-- Block 2 of the keys and values. -/
def b2R : FVec Ideal S16384x128 .f32 :=
  rot2 (extractStridedSlice S16384x128 ![0, 256] (extractStridedSlice S16384x768 ![0, 2048] (zR X g W) slices_S16384x5912_S16384x768_0_2048) slices_S16384x768_S16384x128_0_256 : FVec Ideal S16384x128 .f32) (Host.cos (angR p)) (Host.sin (angR p))

theorem b2R_apply (l : Fin 128) : b2R X g W p (ix2 n l) = kvG X g W p n (256 + l.val) := by
  have hl := l.isLt
  have hu : ∀ l : Fin 128, (extractStridedSlice S16384x128 ![0, 256] (extractStridedSlice S16384x768 ![0, 2048] (zR X g W) slices_S16384x5912_S16384x768_0_2048) slices_S16384x768_S16384x128_0_256 : FVec Ideal S16384x128 .f32) (ix2 n l) = proj X g W n (2048 + (256 + l.val)) := fun l => by
    pointwise
    rw [zR_apply]
  rw [kvG, if_pos (by omega)]
  exact rot2_apply _ (Host.cos (angR p)) (Host.sin (angR p)) n (fun c => proj X g W n (2048 + c)) (cosA p n) (sinA p n) 256 (by norm_num)
    hu (cosR_apply p n) (sinR_apply p n) l

/-- Block 3 of the keys and values. -/
def b3R : FVec Ideal S16384x128 .f32 :=
  (extractStridedSlice S16384x128 ![0, 384] (extractStridedSlice S16384x768 ![0, 2048] (zR X g W) slices_S16384x5912_S16384x768_0_2048) slices_S16384x768_S16384x128_0_384 : FVec Ideal S16384x128 .f32)

theorem b3R_apply (l : Fin 128) : b3R X g W (ix2 n l) = kvG X g W p n (384 + l.val) := by
  have hl := l.isLt
  have hu : ∀ l : Fin 128, (extractStridedSlice S16384x128 ![0, 384] (extractStridedSlice S16384x768 ![0, 2048] (zR X g W) slices_S16384x5912_S16384x768_0_2048) slices_S16384x768_S16384x128_0_384 : FVec Ideal S16384x128 .f32) (ix2 n l) = proj X g W n (2048 + (384 + l.val)) := fun l => by
    pointwise
    rw [zR_apply]
  rw [kvG, if_neg (by omega)]
  exact hu l

/-- Block 4 of the keys and values. -/
def b4R : FVec Ideal S16384x128 .f32 :=
  rot2 (extractStridedSlice S16384x128 ![0, 512] (extractStridedSlice S16384x768 ![0, 2048] (zR X g W) slices_S16384x5912_S16384x768_0_2048) slices_S16384x768_S16384x128_0_512 : FVec Ideal S16384x128 .f32) (Host.cos (angR p)) (Host.sin (angR p))

theorem b4R_apply (l : Fin 128) : b4R X g W p (ix2 n l) = kvG X g W p n (512 + l.val) := by
  have hl := l.isLt
  have hu : ∀ l : Fin 128, (extractStridedSlice S16384x128 ![0, 512] (extractStridedSlice S16384x768 ![0, 2048] (zR X g W) slices_S16384x5912_S16384x768_0_2048) slices_S16384x768_S16384x128_0_512 : FVec Ideal S16384x128 .f32) (ix2 n l) = proj X g W n (2048 + (512 + l.val)) := fun l => by
    pointwise
    rw [zR_apply]
  rw [kvG, if_pos (by omega)]
  exact rot2_apply _ (Host.cos (angR p)) (Host.sin (angR p)) n (fun c => proj X g W n (2048 + c)) (cosA p n) (sinA p n) 512 (by norm_num)
    hu (cosR_apply p n) (sinR_apply p n) l

/-- Block 5 of the keys and values. -/
def b5R : FVec Ideal S16384x128 .f32 :=
  (extractStridedSlice S16384x128 ![0, 640] (extractStridedSlice S16384x768 ![0, 2048] (zR X g W) slices_S16384x5912_S16384x768_0_2048) slices_S16384x768_S16384x128_0_640 : FVec Ideal S16384x128 .f32)

theorem b5R_apply (l : Fin 128) : b5R X g W (ix2 n l) = kvG X g W p n (640 + l.val) := by
  have hl := l.isLt
  have hu : ∀ l : Fin 128, (extractStridedSlice S16384x128 ![0, 640] (extractStridedSlice S16384x768 ![0, 2048] (zR X g W) slices_S16384x5912_S16384x768_0_2048) slices_S16384x768_S16384x128_0_640 : FVec Ideal S16384x128 .f32) (ix2 n l) = proj X g W n (2048 + (640 + l.val)) := fun l => by
    pointwise
    rw [zR_apply]
  rw [kvG, if_neg (by omega)]
  exact hu l

theorem kv_ref (j : Fin 512) : (concatenate S16384x512 1 [⟨S16384x128, b0R X g W p⟩, ⟨S16384x128, b1R X g W⟩, ⟨S16384x128, b2R X g W p⟩, ⟨S16384x128, b3R X g W⟩] concatenates_S16384x128_S16384x128_S16384x128_S16384x128_S16384x512_d1 : FVec Ideal S16384x512 .f32) (ix2 n j) = kvG X g W p n j.val :=
  (cat4_apply (b0R X g W p) (b1R X g W) (b2R X g W p) (b3R X g W) (kvG X g W p n) 0 n
    (fun l => (b0R_apply X g W p n l).trans (congrArg (kvG X g W p n) (by omega))) (fun l => (b1R_apply X g W p n l).trans (congrArg (kvG X g W p n) (by omega))) (fun l => (b2R_apply X g W p n l).trans (congrArg (kvG X g W p n) (by omega))) (fun l => (b3R_apply X g W p n l).trans (congrArg (kvG X g W p n) (by omega))) j).trans
    (congrArg (kvG X g W p n) (by omega))

theorem win_ref (j : Fin 256) : (concatenate S16384x256 1 [⟨S16384x128, b4R X g W p⟩, ⟨S16384x128, b5R X g W⟩] concatenates_S16384x128_S16384x128_S16384x256_d1 : FVec Ideal S16384x256 .f32) (ix2 n j) = kvG X g W p n (512 + j.val) :=
  (cat2_apply (b4R X g W p) (b5R X g W) (kvG X g W p n) 512 n
    (fun l => (b4R_apply X g W p n l).trans (congrArg (kvG X g W p n) (by omega))) (fun l => (b5R_apply X g W p n l).trans (congrArg (kvG X g W p n) (by omega))) j).trans
    (congrArg (kvG X g W p n) (by omega))

theorem cmp_ref (j : Fin 256) : (concatenate S16384x256 1 [⟨S16384x128, b0R X g W p⟩, ⟨S16384x128, b1R X g W⟩] concatenates_S16384x128_S16384x128_S16384x256_d1 : FVec Ideal S16384x256 .f32) (ix2 n j) = kvG X g W p n j.val :=
  (cat2_apply (b0R X g W p) (b1R X g W) (kvG X g W p n) 0 n
    (fun l => (b0R_apply X g W p n l).trans (congrArg (kvG X g W p n) (by omega))) (fun l => (b1R_apply X g W p n l).trans (congrArg (kvG X g W p n) (by omega))) j).trans
    (congrArg (kvG X g W p n) (by omega))

theorem slc_ref (j : Fin 256) : (concatenate S16384x256 1 [⟨S16384x128, b2R X g W p⟩, ⟨S16384x128, b3R X g W⟩] concatenates_S16384x128_S16384x128_S16384x256_d1 : FVec Ideal S16384x256 .f32) (ix2 n j) = kvG X g W p n (256 + j.val) :=
  (cat2_apply (b2R X g W p) (b3R X g W) (kvG X g W p n) 256 n
    (fun l => (b2R_apply X g W p n l).trans (congrArg (kvG X g W p n) (by omega))) (fun l => (b3R_apply X g W p n l).trans (congrArg (kvG X g W p n) (by omega))) j).trans
    (congrArg (kvG X g W p n) (by omega))

variable (m : (ℓ : Loc nD τ sig) → Buf (Elt Ideal) ℓ) (c : Dev nD)

theorem v65_ref (j : Fin 512) : Value.res_main_v65 (F := Ideal) m c (ix2 n j) = qG (m ((c.tc : Thread nD τ).loc main_arg0)) (m ((c.tc : Thread nD τ).loc main_arg1)) (m ((c.tc : Thread nD τ).loc main_arg2)) (m ((c.tc : Thread nD τ).loc main_arg3)) n (j.val) := by
  unfold Value.res_main_v65
  exact qh_ref (m ((c.tc : Thread nD τ).loc main_arg0)) (m ((c.tc : Thread nD τ).loc main_arg1)) (m ((c.tc : Thread nD τ).loc main_arg2)) (m ((c.tc : Thread nD τ).loc main_arg3)) n j

theorem v68_ref (j : Fin 512) : Value.res_main_v68 (F := Ideal) m c (ix2 n j) = qlG (m ((c.tc : Thread nD τ).loc main_arg0)) (m ((c.tc : Thread nD τ).loc main_arg1)) (m ((c.tc : Thread nD τ).loc main_arg2)) (m ((c.tc : Thread nD τ).loc main_arg3)) n (j.val) := by
  unfold Value.res_main_v68
  exact ql_ref (m ((c.tc : Thread nD τ).loc main_arg0)) (m ((c.tc : Thread nD τ).loc main_arg1)) (m ((c.tc : Thread nD τ).loc main_arg2)) (m ((c.tc : Thread nD τ).loc main_arg3)) n j

theorem v123_ref (j : Fin 512) : Value.res_main_v123 (F := Ideal) m c (ix2 n j) = kvG (m ((c.tc : Thread nD τ).loc main_arg0)) (m ((c.tc : Thread nD τ).loc main_arg1)) (m ((c.tc : Thread nD τ).loc main_arg2)) (m ((c.tc : Thread nD τ).loc main_arg3)) n (j.val) := by
  unfold Value.res_main_v123
  exact kv_ref (m ((c.tc : Thread nD τ).loc main_arg0)) (m ((c.tc : Thread nD τ).loc main_arg1)) (m ((c.tc : Thread nD τ).loc main_arg2)) (m ((c.tc : Thread nD τ).loc main_arg3)) n j

theorem v124_ref (j : Fin 256) : Value.res_main_v124 (F := Ideal) m c (ix2 n j) = kvG (m ((c.tc : Thread nD τ).loc main_arg0)) (m ((c.tc : Thread nD τ).loc main_arg1)) (m ((c.tc : Thread nD τ).loc main_arg2)) (m ((c.tc : Thread nD τ).loc main_arg3)) n (512 + j.val) := by
  unfold Value.res_main_v124
  exact win_ref (m ((c.tc : Thread nD τ).loc main_arg0)) (m ((c.tc : Thread nD τ).loc main_arg1)) (m ((c.tc : Thread nD τ).loc main_arg2)) (m ((c.tc : Thread nD τ).loc main_arg3)) n j

theorem v138_ref (j : Fin 256) : Value.res_main_v138 (F := Ideal) m c (ix2 n j) = kvG (m ((c.tc : Thread nD τ).loc main_arg0)) (m ((c.tc : Thread nD τ).loc main_arg1)) (m ((c.tc : Thread nD τ).loc main_arg2)) (m ((c.tc : Thread nD τ).loc main_arg3)) n (j.val) := by
  unfold Value.res_main_v138
  exact cmp_ref (m ((c.tc : Thread nD τ).loc main_arg0)) (m ((c.tc : Thread nD τ).loc main_arg1)) (m ((c.tc : Thread nD τ).loc main_arg2)) (m ((c.tc : Thread nD τ).loc main_arg3)) n j

theorem v140_ref (j : Fin 256) : Value.res_main_v140 (F := Ideal) m c (ix2 n j) = kvG (m ((c.tc : Thread nD τ).loc main_arg0)) (m ((c.tc : Thread nD τ).loc main_arg1)) (m ((c.tc : Thread nD τ).loc main_arg2)) (m ((c.tc : Thread nD τ).loc main_arg3)) n (256 + j.val) := by
  unfold Value.res_main_v140
  exact slc_ref (m ((c.tc : Thread nD τ).loc main_arg0)) (m ((c.tc : Thread nD τ).loc main_arg1)) (m ((c.tc : Thread nD τ).loc main_arg2)) (m ((c.tc : Thread nD τ).loc main_arg3)) n j

theorem v141_ref (j : Fin 256) : Value.res_main_v141 (F := Ideal) m c (ix2 n j) = kvG (m ((c.tc : Thread nD τ).loc main_arg0)) (m ((c.tc : Thread nD τ).loc main_arg1)) (m ((c.tc : Thread nD τ).loc main_arg2)) (m ((c.tc : Thread nD τ).loc main_arg3)) n (512 + j.val) := by
  unfold Value.res_main_v141
  exact win_ref (m ((c.tc : Thread nD τ).loc main_arg0)) (m ((c.tc : Thread nD τ).loc main_arg1)) (m ((c.tc : Thread nD τ).loc main_arg2)) (m ((c.tc : Thread nD τ).loc main_arg3)) n j

end Cert.Proof.ProjRef

end
-- ==== Proof.Proj.lean ====
/- The input projection with its gates and rotary embedding (the call `inproj`, program `Kernel4`): the claims of the call. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.ProjValue
public import proofs.«01_k».proof.Proof.ProjRef
public import Idealize.ShloMosaic.Lib.Pipeline.Value
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.Proof.Proj

theorem frame_k : Cert.quiescent_Kernel4 := fun m ρ _ => Cert.Kernel4.Gen.frame m ρ
theorem frame_ki : Cert.quiescent_Kernel4Ideal := fun m ρ _ => Cert.Kernel4Ideal.Gen.frame m ρ
theorem frame_r : Cert.quiescent_Reference4Ideal := fun m ρ _ =>
  (θ_run Cert.Reference4Ideal.defs _ _).mono
    (fun r h => ⟨fun c => (h c).2.2.2.2.2.2.2.2.2.2.2, sem_eq_zero_of_no_sems (by decide) r.2⟩)
    (Cert.Reference4Ideal.Value.run (F := Ideal) m ρ)
theorem preserves : Cert.preserves_Kernel4_Kernel4Ideal := trivial

theorem algebraic : Cert.algebraic_Kernel4Ideal_Reference4Ideal := by
  intro m ρ m' ρ' _ hagree
  refine ⟨fun c => G6 m c, fun c => G7 m c, fun c => G8 m c, fun c => G9 m c, fun c => G10 m c, fun c => G11 m c, fun c => G12 m c, fun c => G13 m c, fun c => G14 m c, fun c => G15 m c, fun c => G16 m c, ?_, ?_⟩
  · exact (θ_run Cert.Kernel4Ideal.defs _ _).mono (fun _ h c => ⟨(h c).1.trans (final6 m c),
      (h c).2.1.trans (final7 m c),
      (h c).2.2.1.trans (final8 m c),
      (h c).2.2.2.1.trans (final9 m c),
      (h c).2.2.2.2.1.trans (final10 m c),
      (h c).2.2.2.2.2.1.trans (final11 m c),
      (h c).2.2.2.2.2.2.1.trans (final12 m c),
      (h c).2.2.2.2.2.2.2.1.trans (final13 m c),
      (h c).2.2.2.2.2.2.2.2.1.trans (final14 m c),
      (h c).2.2.2.2.2.2.2.2.2.1.trans (final15 m c),
      (h c).2.2.2.2.2.2.2.2.2.2.1.trans (final16 m c),
      (h c).2.2.2.2.2.2.2.2.2.2.2⟩)
      (Cert.Kernel4Ideal.Value.run_blocks (F := Ideal) m ρ)
  refine (θ_run Cert.Reference4Ideal.defs _ _).mono (fun _ h c => ⟨(h c).1.trans ?_,
    (h c).2.1.trans ?_,
    (h c).2.2.1.trans ?_,
    (h c).2.2.2.1.trans ?_,
    (h c).2.2.2.2.1.trans ?_,
    (h c).2.2.2.2.2.1.trans ?_,
    (h c).2.2.2.2.2.2.1.trans ?_,
    (h c).2.2.2.2.2.2.2.1.trans ?_,
    (h c).2.2.2.2.2.2.2.2.1.trans ?_,
    (h c).2.2.2.2.2.2.2.2.2.1.trans ?_,
    (h c).2.2.2.2.2.2.2.2.2.2.1.trans ?_,
    (h c).2.2.2.2.2.2.2.2.2.2.2⟩)
    (Cert.Reference4Ideal.Value.run (F := Ideal) m' ρ')
  · obtain ⟨h0, h1, h2, h3⟩ := hagree c
    funext i
    obtain ⟨n, q, rfl⟩ : ∃ (n : Fin 16384) (q : Fin 512), i = ix2 n q := ⟨i 0, i 1, eq_ix2 i⟩
    refine (ProjRef.a_ref _ _ _ n q).trans ?_
    rw [h0, h1, h2]
    rfl
  · obtain ⟨h0, h1, h2, h3⟩ := hagree c
    funext i
    obtain ⟨n, q, rfl⟩ : ∃ (n : Fin 16384) (q : Fin 512), i = ix2 n q := ⟨i 0, i 1, eq_ix2 i⟩
    refine (ProjRef.zb_ref _ _ _ n q).trans ?_
    rw [h0, h1, h2]
    rfl
  · obtain ⟨h0, h1, h2, h3⟩ := hagree c
    funext i
    obtain ⟨n, q, rfl⟩ : ∃ (n : Fin 16384) (q : Fin 512), i = ix2 n q := ⟨i 0, i 1, eq_ix2 i⟩
    refine (ProjRef.v65_ref n m' c q).trans ?_
    rw [h0, h1, h2, h3]
    rfl
  · obtain ⟨h0, h1, h2, h3⟩ := hagree c
    funext i
    obtain ⟨n, q, rfl⟩ : ∃ (n : Fin 16384) (q : Fin 512), i = ix2 n q := ⟨i 0, i 1, eq_ix2 i⟩
    refine (ProjRef.v68_ref n m' c q).trans ?_
    rw [h0, h1, h2, h3]
    rfl
  · obtain ⟨h0, h1, h2, h3⟩ := hagree c
    funext i
    obtain ⟨n, q, rfl⟩ : ∃ (n : Fin 16384) (q : Fin 512), i = ix2 n q := ⟨i 0, i 1, eq_ix2 i⟩
    refine (ProjRef.v123_ref n m' c q).trans ?_
    rw [h0, h1, h2, h3]
    rfl
  · obtain ⟨h0, h1, h2, h3⟩ := hagree c
    funext i
    obtain ⟨n, q, rfl⟩ : ∃ (n : Fin 16384) (q : Fin 256), i = ix2 n q := ⟨i 0, i 1, eq_ix2 i⟩
    refine (ProjRef.v124_ref n m' c q).trans ?_
    rw [h0, h1, h2, h3]
    rfl
  · obtain ⟨h0, h1, h2, h3⟩ := hagree c
    funext i
    obtain ⟨n, q, rfl⟩ : ∃ (n : Fin 16384) (q : Fin 256), i = ix2 n q := ⟨i 0, i 1, eq_ix2 i⟩
    refine (ProjRef.v138_ref n m' c q).trans ?_
    rw [h0, h1, h2, h3]
    rfl
  · obtain ⟨h0, h1, h2, h3⟩ := hagree c
    funext i
    obtain ⟨n, q, rfl⟩ : ∃ (n : Fin 16384) (q : Fin 256), i = ix2 n q := ⟨i 0, i 1, eq_ix2 i⟩
    refine (ProjRef.v140_ref n m' c q).trans ?_
    rw [h0, h1, h2, h3]
    rfl
  · obtain ⟨h0, h1, h2, h3⟩ := hagree c
    funext i
    obtain ⟨n, q, rfl⟩ : ∃ (n : Fin 16384) (q : Fin 256), i = ix2 n q := ⟨i 0, i 1, eq_ix2 i⟩
    refine (ProjRef.v141_ref n m' c q).trans ?_
    rw [h0, h1, h2, h3]
    rfl
  · obtain ⟨h0, h1, h2, h3⟩ := hagree c
    funext i
    obtain ⟨n, q, rfl⟩ : ∃ (n : Fin 16384) (q : Fin 128), i = ix2 n q := ⟨i 0, i 1, eq_ix2 i⟩
    refine (ProjRef.ng_ref _ _ _ n q).trans ?_
    rw [h0, h1, h2]
    rfl
  · obtain ⟨h0, h1, h2, h3⟩ := hagree c
    funext i
    obtain ⟨n, q, rfl⟩ : ∃ (n : Fin 16384) (q : Fin 3072), i = ix2 n q := ⟨i 0, i 1, eq_ix2 i⟩
    refine (ProjRef.mg_ref _ _ _ n q).trans ?_
    rw [h0, h1, h2]
    rfl

end Cert.Proof.Proj

end
-- ==== Proof.Norm.lean ====
/- The final normalisation (the call `final_norm`, program `Kernel5`): what the tiled kernel leaves is, over the extended reals,
   the reference's result. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Row
public import Idealize.ShloMosaic.Lib.Pipeline.Value
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Norm

open Cert.Kernel5Ideal Cert.Kernel5Ideal.Gen

theorem pay_apply (x : Vec Ideal S512x1024 .f32) (g : Vec Ideal S1x1024 .f32) (r : Fin 512) (k : Fin 1024) :
    k0_pay1 (F := Ideal) x g (ix2 r k) = normRow (fun k => x (ix2 r k)) (fun k => g (ix2 0 k)) k := by
  unfold k0_pay1 normRow
  pointwise

variable (m : (ℓ : Loc nD τ sig) → Buf (Elt Ideal) ℓ)

/-- The gains as a row. -/
theorem V_v0 (c : Dev nD) (k : Fin 1024) :
    (V m c main_v0 : FVec Ideal S1x1024 .f32) (ix2 0 k) = m ((c : Thread nD τ).loc main_arg1) (ix1 k) := by
  have h : V m c main_v0 = shapeCast S1x1024 (m ((c : Thread nD τ).loc main_arg1) : FVec Ideal S1024 .f32) shapeCasts_S1024_S1x1024 := by
    unfold_abbrev_sides
    after_results
    rfl
  rw [h]
  pointwise

/-- Row `r` of tile `t` of the tokens. -/
def row (t : Fin cfg0.N) (r : Fin 512) : Fin 16384 := ⟨t.val * 512 + r.val, by
  have := t.isLt; have h : cfg0.N = 32 := N_0; omega⟩

theorem blk0 (c : Dev nD) (t : Fin cfg0.N) (r : Fin 512) (k : Fin 1024) :
    View.ld (iblk m c 0 t) r0_0 (ix2 r k) = m ((c : Thread nD τ).loc main_arg0) (ix2 (row t r) k) := by
  have hi : ∀ t : Fin cfg0.N, win0_0.index t 0 = t.val ∧ win0_0.index t 1 = 0 :=
    (by decide +kernel : ∀ t : Fin grid0.N, win0_0.index t 0 = t.val ∧ win0_0.index t 1 = 0)
  show iblk m c 0 t ((r0_0).emb (ix2 r k)) = _
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * (0 + 1 * r.val) = t.val * 512 + r.val; rw [(hi t).1]; omega
  | ⟨1, _⟩ => show win0_0.index t 1 * 1024 + 1 * (0 + 1 * k.val) = k.val; rw [(hi t).2]; omega

theorem blk1 (c : Dev nD) (t : Fin cfg0.N) (k : Fin 1024) :
    View.ld (iblk m c 1 t) r0_1 (ix2 0 k) = m ((c : Thread nD τ).loc main_arg1) (ix1 k) := by
  have hi : ∀ t : Fin cfg0.N, win0_1.index t 0 = 0 ∧ win0_1.index t 1 = 0 :=
    (by decide +kernel : ∀ t : Fin grid0.N, win0_1.index t 0 = 0 ∧ win0_1.index t 1 = 0)
  show iblk m c 1 t ((r0_1).emb (ix2 0 k)) = _
  unfold iblk
  rw [View.read_apply]
  show V m c main_v0 _ = m (c.tc.loc main_arg1) _
  rw [← V_v0 m c k]
  congr 1
  funext a
  apply Fin.ext
  match a with
  | ⟨0, _⟩ => show win0_1.index t 0 * 1 + 1 * (0 + 1 * 0) = 0; rw [(hi t).1]
  | ⟨1, _⟩ => show win0_1.index t 1 * 1024 + 1 * (0 + 1 * k.val) = k.val; rw [(hi t).2]; omega

/-- The result, entry by entry, as a function of the argument arrays. -/
def G (c : Dev nD) : S16384x1024.Idx → EReal := fun i =>
  normRow (fun k => m ((c : Thread nD τ).loc main_arg0) (ix2 (i 0) k)) (fun k => m ((c : Thread nD τ).loc main_arg1) (ix1 k)) (i 1)

theorem flushed_eq (c : Dev nD) (t : Fin cfg0.N) :
    (dats m 0 c).flushed 2 t = (win0_2.blk t).view.read (Elt Ideal) (G m c) := by
  rw [Value.flushed2]
  funext j
  rw [View.read_apply]
  show out0_2 (iblk m c 0 t) (iblk m c 1 t) j = _
  unfold out0_2
  rw [View.canon_unit_zero (by funext a; fin_cases a <;> rfl)]
  obtain ⟨r, q, rfl⟩ : ∃ (r : Fin 512) (q : Fin 1024), j = ix2 r q := ⟨j 0, j 1, eq_ix2 j⟩
  rw [pay_apply]
  simp only [blk0, blk1]
  have hi : ∀ t : Fin cfg0.N, win0_2.index t 0 = t.val ∧ win0_2.index t 1 = 0 :=
    (by decide +kernel : ∀ t : Fin grid0.N, win0_2.index t 0 = t.val ∧ win0_2.index t 1 = 0)
  have e : (win0_2.blk t).view.emb (ix2 r q) = (ix2 (row t r) q : S16384x1024.Idx) := by
    funext a
    apply Fin.ext
    match a with
    | ⟨0, _⟩ => show win0_2.index t 0 * 512 + 1 * r.val = t.val * 512 + r.val; rw [(hi t).1]; omega
    | ⟨1, _⟩ => show win0_2.index t 1 * 1024 + 1 * q.val = q.val; rw [(hi t).2]; omega
  rw [e]
  rfl

theorem mem_blk (t : Fin cfg0.N) (i : S16384x1024.Idx) :
    i ∈ ((cfg0.win 2).blk t).view.set ↔ t.val * 512 ≤ (i 0 : Nat) ∧ (i 0 : Nat) < t.val * 512 + 512 := by
  have e : ∀ t : Fin cfg0.N, win0_2.index t 0 = t.val ∧ win0_2.index t 1 = 0 :=
    (by decide +kernel : ∀ t : Fin grid0.N, win0_2.index t 0 = t.val ∧ win0_2.index t 1 = 0)
  show i ∈ ((View.whole main_v1).slice (win0_2.rect t)).set ↔ _
  rw [View.set_slice_whole, Rect.mem_set_unit]
  have h1 : (i 1 : Nat) < 1024 := (i 1).isLt
  refine ⟨fun h => ?_, fun h a => ?_⟩
  · have : win0_2.index t 0 * 512 ≤ (i 0 : Nat) ∧ (i 0 : Nat) < win0_2.index t 0 * 512 + 512 := h 0
    rw [(e t).1] at this; exact this
  · match a with
    | ⟨0, _⟩ => show win0_2.index t 0 * 512 ≤ (i 0 : Nat) ∧ (i 0 : Nat) < win0_2.index t 0 * 512 + 512
                rw [(e t).1]; exact h
    | ⟨1, _⟩ => show win0_2.index t 1 * 1024 ≤ (i 1 : Nat) ∧ (i 1 : Nat) < win0_2.index t 1 * 1024 + 1024
                rw [(e t).2, Nat.zero_mul, Nat.zero_add]; exact ⟨Nat.zero_le _, h1⟩

theorem cover (i : S16384x1024.Idx) :
    ∃ t : Fin cfg0.N, (cfg0.win 2).flush t = true ∧ i ∈ ((cfg0.win 2).blk t).view.set := by
  have h0 : (i 0 : Nat) < 16384 := (i 0).isLt
  have hN : cfg0.N = 32 := N_0
  have ht : (i 0 : Nat) / 512 < cfg0.N := by rw [hN]; omega
  obtain ⟨t, ht⟩ : ∃ t : Fin cfg0.N, t.val = (i 0 : Nat) / 512 := ⟨⟨_, ht⟩, rfl⟩
  refine ⟨t, flush0_2 t, ?_⟩
  rw [mem_blk]
  omega

theorem final (c : Dev nD) : (dats m 0 c).arrAt 2 cfg0.N = G m c :=
  (dats m 0 c).arrAt_eq_of_cover 2 (G m c) (fun t _ => flushed_eq m c t) cover

theorem ref_eq (x : FVec Ideal Cert.Reference5Ideal.S16384x1024 .f32) (g : FVec Ideal Cert.Reference5Ideal.S1024 .f32)
    (n : Fin 16384) (k : Fin 1024) :
    (mulf (mulf x (broadcastInDim Cert.Reference5Ideal.S16384x1024 ![0, 1] Cert.Reference5Ideal.Gen.bcast_S16384x1_S16384x1024_0_1 (Host.rsqrt (addf (Host.divf (broadcastInDim Cert.Reference5Ideal.S16384x1 ![0] Cert.Reference5Ideal.Gen.bcast_S16384_S16384x1_0 (Host.reduceAdd (mulf x x) (constant Cert.Reference5Ideal.S_ .f32 0x00000000#32) Cert.Reference5Ideal.Gen.reducesTo_S16384x1024_S16384_d1 Cert.Reference5Ideal.Gen.h_S_)) (broadcastInDim Cert.Reference5Ideal.S16384x1 ![] Cert.Reference5Ideal.Gen.bcast_S_S16384x1 (constant Cert.Reference5Ideal.S_ .f32 0x44800000#32))) (broadcastInDim Cert.Reference5Ideal.S16384x1 ![] Cert.Reference5Ideal.Gen.bcast_S_S16384x1 (constant Cert.Reference5Ideal.S_ .f32 0x358637BD#32)))))) (broadcastInDim Cert.Reference5Ideal.S16384x1024 ![0, 1] Cert.Reference5Ideal.Gen.bcast_S1x1024_S16384x1024_0_1 (broadcastInDim Cert.Reference5Ideal.S1x1024 ![1] Cert.Reference5Ideal.Gen.bcast_S1024_S1x1024_1 g)) : FVec Ideal Cert.Reference5Ideal.S16384x1024 .f32) (ix2 n k)
      = normRow (fun k => x (ix2 n k)) (fun k => g (ix1 k)) k := by
  unfold normRow
  pointwise

theorem algebraic : Cert.algebraic_Kernel5Ideal_Reference5Ideal := by
  intro m ρ m' ρ' _ hagree
  refine ⟨fun c => G m c, ?_, ?_⟩
  · exact (θ_run Cert.Kernel5Ideal.defs _ _).mono (fun _ h c => ⟨(h c).1.trans (final m c), (h c).2⟩)
      (Cert.Kernel5Ideal.Value.run_blocks (F := Ideal) m ρ)
  refine (θ_run Cert.Reference5Ideal.defs _ _).mono (fun _ h c => ⟨(h c).1.trans ?_, (h c).2⟩)
    (Cert.Reference5Ideal.Value.run (F := Ideal) m' ρ')
  obtain ⟨h0, h1⟩ := hagree c
  rw [h0, h1]
  funext i
  obtain ⟨r, q, rfl⟩ : ∃ (r : Fin 16384) (q : Fin 1024), i = ix2 r q := ⟨i 0, i 1, eq_ix2 i⟩
  exact ref_eq _ _ r q

theorem frame_k : Cert.quiescent_Kernel5 := fun m ρ _ => Cert.Kernel5.Gen.frame m ρ
theorem frame_ki : Cert.quiescent_Kernel5Ideal := fun m ρ _ => Cert.Kernel5Ideal.Gen.frame m ρ
theorem frame_r : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem preserves : Cert.preserves_Kernel5_Kernel5Ideal := trivial

end Cert.Proof.Norm

end
-- ==== Proof.ConvTile.lean ====
/- The gated convolution (the call `conv_a`, program `Kernel6`): what one tile of 256 rows computes from its rows and the 32 rows carried
   from the tile before. -/
module

public import proofs.«01_k».proof.Defs
public import proofs.«01_k».proof.Proof.Gen.Kernel6Ideal.Value
public import Idealize.ShloMosaic.Lib.Pipeline.Value
public import Idealize.ShloMosaic.Lib.Pipeline.ReadBack
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Proof.ConvTile

open Cert.Kernel6Ideal Cert.Kernel6Ideal.Gen

/-- The first `n` taps at row `N` and column `j`: rows `N`, `N + 1`, … weighted by the rows of `w`. -/
def conv (f w : ℕ → ℕ → EReal) (N j : ℕ) : ℕ → EReal
  | 0 => 0
  | n + 1 => conv f w N j n + f (N + n) j * w n j

/-- The mean of a row of 512 entries. -/
def mean (p : Fin 512 → EReal) : EReal := Ideal.div (∑ k, p k) (Ideal.ofBits .f32 0x44000000#32)

/-- A normalised entry, scaled and shifted. -/
def normed (p : Fin 512 → EReal) (g β : EReal) (j : Fin 512) : EReal :=
  (p j - mean p) * Ideal.rsqrt (mean (fun k => (p k - mean p) * (p k - mean p)) + Ideal.ofBits .f32 0x358637BD#32) * g + β

/-- An entry of the result from its row of convolved entries. -/
def ent (p : Fin 512 → EReal) (g β : EReal) (j : Fin 512) : EReal := normed p g β j * Ideal.logistic (normed p g β j)

/-- The empty sum of taps. -/
def zeroV : FVec Ideal S64x512 .f32 := broadcast S64x512 (Scalar.ofBits .f32 0x00000000#32)

/-- One more tap, whose block is loaded from the rows. -/
def tap2 (s : FVec Ideal S64x512 .f32) (t : Vec Ideal S64x512 .f32) (w : Vec Ideal S1x512 .f32) : FVec Ideal S64x512 .f32 :=
  addf s (mulf t (broadcastTo S64x512 w broadcasts_S1x512_S64x512))

/-- One more tap, whose block is loaded from the shifted rows. -/
def tap3 (s : FVec Ideal S64x512 .f32) (t : Vec Ideal S1x64x512 .f32) (w : Vec Ideal S1x512 .f32) : FVec Ideal S64x512 .f32 :=
  addf s (mulf (shapeCast S64x512 t shapeCasts_S1x64x512_S64x512) (broadcastTo S64x512 w broadcasts_S1x512_S64x512))

/-- The convolved block with its bias. -/
def biasV (s : FVec Ideal S64x512 .f32) (b : Vec Ideal S1x512 .f32) : FVec Ideal S64x512 .f32 :=
  addf s (broadcastTo S64x512 (shapeCast S1x512 b shapeCasts_S1x512_S1x512) broadcasts_S1x512_S64x512)

/-- The mean of each row of a block. -/
def meanV (y : FVec Ideal S64x512 .f32) : FVec Ideal S64x1 .f32 :=
  divf (shapeCast S64x1 (multiReduction .add [1] S64 y 0x00000000#32 reduces_S64x512_S64 (.inl rfl) rfl) shapeCasts_S64_S64x1)
    (broadcast S64x1 (Scalar.ofBits .f32 0x44000000#32))

/-- A block less its rows' means. -/
def centV (y : FVec Ideal S64x512 .f32) : FVec Ideal S64x512 .f32 := subf y (broadcastTo S64x512 (meanV y) broadcasts_S64x1_S64x512)

/-- A block normalised, scaled and shifted. -/
def normV (y : FVec Ideal S64x512 .f32) (g β : Vec Ideal S1x512 .f32) : FVec Ideal S64x512 .f32 :=
  addf (mulf (mulf (centV y) (broadcastTo S64x512 (rsqrt (addf (meanV (mulf (centV y) (centV y))) (broadcast S64x1 (Scalar.ofBits .f32 0x358637BD#32)))) broadcasts_S64x1_S64x512))
    (broadcastTo S64x512 (shapeCast S1x512 g shapeCasts_S1x512_S1x512) broadcasts_S1x512_S64x512))
    (broadcastTo S64x512 (shapeCast S1x512 β shapeCasts_S1x512_S1x512) broadcasts_S1x512_S64x512)

/-- One block of the result from the sum of its taps. -/
def pieceV (s : FVec Ideal S64x512 .f32) (b g β : Vec Ideal S1x512 .f32) : FVec Ideal S1x64x512 .bf16 :=
  shapeCast S1x64x512 (truncf .bf16 (mulf (normV (biasV s b) g β) (logistic (normV (biasV s b) g β))) bitsLt_bf16_f32) shapeCasts_S64x512_S1x64x512

/-- The first `n` taps of the block of 64 rows whose first tap begins at row `o`. -/
def accV (f w : ℕ → ℕ → EReal) (o n : ℕ) : FVec Ideal S64x512 .f32 := fun y => conv f w (o + (y 0).val) (y 1).val n

theorem biasV_apply (s : FVec Ideal S64x512 .f32) (b : Vec Ideal S1x512 .f32) (r : Fin 64) (j : Fin 512) :
    biasV s b (ix2 r j) = s (ix2 r j) + b (ix2 0 j) := by
  unfold biasV
  pointwise

theorem meanV_apply (y : FVec Ideal S64x512 .f32) (r : Fin 64) : meanV y (ix2 r 0) = mean (fun k => y (ix2 r k)) := by
  unfold meanV mean
  pointwise

theorem centV_apply (y : FVec Ideal S64x512 .f32) (r : Fin 64) (j : Fin 512) : centV y (ix2 r j) = y (ix2 r j) - mean (fun k => y (ix2 r k)) := by
  rw [← meanV_apply]
  unfold centV
  pointwise

theorem normV_apply (y : FVec Ideal S64x512 .f32) (g β : Vec Ideal S1x512 .f32) (r : Fin 64) (j : Fin 512) :
    normV y g β (ix2 r j) = normed (fun k => y (ix2 r k)) (g (ix2 0 j)) (β (ix2 0 j)) j := by
  have h : normV y g β (ix2 r j) = centV y (ix2 r j) * Ideal.rsqrt (meanV (mulf (centV y) (centV y)) (ix2 r 0) + Ideal.ofBits .f32 0x358637BD#32) * g (ix2 0 j) + β (ix2 0 j) := by
    unfold normV
    pointwise
  rw [h, meanV_apply, centV_apply]
  unfold normed
  have e : (fun k => mulf (centV y) (centV y) (ix2 r k)) = fun k => (y (ix2 r k) - mean (fun k => y (ix2 r k))) * (y (ix2 r k) - mean (fun k => y (ix2 r k))) := by
    funext k
    show centV y (ix2 r k) * centV y (ix2 r k) = _
    rw [centV_apply]
  rw [e]

theorem pieceV_apply (s : FVec Ideal S64x512 .f32) (b g β : Vec Ideal S1x512 .f32) (r : Fin 64) (j : Fin 512) :
    pieceV s b g β (ix3 0 r j) = ent (fun k => s (ix2 r k) + b (ix2 0 k)) (g (ix2 0 j)) (β (ix2 0 j)) j := by
  have h : pieceV s b g β (ix3 0 r j) = normV (biasV s b) g β (ix2 r j) * Ideal.logistic (normV (biasV s b) g β (ix2 r j)) := by
    unfold pieceV
    pointwise
  rw [h, normV_apply]
  simp only [biasV_apply]
  rfl

/-- A tile's result block, over the rows `f` (its own from row 32, the carried ones before them). -/
def outT (f w : ℕ → ℕ → EReal) (b g β : Vec Ideal S1x512 .f32) : Vec Ideal S1x256x512 .bf16 :=
  fun y => ent (fun k => conv f w (2 + (y 1).val) k.val 31 + b (ix2 0 k)) (g (ix2 0 (y 2))) (β (ix2 0 (y 2))) (y 2)

/-- A stored piece is a block of `outT`. -/
theorem piece_ok (f w : ℕ → ℕ → EReal) (b g β : Vec Ideal S1x512 .f32) (r0 : ℕ) (hr : r0 + 64 ≤ 256)
    (io : ∀ a, (![0, r0, 0] : Fin 3 → ℕ) a + S1x64x512.size a ≤ S1x256x512.size a) {s : FVec Ideal S64x512 .f32} {b' g' β' : Vec Ideal S1x512 .f32}
    (hb : b' = b) (hg : g' = g) (hβ : β' = β) (hs : s = accV f w (2 + r0) 31) (z : S1x64x512.Idx) :
    pieceV s b' g' β' z = outT f w b g β ((Rect.unit (s := S1x256x512) ![0, r0, 0] S1x64x512.size io).emb z) := by
  subst hb hg hβ hs
  obtain ⟨r, j, rfl⟩ : ∃ (r : Fin 64) (j : Fin 512), z = ix3 0 r j := by
    refine ⟨z 1, z 2, ?_⟩
    have h1 : z 0 = (0 : Fin 1) := Fin.ext (by have h : (z 0).val < 1 := (z 0).isLt; show (z 0).val = 0; omega)
    rw [← h1]; exact eq_ix3 z
  have e : (Rect.unit (s := S1x256x512) ![0, r0, 0] S1x64x512.size io).emb (ix3 0 r j) = (ix3 0 ⟨r0 + r.val, by omega⟩ j : S1x256x512.Idx) := by
    funext a; apply Fin.ext
    match a with
    | ⟨0, _⟩ => rfl
    | ⟨1, _⟩ => show r0 + 1 * r.val = r0 + r.val; omega
    | ⟨2, _⟩ => show 0 + 1 * j.val = j.val; omega
  rw [e, pieceV_apply]
  show ent (fun k => conv f w (2 + r0 + r.val) k.val 31 + b' (ix2 0 k)) _ _ _ = ent (fun k => conv f w (2 + (r0 + r.val)) k.val 31 + b' (ix2 0 k)) _ _ _
  rw [Nat.add_assoc]
  rfl

theorem zero_acc (f w : ℕ → ℕ → EReal) (o : ℕ) : zeroV = accV f w o 0 := by
  funext y
  obtain ⟨r, j, rfl⟩ : ∃ (r : Fin 64) (j : Fin 512), y = ix2 r j := ⟨y 0, y 1, eq_ix2 y⟩
  show zeroV (ix2 r j) = 0
  unfold zeroV
  pointwise

theorem tap2_succ {f w : ℕ → ℕ → EReal} {o n : ℕ} {s : FVec Ideal S64x512 .f32} {t : Vec Ideal S64x512 .f32} {v : Vec Ideal S1x512 .f32}
    (h : s = accV f w o n) (ht : ∀ (r : Fin 64) (j : Fin 512), t (ix2 r j) = f (o + n + r.val) j.val) (hv : ∀ j : Fin 512, v (ix2 0 j) = w n j.val) :
    tap2 s t v = accV f w o (n + 1) := by
  subst h
  funext y
  obtain ⟨r, j, rfl⟩ : ∃ (r : Fin 64) (j : Fin 512), y = ix2 r j := ⟨y 0, y 1, eq_ix2 y⟩
  have e : tap2 (accV f w o n) t v (ix2 r j) = accV f w o n (ix2 r j) + t (ix2 r j) * v (ix2 0 j) := by
    unfold tap2
    pointwise
  rw [e, ht, hv, Nat.add_right_comm]
  rfl

theorem tap3_succ {f w : ℕ → ℕ → EReal} {o n : ℕ} {s : FVec Ideal S64x512 .f32} {t : Vec Ideal S1x64x512 .f32} {v : Vec Ideal S1x512 .f32}
    (h : s = accV f w o n) (ht : ∀ (r : Fin 64) (j : Fin 512), t (ix3 0 r j) = f (o + n + r.val) j.val) (hv : ∀ j : Fin 512, v (ix2 0 j) = w n j.val) :
    tap3 s t v = accV f w o (n + 1) := by
  subst h
  funext y
  obtain ⟨r, j, rfl⟩ : ∃ (r : Fin 64) (j : Fin 512), y = ix2 r j := ⟨y 0, y 1, eq_ix2 y⟩
  have e : tap3 (accV f w o n) t v (ix2 r j) = accV f w o n (ix2 r j) + t (ix3 0 r j) * v (ix2 0 j) := by
    unfold tap3
    pointwise
  rw [e, ht, hv, Nat.add_right_comm]
  rfl

end Cert.Proof.ConvTile

end
-- ==== Proof.ConvWords.lean ====
/- The gated convolution (the call `conv_a`, program `Kernel6`): the body writes its four blocks of the result as four separate texts;
   each is here equated with the one block function `pieceV`. -/
module

public import proofs.«01_k».proof.Proof.ConvTile

@[expose] public section

set_option maxRecDepth 16384

noncomputable section

open Idealize.ShloMosaic Idealize.ShloMosaic.TcCoe Idealize.SL.Sem

namespace Cert.Proof.ConvTile

open Cert.Kernel6Ideal Cert.Kernel6Ideal.Gen

theorem gate_192 (v688 v694 v700 v706 v712 v718 v729 v735 v741 v747 v753 v759 v765 v776 v782 v788 v794 v800 v806 v812 v823 v829 v835 v841 v847 v853 v859 : Vec Ideal S1x64x512 .f32) (v724 v771 v818 v865 : Vec Ideal S64x512 .f32)
    (v690 v696 v702 v708 v714 v720 v725 v731 v737 v743 v749 v755 v761 v767 v772 v778 v784 v790 v796 v802 v808 v814 v819 v825 v831 v837 v843 v849 v855 v861 v866 v870 v890 v894 : Vec Ideal S1x512 .f32) :
    k0_pay1 (k0_pay53 (k0_pay52 (k0_pay50 (k0_pay49 (k0_pay47 (k0_pay46 (k0_pay44 v688 v690) (k0_pay45 v694) v696 v700 v702 v706 v708 v712 v714 v718 v720 v724 v725) v729 v731 v735 v737 v741 v743 v747 v749 v753 v755) (k0_pay48 v759) v761 v765 v767 v771 v772 v776 v778 v782 v784 v788 v790) v794 v796 v800 v802 v806 v808 v812 v814 v818 v819) (k0_pay51 v823 v825) v829 v831 v835 v837 v841 v843 v847 v849 v853 v855) v859 v861 v865 v866 v870 v890 v894)
      = pieceV (tap2 (tap3 (tap3 (tap3 (tap3 (tap3 (tap3 (tap3 (tap2 (tap3 (tap3 (tap3 (tap3 (tap3 (tap3 (tap3 (tap2 (tap3 (tap3 (tap3 (tap3 (tap3 (tap3 (tap3 (tap2 (tap3 (tap3 (tap3 (tap3 (tap3 (tap3 zeroV v688 v690) v694 v696) v700 v702) v706 v708) v712 v714) v718 v720) v724 v725) v729 v731) v735 v737) v741 v743) v747 v749) v753 v755) v759 v761) v765 v767) v771 v772) v776 v778) v782 v784) v788 v790) v794 v796) v800 v802) v806 v808) v812 v814) v818 v819) v823 v825) v829 v831) v835 v837) v841 v843) v847 v849) v853 v855) v859 v861) v865 v866) v870 v890 v894 := by
  unfold pieceV k0_pay1 k0_pay53 k0_pay52 k0_pay50 k0_pay49 k0_pay47 k0_pay46 k0_pay44 k0_pay45 k0_pay48 k0_pay51
  rfl

theorem gate_0 (v37 v43 v49 v55 v61 v67 v78 v84 v90 v96 v102 v108 v114 v125 v131 v137 v143 v149 v155 v161 v172 v178 v184 v190 v196 v202 v208 : Vec Ideal S1x64x512 .f32) (v73 v120 v167 v214 : Vec Ideal S64x512 .f32)
    (v39 v45 v51 v57 v63 v69 v74 v80 v86 v92 v98 v104 v110 v116 v121 v127 v133 v139 v145 v151 v157 v163 v168 v174 v180 v186 v192 v198 v204 v210 v215 v219 v239 v243 : Vec Ideal S1x512 .f32) :
    k0_pay20 (k0_pay19 (k0_pay18 (k0_pay17 (k0_pay15 (k0_pay14 (k0_pay12 v37 v39 v43 v45) (k0_pay13 v49) v51 v55 v57 v61 v63 v67 v69 v73 v74 v78 v80) v84 v86 v90 v92 v96 v98 v102 v104 v108 v110) (k0_pay16 v114) v116 v120 v121 v125 v127 v131 v133 v137 v139 v143 v145) v149 v151 v155 v157 v161 v163 v167 v168 v172 v174 v178 v180) v184 v186 v190 v192 v196 v198 v202 v204 v208 v210) v214 v215 v219 v239 v243
      = pieceV (tap2 (tap3 (tap3 (tap3 (tap3 (tap3 (tap3 (tap3 (tap2 (tap3 (tap3 (tap3 (tap3 (tap3 (tap3 (tap3 (tap2 (tap3 (tap3 (tap3 (tap3 (tap3 (tap3 (tap3 (tap2 (tap3 (tap3 (tap3 (tap3 (tap3 (tap3 zeroV v37 v39) v43 v45) v49 v51) v55 v57) v61 v63) v67 v69) v73 v74) v78 v80) v84 v86) v90 v92) v96 v98) v102 v104) v108 v110) v114 v116) v120 v121) v125 v127) v131 v133) v137 v139) v143 v145) v149 v151) v155 v157) v161 v163) v167 v168) v172 v174) v178 v180) v184 v186) v190 v192) v196 v198) v202 v204) v208 v210) v214 v215) v219 v239 v243 := by
  unfold pieceV k0_pay20 k0_pay19 k0_pay18 k0_pay17 k0_pay15 k0_pay14 k0_pay12 k0_pay13 k0_pay16
  rfl

theorem gate_64 (v254 v260 v266 v272 v278 v284 v295 v301 v307 v313 v319 v325 v331 v342 v348 v354 v360 v366 v372 v378 v389 v395 v401 v407 v413 v419 v425 : Vec Ideal S1x64x512 .f32) (v290 v337 v384 v431 : Vec Ideal S64x512 .f32)
    (v256 v262 v268 v274 v280 v286 v291 v297 v303 v309 v315 v321 v327 v333 v338 v344 v350 v356 v362 v368 v374 v380 v385 v391 v397 v403 v409 v415 v421 v427 v432 v436 v456 v460 : Vec Ideal S1x512 .f32) :
    k0_pay33 (k0_pay31 (k0_pay30 (k0_pay28 (k0_pay27 (k0_pay25 (k0_pay23 k0_pay21 (k0_pay22 v254) v256 v260 v262 v266 v268 v272 v274 v278 v280) (k0_pay24 v284 v286) v290 v291 v295 v297 v301 v303 v307 v309 v313 v315) (k0_pay26 v319) v321 v325 v327 v331 v333 v337 v338 v342 v344 v348 v350) v354 v356 v360 v362 v366 v368 v372 v374 v378 v380) v384 (k0_pay29 v385) v389 v391 v395 v397 v401 v403 v407 v409 v413 v415) v419 v421 v425 v427 v431 v432 v436) (k0_pay32 v456) v460
      = pieceV (tap2 (tap3 (tap3 (tap3 (tap3 (tap3 (tap3 (tap3 (tap2 (tap3 (tap3 (tap3 (tap3 (tap3 (tap3 (tap3 (tap2 (tap3 (tap3 (tap3 (tap3 (tap3 (tap3 (tap3 (tap2 (tap3 (tap3 (tap3 (tap3 (tap3 (tap3 zeroV v254 v256) v260 v262) v266 v268) v272 v274) v278 v280) v284 v286) v290 v291) v295 v297) v301 v303) v307 v309) v313 v315) v319 v321) v325 v327) v331 v333) v337 v338) v342 v344) v348 v350) v354 v356) v360 v362) v366 v368) v372 v374) v378 v380) v384 v385) v389 v391) v395 v397) v401 v403) v407 v409) v413 v415) v419 v421) v425 v427) v431 v432) v436 v456 v460 := by
  unfold pieceV k0_pay33 k0_pay31 k0_pay30 k0_pay28 k0_pay27 k0_pay25 k0_pay23 k0_pay21 k0_pay22 k0_pay24 k0_pay26 k0_pay29 k0_pay32
  rfl

theorem gate_128 (v471 v477 v483 v489 v495 v501 v512 v518 v524 v530 v536 v542 v548 v559 v565 v571 v577 v583 v589 v595 v606 v612 v618 v624 v630 v636 v642 : Vec Ideal S1x64x512 .f32) (v507 v554 v601 v648 : Vec Ideal S64x512 .f32)
    (v473 v479 v485 v491 v497 v503 v508 v514 v520 v526 v532 v538 v544 v550 v555 v561 v567 v573 v579 v585 v591 v597 v602 v608 v614 v620 v626 v632 v638 v644 v649 v653 v673 v677 : Vec Ideal S1x512 .f32) :
    k0_pay43 (k0_pay41 (k0_pay40 (k0_pay38 (k0_pay37 (k0_pay36 (k0_pay34 v471 v473 v477 v479 v483 v485) (k0_pay35 v489) v491 v495 v497 v501 v503 v507 v508 v512 v514 v518 v520) v524 v526 v530 v532 v536 v538 v542 v544 v548 v550 v554 v555) v559 v561 v565 v567 v571 v573 v577 v579 v583 v585) (k0_pay39 v589) v591 v595 v597 v601 v602 v606 v608 v612 v614 v618 v620) v624 v626 v630 v632 v636 v638 v642 v644 v648 v649 v653) (k0_pay42 (k0_pay40 (k0_pay38 (k0_pay37 (k0_pay36 (k0_pay34 v471 v473 v477 v479 v483 v485) (k0_pay35 v489) v491 v495 v497 v501 v503 v507 v508 v512 v514 v518 v520) v524 v526 v530 v532 v536 v538 v542 v544 v548 v550 v554 v555) v559 v561 v565 v567 v571 v573 v577 v579 v583 v585) (k0_pay39 v589) v591 v595 v597 v601 v602 v606 v608 v612 v614 v618 v620) v624 v626 v630 v632 v636 v638 v642 v644 v648 v649 v653) v673 v677
      = pieceV (tap2 (tap3 (tap3 (tap3 (tap3 (tap3 (tap3 (tap3 (tap2 (tap3 (tap3 (tap3 (tap3 (tap3 (tap3 (tap3 (tap2 (tap3 (tap3 (tap3 (tap3 (tap3 (tap3 (tap3 (tap2 (tap3 (tap3 (tap3 (tap3 (tap3 (tap3 zeroV v471 v473) v477 v479) v483 v485) v489 v491) v495 v497) v501 v503) v507 v508) v512 v514) v518 v520) v524 v526) v530 v532) v536 v538) v542 v544) v548 v550) v554 v555) v559 v561) v565 v567) v571 v573) v577 v579) v583 v585) v589 v591) v595 v597) v601 v602) v606 v608) v612 v614) v618 v620) v624 v626) v630 v632) v636 v638) v642 v644) v648 v649) v653 v673 v677 := by
  unfold pieceV k0_pay43 k0_pay41 k0_pay40 k0_pay38 k0_pay37 k0_pay36 k0_pay34 k0_pay35 k0_pay39 k0_pay42
  rfl

end Cert.Proof.ConvTile

end
-- ==== Proof.ConvCases.lean ====
/- The gated convolution (the call `conv_a`, program `Kernel6`): what the body leaves at a point, in its two cases (the first tile of a
   batch element, whose carried rows are zero, and the later ones). -/
module

public import proofs.«01_k».proof.Proof.ConvWords

@[expose] public section

set_option maxRecDepth 16384

noncomputable section

open Idealize.ShloMosaic Idealize.ShloMosaic.TcCoe Idealize.SL.Sem

namespace Cert.Proof.ConvTile

open Cert.Kernel6Ideal Cert.Kernel6Ideal.Gen

theorem hz3 : (![0, 0, 0] : Fin 3 → ℕ) = fun _ => 0 := funext fun a => by fin_cases a <;> rfl
theorem hz2 : (![0, 0] : Fin 2 → ℕ) = fun _ => 0 := funext fun a => by fin_cases a <;> rfl

theorem pay3_apply (a : Fin 32) (j : Fin 512) : k0_pay3 (F := Ideal) (ix2 a j) = 0 := by
  unfold k0_pay3
  pointwise

theorem pay4_apply (x : Vec Ideal S1x256x512 .f32) (r : Fin 256) (j : Fin 512) : k0_pay4 x (ix2 r j) = x (ix3 0 r j) := by
  unfold k0_pay4
  pointwise

theorem pay2_apply (x : Vec Ideal S32x512 .f32) (a : Fin 32) (j : Fin 512) : k0_pay2 x (ix2 a j) = x (ix2 a j) := by
  unfold k0_pay2
  pointwise

/-- A stored shifted copy, entry by entry. -/
theorem copy_apply (x : Vec Ideal S280x512 .f32) (r : Fin 280) (j : Fin 512) :
    shapeCast S1x280x512 x shapeCasts_S280x512_S1x280x512 (ix3 0 r j) = x (ix2 r j) := by
  pointwise

/-- A load of 64 rows: every entry stored there before it being `f`'s. -/
theorem at_64 {sp : Space} (v : View sig .tc sp S288x512 .f32) (g : v.ty.Contents (Elt Ideal)) (L : List (View.Piece (Elt Ideal) S288x512 .f32))
    (f : ℕ → ℕ → EReal) (lo o N : ℕ) (e : o = N) (h : ∀ y : S288x512.Idx, lo ≤ (y 0).val → v.read (Elt Ideal) (v.writes (Elt Ideal) g L) y = f (y 0).val (y 1).val)
    (hlo : lo ≤ o) (io : ∀ a, (![o, 0] : Fin 2 → ℕ) a + S64x512.size a ≤ S288x512.size a) (r : Fin 64) (j : Fin 512) :
    View.readAt (Elt Ideal) v (Rect.unit (s := S288x512) ![o, 0] S64x512.size io).toLoadRect (v.writes (Elt Ideal) g L) (ix2 r j) = f (N + r.val) j.val := by
  subst e
  rw [View.readAt_eq_ld]
  refine (h ((Rect.unit (s := S288x512) ![o, 0] S64x512.size io).toLoadRect.idx (ix2 r j)) ?_).trans ?_
  · show lo ≤ o + 1 * r.val; omega
  · show f (o + 1 * r.val) (0 + 1 * j.val) = f (o + r.val) j.val
    rw [Nat.one_mul, Nat.one_mul, Nat.zero_add]

/-- The same, of a load every entry of which was stored at this point. -/
theorem cov_64 {sp : Space} (v : View sig .tc sp S288x512 .f32) (L : List (View.Piece (Elt Ideal) S288x512 .f32))
    (f : ℕ → ℕ → EReal) (lo o N : ℕ) (e : o = N) (h : ∀ y : S288x512.Idx, lo ≤ (y 0).val → v.read (Elt Ideal) (v.writes (Elt Ideal) v.junk L) y = f (y 0).val (y 1).val)
    (hlo : lo ≤ o) (io : ∀ a, (![o, 0] : Fin 2 → ℕ) a + S64x512.size a ≤ S288x512.size a) (r : Fin 64) (j : Fin 512) :
    v.readCov L (Rect.unit (s := S288x512) ![o, 0] S64x512.size io).toLoadRect (ix2 r j) = f (N + r.val) j.val :=
  at_64 v v.junk L f lo o N e h hlo io r j

/-- A load of the rows that a shifted copy stores. -/
theorem at_280 {sp : Space} (v : View sig .tc sp S288x512 .f32) (g : v.ty.Contents (Elt Ideal)) (L : List (View.Piece (Elt Ideal) S288x512 .f32))
    (f : ℕ → ℕ → EReal) (h : ∀ y : S288x512.Idx, 0 ≤ (y 0).val → v.read (Elt Ideal) (v.writes (Elt Ideal) g L) y = f (y 0).val (y 1).val)
    (o : ℕ) (io : ∀ a, (![o, 0] : Fin 2 → ℕ) a + S280x512.size a ≤ S288x512.size a) (r : Fin 280) (j : Fin 512) :
    View.readAt (Elt Ideal) v (Rect.unit (s := S288x512) ![o, 0] S280x512.size io).toLoadRect (v.writes (Elt Ideal) g L) (ix2 r j) = f (o + r.val) j.val := by
  rw [View.readAt_eq_ld]
  refine (h ((Rect.unit (s := S288x512) ![o, 0] S280x512.size io).toLoadRect.idx (ix2 r j)) (Nat.zero_le _)).trans ?_
  show f (o + 1 * r.val) (0 + 1 * j.val) = f (o + r.val) j.val
  rw [Nat.one_mul, Nat.one_mul, Nat.zero_add]

theorem cov_280 {sp : Space} (v : View sig .tc sp S288x512 .f32) (L : List (View.Piece (Elt Ideal) S288x512 .f32))
    (f : ℕ → ℕ → EReal) (h : ∀ y : S288x512.Idx, 0 ≤ (y 0).val → v.read (Elt Ideal) (v.writes (Elt Ideal) v.junk L) y = f (y 0).val (y 1).val)
    (o : ℕ) (io : ∀ a, (![o, 0] : Fin 2 → ℕ) a + S280x512.size a ≤ S288x512.size a) (r : Fin 280) (j : Fin 512) :
    v.readCov L (Rect.unit (s := S288x512) ![o, 0] S280x512.size io).toLoadRect (ix2 r j) = f (o + r.val) j.val :=
  at_280 v v.junk L f h o io r j

/-- A load of 64 rows of one of the shifted copies. -/
theorem cov_sh {sp : Space} (v : View sig .tc sp S7x280x512 .f32) (L : List (View.Piece (Elt Ideal) S7x280x512 .f32))
    (f : ℕ → ℕ → EReal) (s o N : ℕ) (e : s + 1 + o = N)
    (h : ∀ y : S7x280x512.Idx, v.read (Elt Ideal) (v.writes (Elt Ideal) v.junk L) y = f ((y 0).val + 1 + (y 1).val) (y 2).val)
    (io : ∀ a, (![s, o, 0] : Fin 3 → ℕ) a + S1x64x512.size a ≤ S7x280x512.size a) (r : Fin 64) (j : Fin 512) :
    v.readCov L (Rect.unit (s := S7x280x512) ![s, o, 0] S1x64x512.size io).toLoadRect (ix3 0 r j) = f (N + r.val) j.val := by
  subst e
  show View.readAt (Elt Ideal) v _ (v.writes (Elt Ideal) v.junk L) _ = _
  rw [View.readAt_eq_ld]
  refine (h ((Rect.unit (s := S7x280x512) ![s, o, 0] S1x64x512.size io).toLoadRect.idx (ix3 0 r j))).trans ?_
  show f (s + 1 * 0 + 1 + (o + 1 * r.val)) (0 + 1 * j.val) = f (s + 1 + o + r.val) j.val
  congr 1 <;> omega

/-- One shifted copy among the stored ones: an entry of it, -/
theorem copy_mem {sp : Space} (v : View sig .tc sp S7x280x512 .f32) (g : v.ty.Contents (Elt Ideal)) (L : List (View.Piece (Elt Ideal) S7x280x512 .f32))
    (s : ℕ) (io : ∀ a, (![s, 0, 0] : Fin 3 → ℕ) a + S1x280x512.size a ≤ S7x280x512.size a) (p : S1x280x512.Idx → EReal) (f : ℕ → ℕ → EReal)
    (hp : ∀ (r : Fin 280) (j : Fin 512), p (ix3 0 r j) = f (s + 1 + r.val) j.val) (y : S7x280x512.Idx) (hy : (y 0).val = s) :
    v.read (Elt Ideal) (v.writes (Elt Ideal) g ((⟨Rect.unit (s := S7x280x512) ![s, 0, 0] S1x280x512.size io, p⟩ : View.Piece (Elt Ideal) S7x280x512 .f32) :: L)) y
      = f ((y 0).val + 1 + (y 1).val) (y 2).val := by
  refine (View.read_writes_cons_unit_of_mem v g io p L y (ix3 0 (y 1) (y 2) : S1x280x512.Idx) rfl ?_).trans ?_
  · intro a
    match a with
    | ⟨0, _⟩ => exact hy
    | ⟨1, _⟩ => show (y 1).val = 0 + (y 1).val; omega
    | ⟨2, _⟩ => show (y 2).val = 0 + (y 2).val; omega
  · rw [hy]; exact hp (y 1) (y 2)

/-- and an entry of another. -/
theorem copy_not_mem {sp : Space} (v : View sig .tc sp S7x280x512 .f32) (g : v.ty.Contents (Elt Ideal)) (L : List (View.Piece (Elt Ideal) S7x280x512 .f32))
    (s : ℕ) (io : ∀ a, (![s, 0, 0] : Fin 3 → ℕ) a + S1x280x512.size a ≤ S7x280x512.size a) (p : S1x280x512.Idx → EReal)
    (y : S7x280x512.Idx) (hy : (y 0).val < s) :
    v.read (Elt Ideal) (v.writes (Elt Ideal) g ((⟨Rect.unit (s := S7x280x512) ![s, 0, 0] S1x280x512.size io, p⟩ : View.Piece (Elt Ideal) S7x280x512 .f32) :: L)) y
      = v.read (Elt Ideal) (v.writes (Elt Ideal) g L) y :=
  View.read_writes_cons_unit_of_not_mem v g io p L y rfl 0 (Or.inl hy)

/-- The seven shifted copies, read back. -/
theorem copies {sp : Space} (v : View sig .tc sp S7x280x512 .f32) (g : v.ty.Contents (Elt Ideal)) (f : ℕ → ℕ → EReal)
    (p0 p1 p2 p3 p4 p5 p6 : S1x280x512.Idx → EReal)
    (h0 : ∀ (r : Fin 280) (j : Fin 512), p0 (ix3 0 r j) = f (1 + r.val) j.val) (h1 : ∀ (r : Fin 280) (j : Fin 512), p1 (ix3 0 r j) = f (2 + r.val) j.val)
    (h2 : ∀ (r : Fin 280) (j : Fin 512), p2 (ix3 0 r j) = f (3 + r.val) j.val) (h3 : ∀ (r : Fin 280) (j : Fin 512), p3 (ix3 0 r j) = f (4 + r.val) j.val)
    (h4 : ∀ (r : Fin 280) (j : Fin 512), p4 (ix3 0 r j) = f (5 + r.val) j.val) (h5 : ∀ (r : Fin 280) (j : Fin 512), p5 (ix3 0 r j) = f (6 + r.val) j.val)
    (h6 : ∀ (r : Fin 280) (j : Fin 512), p6 (ix3 0 r j) = f (7 + r.val) j.val) (y : S7x280x512.Idx) :
    v.read (Elt Ideal) (v.writes (Elt Ideal) g [
      (⟨Rect.unit (s := S7x280x512) ![6, 0, 0] S1x280x512.size inb_S7x280x512_S1x280x512_6_0_0, p6⟩ : View.Piece (Elt Ideal) S7x280x512 .f32),
      (⟨Rect.unit (s := S7x280x512) ![5, 0, 0] S1x280x512.size inb_S7x280x512_S1x280x512_5_0_0, p5⟩ : View.Piece (Elt Ideal) S7x280x512 .f32),
      (⟨Rect.unit (s := S7x280x512) ![4, 0, 0] S1x280x512.size inb_S7x280x512_S1x280x512_4_0_0, p4⟩ : View.Piece (Elt Ideal) S7x280x512 .f32),
      (⟨Rect.unit (s := S7x280x512) ![3, 0, 0] S1x280x512.size inb_S7x280x512_S1x280x512_3_0_0, p3⟩ : View.Piece (Elt Ideal) S7x280x512 .f32),
      (⟨Rect.unit (s := S7x280x512) ![2, 0, 0] S1x280x512.size inb_S7x280x512_S1x280x512_2_0_0, p2⟩ : View.Piece (Elt Ideal) S7x280x512 .f32),
      (⟨Rect.unit (s := S7x280x512) ![1, 0, 0] S1x280x512.size inb_S7x280x512_S1x280x512_1_0_0, p1⟩ : View.Piece (Elt Ideal) S7x280x512 .f32),
      (⟨Rect.unit (s := S7x280x512) ![0, 0, 0] S1x280x512.size inb_S7x280x512_S1x280x512_0_0_0, p0⟩ : View.Piece (Elt Ideal) S7x280x512 .f32)]) y
      = f ((y 0).val + 1 + (y 1).val) (y 2).val := by
  have hy : (y 0).val < 7 := (y 0).isLt
  by_cases e6 : (y 0).val = 6
  · exact copy_mem v g _ 6 _ p6 f h6 y e6
  refine (copy_not_mem v g _ 6 _ p6 y (by omega)).trans ?_
  by_cases e5 : (y 0).val = 5
  · exact copy_mem v g _ 5 _ p5 f h5 y e5
  refine (copy_not_mem v g _ 5 _ p5 y (by omega)).trans ?_
  by_cases e4 : (y 0).val = 4
  · exact copy_mem v g _ 4 _ p4 f h4 y e4
  refine (copy_not_mem v g _ 4 _ p4 y (by omega)).trans ?_
  by_cases e3 : (y 0).val = 3
  · exact copy_mem v g _ 3 _ p3 f h3 y e3
  refine (copy_not_mem v g _ 3 _ p3 y (by omega)).trans ?_
  by_cases e2 : (y 0).val = 2
  · exact copy_mem v g _ 2 _ p2 f h2 y e2
  refine (copy_not_mem v g _ 2 _ p2 y (by omega)).trans ?_
  by_cases e1 : (y 0).val = 1
  · exact copy_mem v g _ 1 _ p1 f h1 y e1
  refine (copy_not_mem v g _ 1 _ p1 y (by omega)).trans ?_
  exact copy_mem v g _ 0 _ p0 f h0 y (by omega)

/-- The rows a tile works over: its own after the first 32. -/
def Rows (x0 : Vec Ideal S1x256x512 .f32) (f : ℕ → ℕ → EReal) : Prop := ∀ (r : Fin 256) (j : Fin 512), x0 (ix3 0 r j) = f (32 + r.val) j.val

/-- The weights of the taps. -/
def Taps (x1 : Vec Ideal S31x512 .f32) (w : ℕ → ℕ → EReal) : Prop := ∀ (k : Fin 31) (j : Fin 512), x1 (ix2 k j) = w k.val j.val

variable (c : Dev nD) (i : grid0.Coords) (arg2 : Memref sig .tc .vmem S1x256x512 .f32) (harg2 : arg2.IsWhole) (arg3 : Memref sig .tc .vmem S31x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x256x512 .bf16) (harg7 : arg7.IsWhole) (arg8 : Memref sig .tc .vmem S288x512 .f32) (harg8 : arg8.IsWhole) (arg9 : Memref sig .tc .vmem S7x280x512 .f32) (harg9 : arg9.IsWhole)
variable (x0 : Vec Ideal S1x256x512 .f32) (x1 : Vec Ideal S31x512 .f32) (x2 x3 x4 : Vec Ideal S1x512 .f32) (xs0 : Vec Ideal S288x512 .f32)
variable (f w : ℕ → ℕ → EReal)

/-- The tile's own rows, loaded whole. -/
theorem load0 : View.readAt (Elt Ideal) arg2.view (Rect.unit (s := S1x256x512) ![0, 0, 0] S1x256x512.size inb_S1x256x512_S1x256x512_0_0_0).toLoadRect (harg2.unread x0) = x0 := by
  rw [View.readAt_eq_ld, harg2.read_unread, View.ld_unit_zero hz3]

/-- A row vector, loaded whole. -/
theorem load_row (io : ∀ a, (![0, 0] : Fin 2 → ℕ) a + S1x512.size a ≤ S1x512.size a) :
    View.readAt (Elt Ideal) arg4.view (Rect.unit (s := S1x512) ![0, 0] S1x512.size io).toLoadRect (harg4.unread x2) = x2 := by
  rw [View.readAt_eq_ld, harg4.read_unread, View.ld_unit_zero hz2]

/-- The weights of one tap. -/
theorem load_tap (hw : Taps x1 w) (k : ℕ) (hk : k < 31) (io : ∀ a, (![k, 0] : Fin 2 → ℕ) a + S1x512.size a ≤ S31x512.size a) (j : Fin 512) :
    View.readAt (Elt Ideal) arg3.view (Rect.unit (s := S31x512) ![k, 0] S1x512.size io).toLoadRect (harg3.unread x1) (ix2 0 j) = w k j.val := by
  rw [View.readAt_eq_ld, harg3.read_unread]
  refine Eq.trans ?_ (hw ⟨k, hk⟩ j)
  show x1 _ = x1 _
  congr 1
  funext a; apply Fin.ext
  match a with
  | ⟨0, _⟩ => show k + 1 * 0 = k; omega
  | ⟨1, _⟩ => show 0 + 1 * j.val = j.val; omega

/-- A row of the tile's own, as stored under the carried ones. -/
theorem own (hx : Rows x0 f) {sp : Space} (v : View sig .tc sp S288x512 .f32) (g : v.ty.Contents (Elt Ideal)) (L : List (View.Piece (Elt Ideal) S288x512 .f32))
    (y : S288x512.Idx) (hy : 32 ≤ (y 0).val) :
    v.read (Elt Ideal) (v.writes (Elt Ideal) g ((⟨Rect.unit (s := S288x512) ![32, 0] S256x512.size inb_S288x512_S256x512_32_0, k0_pay4 (View.readAt (Elt Ideal) arg2.view (Rect.unit (s := S1x256x512) ![0, 0, 0] S1x256x512.size inb_S1x256x512_S1x256x512_0_0_0).toLoadRect (harg2.unread x0))⟩ : View.Piece (Elt Ideal) S288x512 .f32) :: L)) y
      = f (y 0).val (y 1).val := by
  have h0 : (y 0).val < 288 := (y 0).isLt
  have h1 : (y 1).val < 512 := (y 1).isLt
  refine (View.read_writes_cons_rows_of_mem v g inb_S288x512_S256x512_32_0 _ L y (ix2 ⟨(y 0).val - 32, by omega⟩ ⟨(y 1).val, h1⟩ : S256x512.Idx) rfl ?_ rfl).trans ?_
  · show (y 0).val = 32 + ((y 0).val - 32); omega
  · rw [load0, pay4_apply, hx]
    show f (32 + ((y 0).val - 32)) (y 1).val = _
    congr 1; omega

/-- A row above the tile's own. -/
theorem above {sp : Space} (v : View sig .tc sp S288x512 .f32) (g : v.ty.Contents (Elt Ideal)) (L : List (View.Piece (Elt Ideal) S288x512 .f32))
    (p : S256x512.Idx → EReal) (y : S288x512.Idx) (hy : (y 0).val < 32) :
    v.read (Elt Ideal) (v.writes (Elt Ideal) g ((⟨Rect.unit (s := S288x512) ![32, 0] S256x512.size inb_S288x512_S256x512_32_0, p⟩ : View.Piece (Elt Ideal) S288x512 .f32) :: L)) y
      = v.read (Elt Ideal) (v.writes (Elt Ideal) g L) y :=
  View.read_writes_cons_rows_of_not_mem v g inb_S288x512_S256x512_32_0 _ L y rfl (W := 256) rfl (Or.inl hy)

theorem fillB (hx : Rows x0 f) (hK : ∀ (a : Fin 32) (j : Fin 512), xs0 (ix2 ⟨a.val, by omega⟩ j) = f a.val j.val) (y : S288x512.Idx) (_ : 0 ≤ (y 0).val) :
    arg8.view.read (Elt Ideal) (arg8.view.writes (Elt Ideal) (harg8.unread xs0) (kernelRun0_B.sl.HS0_1 c arg2 harg2 x0)) y = f (y 0).val (y 1).val := by
  unfold kernelRun0_B.sl.HS0_1
  by_cases h : 32 ≤ (y 0).val
  · exact own arg2 harg2 x0 f hx _ _ _ y h
  · refine (above _ _ _ _ y (by omega)).trans ?_
    show arg8.view.read (Elt Ideal) (harg8.unread xs0) y = _
    rw [harg8.read_unread]
    refine Eq.trans ?_ (hK ⟨(y 0).val, by omega⟩ (y 1))
    congr 1
    exact eq_ix2 y

theorem fillB' (hx : Rows x0 f) (y : S288x512.Idx) (hy : 32 ≤ (y 0).val) :
    arg8.view.read (Elt Ideal) (arg8.view.writes (Elt Ideal) arg8.view.junk (kernelRun0_B.sl.HS0_1 c arg2 harg2 x0)) y = f (y 0).val (y 1).val := by
  unfold kernelRun0_B.sl.HS0_1
  exact own arg2 harg2 x0 f hx _ _ _ y hy

theorem fillA (hx : Rows x0 f) (hK : ∀ (a : Fin 32) (j : Fin 512), f a.val j.val = 0) (y : S288x512.Idx) (_ : 0 ≤ (y 0).val) :
    arg8.view.read (Elt Ideal) (arg8.view.writes (Elt Ideal) arg8.view.junk (kernelRun0_A.sl.HS0_2 c arg2 harg2 x0)) y = f (y 0).val (y 1).val := by
  unfold kernelRun0_A.sl.HS0_2
  by_cases h : 32 ≤ (y 0).val
  · exact own arg2 harg2 x0 f hx _ _ _ y h
  · refine (above _ _ _ _ y (by omega)).trans ?_
    refine (View.read_writes_cons_rows_of_mem _ _ inb_S288x512_S32x512_0_0 _ _ y (ix2 ⟨(y 0).val, by omega⟩ (y 1) : S32x512.Idx) rfl ?_ rfl).trans ?_
    · show (y 0).val = 0 + (y 0).val; omega
    · exact (pay3_apply ⟨(y 0).val, by omega⟩ (y 1)).trans (hK ⟨(y 0).val, by omega⟩ (y 1)).symm

theorem copiesB (hx : Rows x0 f) (hK : ∀ (a : Fin 32) (j : Fin 512), xs0 (ix2 ⟨a.val, by omega⟩ j) = f a.val j.val) (y : S7x280x512.Idx) :
    arg9.view.read (Elt Ideal) (arg9.view.writes (Elt Ideal) arg9.view.junk (kernelRun0_B.sl.HS1_7 c arg2 harg2 arg8 harg8 x0 xs0)) y
      = f ((y 0).val + 1 + (y 1).val) (y 2).val := by
  have hB := fillB c arg2 harg2 arg8 harg8 x0 xs0 f hx hK
  unfold kernelRun0_B.sl.HS1_7
  exact copies arg9.view _ f _ _ _ _ _ _ _
    (fun r j => (copy_apply _ r j).trans (at_280 _ _ _ f hB 1 _ r j))
    (fun r j => (copy_apply _ r j).trans (at_280 _ _ _ f hB 2 _ r j))
    (fun r j => (copy_apply _ r j).trans (at_280 _ _ _ f hB 3 _ r j))
    (fun r j => (copy_apply _ r j).trans (at_280 _ _ _ f hB 4 _ r j))
    (fun r j => (copy_apply _ r j).trans (at_280 _ _ _ f hB 5 _ r j))
    (fun r j => (copy_apply _ r j).trans (at_280 _ _ _ f hB 6 _ r j))
    (fun r j => (copy_apply _ r j).trans (at_280 _ _ _ f hB 7 _ r j))
    y

theorem copiesA (hx : Rows x0 f) (hK : ∀ (a : Fin 32) (j : Fin 512), f a.val j.val = 0) (y : S7x280x512.Idx) :
    arg9.view.read (Elt Ideal) (arg9.view.writes (Elt Ideal) arg9.view.junk (kernelRun0_A.sl.HS1_7 c arg2 harg2 arg8 x0)) y
      = f ((y 0).val + 1 + (y 1).val) (y 2).val := by
  have hA := fillA c arg2 harg2 arg8 x0 f hx hK
  unfold kernelRun0_A.sl.HS1_7
  exact copies arg9.view _ f _ _ _ _ _ _ _
    (fun r j => (copy_apply _ r j).trans (cov_280 _ _ f hA 1 _ r j))
    (fun r j => (copy_apply _ r j).trans (cov_280 _ _ f hA 2 _ r j))
    (fun r j => (copy_apply _ r j).trans (cov_280 _ _ f hA 3 _ r j))
    (fun r j => (copy_apply _ r j).trans (cov_280 _ _ f hA 4 _ r j))
    (fun r j => (copy_apply _ r j).trans (cov_280 _ _ f hA 5 _ r j))
    (fun r j => (copy_apply _ r j).trans (cov_280 _ _ f hA 6 _ r j))
    (fun r j => (copy_apply _ r j).trans (cov_280 _ _ f hA 7 _ r j))
    y

/-- A load of the last 32 rows. -/
theorem last_rows {sp : Space} (v : View sig .tc sp S288x512 .f32) (L : List (View.Piece (Elt Ideal) S288x512 .f32)) (f : ℕ → ℕ → EReal)
    (h : ∀ y : S288x512.Idx, 32 ≤ (y 0).val → v.read (Elt Ideal) (v.writes (Elt Ideal) v.junk L) y = f (y 0).val (y 1).val) (a : Fin 32) (j : Fin 512) :
    v.readCov L (Rect.unit (s := S288x512) ![256, 0] S32x512.size inb_S288x512_S32x512_256_0).toLoadRect (ix2 a j) = f (256 + a.val) j.val := by
  show View.readAt (Elt Ideal) v _ (v.writes (Elt Ideal) v.junk L) _ = _
  rw [View.readAt_eq_ld]
  refine (h ((Rect.unit (s := S288x512) ![256, 0] S32x512.size inb_S288x512_S32x512_256_0).toLoadRect.idx (ix2 a j)) ?_).trans ?_
  · show 32 ≤ 256 + 1 * a.val; omega
  · show f (256 + 1 * a.val) (0 + 1 * j.val) = f (256 + a.val) j.val
    rw [Nat.one_mul, Nat.one_mul, Nat.zero_add]

theorem lastA (hx : Rows x0 f) (y : S288x512.Idx) (hy : 32 ≤ (y 0).val) :
    arg8.view.read (Elt Ideal) (arg8.view.writes (Elt Ideal) arg8.view.junk (kernelRun0_A.sl.HS0_2 c arg2 harg2 x0)) y = f (y 0).val (y 1).val := by
  unfold kernelRun0_A.sl.HS0_2
  exact own arg2 harg2 x0 f hx _ _ _ y hy

set_option maxHeartbeats 4000000 in
/-- A later tile: the result block. -/
theorem out_B (hc0 : ¬cond0_0 i) (hx : Rows x0 f) (hw : Taps x1 w) (hK : ∀ (a : Fin 32) (j : Fin 512), xs0 (ix2 ⟨a.val, by omega⟩ j) = f a.val j.val) :
    out0_B_5 c i arg2 harg2 arg3 harg3 arg4 harg4 arg5 harg5 arg6 harg6 arg7 harg7 arg8 harg8 arg9 harg9 hc0 x0 x1 x2 x3 x4 xs0 = outT f w x2 x3 x4 := by
  have hcov := cover0_B_5 c i arg2 harg2 arg3 harg3 arg4 harg4 arg5 harg5 arg6 harg6 arg7 harg7 arg8 harg8 arg9 harg9 hc0 x0 x1 x2 x3 x4 xs0
  unfold out0_B_5
  rw [View.read_writes_junk_eq_canon]
  funext y
  refine View.canon_apply_of_pieces (Val := Elt Ideal) (outT f w x2 x3 x4) _ (View.PiecesOf.mem ?_) y (hcov y)
  unfold kernelRun0_B
  dsimp only
  have hB := fillB c arg2 harg2 arg8 harg8 x0 xs0 f hx hK
  have hB' := fillB' c arg2 harg2 arg8 x0 f hx
  have hS := copiesB c arg2 harg2 arg8 harg8 arg9 x0 xs0 f hx hK
  have ht := load_tap arg3 harg3 x1 w hw
  refine ⟨?_, ?_, ?_, ?_, trivial⟩
  · refine fun z => (congrFun (gate_192 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) z).trans (piece_ok f w x2 x3 x4 192 (by decide) inb_S1x256x512_S1x64x512_0_192_0
      (load_row arg4 harg4 x2 _) (load_row arg5 harg5 x3 _) (load_row arg6 harg6 x4 _) ?_ z)
    refine tap2_succ (n := 30) ?_ (cov_64 _ _ f 32 224 _ rfl hB' (by decide) _) (ht 30 (by decide) _)
    refine tap3_succ (n := 29) ?_ (cov_sh _ _ f 6 216 _ rfl hS _) (ht 29 (by decide) _)
    refine tap3_succ (n := 28) ?_ (cov_sh _ _ f 5 216 _ rfl hS _) (ht 28 (by decide) _)
    refine tap3_succ (n := 27) ?_ (cov_sh _ _ f 4 216 _ rfl hS _) (ht 27 (by decide) _)
    refine tap3_succ (n := 26) ?_ (cov_sh _ _ f 3 216 _ rfl hS _) (ht 26 (by decide) _)
    refine tap3_succ (n := 25) ?_ (cov_sh _ _ f 2 216 _ rfl hS _) (ht 25 (by decide) _)
    refine tap3_succ (n := 24) ?_ (cov_sh _ _ f 1 216 _ rfl hS _) (ht 24 (by decide) _)
    refine tap3_succ (n := 23) ?_ (cov_sh _ _ f 0 216 _ rfl hS _) (ht 23 (by decide) _)
    refine tap2_succ (n := 22) ?_ (cov_64 _ _ f 32 216 _ rfl hB' (by decide) _) (ht 22 (by decide) _)
    refine tap3_succ (n := 21) ?_ (cov_sh _ _ f 6 208 _ rfl hS _) (ht 21 (by decide) _)
    refine tap3_succ (n := 20) ?_ (cov_sh _ _ f 5 208 _ rfl hS _) (ht 20 (by decide) _)
    refine tap3_succ (n := 19) ?_ (cov_sh _ _ f 4 208 _ rfl hS _) (ht 19 (by decide) _)
    refine tap3_succ (n := 18) ?_ (cov_sh _ _ f 3 208 _ rfl hS _) (ht 18 (by decide) _)
    refine tap3_succ (n := 17) ?_ (cov_sh _ _ f 2 208 _ rfl hS _) (ht 17 (by decide) _)
    refine tap3_succ (n := 16) ?_ (cov_sh _ _ f 1 208 _ rfl hS _) (ht 16 (by decide) _)
    refine tap3_succ (n := 15) ?_ (cov_sh _ _ f 0 208 _ rfl hS _) (ht 15 (by decide) _)
    refine tap2_succ (n := 14) ?_ (cov_64 _ _ f 32 208 _ rfl hB' (by decide) _) (ht 14 (by decide) _)
    refine tap3_succ (n := 13) ?_ (cov_sh _ _ f 6 200 _ rfl hS _) (ht 13 (by decide) _)
    refine tap3_succ (n := 12) ?_ (cov_sh _ _ f 5 200 _ rfl hS _) (ht 12 (by decide) _)
    refine tap3_succ (n := 11) ?_ (cov_sh _ _ f 4 200 _ rfl hS _) (ht 11 (by decide) _)
    refine tap3_succ (n := 10) ?_ (cov_sh _ _ f 3 200 _ rfl hS _) (ht 10 (by decide) _)
    refine tap3_succ (n := 9) ?_ (cov_sh _ _ f 2 200 _ rfl hS _) (ht 9 (by decide) _)
    refine tap3_succ (n := 8) ?_ (cov_sh _ _ f 1 200 _ rfl hS _) (ht 8 (by decide) _)
    refine tap3_succ (n := 7) ?_ (cov_sh _ _ f 0 200 _ rfl hS _) (ht 7 (by decide) _)
    refine tap2_succ (n := 6) ?_ (cov_64 _ _ f 32 200 _ rfl hB' (by decide) _) (ht 6 (by decide) _)
    refine tap3_succ (n := 5) ?_ (cov_sh _ _ f 6 192 _ rfl hS _) (ht 5 (by decide) _)
    refine tap3_succ (n := 4) ?_ (cov_sh _ _ f 5 192 _ rfl hS _) (ht 4 (by decide) _)
    refine tap3_succ (n := 3) ?_ (cov_sh _ _ f 4 192 _ rfl hS _) (ht 3 (by decide) _)
    refine tap3_succ (n := 2) ?_ (cov_sh _ _ f 3 192 _ rfl hS _) (ht 2 (by decide) _)
    refine tap3_succ (n := 1) ?_ (cov_sh _ _ f 2 192 _ rfl hS _) (ht 1 (by decide) _)
    refine tap3_succ (n := 0) ?_ (cov_sh _ _ f 1 192 _ rfl hS _) (ht 0 (by decide) _)
    exact zero_acc f w _
  · refine fun z => (congrFun (gate_128 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) z).trans (piece_ok f w x2 x3 x4 128 (by decide) inb_S1x256x512_S1x64x512_0_128_0
      (load_row arg4 harg4 x2 _) (load_row arg5 harg5 x3 _) (load_row arg6 harg6 x4 _) ?_ z)
    refine tap2_succ (n := 30) ?_ (cov_64 _ _ f 32 160 _ rfl hB' (by decide) _) (ht 30 (by decide) _)
    refine tap3_succ (n := 29) ?_ (cov_sh _ _ f 6 152 _ rfl hS _) (ht 29 (by decide) _)
    refine tap3_succ (n := 28) ?_ (cov_sh _ _ f 5 152 _ rfl hS _) (ht 28 (by decide) _)
    refine tap3_succ (n := 27) ?_ (cov_sh _ _ f 4 152 _ rfl hS _) (ht 27 (by decide) _)
    refine tap3_succ (n := 26) ?_ (cov_sh _ _ f 3 152 _ rfl hS _) (ht 26 (by decide) _)
    refine tap3_succ (n := 25) ?_ (cov_sh _ _ f 2 152 _ rfl hS _) (ht 25 (by decide) _)
    refine tap3_succ (n := 24) ?_ (cov_sh _ _ f 1 152 _ rfl hS _) (ht 24 (by decide) _)
    refine tap3_succ (n := 23) ?_ (cov_sh _ _ f 0 152 _ rfl hS _) (ht 23 (by decide) _)
    refine tap2_succ (n := 22) ?_ (cov_64 _ _ f 32 152 _ rfl hB' (by decide) _) (ht 22 (by decide) _)
    refine tap3_succ (n := 21) ?_ (cov_sh _ _ f 6 144 _ rfl hS _) (ht 21 (by decide) _)
    refine tap3_succ (n := 20) ?_ (cov_sh _ _ f 5 144 _ rfl hS _) (ht 20 (by decide) _)
    refine tap3_succ (n := 19) ?_ (cov_sh _ _ f 4 144 _ rfl hS _) (ht 19 (by decide) _)
    refine tap3_succ (n := 18) ?_ (cov_sh _ _ f 3 144 _ rfl hS _) (ht 18 (by decide) _)
    refine tap3_succ (n := 17) ?_ (cov_sh _ _ f 2 144 _ rfl hS _) (ht 17 (by decide) _)
    refine tap3_succ (n := 16) ?_ (cov_sh _ _ f 1 144 _ rfl hS _) (ht 16 (by decide) _)
    refine tap3_succ (n := 15) ?_ (cov_sh _ _ f 0 144 _ rfl hS _) (ht 15 (by decide) _)
    refine tap2_succ (n := 14) ?_ (cov_64 _ _ f 32 144 _ rfl hB' (by decide) _) (ht 14 (by decide) _)
    refine tap3_succ (n := 13) ?_ (cov_sh _ _ f 6 136 _ rfl hS _) (ht 13 (by decide) _)
    refine tap3_succ (n := 12) ?_ (cov_sh _ _ f 5 136 _ rfl hS _) (ht 12 (by decide) _)
    refine tap3_succ (n := 11) ?_ (cov_sh _ _ f 4 136 _ rfl hS _) (ht 11 (by decide) _)
    refine tap3_succ (n := 10) ?_ (cov_sh _ _ f 3 136 _ rfl hS _) (ht 10 (by decide) _)
    refine tap3_succ (n := 9) ?_ (cov_sh _ _ f 2 136 _ rfl hS _) (ht 9 (by decide) _)
    refine tap3_succ (n := 8) ?_ (cov_sh _ _ f 1 136 _ rfl hS _) (ht 8 (by decide) _)
    refine tap3_succ (n := 7) ?_ (cov_sh _ _ f 0 136 _ rfl hS _) (ht 7 (by decide) _)
    refine tap2_succ (n := 6) ?_ (cov_64 _ _ f 32 136 _ rfl hB' (by decide) _) (ht 6 (by decide) _)
    refine tap3_succ (n := 5) ?_ (cov_sh _ _ f 6 128 _ rfl hS _) (ht 5 (by decide) _)
    refine tap3_succ (n := 4) ?_ (cov_sh _ _ f 5 128 _ rfl hS _) (ht 4 (by decide) _)
    refine tap3_succ (n := 3) ?_ (cov_sh _ _ f 4 128 _ rfl hS _) (ht 3 (by decide) _)
    refine tap3_succ (n := 2) ?_ (cov_sh _ _ f 3 128 _ rfl hS _) (ht 2 (by decide) _)
    refine tap3_succ (n := 1) ?_ (cov_sh _ _ f 2 128 _ rfl hS _) (ht 1 (by decide) _)
    refine tap3_succ (n := 0) ?_ (cov_sh _ _ f 1 128 _ rfl hS _) (ht 0 (by decide) _)
    exact zero_acc f w _
  · refine fun z => (congrFun (gate_64 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) z).trans (piece_ok f w x2 x3 x4 64 (by decide) inb_S1x256x512_S1x64x512_0_64_0
      (load_row arg4 harg4 x2 _) (load_row arg5 harg5 x3 _) (load_row arg6 harg6 x4 _) ?_ z)
    refine tap2_succ (n := 30) ?_ (cov_64 _ _ f 32 96 _ rfl hB' (by decide) _) (ht 30 (by decide) _)
    refine tap3_succ (n := 29) ?_ (cov_sh _ _ f 6 88 _ rfl hS _) (ht 29 (by decide) _)
    refine tap3_succ (n := 28) ?_ (cov_sh _ _ f 5 88 _ rfl hS _) (ht 28 (by decide) _)
    refine tap3_succ (n := 27) ?_ (cov_sh _ _ f 4 88 _ rfl hS _) (ht 27 (by decide) _)
    refine tap3_succ (n := 26) ?_ (cov_sh _ _ f 3 88 _ rfl hS _) (ht 26 (by decide) _)
    refine tap3_succ (n := 25) ?_ (cov_sh _ _ f 2 88 _ rfl hS _) (ht 25 (by decide) _)
    refine tap3_succ (n := 24) ?_ (cov_sh _ _ f 1 88 _ rfl hS _) (ht 24 (by decide) _)
    refine tap3_succ (n := 23) ?_ (cov_sh _ _ f 0 88 _ rfl hS _) (ht 23 (by decide) _)
    refine tap2_succ (n := 22) ?_ (cov_64 _ _ f 32 88 _ rfl hB' (by decide) _) (ht 22 (by decide) _)
    refine tap3_succ (n := 21) ?_ (cov_sh _ _ f 6 80 _ rfl hS _) (ht 21 (by decide) _)
    refine tap3_succ (n := 20) ?_ (cov_sh _ _ f 5 80 _ rfl hS _) (ht 20 (by decide) _)
    refine tap3_succ (n := 19) ?_ (cov_sh _ _ f 4 80 _ rfl hS _) (ht 19 (by decide) _)
    refine tap3_succ (n := 18) ?_ (cov_sh _ _ f 3 80 _ rfl hS _) (ht 18 (by decide) _)
    refine tap3_succ (n := 17) ?_ (cov_sh _ _ f 2 80 _ rfl hS _) (ht 17 (by decide) _)
    refine tap3_succ (n := 16) ?_ (cov_sh _ _ f 1 80 _ rfl hS _) (ht 16 (by decide) _)
    refine tap3_succ (n := 15) ?_ (cov_sh _ _ f 0 80 _ rfl hS _) (ht 15 (by decide) _)
    refine tap2_succ (n := 14) ?_ (cov_64 _ _ f 32 80 _ rfl hB' (by decide) _) (ht 14 (by decide) _)
    refine tap3_succ (n := 13) ?_ (cov_sh _ _ f 6 72 _ rfl hS _) (ht 13 (by decide) _)
    refine tap3_succ (n := 12) ?_ (cov_sh _ _ f 5 72 _ rfl hS _) (ht 12 (by decide) _)
    refine tap3_succ (n := 11) ?_ (cov_sh _ _ f 4 72 _ rfl hS _) (ht 11 (by decide) _)
    refine tap3_succ (n := 10) ?_ (cov_sh _ _ f 3 72 _ rfl hS _) (ht 10 (by decide) _)
    refine tap3_succ (n := 9) ?_ (cov_sh _ _ f 2 72 _ rfl hS _) (ht 9 (by decide) _)
    refine tap3_succ (n := 8) ?_ (cov_sh _ _ f 1 72 _ rfl hS _) (ht 8 (by decide) _)
    refine tap3_succ (n := 7) ?_ (cov_sh _ _ f 0 72 _ rfl hS _) (ht 7 (by decide) _)
    refine tap2_succ (n := 6) ?_ (cov_64 _ _ f 32 72 _ rfl hB' (by decide) _) (ht 6 (by decide) _)
    refine tap3_succ (n := 5) ?_ (cov_sh _ _ f 6 64 _ rfl hS _) (ht 5 (by decide) _)
    refine tap3_succ (n := 4) ?_ (cov_sh _ _ f 5 64 _ rfl hS _) (ht 4 (by decide) _)
    refine tap3_succ (n := 3) ?_ (cov_sh _ _ f 4 64 _ rfl hS _) (ht 3 (by decide) _)
    refine tap3_succ (n := 2) ?_ (cov_sh _ _ f 3 64 _ rfl hS _) (ht 2 (by decide) _)
    refine tap3_succ (n := 1) ?_ (cov_sh _ _ f 2 64 _ rfl hS _) (ht 1 (by decide) _)
    refine tap3_succ (n := 0) ?_ (cov_sh _ _ f 1 64 _ rfl hS _) (ht 0 (by decide) _)
    exact zero_acc f w _
  · refine fun z => (congrFun (gate_0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) z).trans (piece_ok f w x2 x3 x4 0 (by decide) inb_S1x256x512_S1x64x512_0_0_0
      (load_row arg4 harg4 x2 _) (load_row arg5 harg5 x3 _) (load_row arg6 harg6 x4 _) ?_ z)
    refine tap2_succ (n := 30) ?_ (cov_64 _ _ f 32 32 _ rfl hB' (by decide) _) (ht 30 (by decide) _)
    refine tap3_succ (n := 29) ?_ (cov_sh _ _ f 6 24 _ rfl hS _) (ht 29 (by decide) _)
    refine tap3_succ (n := 28) ?_ (cov_sh _ _ f 5 24 _ rfl hS _) (ht 28 (by decide) _)
    refine tap3_succ (n := 27) ?_ (cov_sh _ _ f 4 24 _ rfl hS _) (ht 27 (by decide) _)
    refine tap3_succ (n := 26) ?_ (cov_sh _ _ f 3 24 _ rfl hS _) (ht 26 (by decide) _)
    refine tap3_succ (n := 25) ?_ (cov_sh _ _ f 2 24 _ rfl hS _) (ht 25 (by decide) _)
    refine tap3_succ (n := 24) ?_ (cov_sh _ _ f 1 24 _ rfl hS _) (ht 24 (by decide) _)
    refine tap3_succ (n := 23) ?_ (cov_sh _ _ f 0 24 _ rfl hS _) (ht 23 (by decide) _)
    refine tap2_succ (n := 22) ?_ (at_64 _ _ _ f 0 24 _ rfl hB (Nat.zero_le _) _) (ht 22 (by decide) _)
    refine tap3_succ (n := 21) ?_ (cov_sh _ _ f 6 16 _ rfl hS _) (ht 21 (by decide) _)
    refine tap3_succ (n := 20) ?_ (cov_sh _ _ f 5 16 _ rfl hS _) (ht 20 (by decide) _)
    refine tap3_succ (n := 19) ?_ (cov_sh _ _ f 4 16 _ rfl hS _) (ht 19 (by decide) _)
    refine tap3_succ (n := 18) ?_ (cov_sh _ _ f 3 16 _ rfl hS _) (ht 18 (by decide) _)
    refine tap3_succ (n := 17) ?_ (cov_sh _ _ f 2 16 _ rfl hS _) (ht 17 (by decide) _)
    refine tap3_succ (n := 16) ?_ (cov_sh _ _ f 1 16 _ rfl hS _) (ht 16 (by decide) _)
    refine tap3_succ (n := 15) ?_ (cov_sh _ _ f 0 16 _ rfl hS _) (ht 15 (by decide) _)
    refine tap2_succ (n := 14) ?_ (at_64 _ _ _ f 0 16 _ rfl hB (Nat.zero_le _) _) (ht 14 (by decide) _)
    refine tap3_succ (n := 13) ?_ (cov_sh _ _ f 6 8 _ rfl hS _) (ht 13 (by decide) _)
    refine tap3_succ (n := 12) ?_ (cov_sh _ _ f 5 8 _ rfl hS _) (ht 12 (by decide) _)
    refine tap3_succ (n := 11) ?_ (cov_sh _ _ f 4 8 _ rfl hS _) (ht 11 (by decide) _)
    refine tap3_succ (n := 10) ?_ (cov_sh _ _ f 3 8 _ rfl hS _) (ht 10 (by decide) _)
    refine tap3_succ (n := 9) ?_ (cov_sh _ _ f 2 8 _ rfl hS _) (ht 9 (by decide) _)
    refine tap3_succ (n := 8) ?_ (cov_sh _ _ f 1 8 _ rfl hS _) (ht 8 (by decide) _)
    refine tap3_succ (n := 7) ?_ (cov_sh _ _ f 0 8 _ rfl hS _) (ht 7 (by decide) _)
    refine tap2_succ (n := 6) ?_ (at_64 _ _ _ f 0 8 _ rfl hB (Nat.zero_le _) _) (ht 6 (by decide) _)
    refine tap3_succ (n := 5) ?_ (cov_sh _ _ f 6 0 _ rfl hS _) (ht 5 (by decide) _)
    refine tap3_succ (n := 4) ?_ (cov_sh _ _ f 5 0 _ rfl hS _) (ht 4 (by decide) _)
    refine tap3_succ (n := 3) ?_ (cov_sh _ _ f 4 0 _ rfl hS _) (ht 3 (by decide) _)
    refine tap3_succ (n := 2) ?_ (cov_sh _ _ f 3 0 _ rfl hS _) (ht 2 (by decide) _)
    refine tap3_succ (n := 1) ?_ (cov_sh _ _ f 2 0 _ rfl hS _) (ht 1 (by decide) _)
    refine tap3_succ (n := 0) ?_ (cov_sh _ _ f 1 0 _ rfl hS _) (ht 0 (by decide) _)
    exact zero_acc f w _

set_option maxHeartbeats 1000000 in
/-- A later tile: the 32 rows it carries on are its last. -/
theorem sout_B (hc0 : ¬cond0_0 i) (hx : Rows x0 f) (a : Fin 32) (j : Fin 512) :
    sout0_B_0 c i arg2 harg2 arg3 harg3 arg4 harg4 arg5 harg5 arg6 harg6 arg7 harg7 arg8 harg8 arg9 harg9 hc0 x0 x1 x2 x3 x4 xs0 (ix2 ⟨a.val, by omega⟩ j) = f (256 + a.val) j.val := by
  unfold sout0_B_0 kernelRun0_B
  dsimp only
  refine (View.read_writes_cons_rows_of_mem _ _ inb_S288x512_S32x512_0_0 _ _ (ix2 ⟨a.val, by omega⟩ j) (ix2 a j : S32x512.Idx) rfl ?_ rfl).trans ?_
  · show a.val = 0 + a.val; omega
  refine (pay2_apply _ a j).trans ?_
  exact last_rows arg8.view _ f (fillB' c arg2 harg2 arg8 x0 f hx) a j

set_option maxHeartbeats 4000000 in
/-- A batch element's first tile: the result block. -/
theorem out_A (hc0 : cond0_0 i) (hx : Rows x0 f) (hw : Taps x1 w) (hK : ∀ (a : Fin 32) (j : Fin 512), f a.val j.val = 0) :
    out0_A_5 c i arg2 harg2 arg3 harg3 arg4 harg4 arg5 harg5 arg6 harg6 arg7 harg7 arg8 harg8 arg9 harg9 hc0 x0 x1 x2 x3 x4 = outT f w x2 x3 x4 := by
  have hcov := cover0_A_5 c i arg2 harg2 arg3 harg3 arg4 harg4 arg5 harg5 arg6 harg6 arg7 harg7 arg8 harg8 arg9 harg9 hc0 x0 x1 x2 x3 x4
  unfold out0_A_5
  rw [View.read_writes_junk_eq_canon]
  funext y
  refine View.canon_apply_of_pieces (Val := Elt Ideal) (outT f w x2 x3 x4) _ (View.PiecesOf.mem ?_) y (hcov y)
  unfold kernelRun0_A
  dsimp only
  have hA := fillA c arg2 harg2 arg8 x0 f hx hK
  have hS := copiesA c arg2 harg2 arg8 arg9 x0 f hx hK
  have ht := load_tap arg3 harg3 x1 w hw
  refine ⟨?_, ?_, ?_, ?_, trivial⟩
  · refine fun z => (congrFun (gate_192 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) z).trans (piece_ok f w x2 x3 x4 192 (by decide) inb_S1x256x512_S1x64x512_0_192_0
      (load_row arg4 harg4 x2 _) (load_row arg5 harg5 x3 _) (load_row arg6 harg6 x4 _) ?_ z)
    refine tap2_succ (n := 30) ?_ (cov_64 _ _ f 0 224 _ rfl hA (Nat.zero_le _) _) (ht 30 (by decide) _)
    refine tap3_succ (n := 29) ?_ (cov_sh _ _ f 6 216 _ rfl hS _) (ht 29 (by decide) _)
    refine tap3_succ (n := 28) ?_ (cov_sh _ _ f 5 216 _ rfl hS _) (ht 28 (by decide) _)
    refine tap3_succ (n := 27) ?_ (cov_sh _ _ f 4 216 _ rfl hS _) (ht 27 (by decide) _)
    refine tap3_succ (n := 26) ?_ (cov_sh _ _ f 3 216 _ rfl hS _) (ht 26 (by decide) _)
    refine tap3_succ (n := 25) ?_ (cov_sh _ _ f 2 216 _ rfl hS _) (ht 25 (by decide) _)
    refine tap3_succ (n := 24) ?_ (cov_sh _ _ f 1 216 _ rfl hS _) (ht 24 (by decide) _)
    refine tap3_succ (n := 23) ?_ (cov_sh _ _ f 0 216 _ rfl hS _) (ht 23 (by decide) _)
    refine tap2_succ (n := 22) ?_ (cov_64 _ _ f 0 216 _ rfl hA (Nat.zero_le _) _) (ht 22 (by decide) _)
    refine tap3_succ (n := 21) ?_ (cov_sh _ _ f 6 208 _ rfl hS _) (ht 21 (by decide) _)
    refine tap3_succ (n := 20) ?_ (cov_sh _ _ f 5 208 _ rfl hS _) (ht 20 (by decide) _)
    refine tap3_succ (n := 19) ?_ (cov_sh _ _ f 4 208 _ rfl hS _) (ht 19 (by decide) _)
    refine tap3_succ (n := 18) ?_ (cov_sh _ _ f 3 208 _ rfl hS _) (ht 18 (by decide) _)
    refine tap3_succ (n := 17) ?_ (cov_sh _ _ f 2 208 _ rfl hS _) (ht 17 (by decide) _)
    refine tap3_succ (n := 16) ?_ (cov_sh _ _ f 1 208 _ rfl hS _) (ht 16 (by decide) _)
    refine tap3_succ (n := 15) ?_ (cov_sh _ _ f 0 208 _ rfl hS _) (ht 15 (by decide) _)
    refine tap2_succ (n := 14) ?_ (cov_64 _ _ f 0 208 _ rfl hA (Nat.zero_le _) _) (ht 14 (by decide) _)
    refine tap3_succ (n := 13) ?_ (cov_sh _ _ f 6 200 _ rfl hS _) (ht 13 (by decide) _)
    refine tap3_succ (n := 12) ?_ (cov_sh _ _ f 5 200 _ rfl hS _) (ht 12 (by decide) _)
    refine tap3_succ (n := 11) ?_ (cov_sh _ _ f 4 200 _ rfl hS _) (ht 11 (by decide) _)
    refine tap3_succ (n := 10) ?_ (cov_sh _ _ f 3 200 _ rfl hS _) (ht 10 (by decide) _)
    refine tap3_succ (n := 9) ?_ (cov_sh _ _ f 2 200 _ rfl hS _) (ht 9 (by decide) _)
    refine tap3_succ (n := 8) ?_ (cov_sh _ _ f 1 200 _ rfl hS _) (ht 8 (by decide) _)
    refine tap3_succ (n := 7) ?_ (cov_sh _ _ f 0 200 _ rfl hS _) (ht 7 (by decide) _)
    refine tap2_succ (n := 6) ?_ (cov_64 _ _ f 0 200 _ rfl hA (Nat.zero_le _) _) (ht 6 (by decide) _)
    refine tap3_succ (n := 5) ?_ (cov_sh _ _ f 6 192 _ rfl hS _) (ht 5 (by decide) _)
    refine tap3_succ (n := 4) ?_ (cov_sh _ _ f 5 192 _ rfl hS _) (ht 4 (by decide) _)
    refine tap3_succ (n := 3) ?_ (cov_sh _ _ f 4 192 _ rfl hS _) (ht 3 (by decide) _)
    refine tap3_succ (n := 2) ?_ (cov_sh _ _ f 3 192 _ rfl hS _) (ht 2 (by decide) _)
    refine tap3_succ (n := 1) ?_ (cov_sh _ _ f 2 192 _ rfl hS _) (ht 1 (by decide) _)
    refine tap3_succ (n := 0) ?_ (cov_sh _ _ f 1 192 _ rfl hS _) (ht 0 (by decide) _)
    exact zero_acc f w _
  · refine fun z => (congrFun (gate_128 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) z).trans (piece_ok f w x2 x3 x4 128 (by decide) inb_S1x256x512_S1x64x512_0_128_0
      (load_row arg4 harg4 x2 _) (load_row arg5 harg5 x3 _) (load_row arg6 harg6 x4 _) ?_ z)
    refine tap2_succ (n := 30) ?_ (cov_64 _ _ f 0 160 _ rfl hA (Nat.zero_le _) _) (ht 30 (by decide) _)
    refine tap3_succ (n := 29) ?_ (cov_sh _ _ f 6 152 _ rfl hS _) (ht 29 (by decide) _)
    refine tap3_succ (n := 28) ?_ (cov_sh _ _ f 5 152 _ rfl hS _) (ht 28 (by decide) _)
    refine tap3_succ (n := 27) ?_ (cov_sh _ _ f 4 152 _ rfl hS _) (ht 27 (by decide) _)
    refine tap3_succ (n := 26) ?_ (cov_sh _ _ f 3 152 _ rfl hS _) (ht 26 (by decide) _)
    refine tap3_succ (n := 25) ?_ (cov_sh _ _ f 2 152 _ rfl hS _) (ht 25 (by decide) _)
    refine tap3_succ (n := 24) ?_ (cov_sh _ _ f 1 152 _ rfl hS _) (ht 24 (by decide) _)
    refine tap3_succ (n := 23) ?_ (cov_sh _ _ f 0 152 _ rfl hS _) (ht 23 (by decide) _)
    refine tap2_succ (n := 22) ?_ (cov_64 _ _ f 0 152 _ rfl hA (Nat.zero_le _) _) (ht 22 (by decide) _)
    refine tap3_succ (n := 21) ?_ (cov_sh _ _ f 6 144 _ rfl hS _) (ht 21 (by decide) _)
    refine tap3_succ (n := 20) ?_ (cov_sh _ _ f 5 144 _ rfl hS _) (ht 20 (by decide) _)
    refine tap3_succ (n := 19) ?_ (cov_sh _ _ f 4 144 _ rfl hS _) (ht 19 (by decide) _)
    refine tap3_succ (n := 18) ?_ (cov_sh _ _ f 3 144 _ rfl hS _) (ht 18 (by decide) _)
    refine tap3_succ (n := 17) ?_ (cov_sh _ _ f 2 144 _ rfl hS _) (ht 17 (by decide) _)
    refine tap3_succ (n := 16) ?_ (cov_sh _ _ f 1 144 _ rfl hS _) (ht 16 (by decide) _)
    refine tap3_succ (n := 15) ?_ (cov_sh _ _ f 0 144 _ rfl hS _) (ht 15 (by decide) _)
    refine tap2_succ (n := 14) ?_ (cov_64 _ _ f 0 144 _ rfl hA (Nat.zero_le _) _) (ht 14 (by decide) _)
    refine tap3_succ (n := 13) ?_ (cov_sh _ _ f 6 136 _ rfl hS _) (ht 13 (by decide) _)
    refine tap3_succ (n := 12) ?_ (cov_sh _ _ f 5 136 _ rfl hS _) (ht 12 (by decide) _)
    refine tap3_succ (n := 11) ?_ (cov_sh _ _ f 4 136 _ rfl hS _) (ht 11 (by decide) _)
    refine tap3_succ (n := 10) ?_ (cov_sh _ _ f 3 136 _ rfl hS _) (ht 10 (by decide) _)
    refine tap3_succ (n := 9) ?_ (cov_sh _ _ f 2 136 _ rfl hS _) (ht 9 (by decide) _)
    refine tap3_succ (n := 8) ?_ (cov_sh _ _ f 1 136 _ rfl hS _) (ht 8 (by decide) _)
    refine tap3_succ (n := 7) ?_ (cov_sh _ _ f 0 136 _ rfl hS _) (ht 7 (by decide) _)
    refine tap2_succ (n := 6) ?_ (cov_64 _ _ f 0 136 _ rfl hA (Nat.zero_le _) _) (ht 6 (by decide) _)
    refine tap3_succ (n := 5) ?_ (cov_sh _ _ f 6 128 _ rfl hS _) (ht 5 (by decide) _)
    refine tap3_succ (n := 4) ?_ (cov_sh _ _ f 5 128 _ rfl hS _) (ht 4 (by decide) _)
    refine tap3_succ (n := 3) ?_ (cov_sh _ _ f 4 128 _ rfl hS _) (ht 3 (by decide) _)
    refine tap3_succ (n := 2) ?_ (cov_sh _ _ f 3 128 _ rfl hS _) (ht 2 (by decide) _)
    refine tap3_succ (n := 1) ?_ (cov_sh _ _ f 2 128 _ rfl hS _) (ht 1 (by decide) _)
    refine tap3_succ (n := 0) ?_ (cov_sh _ _ f 1 128 _ rfl hS _) (ht 0 (by decide) _)
    exact zero_acc f w _
  · refine fun z => (congrFun (gate_64 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) z).trans (piece_ok f w x2 x3 x4 64 (by decide) inb_S1x256x512_S1x64x512_0_64_0
      (load_row arg4 harg4 x2 _) (load_row arg5 harg5 x3 _) (load_row arg6 harg6 x4 _) ?_ z)
    refine tap2_succ (n := 30) ?_ (cov_64 _ _ f 0 96 _ rfl hA (Nat.zero_le _) _) (ht 30 (by decide) _)
    refine tap3_succ (n := 29) ?_ (cov_sh _ _ f 6 88 _ rfl hS _) (ht 29 (by decide) _)
    refine tap3_succ (n := 28) ?_ (cov_sh _ _ f 5 88 _ rfl hS _) (ht 28 (by decide) _)
    refine tap3_succ (n := 27) ?_ (cov_sh _ _ f 4 88 _ rfl hS _) (ht 27 (by decide) _)
    refine tap3_succ (n := 26) ?_ (cov_sh _ _ f 3 88 _ rfl hS _) (ht 26 (by decide) _)
    refine tap3_succ (n := 25) ?_ (cov_sh _ _ f 2 88 _ rfl hS _) (ht 25 (by decide) _)
    refine tap3_succ (n := 24) ?_ (cov_sh _ _ f 1 88 _ rfl hS _) (ht 24 (by decide) _)
    refine tap3_succ (n := 23) ?_ (cov_sh _ _ f 0 88 _ rfl hS _) (ht 23 (by decide) _)
    refine tap2_succ (n := 22) ?_ (cov_64 _ _ f 0 88 _ rfl hA (Nat.zero_le _) _) (ht 22 (by decide) _)
    refine tap3_succ (n := 21) ?_ (cov_sh _ _ f 6 80 _ rfl hS _) (ht 21 (by decide) _)
    refine tap3_succ (n := 20) ?_ (cov_sh _ _ f 5 80 _ rfl hS _) (ht 20 (by decide) _)
    refine tap3_succ (n := 19) ?_ (cov_sh _ _ f 4 80 _ rfl hS _) (ht 19 (by decide) _)
    refine tap3_succ (n := 18) ?_ (cov_sh _ _ f 3 80 _ rfl hS _) (ht 18 (by decide) _)
    refine tap3_succ (n := 17) ?_ (cov_sh _ _ f 2 80 _ rfl hS _) (ht 17 (by decide) _)
    refine tap3_succ (n := 16) ?_ (cov_sh _ _ f 1 80 _ rfl hS _) (ht 16 (by decide) _)
    refine tap3_succ (n := 15) ?_ (cov_sh _ _ f 0 80 _ rfl hS _) (ht 15 (by decide) _)
    refine tap2_succ (n := 14) ?_ (cov_64 _ _ f 0 80 _ rfl hA (Nat.zero_le _) _) (ht 14 (by decide) _)
    refine tap3_succ (n := 13) ?_ (cov_sh _ _ f 6 72 _ rfl hS _) (ht 13 (by decide) _)
    refine tap3_succ (n := 12) ?_ (cov_sh _ _ f 5 72 _ rfl hS _) (ht 12 (by decide) _)
    refine tap3_succ (n := 11) ?_ (cov_sh _ _ f 4 72 _ rfl hS _) (ht 11 (by decide) _)
    refine tap3_succ (n := 10) ?_ (cov_sh _ _ f 3 72 _ rfl hS _) (ht 10 (by decide) _)
    refine tap3_succ (n := 9) ?_ (cov_sh _ _ f 2 72 _ rfl hS _) (ht 9 (by decide) _)
    refine tap3_succ (n := 8) ?_ (cov_sh _ _ f 1 72 _ rfl hS _) (ht 8 (by decide) _)
    refine tap3_succ (n := 7) ?_ (cov_sh _ _ f 0 72 _ rfl hS _) (ht 7 (by decide) _)
    refine tap2_succ (n := 6) ?_ (cov_64 _ _ f 0 72 _ rfl hA (Nat.zero_le _) _) (ht 6 (by decide) _)
    refine tap3_succ (n := 5) ?_ (cov_sh _ _ f 6 64 _ rfl hS _) (ht 5 (by decide) _)
    refine tap3_succ (n := 4) ?_ (cov_sh _ _ f 5 64 _ rfl hS _) (ht 4 (by decide) _)
    refine tap3_succ (n := 3) ?_ (cov_sh _ _ f 4 64 _ rfl hS _) (ht 3 (by decide) _)
    refine tap3_succ (n := 2) ?_ (cov_sh _ _ f 3 64 _ rfl hS _) (ht 2 (by decide) _)
    refine tap3_succ (n := 1) ?_ (cov_sh _ _ f 2 64 _ rfl hS _) (ht 1 (by decide) _)
    refine tap3_succ (n := 0) ?_ (cov_sh _ _ f 1 64 _ rfl hS _) (ht 0 (by decide) _)
    exact zero_acc f w _
  · refine fun z => (congrFun (gate_0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) z).trans (piece_ok f w x2 x3 x4 0 (by decide) inb_S1x256x512_S1x64x512_0_0_0
      (load_row arg4 harg4 x2 _) (load_row arg5 harg5 x3 _) (load_row arg6 harg6 x4 _) ?_ z)
    refine tap2_succ (n := 30) ?_ (cov_64 _ _ f 0 32 _ rfl hA (Nat.zero_le _) _) (ht 30 (by decide) _)
    refine tap3_succ (n := 29) ?_ (cov_sh _ _ f 6 24 _ rfl hS _) (ht 29 (by decide) _)
    refine tap3_succ (n := 28) ?_ (cov_sh _ _ f 5 24 _ rfl hS _) (ht 28 (by decide) _)
    refine tap3_succ (n := 27) ?_ (cov_sh _ _ f 4 24 _ rfl hS _) (ht 27 (by decide) _)
    refine tap3_succ (n := 26) ?_ (cov_sh _ _ f 3 24 _ rfl hS _) (ht 26 (by decide) _)
    refine tap3_succ (n := 25) ?_ (cov_sh _ _ f 2 24 _ rfl hS _) (ht 25 (by decide) _)
    refine tap3_succ (n := 24) ?_ (cov_sh _ _ f 1 24 _ rfl hS _) (ht 24 (by decide) _)
    refine tap3_succ (n := 23) ?_ (cov_sh _ _ f 0 24 _ rfl hS _) (ht 23 (by decide) _)
    refine tap2_succ (n := 22) ?_ (cov_64 _ _ f 0 24 _ rfl hA (Nat.zero_le _) _) (ht 22 (by decide) _)
    refine tap3_succ (n := 21) ?_ (cov_sh _ _ f 6 16 _ rfl hS _) (ht 21 (by decide) _)
    refine tap3_succ (n := 20) ?_ (cov_sh _ _ f 5 16 _ rfl hS _) (ht 20 (by decide) _)
    refine tap3_succ (n := 19) ?_ (cov_sh _ _ f 4 16 _ rfl hS _) (ht 19 (by decide) _)
    refine tap3_succ (n := 18) ?_ (cov_sh _ _ f 3 16 _ rfl hS _) (ht 18 (by decide) _)
    refine tap3_succ (n := 17) ?_ (cov_sh _ _ f 2 16 _ rfl hS _) (ht 17 (by decide) _)
    refine tap3_succ (n := 16) ?_ (cov_sh _ _ f 1 16 _ rfl hS _) (ht 16 (by decide) _)
    refine tap3_succ (n := 15) ?_ (cov_sh _ _ f 0 16 _ rfl hS _) (ht 15 (by decide) _)
    refine tap2_succ (n := 14) ?_ (cov_64 _ _ f 0 16 _ rfl hA (Nat.zero_le _) _) (ht 14 (by decide) _)
    refine tap3_succ (n := 13) ?_ (cov_sh _ _ f 6 8 _ rfl hS _) (ht 13 (by decide) _)
    refine tap3_succ (n := 12) ?_ (cov_sh _ _ f 5 8 _ rfl hS _) (ht 12 (by decide) _)
    refine tap3_succ (n := 11) ?_ (cov_sh _ _ f 4 8 _ rfl hS _) (ht 11 (by decide) _)
    refine tap3_succ (n := 10) ?_ (cov_sh _ _ f 3 8 _ rfl hS _) (ht 10 (by decide) _)
    refine tap3_succ (n := 9) ?_ (cov_sh _ _ f 2 8 _ rfl hS _) (ht 9 (by decide) _)
    refine tap3_succ (n := 8) ?_ (cov_sh _ _ f 1 8 _ rfl hS _) (ht 8 (by decide) _)
    refine tap3_succ (n := 7) ?_ (cov_sh _ _ f 0 8 _ rfl hS _) (ht 7 (by decide) _)
    refine tap2_succ (n := 6) ?_ (cov_64 _ _ f 0 8 _ rfl hA (Nat.zero_le _) _) (ht 6 (by decide) _)
    refine tap3_succ (n := 5) ?_ (cov_sh _ _ f 6 0 _ rfl hS _) (ht 5 (by decide) _)
    refine tap3_succ (n := 4) ?_ (cov_sh _ _ f 5 0 _ rfl hS _) (ht 4 (by decide) _)
    refine tap3_succ (n := 3) ?_ (cov_sh _ _ f 4 0 _ rfl hS _) (ht 3 (by decide) _)
    refine tap3_succ (n := 2) ?_ (cov_sh _ _ f 3 0 _ rfl hS _) (ht 2 (by decide) _)
    refine tap3_succ (n := 1) ?_ (cov_sh _ _ f 2 0 _ rfl hS _) (ht 1 (by decide) _)
    refine tap3_succ (n := 0) ?_ (cov_sh _ _ f 1 0 _ rfl hS _) (ht 0 (by decide) _)
    exact zero_acc f w _

set_option maxHeartbeats 1000000 in
/-- A batch element's first tile: the 32 rows it carries on are its last. -/
theorem sout_A (hc0 : cond0_0 i) (hx : Rows x0 f) (a : Fin 32) (j : Fin 512) :
    sout0_A_0 c i arg2 harg2 arg3 harg3 arg4 harg4 arg5 harg5 arg6 harg6 arg7 harg7 arg8 harg8 arg9 harg9 hc0 x0 x1 x2 x3 x4 (ix2 ⟨a.val, by omega⟩ j) = f (256 + a.val) j.val := by
  unfold sout0_A_0 kernelRun0_A
  dsimp only
  refine (View.read_writes_cons_rows_of_mem _ _ inb_S288x512_S32x512_0_0 _ _ (ix2 ⟨a.val, by omega⟩ j) (ix2 a j : S32x512.Idx) rfl ?_ rfl).trans ?_
  · show a.val = 0 + a.val; omega
  refine (pay2_apply _ a j).trans ?_
  exact last_rows arg8.view _ f (lastA c arg2 harg2 arg8 x0 f hx) a j

end Cert.Proof.ConvTile

end
-- ==== Proof.ConvSpec.lean ====
/- The gated convolution (the call `conv_a`): the whole result, entry by entry, as a formula in the arguments. -/
module

public import proofs.«01_k».proof.Proof.ConvTile

@[expose] public section

noncomputable section

open Idealize.ShloMosaic Idealize.ShloMosaic.TcCoe Idealize.SL.Sem

namespace Cert.Proof.ConvTile

open Cert.Kernel6Ideal

/-- The sequence with 32 zero rows before it: row `N` is row `N - 32` of the argument. -/
def padR (x : FVec Ideal S2x8192x512 .f32) (b : Fin 2) (N j : ℕ) : EReal :=
  if h : 32 ≤ N ∧ N - 32 < 8192 ∧ j < 512 then x (ix3 b ⟨N - 32, h.2.1⟩ ⟨j, h.2.2⟩) else 0

theorem padR_of (x : FVec Ideal S2x8192x512 .f32) (b : Fin 2) (n : Fin 8192) (j : Fin 512) : padR x b (32 + n.val) j.val = x (ix3 b n j) := by
  unfold padR
  rw [dif_pos ⟨by omega, by omega, j.isLt⟩]
  congr 2
  apply Fin.ext
  show 32 + n.val - 32 = n.val
  omega

theorem padR_zero (x : FVec Ideal S2x8192x512 .f32) (b : Fin 2) (N j : ℕ) (h : N < 32) : padR x b N j = 0 := by
  unfold padR
  rw [dif_neg (by omega)]

/-- The weights of the taps, row by row. -/
def wRow (w : FVec Ideal S31x512 .f32) (k j : ℕ) : EReal := if h : k < 31 ∧ j < 512 then w (ix2 ⟨k, h.1⟩ ⟨j, h.2⟩) else 0

theorem wRow_of (w : FVec Ideal S31x512 .f32) (k : Fin 31) (j : Fin 512) : w (ix2 k j) = wRow w k.val j.val := by
  unfold wRow
  rw [dif_pos ⟨k.isLt, j.isLt⟩]

/-- A row of the convolution with its bias. -/
def convRow (x : FVec Ideal S2x8192x512 .f32) (w : FVec Ideal S31x512 .f32) (s : FVec Ideal S512 .f32) (b : Fin 2) (n : Fin 8192) (k : Fin 512) : EReal :=
  conv (padR x b) (wRow w) (2 + n.val) k.val 31 + s (ix1 k)

/-- An entry of the result. -/
def convG (x : FVec Ideal S2x8192x512 .f32) (w : FVec Ideal S31x512 .f32) (s g β : FVec Ideal S512 .f32) (b : Fin 2) (n : Fin 8192) (q : Fin 512) : EReal :=
  ent (convRow x w s b n) (g (ix1 q)) (β (ix1 q)) q

theorem conv_shift (p w : ℕ → ℕ → EReal) (T N j : ℕ) : ∀ n, conv (fun n j => p (T + n) j) w N j n = conv p w (T + N) j n
  | 0 => rfl
  | n + 1 => by
    show conv _ w N j n + p (T + (N + n)) j * w n j = conv p w (T + N) j n + p (T + N + n) j * w n j
    rw [conv_shift p w T N j n, Nat.add_assoc]

end Cert.Proof.ConvTile

end
-- ==== Proof.ConvValue.lean ====
/- The gated convolution (the call `conv_a`, program `Kernel6`): the array after the tiled kernel is the formula, entry by entry. -/
module

public import proofs.«01_k».proof.Proof.ConvCases
public import proofs.«01_k».proof.Proof.ConvSpec

@[expose] public section

set_option maxRecDepth 16384

noncomputable section

open Idealize.ShloMosaic Idealize.ShloMosaic.TcCoe Idealize.SL.Sem
open Idealize.ShloMosaic.Pipeline (Dat)

namespace Cert.Proof.ConvValue

open Cert.Kernel6Ideal Cert.Kernel6Ideal.Gen Cert.Proof.ConvTile

variable (m : (ℓ : Loc nD τ sig) → Buf (Elt Ideal) ℓ)

theorem V_v0 (c : Dev nD) : V m c main_v0 = shapeCast S1x512 (m ((c : Thread nD τ).loc main_arg2)) shapeCasts_S512_S1x512 := by
  unfold_abbrev_sides
  after_results
  rfl
theorem V_v1 (c : Dev nD) : V m c main_v1 = shapeCast S1x512 (m ((c : Thread nD τ).loc main_arg3)) shapeCasts_S512_S1x512 := by
  unfold_abbrev_sides
  after_results
  rfl
theorem V_v2 (c : Dev nD) : V m c main_v2 = shapeCast S1x512 (m ((c : Thread nD τ).loc main_arg4)) shapeCasts_S512_S1x512 := by
  unfold_abbrev_sides
  after_results
  rfl

theorem cast_row (x : FVec Ideal S512 .f32) (k : Fin 512) : shapeCast S1x512 x shapeCasts_S512_S1x512 (ix2 0 k) = x (ix1 k) := by
  pointwise

/-- The batch element of a grid point, its tile within it, and a tile's row of the sequence. -/
def bat (t : Fin cfg0.N) : Fin 2 := ⟨t.val / 32, by have := t.isLt; have h : cfg0.N = 64 := N_0; omega⟩
def til (t : Fin cfg0.N) : Fin 32 := ⟨t.val % 32, by omega⟩
def tok (T : Fin 32) (r : Fin 256) : Fin 8192 := ⟨T.val * 256 + r.val, by omega⟩

theorem blk0 (c : Dev nD) (t : Fin cfg0.N) (r : Fin 256) (k : Fin 512) :
    iblk m c 0 t (ix3 0 r k) = m ((c : Thread nD τ).loc main_arg0) (ix3 (bat t) (tok (til t) r) k) := by
  have hi : ∀ t : Fin cfg0.N, win0_0.index t 0 = t.val / 32 ∧ win0_0.index t 1 = t.val % 32 ∧ win0_0.index t 2 = 0 :=
    (by decide +kernel : ∀ t : Fin grid0.N, win0_0.index t 0 = t.val / 32 ∧ win0_0.index t 1 = t.val % 32 ∧ win0_0.index t 2 = 0)
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 32; rw [(hi t).1]; omega
  | ⟨1, _⟩ => show win0_0.index t 1 * 256 + 1 * r.val = t.val % 32 * 256 + r.val; rw [(hi t).2.1]; omega
  | ⟨2, _⟩ => show win0_0.index t 2 * 512 + 1 * k.val = k.val; rw [(hi t).2.2]; omega

theorem taps (c : Dev nD) (t : Fin cfg0.N) : Taps (iblk m c 1 t) (wRow (m ((c : Thread nD τ).loc main_arg1))) := by
  intro k j
  have hi : ∀ t : Fin cfg0.N, win0_1.index t 0 = 0 ∧ win0_1.index t 1 = 0 :=
    (by decide +kernel : ∀ t : Fin grid0.N, win0_1.index t 0 = 0 ∧ win0_1.index t 1 = 0)
  refine Eq.trans ?_ (wRow_of (m ((c : Thread nD τ).loc main_arg1)) k j)
  unfold iblk
  rw [View.read_apply]
  show V m c main_arg1 _ = m (c.tc.loc main_arg1) _
  rw [V_main_arg1]
  congr 1
  funext a
  apply Fin.ext
  match a with
  | ⟨0, _⟩ => show win0_1.index t 0 * 31 + 1 * k.val = k.val; rw [(hi t).1]; omega
  | ⟨1, _⟩ => show win0_1.index t 1 * 512 + 1 * j.val = j.val; rw [(hi t).2]; omega

theorem blk2 (c : Dev nD) (t : Fin cfg0.N) (k : Fin 512) :
    iblk m c 2 t (ix2 0 k) = m ((c : Thread nD τ).loc main_arg2) (ix1 k) := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply]
  show V m c main_v0 _ = _
  rw [V_v0]
  refine Eq.trans ?_ (cast_row (m ((c : Thread nD τ).loc main_arg2)) k)
  congr 1
  funext d
  apply Fin.ext
  match d with
  | ⟨0, _⟩ => show win0_2.index t 0 * 1 + 1 * 0 = 0; rw [(hi t).1]
  | ⟨1, _⟩ => show win0_2.index t 1 * 512 + 1 * k.val = k.val; rw [(hi t).2]; omega

theorem blk3 (c : Dev nD) (t : Fin cfg0.N) (k : Fin 512) :
    iblk m c 3 t (ix2 0 k) = m ((c : Thread nD τ).loc main_arg3) (ix1 k) := by
  have hi : ∀ t : Fin cfg0.N, win0_3.index t 0 = 0 ∧ win0_3.index t 1 = 0 :=
    (by decide +kernel : ∀ t : Fin grid0.N, win0_3.index t 0 = 0 ∧ win0_3.index t 1 = 0)
  unfold iblk
  rw [View.read_apply]
  show V m c main_v1 _ = _
  rw [V_v1]
  refine Eq.trans ?_ (cast_row (m ((c : Thread nD τ).loc main_arg3)) k)
  congr 1
  funext d
  apply Fin.ext
  match d with
  | ⟨0, _⟩ => show win0_3.index t 0 * 1 + 1 * 0 = 0; rw [(hi t).1]
  | ⟨1, _⟩ => show win0_3.index t 1 * 512 + 1 * k.val = k.val; rw [(hi t).2]; omega

theorem blk4 (c : Dev nD) (t : Fin cfg0.N) (k : Fin 512) :
    iblk m c 4 t (ix2 0 k) = m ((c : Thread nD τ).loc main_arg4) (ix1 k) := by
  have hi : ∀ t : Fin cfg0.N, win0_4.index t 0 = 0 ∧ win0_4.index t 1 = 0 :=
    (by decide +kernel : ∀ t : Fin grid0.N, win0_4.index t 0 = 0 ∧ win0_4.index t 1 = 0)
  unfold iblk
  rw [View.read_apply]
  show V m c main_v2 _ = _
  rw [V_v2]
  refine Eq.trans ?_ (cast_row (m ((c : Thread nD τ).loc main_arg4)) k)
  congr 1
  funext d
  apply Fin.ext
  match d with
  | ⟨0, _⟩ => show win0_4.index t 0 * 1 + 1 * 0 = 0; rw [(hi t).1]
  | ⟨1, _⟩ => show win0_4.index t 1 * 512 + 1 * k.val = k.val; rw [(hi t).2]; omega

/-- The rows a tile works over: its 32 carried rows, then its own. -/
def rowF (c : Dev nD) (t : Fin cfg0.N) (n j : ℕ) : EReal := padR (m ((c : Thread nD τ).loc main_arg0)) (bat t) ((til t).val * 256 + n) j

theorem rows (c : Dev nD) (t : Fin cfg0.N) : Rows (iblk m c 0 t) (rowF m c t) := by
  intro r j
  rw [blk0]
  unfold rowF
  refine Eq.trans (padR_of _ _ _ _).symm ?_
  congr 1
  show 32 + (t.val % 32 * 256 + r.val) = t.val % 32 * 256 + (32 + r.val)
  omega

/-- What a point leaves in the 32 carried rows: its last 32. -/
theorem carried (c : Dev nD) (t : Fin cfg0.N) (a : Fin 32) (j : Fin 512) :
    (outsAt0 m c t.val t.isLt).2 (ix2 ⟨a.val, by omega⟩ j) = rowF m c t (256 + a.val) j.val := by
  by_cases h0 : t.val % 32 = 0
  · rw [outsAt0_A m c t h0]; dsimp only; exact sout_A _ _ _ _ _ _ _ _ _ _ _ _ _ _ _ _ _ _ _ _ _ _ _ _ _ (rows m c t) a j
  · rw [outsAt0_B m c t h0]; dsimp only; exact sout_B _ _ _ _ _ _ _ _ _ _ _ _ _ _ _ _ _ _ _ _ _ _ _ _ _ _ (rows m c t) a j

/-- The carried rows a later tile finds: the 32 before its first. -/
theorem carried_before (c : Dev nD) (t : Fin cfg0.N) (h0 : ¬t.val % 32 = 0) (a : Fin 32) (j : Fin 512) :
    (outsAt0 m c (t.val - 1) (Nat.lt_of_le_of_lt (Nat.sub_le _ _) t.isLt)).2 (ix2 ⟨a.val, by omega⟩ j) = rowF m c t a.val j.val := by
  have hN : cfg0.N = 64 := N_0
  have ht := t.isLt
  refine (carried m c ⟨t.val - 1, by omega⟩ a j).trans ?_
  unfold rowF
  have hb : bat ⟨t.val - 1, by omega⟩ = bat t := by apply Fin.ext; show (t.val - 1) / 32 = t.val / 32; omega
  rw [hb]
  congr 1
  show (t.val - 1) % 32 * 256 + (256 + a.val) = t.val % 32 * 256 + a.val
  omega

/-- The result, entry by entry, as a function of the argument arrays. -/
def G5 (c : Dev nD) : S2x8192x512.Idx → EReal := fun i =>
  convG (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

theorem emb5 (t : Fin cfg0.N) (r : Fin 256) (q : Fin 512) :
    (win0_5.blk t).view.emb (ix3 0 r q) = (ix3 (bat t) (tok (til t) r) q : S2x8192x512.Idx) := by
  have hi : ∀ t : Fin cfg0.N, win0_5.index t 0 = t.val / 32 ∧ win0_5.index t 1 = t.val % 32 ∧ win0_5.index t 2 = 0 :=
    (by decide +kernel : ∀ t : Fin grid0.N, win0_5.index t 0 = t.val / 32 ∧ win0_5.index t 1 = t.val % 32 ∧ win0_5.index t 2 = 0)
  funext a
  apply Fin.ext
  match a with
  | ⟨0, _⟩ => show win0_5.index t 0 * 1 + 1 * 0 = t.val / 32; rw [(hi t).1]; omega
  | ⟨1, _⟩ => show win0_5.index t 1 * 256 + 1 * r.val = t.val % 32 * 256 + r.val; rw [(hi t).2.1]; omega
  | ⟨2, _⟩ => show win0_5.index t 2 * 512 + 1 * q.val = q.val; rw [(hi t).2.2]; omega

theorem block_eq (c : Dev nD) (t : Fin cfg0.N) :
    outT (rowF m c t) (wRow (m ((c : Thread nD τ).loc main_arg1))) (iblk m c 2 t) (iblk m c 3 t) (iblk m c 4 t) = (win0_5.blk t).view.read (Elt Ideal) (G5 m c) := by
  funext y
  obtain ⟨r, q, rfl⟩ : ∃ (r : Fin 256) (q : Fin 512), y = ix3 0 r q := by
    refine ⟨y 1, y 2, ?_⟩
    have h1 : y 0 = (0 : Fin 1) := Fin.ext (by have h : (y 0).val < 1 := (y 0).isLt; show (y 0).val = 0; omega)
    rw [← h1]; exact eq_ix3 y
  rw [View.read_apply, emb5]
  show ent (fun k => conv (fun n j => padR (m ((c : Thread nD τ).loc main_arg0)) (bat t) ((til t).val * 256 + n) j)
      (wRow (m ((c : Thread nD τ).loc main_arg1))) (2 + r.val) k.val 31 + iblk m c 2 t (ix2 0 k)) (iblk m c 3 t (ix2 0 q)) (iblk m c 4 t (ix2 0 q)) q
    = ent (convRow (m ((c : Thread nD τ).loc main_arg0)) (m ((c : Thread nD τ).loc main_arg1)) (m ((c : Thread nD τ).loc main_arg2)) (bat t) (tok (til t) r)) (m ((c : Thread nD τ).loc main_arg3) (ix1 q)) (m ((c : Thread nD τ).loc main_arg4) (ix1 q)) q
  rw [blk3, blk4]
  have e : (til t).val * 256 + (2 + r.val) = 2 + (tok (til t) r).val := by
    show t.val % 32 * 256 + (2 + r.val) = 2 + (t.val % 32 * 256 + r.val); omega
  congr 1
  funext k
  rw [conv_shift, blk2, e]
  rfl

theorem flushed5_eq (c : Dev nD) (t : Fin cfg0.N) :
    (dats m 0 c).flushed 5 t = (win0_5.blk t).view.read (Elt Ideal) (G5 m c) := by
  by_cases h0 : t.val % 32 = 0
  · rw [Value.flushed5_A m c t h0]
    refine (congrArg ((cfg0.win 5).cut (grid0.coords t)) (out_A _ _ _ _ _ _ _ _ _ _ _ _ _ _ _ _ _ _ _ _ _ _ _ _ _ _ (rows m c t) (taps m c t) ?_)).trans ?_
    · intro a j
      unfold rowF
      exact padR_zero _ _ _ _ (by show t.val % 32 * 256 + a.val < 32; omega)
    · refine Eq.trans ?_ (block_eq m c t)
      rfl
  · rw [Value.flushed5_B m c t h0]
    refine (congrArg ((cfg0.win 5).cut (grid0.coords t)) (out_B _ _ _ _ _ _ _ _ _ _ _ _ _ _ _ _ _ _ _ _ _ _ _ _ _ _ _ (rows m c t) (taps m c t) (carried_before m c t h0))).trans ?_
    refine Eq.trans ?_ (block_eq m c t)
    rfl

theorem mem_blk5 (t : Fin cfg0.N) (i : S2x8192x512.Idx) :
    i ∈ ((cfg0.win 5).blk t).view.set ↔ (i 0 : Nat) = t.val / 32
      ∧ t.val % 32 * 256 ≤ (i 1 : Nat) ∧ (i 1 : Nat) < t.val % 32 * 256 + 256 := by
  have e : ∀ t : Fin cfg0.N, win0_5.index t 0 = t.val / 32 ∧ win0_5.index t 1 = t.val % 32 ∧ win0_5.index t 2 = 0 :=
    (by decide +kernel : ∀ t : Fin grid0.N, win0_5.index t 0 = t.val / 32 ∧ win0_5.index t 1 = t.val % 32 ∧ win0_5.index t 2 = 0)
  show i ∈ ((View.whole main_v3).slice (win0_5.rect t)).set ↔ _
  rw [View.set_slice_whole, Rect.mem_set_unit]
  have h2 : (i 2 : Nat) < 512 := (i 2).isLt
  refine ⟨fun h => ?_, fun h a => ?_⟩
  · have a0 : win0_5.index t 0 * 1 ≤ (i 0 : Nat) ∧ (i 0 : Nat) < win0_5.index t 0 * 1 + 1 := h 0
    have a1 : win0_5.index t 1 * 256 ≤ (i 1 : Nat) ∧ (i 1 : Nat) < win0_5.index t 1 * 256 + 256 := h 1
    rw [(e t).1] at a0
    rw [(e t).2.1] at a1
    exact ⟨by omega, a1⟩
  · match a with
    | ⟨0, _⟩ => show win0_5.index t 0 * 1 ≤ (i 0 : Nat) ∧ (i 0 : Nat) < win0_5.index t 0 * 1 + 1
                rw [(e t).1]; omega
    | ⟨1, _⟩ => show win0_5.index t 1 * 256 ≤ (i 1 : Nat) ∧ (i 1 : Nat) < win0_5.index t 1 * 256 + 256
                rw [(e t).2.1]; exact h.2
    | ⟨2, _⟩ => show win0_5.index t 2 * 512 ≤ (i 2 : Nat) ∧ (i 2 : Nat) < win0_5.index t 2 * 512 + 512
                rw [(e t).2.2, Nat.zero_mul, Nat.zero_add]; exact ⟨Nat.zero_le _, h2⟩

theorem cover5 (i : S2x8192x512.Idx) :
    ∃ t : Fin cfg0.N, (cfg0.win 5).flush t = true ∧ i ∈ ((cfg0.win 5).blk t).view.set := by
  have h0 : (i 0 : Nat) < 2 := (i 0).isLt
  have h1 : (i 1 : Nat) < 8192 := (i 1).isLt
  have hN : cfg0.N = 64 := N_0
  obtain ⟨t, ht⟩ : ∃ t : Fin cfg0.N, t.val = (i 0 : Nat) * 32 + (i 1 : Nat) / 256 := ⟨⟨_, by rw [hN]; omega⟩, rfl⟩
  refine ⟨t, flush0_5 t, ?_⟩
  rw [mem_blk5]
  omega

theorem final5 (c : Dev nD) : (dats m 0 c).arrAt 5 cfg0.N = G5 m c :=
  (dats m 0 c).arrAt_eq_of_cover 5 (G5 m c) (fun t _ => flushed5_eq m c t) cover5

end Cert.Proof.ConvValue

end
-- ==== Proof.ConvRef.lean ====
/- The gated convolution's reference (program `Reference6Ideal`): its result is the formula, entry by entry. -/
module

public import proofs.«01_k».proof.Proof.ConvSpec
public import proofs.«01_k».proof.Proof.Gen.Reference6Ideal.Run

@[expose] public section

set_option maxRecDepth 16384

noncomputable section

open Idealize.ShloMosaic Idealize.ShloMosaic.TcCoe Idealize.SL.Sem

namespace Cert.Proof.ConvRef

open Cert.Reference6Ideal Cert.Reference6Ideal.Gen Cert.Reference6Ideal.Value
open Cert.Proof.ConvTile (padR wRow wRow_of conv convRow convG ent normed mean)

variable (V : Valuation τ sig (Elt Ideal))

/-- The sequence, and the weights of the taps. -/
def seq : FVec Ideal S2x8192x512 .f32 := V (Proc.devRef .tc main_arg0)
def wts : FVec Ideal S31x512 .f32 := V (Proc.devRef .tc main_arg1)

/-- A row of the sequence with thirty zero rows before it. -/
theorem v1_apply (b : Fin 2) (N : Fin 8222) (j : Fin 512) : res_main_v1 V (ix3 b N j) = padR (seq V) b (2 + N.val) j.val := by
  have h : res_main_v1 V (ix3 b N j) = if h : N.val < 30 then (0 : EReal) else seq V (ix3 b ⟨N.val - 30, by omega⟩ j) := by
    unfold res_main_v1 seq
    pointwise
  rw [h]
  unfold padR
  by_cases h : N.val < 30
  · rw [dif_pos h, dif_neg (by omega)]
  · rw [dif_neg h, dif_pos ⟨by omega, by omega, j.isLt⟩]
    congr 2
    apply Fin.ext
    show N.val - 30 = 2 + N.val - 32
    omega

/-- A tap's slice of the sequence, -/
theorem slice_apply (k : ℕ) (hk : k < 31) (h : S2x8222x512.Slices ![0, k, 0] S2x8192x512) (b : Fin 2) (n : Fin 8192) (j : Fin 512) :
    extractStridedSlice S2x8192x512 ![0, k, 0] (res_main_v1 V) h (ix3 b n j) = padR (seq V) b (2 + n.val + k) j.val := by
  have e : extractStridedSlice S2x8192x512 ![0, k, 0] (res_main_v1 V) h (ix3 b n j) = res_main_v1 V (ix3 b ⟨k + n.val, by omega⟩ j) := by
    pointwise
  rw [e, v1_apply]
  congr 1
  show 2 + (k + n.val) = 2 + n.val + k
  omega

/-- and its weights. -/
theorem weight_apply (k : ℕ) (hk : k < 31) (h : S31x512.Slices ![k, 0] S1x512) (b : Fin 2) (n : Fin 8192) (j : Fin 512) :
    broadcastInDim S2x8192x512 ![0, 1, 2] bcast_S1x1x512_S2x8192x512_0_1_2 (broadcastInDim S1x1x512 ![2] bcast_S512_S1x1x512_2
      (shapeCast S512 (extractStridedSlice S1x512 ![k, 0] (wts V) h) shapeCasts_S1x512_S512)) (ix3 b n j) = wRow (wts V) k j.val := by
  refine Eq.trans ?_ (wRow_of (wts V) ⟨k, hk⟩ j)
  pointwise

/-- One more tap. -/
theorem tap_step (k : ℕ) (hk : k < 31) (h : S2x8222x512.Slices ![0, k, 0] S2x8192x512) (h' : S31x512.Slices ![k, 0] S1x512)
    (A : FVec Ideal S2x8192x512 .f32) (b : Fin 2) (n : Fin 8192) (j : Fin 512) (hA : A (ix3 b n j) = conv (padR (seq V) b) (wRow (wts V)) (2 + n.val) j.val k) :
    addf A (mulf (extractStridedSlice S2x8192x512 ![0, k, 0] (res_main_v1 V) h)
      (broadcastInDim S2x8192x512 ![0, 1, 2] bcast_S1x1x512_S2x8192x512_0_1_2 (broadcastInDim S1x1x512 ![2] bcast_S512_S1x1x512_2
        (shapeCast S512 (extractStridedSlice S1x512 ![k, 0] (wts V) h') shapeCasts_S1x512_S512)))) (ix3 b n j)
      = conv (padR (seq V) b) (wRow (wts V)) (2 + n.val) j.val (k + 1) := by
  exact congrArg₂ (fun p q : EReal => p + q) hA (congrArg₂ (fun p q : EReal => p * q) (slice_apply V k hk h b n j) (weight_apply V k hk h' b n j))

/-- The first tap. -/
theorem tap_first (h : S2x8222x512.Slices ![0, 0, 0] S2x8192x512) (h' : S31x512.Slices ![0, 0] S1x512) (b : Fin 2) (n : Fin 8192) (j : Fin 512) :
    mulf (extractStridedSlice S2x8192x512 ![0, 0, 0] (res_main_v1 V) h)
      (broadcastInDim S2x8192x512 ![0, 1, 2] bcast_S1x1x512_S2x8192x512_0_1_2 (broadcastInDim S1x1x512 ![2] bcast_S512_S1x1x512_2
        (shapeCast S512 (extractStridedSlice S1x512 ![0, 0] (wts V) h') shapeCasts_S1x512_S512))) (ix3 b n j)
      = conv (padR (seq V) b) (wRow (wts V)) (2 + n.val) j.val 1 := by
  exact (congrArg₂ (fun p q : EReal => p * q) (slice_apply V 0 (by decide) h b n j) (weight_apply V 0 (by decide) h' b n j)).trans (zero_add _).symm

theorem v77_apply (b : Fin 2) (n : Fin 8192) (j : Fin 512) : res_main_v77 V (ix3 b n j) = conv (padR (seq V) b) (wRow (wts V)) (2 + n.val) j.val 11 := by
  unfold res_main_v77
  refine tap_step V 10 (by decide) _ _ _ b n j ?_
  refine tap_step V 9 (by decide) _ _ _ b n j ?_
  refine tap_step V 8 (by decide) _ _ _ b n j ?_
  refine tap_step V 7 (by decide) _ _ _ b n j ?_
  refine tap_step V 6 (by decide) _ _ _ b n j ?_
  refine tap_step V 5 (by decide) _ _ _ b n j ?_
  refine tap_step V 4 (by decide) _ _ _ b n j ?_
  refine tap_step V 3 (by decide) _ _ _ b n j ?_
  refine tap_step V 2 (by decide) _ _ _ b n j ?_
  refine tap_step V 1 (by decide) _ _ _ b n j ?_
  exact tap_first V _ _ b n j

theorem v154_apply (b : Fin 2) (n : Fin 8192) (j : Fin 512) : res_main_v154 V (ix3 b n j) = conv (padR (seq V) b) (wRow (wts V)) (2 + n.val) j.val 22 := by
  unfold res_main_v154
  refine tap_step V 21 (by decide) _ _ _ b n j ?_
  refine tap_step V 20 (by decide) _ _ _ b n j ?_
  refine tap_step V 19 (by decide) _ _ _ b n j ?_
  refine tap_step V 18 (by decide) _ _ _ b n j ?_
  refine tap_step V 17 (by decide) _ _ _ b n j ?_
  refine tap_step V 16 (by decide) _ _ _ b n j ?_
  refine tap_step V 15 (by decide) _ _ _ b n j ?_
  refine tap_step V 14 (by decide) _ _ _ b n j ?_
  refine tap_step V 13 (by decide) _ _ _ b n j ?_
  refine tap_step V 12 (by decide) _ _ _ b n j ?_
  refine tap_step V 11 (by decide) _ _ _ b n j ?_
  exact v77_apply V b n j

theorem v220_apply (b : Fin 2) (n : Fin 8192) (j : Fin 512) : res_main_v220 V (ix3 b n j) = convRow (seq V) (wts V) (V (Proc.devRef .tc main_arg2)) b n j := by
  have h : ∀ A : FVec Ideal S2x8192x512 .f32, addf A (broadcastInDim S2x8192x512 ![0, 1, 2] bcast_S1x1x512_S2x8192x512_0_1_2 (broadcastInDim S1x1x512 ![2] bcast_S512_S1x1x512_2 (V (Proc.devRef .tc main_arg2)))) (ix3 b n j)
      = A (ix3 b n j) + (V (Proc.devRef .tc main_arg2) : FVec Ideal S512 .f32) (ix1 j) := fun A => by pointwise
  unfold res_main_v220 convRow
  refine (h _).trans ?_
  congr 1
  refine tap_step V 30 (by decide) _ _ _ b n j ?_
  refine tap_step V 29 (by decide) _ _ _ b n j ?_
  refine tap_step V 28 (by decide) _ _ _ b n j ?_
  refine tap_step V 27 (by decide) _ _ _ b n j ?_
  refine tap_step V 26 (by decide) _ _ _ b n j ?_
  refine tap_step V 25 (by decide) _ _ _ b n j ?_
  refine tap_step V 24 (by decide) _ _ _ b n j ?_
  refine tap_step V 23 (by decide) _ _ _ b n j ?_
  refine tap_step V 22 (by decide) _ _ _ b n j ?_
  exact v154_apply V b n j

theorem v224_apply (b : Fin 2) (n : Fin 8192) : res_main_v224 V (ix3 b n 0) = mean (fun k => res_main_v220 V (ix3 b n k)) := by
  unfold res_main_v224 mean
  pointwise

/-- A row of the convolution with its bias, as the reference has it. -/
def pre (b : Fin 2) (n : Fin 8192) (k : Fin 512) : EReal := res_main_v220 V (ix3 b n k)

theorem v226_apply (b : Fin 2) (n : Fin 8192) (j : Fin 512) : res_main_v226 V (ix3 b n j) = pre V b n j - mean (pre V b n) := by
  refine Eq.trans ?_ (congrArg (fun p : EReal => pre V b n j - p) (v224_apply V b n))
  unfold res_main_v226 pre
  pointwise

theorem sq_mean (b : Fin 2) (n : Fin 8192) : Ideal.div (∑ k, mulf (res_main_v226 V) (res_main_v226 V) (ix3 b n k)) (Ideal.ofBits .f32 0x44000000#32)
    = mean (fun k => (pre V b n k - mean (pre V b n)) * (pre V b n k - mean (pre V b n))) := by
  unfold mean
  refine congrArg (fun p : EReal => Ideal.div p _) (Finset.sum_congr rfl fun k _ => ?_)
  exact congrArg₂ (fun p q : EReal => p * q) (v226_apply V b n k) (v226_apply V b n k)

theorem v244_apply (b : Fin 2) (n : Fin 8192) (q : Fin 512) : res_main_v244 V (ix3 b n q)
    = normed (pre V b n) ((V (Proc.devRef .tc main_arg3) : FVec Ideal S512 .f32) (ix1 q)) ((V (Proc.devRef .tc main_arg4) : FVec Ideal S512 .f32) (ix1 q)) q := by
  unfold normed
  rw [← sq_mean, show mean (pre V b n) = res_main_v224 V (ix3 b n 0) from (v224_apply V b n).symm]
  unfold res_main_v244 pre
  pointwise

theorem silu_apply (x : FVec Ideal S2x8192x512 .f32) (b : Fin 2) (n : Fin 8192) (q : Fin 512) :
    truncf .bf16 (mulf x (Host.divf (broadcastInDim S2x8192x512 ![] bcast_S_S2x8192x512 (constant S_ .f32 0x3F800000#32))
      (addf (broadcastInDim S2x8192x512 ![] bcast_S_S2x8192x512 (constant S_ .f32 0x3F800000#32)) (Host.exp (Host.negf x))))) bitsLt_bf16_f32 (ix3 b n q)
      = x (ix3 b n q) * Ideal.logistic (x (ix3 b n q)) := by
  pointwise
  rfl

/-- The reference's result, entry by entry. -/
theorem v246_apply (b : Fin 2) (n : Fin 8192) (q : Fin 512) :
    truncf .bf16 (mulf (res_main_v244 V) (Host.divf (broadcastInDim S2x8192x512 ![] bcast_S_S2x8192x512 (constant S_ .f32 0x3F800000#32))
      (addf (broadcastInDim S2x8192x512 ![] bcast_S_S2x8192x512 (constant S_ .f32 0x3F800000#32)) (Host.exp (Host.negf (res_main_v244 V)))))) bitsLt_bf16_f32 (ix3 b n q)
      = convG (seq V) (wts V) (V (Proc.devRef .tc main_arg2)) (V (Proc.devRef .tc main_arg3)) (V (Proc.devRef .tc main_arg4)) b n q := by
  have hp : pre V b n = convRow (seq V) (wts V) (V (Proc.devRef .tc main_arg2)) b n := funext fun k => v220_apply V b n k
  refine (silu_apply (res_main_v244 V) b n q).trans ?_
  unfold convG ent
  rw [← hp]
  exact congrArg (fun p : EReal => p * Ideal.logistic p) (v244_apply V b n q)

end Cert.Proof.ConvRef

end
-- ==== Proof.Conv.lean ====
/- The call `conv_a` (program `Kernel6`): the claims of the call. -/
module

public import proofs.«01_k».proof.Defs
public import proofs.«01_k».proof.Proof.Gen.Kernel6.Frame
public import proofs.«01_k».proof.Proof.ConvValue
public import proofs.«01_k».proof.Proof.ConvRef
public import Idealize.ShloMosaic.Lib.Quiescent

@[expose] public section

set_option maxRecDepth 16384

noncomputable section

open Idealize.ShloMosaic Idealize.ShloMosaic.TcCoe Idealize.SL.Sem

namespace Cert.Proof.Conv

theorem frame_k : Cert.quiescent_Kernel6 := fun m ρ _ => Cert.Kernel6.Gen.frame m ρ
theorem frame_ki : Cert.quiescent_Kernel6Ideal := fun m ρ _ => Cert.Kernel6Ideal.Gen.frame m ρ
theorem frame_r : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem preserves : Cert.preserves_Kernel6_Kernel6Ideal := trivial

/-- The mixer's result is the reference's. -/
theorem algebraic : Cert.algebraic_Kernel6Ideal_Reference6Ideal := by
  intro m ρ m' ρ' _ hagree
  refine ⟨fun c => ConvValue.G5 m c, ?_, ?_⟩
  · exact (θ_run Cert.Kernel6Ideal.defs _ _).mono (fun _ h c => ⟨(h c).1.trans (ConvValue.final5 m c), (h c).2⟩)
      (Cert.Kernel6Ideal.Value.run_blocks (F := Ideal) m ρ)
  refine (θ_run Cert.Reference6Ideal.defs _ _).mono (fun _ h c => ⟨(h c).1.trans ?_, (h c).2⟩)
    (Cert.Reference6Ideal.Value.run (F := Ideal) m' ρ')
  obtain ⟨h0, h1, h2, h3, h4⟩ := hagree c
  funext i
  obtain ⟨b, n, q, rfl⟩ : ∃ b n q, i = ix3 b n q := ⟨i 0, i 1, i 2, eq_ix3 i⟩
  refine (ConvRef.v246_apply _ b n q).trans ?_
  show ConvTile.convG (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) b n q
    = ConvTile.convG (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) b n q
  rw [h0, h1, h2, h3, h4]

end Cert.Proof.Conv

end
-- ==== Proof.PoolTile.lean ====
/- The pooling mixer (the call `pool_b`, program `Kernel7`): what one tile of 512 rows computes from its rows and the sixteen rows carried
   from the tile before. -/
module

public import proofs.«01_k».proof.Defs
public import proofs.«01_k».proof.Proof.Gen.Kernel7Ideal.Value
public import Idealize.ShloMosaic.Lib.Pipeline.Value
public import Idealize.ShloMosaic.Lib.Pipeline.ReadBack
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Proof.PoolTile

open Cert.Kernel7Ideal Cert.Kernel7Ideal.Gen

/-- A block of 128 rows and 128 columns of the rows `f`, from row `o` and column `c`. -/
def rowsAt (f : ℕ → ℕ → EReal) (o c : ℕ) : Vec Ideal S128x128 .f32 := fun y => f (o + (y 0).val) (c + (y 1).val)

/-- The sum of a block and the `n` blocks before it, each one row earlier. -/
def sumV (f : ℕ → ℕ → EReal) (o c : ℕ) : ℕ → FVec Ideal S128x128 .f32
  | 0 => rowsAt f o c
  | n + 1 => addf (sumV f o c n) (rowsAt f (o - (n + 1)) c)

/-- The sum of an entry and the `n` before it in its column. -/
def num (f : ℕ → ℕ → EReal) (N j : ℕ) : ℕ → EReal
  | 0 => f N j
  | n + 1 => num f N j n + f (N - (n + 1)) j

/-- The window of a group of columns, as the float the count is capped at. -/
def cap (g : Fin 4) : EReal :=
  match g with
  | 0 => Ideal.ofBits .f32 0x40000000#32
  | 1 => Ideal.ofBits .f32 0x40800000#32
  | 2 => Ideal.ofBits .f32 0x41000000#32
  | 3 => Ideal.ofBits .f32 0x41800000#32

/-- The number of rows before an entry its group sums. -/
def back (g : Fin 4) : ℕ :=
  match g with
  | 0 => 1
  | 1 => 3
  | 2 => 7
  | 3 => 15

/-- One entry of the pooled result, at row `N` of the rows `f` and column `l` of the group `g`: the windowed mean less the entry, through
    the group's matrix, scaled. -/
def ent (f : ℕ → ℕ → EReal) (N : ℕ) (pos : EReal) (pw : Fin 128 → EReal) (sc : EReal) (g : Fin 4) : EReal :=
  (∑ k : Fin 128, (Ideal.div (num f N (128 * g.val + k.val) (back g)) (min (pos + Ideal.ofBits .f32 0x3F800000#32) (cap g))
    - f N (128 * g.val + k.val)) * pw k) * sc

/-- The row positions of a block of 128 rows from row `bits` of the tile. -/
def posV (i : grid0.Coords) (bits : BitVec 32) : FVec Ideal S128x1 .f32 :=
  sitofp .f32 (addi (broadcast S128x1 (Scalar.addi (Scalar.muli (BitVec.ofNat 32 (i 1).val) 512#32) bits)) (iota .tc S128x1 32 [0] iota_S128x1_d0_w32))

/-- One block of the result from the window sums `s` and the block `cur`. -/
def pieceV (pos : FVec Ideal S128x1 .f32) (w : EReal) (cur s : FVec Ideal S128x128 .f32) (pw : Vec Ideal S1x128x128 .bf16)
    (sc : Vec Ideal S1x128 .f32) : FVec Ideal S1x128x128 .bf16 :=
  shapeCast S1x128x128 (truncf .bf16 (mulf (matmul dot_S128x128_S128x128_S128x128_1_0_0_1_n_n none
    (truncf .bf16 (subf (divf s (broadcastTo S128x128 (minimumf (addf pos (broadcast S128x1 (Scalar.ofBits .f32 0x3F800000#32)))
      (broadcast S128x1 w)) broadcasts_S128x1_S128x128)) cur) bitsLt_bf16_f32) (shapeCast S128x128 pw shapeCasts_S1x128x128_S128x128 : FVec Ideal S128x128 .bf16)
    (constant S128x128 .f32 0x00000000#32)) (broadcastTo S128x128 (shapeCast S1x128 sc shapeCasts_S1x128_S1x128) broadcasts_S1x128_S128x128))
    bitsLt_bf16_f32) shapeCasts_S128x128_S1x128x128

/-- The position of row `n` as a float. -/
def posAt (n : ℕ) : EReal := FloatOps.sitofp (F := Ideal) .f32 (BitVec.ofNat 32 n)

theorem sumV_apply (f : ℕ → ℕ → EReal) (o c n : ℕ) (hn : n ≤ o) (r l : Fin 128) :
    sumV f o c n (ix2 r l) = num f (o + r.val) (c + l.val) n := by
  induction n with
  | zero => rfl
  | succ n ih =>
    show sumV f o c n (ix2 r l) + f (o - (n + 1) + r.val) (c + l.val) = num f (o + r.val) (c + l.val) n + _
    rw [ih (by omega)]
    congr 2
    omega

theorem posV_apply (i : grid0.Coords) (r0 : ℕ) (r : Fin 128) :
    posV i (BitVec.ofNat 32 r0) (ix2 r 0) = posAt ((i 1).val * 512 + r0 + r.val) := by
  unfold posV posAt
  pointwise
  congr 1
  show BitVec.ofNat 32 (i 1).val * BitVec.ofNat 32 512 + BitVec.ofNat 32 r0 + BitVec.ofNat 32 r.val = _
  rw [← BitVec.ofNat_mul, ← BitVec.ofNat_add, ← BitVec.ofNat_add]

theorem pieceV_apply (pos : FVec Ideal S128x1 .f32) (w : EReal) (cur s : FVec Ideal S128x128 .f32) (pw : Vec Ideal S1x128x128 .bf16)
    (sc : Vec Ideal S1x128 .f32) (r l : Fin 128) : pieceV pos w cur s pw sc (ix3 0 r l)
      = (∑ k : Fin 128, (Ideal.div (s (ix2 r k)) (min (pos (ix2 r 0) + Ideal.ofBits .f32 0x3F800000#32) w) - cur (ix2 r k)) * pw (ix3 0 k l))
          * sc (ix2 0 l) := by
  unfold pieceV
  pointwise

/-- A tile's result block, over the rows `f` (its own from row 16, the carried ones before them). -/
def outT (i : grid0.Coords) (f : ℕ → ℕ → EReal) (x1 : Vec Ideal S4x128x128 .bf16) (x2 : Vec Ideal S1x512 .f32) : Vec Ideal S1x512x512 .bf16 :=
  fun y => have h2 : (y 2).val < 512 := (y 2).isLt
    ent f (16 + (y 1).val) (posAt ((i 1).val * 512 + (y 1).val))
      (fun k => x1 (ix3 ⟨(y 2).val / 128, by omega⟩ k ⟨(y 2).val % 128, by omega⟩)) (x2 (ix2 0 (y 2))) ⟨(y 2).val / 128, by omega⟩

/-- A stored piece is a block of `outT`. -/
theorem piece_ok (i : grid0.Coords) (f : ℕ → ℕ → EReal) (x1 : Vec Ideal S4x128x128 .bf16) (x2 : Vec Ideal S1x512 .f32) (g : Fin 4) (r0 c : ℕ)
    (hr : r0 + 128 ≤ 512) (hg : c = 128 * g.val) (io : ∀ a, (![0, r0, c] : Fin 3 → ℕ) a + S1x128x128.size a ≤ S1x512x512.size a)
    {pos : FVec Ideal S128x1 .f32} {w : EReal} {cur s : FVec Ideal S128x128 .f32} {pw : Vec Ideal S1x128x128 .bf16} {sc : Vec Ideal S1x128 .f32}
    (hp : pos = posV i (BitVec.ofNat 32 r0)) (hw : w = cap g) (hcur : cur = rowsAt f (16 + r0) c) (hs : s = sumV f (16 + r0) c (back g))
    (hpw : ∀ k l : Fin 128, pw (ix3 0 k l) = x1 (ix3 g k l)) (hsc : ∀ l : Fin 128, sc (ix2 0 l) = x2 (ix2 0 ⟨c + l.val, by omega⟩))
    (z : S1x128x128.Idx) :
    pieceV pos w cur s pw sc z = outT i f x1 x2 ((Rect.unit (s := S1x512x512) ![0, r0, c] S1x128x128.size io).emb z) := by
  obtain ⟨r, l, rfl⟩ : ∃ (r l : Fin 128), z = ix3 0 r l := by
    refine ⟨z 1, z 2, ?_⟩
    have h1 : z 0 = (0 : Fin 1) := Fin.ext (by have h : (z 0).val < 1 := (z 0).isLt; show (z 0).val = 0; omega)
    rw [← h1]; exact eq_ix3 z
  have hb : back g ≤ 15 := by fin_cases g <;> decide
  have e : (Rect.unit (s := S1x512x512) ![0, r0, c] S1x128x128.size io).emb (ix3 0 r l)
      = (ix3 0 ⟨r0 + r.val, by omega⟩ ⟨c + l.val, by omega⟩ : S1x512x512.Idx) := by
    funext a; apply Fin.ext
    match a with
    | ⟨0, _⟩ => rfl
    | ⟨1, _⟩ => show r0 + 1 * r.val = r0 + r.val; omega
    | ⟨2, _⟩ => show c + 1 * l.val = c + l.val; omega
  have eg : (⟨(c + l.val) / 128, by omega⟩ : Fin 4) = g := Fin.ext (by show (c + l.val) / 128 = g.val; omega)
  have el : (⟨(c + l.val) % 128, by omega⟩ : Fin 128) = l := Fin.ext (by show (c + l.val) % 128 = l.val; omega)
  rw [e, pieceV_apply, hp, posV_apply]
  show _ = ent f (16 + (r0 + r.val)) (posAt ((i 1).val * 512 + (r0 + r.val)))
    (fun k => x1 (ix3 ⟨(c + l.val) / 128, by omega⟩ k ⟨(c + l.val) % 128, by omega⟩)) (x2 (ix2 0 ⟨c + l.val, by omega⟩)) ⟨(c + l.val) / 128, by omega⟩
  rw [eg, el, hsc]
  unfold ent
  simp only [hpw, hs, hcur, hw, sumV_apply f (16 + r0) c (back g) (by omega)]
  subst hg
  show (∑ k : Fin 128, (Ideal.div _ _ - f (16 + r0 + r.val) (128 * g.val + k.val)) * _) * _ = _
  simp only [Nat.add_assoc]

theorem sum_succ {f : ℕ → ℕ → EReal} {o c n : ℕ} {s v : FVec Ideal S128x128 .f32} (h : s = sumV f o c n)
    (hv : v = rowsAt f (o - (n + 1)) c) : addf s v = sumV f o c (n + 1) := by
  rw [h, hv]; rfl

/-- A load of a block of the rows: every entry stored there before it being `f`'s. -/
theorem at_load {sp : Space} (v : View sig .tc sp S528x512 .f32) (g : v.ty.Contents (Elt Ideal)) (L : List (View.Piece (Elt Ideal) S528x512 .f32))
    (f : ℕ → ℕ → EReal) (lo o c : ℕ) (h : ∀ y : S528x512.Idx, lo ≤ (y 0).val → v.read (Elt Ideal) (v.writes (Elt Ideal) g L) y = f (y 0).val (y 1).val)
    (hlo : lo ≤ o) (io : ∀ a, (![o, c] : Fin 2 → ℕ) a + S128x128.size a ≤ S528x512.size a) :
    View.readAt (Elt Ideal) v (Rect.unit (s := S528x512) ![o, c] S128x128.size io).toLoadRect (v.writes (Elt Ideal) g L) = rowsAt f o c := by
  rw [View.readAt_eq_ld]
  funext y
  refine (h ((Rect.unit (s := S528x512) ![o, c] S128x128.size io).toLoadRect.idx y) ?_).trans ?_
  · show lo ≤ o + 1 * (y 0).val; omega
  · show f (o + 1 * (y 0).val) (c + 1 * (y 1).val) = f (o + (y 0).val) (c + (y 1).val)
    rw [Nat.one_mul, Nat.one_mul]

/-- The same, of a load every entry of which was stored at this point. -/
theorem cov_load {sp : Space} (v : View sig .tc sp S528x512 .f32) (L : List (View.Piece (Elt Ideal) S528x512 .f32))
    (f : ℕ → ℕ → EReal) (lo o c : ℕ) (h : ∀ y : S528x512.Idx, lo ≤ (y 0).val → v.read (Elt Ideal) (v.writes (Elt Ideal) v.junk L) y = f (y 0).val (y 1).val)
    (hlo : lo ≤ o) (io : ∀ a, (![o, c] : Fin 2 → ℕ) a + S128x128.size a ≤ S528x512.size a) :
    v.readCov L (Rect.unit (s := S528x512) ![o, c] S128x128.size io).toLoadRect = rowsAt f o c :=
  at_load v v.junk L f lo o c h hlo io

end Cert.Proof.PoolTile

end
-- ==== Proof.PoolWords.lean ====
/- The pooling mixer (the call `pool_b`, program `Kernel7`): the body writes its sixteen blocks of the result as sixteen separate texts;
   each is here equated with the one block function `pieceV`. -/
module

public import proofs.«01_k».proof.Proof.PoolTile

@[expose] public section

set_option maxRecDepth 16384

noncomputable section

open Idealize.ShloMosaic Idealize.ShloMosaic.TcCoe Idealize.SL.Sem

namespace Cert.Proof.PoolTile

open Cert.Kernel7Ideal Cert.Kernel7Ideal.Gen

theorem gate_0_0 (i : grid0.Coords) (v14 v15 : Vec Ideal S128x128 .f32) (v25 : Vec Ideal S1x128x128 .bf16) (v28 : Vec Ideal S1x128 .f32) :
    k0_pay5 (k0_pay4 i v14 v15 v25 v28) = pieceV (k0_pay3 i) (Scalar.ofBits .f32 0x40000000#32 : Ideal .f32) v14 (addf v14 v15) v25 v28 := by
  unfold pieceV k0_pay5 k0_pay4
  rfl

theorem gate_0_1 (i : grid0.Coords) (v36 v37 v39 v41 : Vec Ideal S128x128 .f32) (v51 : Vec Ideal S1x128x128 .bf16) (v54 : Vec Ideal S1x128 .f32) :
    k0_pay6 (k0_pay3 i) v36 v37 v39 v41 v51 v54 = pieceV (k0_pay3 i) (Scalar.ofBits .f32 0x40800000#32 : Ideal .f32) v36 (addf (addf (addf v36 v37) v39) v41) v51 v54 := by
  unfold pieceV k0_pay6
  rfl

theorem gate_0_2 (i : grid0.Coords) (v62 v63 v65 v67 v69 v71 v73 v75 : Vec Ideal S128x128 .f32) (v85 : Vec Ideal S1x128x128 .bf16) (v88 : Vec Ideal S1x128 .f32) :
    k0_pay8 (k0_pay3 i) v62 (k0_pay7 v62 v63) v65 v67 v69 v71 v73 v75 v85 v88 = pieceV (k0_pay3 i) (Scalar.ofBits .f32 0x41000000#32 : Ideal .f32) v62 (addf (addf (addf (addf (addf (addf (addf v62 v63) v65) v67) v69) v71) v73) v75) v85 v88 := by
  unfold pieceV k0_pay8 k0_pay7
  rfl

theorem gate_0_3 (i : grid0.Coords) (v96 v97 v99 v101 v103 v105 v107 v109 v111 v113 v115 v117 v119 v121 v123 v125 : Vec Ideal S128x128 .f32) (v135 : Vec Ideal S1x128x128 .bf16) (v138 : Vec Ideal S1x128 .f32) :
    k0_pay12 v96 (k0_pay10 (k0_pay9 v96 v97) v99 v101 v103 v105 v107 v109 v111 v113 v115 v117 v119 v121 v123 v125) (k0_pay11 (k0_pay3 i)) (Scalar.ofBits .f32 0x41800000#32 : Ideal .f32) v135 v138 = pieceV (k0_pay3 i) (Scalar.ofBits .f32 0x41800000#32 : Ideal .f32) v96 (addf (addf (addf (addf (addf (addf (addf (addf (addf (addf (addf (addf (addf (addf (addf v96 v97) v99) v101) v103) v105) v107) v109) v111) v113) v115) v117) v119) v121) v123) v125) v135 v138 := by
  unfold pieceV k0_pay12 k0_pay10 k0_pay9 k0_pay11
  rfl

theorem gate_128_0 (arg1 : BitVec 32) (v152 v153 : Vec Ideal S128x128 .f32) (v163 : Vec Ideal S1x128x128 .bf16) (v166 : Vec Ideal S1x128 .f32) :
    k0_pay15 (k0_pay14 arg1 v152 v153 v163) v166 = pieceV (k0_pay13 arg1) (Scalar.ofBits .f32 0x40000000#32 : Ideal .f32) v152 (addf v152 v153) v163 v166 := by
  unfold pieceV k0_pay15 k0_pay14
  rfl

theorem gate_128_1 (arg1 : BitVec 32) (v174 v175 v177 v179 : Vec Ideal S128x128 .f32) (v189 : Vec Ideal S1x128x128 .bf16) (v192 : Vec Ideal S1x128 .f32) :
    k0_pay16 (k0_pay13 arg1) v174 v175 v177 v179 v189 v192 = pieceV (k0_pay13 arg1) (Scalar.ofBits .f32 0x40800000#32 : Ideal .f32) v174 (addf (addf (addf v174 v175) v177) v179) v189 v192 := by
  unfold pieceV k0_pay16
  rfl

theorem gate_128_2 (arg1 : BitVec 32) (v200 v201 v203 v205 v207 v209 v211 v213 : Vec Ideal S128x128 .f32) (v223 : Vec Ideal S1x128x128 .bf16) (v226 : Vec Ideal S1x128 .f32) :
    (k0_pay17 (k0_pay13 arg1) v200 v201 v203 v205 v207 v209 v211 v213 v223 v226) = pieceV (k0_pay13 arg1) (Scalar.ofBits .f32 0x41000000#32 : Ideal .f32) v200 (addf (addf (addf (addf (addf (addf (addf v200 v201) v203) v205) v207) v209) v211) v213) v223 v226 := by
  unfold pieceV k0_pay17
  rfl

theorem gate_128_3 (arg1 : BitVec 32) (v234 v235 v237 v239 v241 v243 v245 v247 v249 v251 v253 v255 v257 v259 v261 v263 : Vec Ideal S128x128 .f32) (v273 : Vec Ideal S1x128x128 .bf16) (v276 : Vec Ideal S1x128 .f32) :
    k0_pay19 (k0_pay13 arg1) v234 (k0_pay18 v234 v235 v237 v239 v241 v243 v245 v247 v249 v251 v253 v255 v257 v259 v261) v263 v273 v276 = pieceV (k0_pay13 arg1) (Scalar.ofBits .f32 0x41800000#32 : Ideal .f32) v234 (addf (addf (addf (addf (addf (addf (addf (addf (addf (addf (addf (addf (addf (addf (addf v234 v235) v237) v239) v241) v243) v245) v247) v249) v251) v253) v255) v257) v259) v261) v263) v273 v276 := by
  unfold pieceV k0_pay19 k0_pay18
  rfl

theorem gate_256_0 (arg1 : BitVec 32) (v290 v291 : Vec Ideal S128x128 .f32) (v301 : Vec Ideal S1x128x128 .bf16) (v304 : Vec Ideal S1x128 .f32) :
    k0_pay22 (k0_pay21 arg1 v290 v291) v301 v304 = pieceV (k0_pay20 arg1) (Scalar.ofBits .f32 0x40000000#32 : Ideal .f32) v290 (addf v290 v291) v301 v304 := by
  unfold pieceV k0_pay22 k0_pay21
  rfl

theorem gate_256_1 (arg1 : BitVec 32) (v312 v313 v315 v317 : Vec Ideal S128x128 .f32) (v327 : Vec Ideal S1x128x128 .bf16) (v330 : Vec Ideal S1x128 .f32) :
    k0_pay24 (k0_pay23 (k0_pay20 arg1) v312 v313 v315 v317 v327 v330) = pieceV (k0_pay20 arg1) (Scalar.ofBits .f32 0x40800000#32 : Ideal .f32) v312 (addf (addf (addf v312 v313) v315) v317) v327 v330 := by
  unfold pieceV k0_pay24 k0_pay23
  rfl

theorem gate_256_2 (arg1 : BitVec 32) (v338 v339 v341 v343 v345 v347 v349 v351 : Vec Ideal S128x128 .f32) (v361 : Vec Ideal S1x128x128 .bf16) (v364 : Vec Ideal S1x128 .f32) :
    k0_pay27 (k0_pay25 (k0_pay20 arg1) v338 v339 v341 v343 v345 v347 v349 v351 v361) (k0_pay26 v364) = pieceV (k0_pay20 arg1) (Scalar.ofBits .f32 0x41000000#32 : Ideal .f32) v338 (addf (addf (addf (addf (addf (addf (addf v338 v339) v341) v343) v345) v347) v349) v351) v361 v364 := by
  unfold pieceV k0_pay27 k0_pay25 k0_pay26
  rfl

theorem gate_256_3 (arg1 : BitVec 32) (v372 v373 v375 v377 v379 v381 v383 v385 v387 v389 v391 v393 v395 v397 v399 v401 : Vec Ideal S128x128 .f32) (v411 : Vec Ideal S1x128x128 .bf16) (v414 : Vec Ideal S1x128 .f32) :
    k0_pay29 (k0_pay20 arg1) v372 (k0_pay28 v372 v373 v375 v377 v379 v381 v383 v385 v387 v389 v391 v393 v395) v397 v399 v401 v411 v414 = pieceV (k0_pay20 arg1) (Scalar.ofBits .f32 0x41800000#32 : Ideal .f32) v372 (addf (addf (addf (addf (addf (addf (addf (addf (addf (addf (addf (addf (addf (addf (addf v372 v373) v375) v377) v379) v381) v383) v385) v387) v389) v391) v393) v395) v397) v399) v401) v411 v414 := by
  unfold pieceV k0_pay29 k0_pay28
  rfl

theorem gate_384_0 (arg1 : BitVec 32) (v428 v429 : Vec Ideal S128x128 .f32) (v439 : Vec Ideal S1x128x128 .bf16) (v442 : Vec Ideal S1x128 .f32) :
    k0_pay33 (k0_pay30 arg1) v428 (k0_pay31 v428 v429) k0_pay32 v439 v442 = pieceV (k0_pay30 arg1) (Scalar.ofBits .f32 0x40000000#32 : Ideal .f32) v428 (addf v428 v429) v439 v442 := by
  unfold pieceV k0_pay33 k0_pay31 k0_pay32
  rfl

theorem gate_384_1 (arg1 : BitVec 32) (v450 v451 v453 v455 : Vec Ideal S128x128 .f32) (v465 : Vec Ideal S1x128x128 .bf16) (v468 : Vec Ideal S1x128 .f32) :
    k0_pay36 (k0_pay34 (k0_pay30 arg1) v450 v451 v453 v455) (k0_pay35 v465) (constant S128x128 .f32 0x00000000#32) v468 = pieceV (k0_pay30 arg1) (Scalar.ofBits .f32 0x40800000#32 : Ideal .f32) v450 (addf (addf (addf v450 v451) v453) v455) v465 v468 := by
  unfold pieceV k0_pay36 k0_pay34 k0_pay35
  rfl

theorem gate_384_2 (arg1 : BitVec 32) (v476 v477 v479 v481 v483 v485 v487 v489 : Vec Ideal S128x128 .f32) (v499 : Vec Ideal S1x128x128 .bf16) (v502 : Vec Ideal S1x128 .f32) :
    k0_pay38 (k0_pay37 (k0_pay30 arg1) v476 v477 v479 v481 v483 v485 v487 v489) v499 v502 = pieceV (k0_pay30 arg1) (Scalar.ofBits .f32 0x41000000#32 : Ideal .f32) v476 (addf (addf (addf (addf (addf (addf (addf v476 v477) v479) v481) v483) v485) v487) v489) v499 v502 := by
  unfold pieceV k0_pay38 k0_pay37
  rfl

theorem gate_384_3 (arg1 : BitVec 32) (v510 v511 v513 v515 v517 v519 v521 v523 v525 v527 v529 v531 v533 v535 v537 v539 : Vec Ideal S128x128 .f32) (v549 : Vec Ideal S1x128x128 .bf16) (v552 : Vec Ideal S1x128 .f32) :
    k0_pay40 (k0_pay30 arg1) v510 (k0_pay39 v510 v511 v513 v515 v517 v519 v521 v523 v525 v527 v529) v531 v533 v535 v537 v539 v549 v552 = pieceV (k0_pay30 arg1) (Scalar.ofBits .f32 0x41800000#32 : Ideal .f32) v510 (addf (addf (addf (addf (addf (addf (addf (addf (addf (addf (addf (addf (addf (addf (addf v510 v511) v513) v515) v517) v519) v521) v523) v525) v527) v529) v531) v533) v535) v537) v539) v549 v552 := by
  unfold pieceV k0_pay40 k0_pay39
  rfl

end Cert.Proof.PoolTile

end
-- ==== Proof.PoolCases.lean ====
/- The pooling mixer (the call `pool_b`, program `Kernel7`): what the body leaves at a point, in its two cases (the first tile of a
   batch element, whose carried rows are zero, and the later ones). -/
module

public import proofs.«01_k».proof.Proof.PoolWords

@[expose] public section

set_option maxRecDepth 16384

noncomputable section

open Idealize.ShloMosaic Idealize.ShloMosaic.TcCoe Idealize.SL.Sem

namespace Cert.Proof.PoolTile

open Cert.Kernel7Ideal Cert.Kernel7Ideal.Gen

theorem hz3 : (![0, 0, 0] : Fin 3 → ℕ) = fun _ => 0 := funext fun a => by fin_cases a <;> rfl

theorem pay1_apply (a : Fin 16) (j : Fin 512) : k0_pay1 (F := Ideal) (ix2 a j) = 0 := by
  unfold k0_pay1
  pointwise

theorem pay2_apply (x : Vec Ideal S1x512x512 .f32) (r j : Fin 512) : k0_pay2 x (ix2 r j) = x (ix3 0 r j) := by
  unfold k0_pay2
  pointwise

theorem pay41_apply (x : Vec Ideal S16x512 .f32) (a : Fin 16) (j : Fin 512) : k0_pay41 x (ix2 a j) = x (ix2 a j) := by
  unfold k0_pay41
  pointwise

/-- The rows a tile works over: the zeros before the first one. -/
def Rows (x0 : Vec Ideal S1x512x512 .f32) (f : ℕ → ℕ → EReal) : Prop := ∀ r j : Fin 512, x0 (ix3 0 r j) = f (16 + r.val) j.val

variable (c : Dev nD) (i : grid0.Coords) (arg2 : Memref sig .tc .vmem S1x512x512 .f32) (harg2 : arg2.IsWhole) (arg3 : Memref sig .tc .vmem S4x128x128 .bf16) (harg3 : arg3.IsWhole) (arg4 : Memref sig .tc .vmem S1x512 .f32) (harg4 : arg4.IsWhole) (arg5 : Memref sig .tc .vmem S1x512x512 .bf16) (harg5 : arg5.IsWhole) (arg6 : Memref sig .tc .vmem S528x512 .f32) (harg6 : arg6.IsWhole)
variable (x0 : Vec Ideal S1x512x512 .f32) (x1 : Vec Ideal S4x128x128 .bf16) (x2 : Vec Ideal S1x512 .f32) (xs0 : Vec Ideal S528x512 .f32)
variable (f : ℕ → ℕ → EReal)

/-- The tile's own rows, loaded whole. -/
theorem load0 : View.readAt (Elt Ideal) arg2.view (Rect.unit (s := S1x512x512) ![0, 0, 0] S1x512x512.size inb_S1x512x512_S1x512x512_0_0_0).toLoadRect (harg2.unread x0) = x0 := by
  rw [View.readAt_eq_ld, harg2.read_unread, View.ld_unit_zero hz3]

/-- A block of a group's matrix. -/
theorem load1 (g : Fin 4) (n : ℕ) (hn : n = g.val) (io : ∀ a, (![n, 0, 0] : Fin 3 → ℕ) a + S1x128x128.size a ≤ S4x128x128.size a) (k l : Fin 128) :
    View.readAt (Elt Ideal) arg3.view (Rect.unit (s := S4x128x128) ![n, 0, 0] S1x128x128.size io).toLoadRect (harg3.unread x1) (ix3 0 k l) = x1 (ix3 g k l) := by
  subst hn
  rw [View.readAt_eq_ld, harg3.read_unread]
  show x1 _ = x1 _
  congr 1
  funext a; apply Fin.ext
  match a with
  | ⟨0, _⟩ => show g.val + 1 * 0 = g.val; omega
  | ⟨1, _⟩ => show 0 + 1 * k.val = k.val; omega
  | ⟨2, _⟩ => show 0 + 1 * l.val = l.val; omega

/-- A block of the scale. -/
theorem load2 (n : ℕ) (hn : n + 128 ≤ 512) (io : ∀ a, (![0, n] : Fin 2 → ℕ) a + S1x128.size a ≤ S1x512.size a) (l : Fin 128) :
    View.readAt (Elt Ideal) arg4.view (Rect.unit (s := S1x512) ![0, n] S1x128.size io).toLoadRect (harg4.unread x2) (ix2 0 l) = x2 (ix2 0 ⟨n + l.val, by omega⟩) := by
  rw [View.readAt_eq_ld, harg4.read_unread]
  show x2 _ = x2 _
  congr 1
  funext a; apply Fin.ext
  match a with
  | ⟨0, _⟩ => show 0 + 1 * 0 = 0; omega
  | ⟨1, _⟩ => show n + 1 * l.val = n + l.val; omega

/-- A row of the tile's own, as stored under the sixteen carried ones. -/
theorem own (hx : Rows x0 f) {sp : Space} (v : View sig .tc sp S528x512 .f32) (g : v.ty.Contents (Elt Ideal)) (L : List (View.Piece (Elt Ideal) S528x512 .f32))
    (y : S528x512.Idx) (hy : 16 ≤ (y 0).val) :
    v.read (Elt Ideal) (v.writes (Elt Ideal) g ((⟨Rect.unit (s := S528x512) ![16, 0] S512x512.size inb_S528x512_S512x512_16_0, k0_pay2 (View.readAt (Elt Ideal) arg2.view (Rect.unit (s := S1x512x512) ![0, 0, 0] S1x512x512.size inb_S1x512x512_S1x512x512_0_0_0).toLoadRect (harg2.unread x0))⟩ : View.Piece (Elt Ideal) S528x512 .f32) :: L)) y
      = f (y 0).val (y 1).val := by
  have h0 : (y 0).val < 528 := (y 0).isLt
  have h1 : (y 1).val < 512 := (y 1).isLt
  refine (View.read_writes_cons_rows_of_mem v g inb_S528x512_S512x512_16_0 _ L y (ix2 ⟨(y 0).val - 16, by omega⟩ ⟨(y 1).val, h1⟩ : S512x512.Idx) rfl ?_ rfl).trans ?_
  · show (y 0).val = 16 + ((y 0).val - 16); omega
  · rw [load0, pay2_apply, hx]
    show f (16 + ((y 0).val - 16)) (y 1).val = _
    congr 1; omega

/-- A row above the tile's own. -/
theorem above {sp : Space} (v : View sig .tc sp S528x512 .f32) (g : v.ty.Contents (Elt Ideal)) (L : List (View.Piece (Elt Ideal) S528x512 .f32))
    (w : S512x512.Idx → EReal) (y : S528x512.Idx) (hy : (y 0).val < 16) :
    v.read (Elt Ideal) (v.writes (Elt Ideal) g ((⟨Rect.unit (s := S528x512) ![16, 0] S512x512.size inb_S528x512_S512x512_16_0, w⟩ : View.Piece (Elt Ideal) S528x512 .f32) :: L)) y
      = v.read (Elt Ideal) (v.writes (Elt Ideal) g L) y :=
  View.read_writes_cons_rows_of_not_mem v g inb_S528x512_S512x512_16_0 _ L y rfl (W := 512) rfl (Or.inl hy)

theorem fillB (hx : Rows x0 f) (hK : ∀ (a : Fin 16) (j : Fin 512), xs0 (ix2 ⟨a.val, by omega⟩ j) = f a.val j.val) (y : S528x512.Idx) (_ : 0 ≤ (y 0).val) :
    arg6.view.read (Elt Ideal) (arg6.view.writes (Elt Ideal) (harg6.unread xs0) (kernelRun0_B.sl.HS0_1 c arg2 harg2 x0)) y = f (y 0).val (y 1).val := by
  unfold kernelRun0_B.sl.HS0_1
  by_cases h : 16 ≤ (y 0).val
  · exact own arg2 harg2 x0 f hx _ _ _ y h
  · refine (above _ _ _ _ y (by omega)).trans ?_
    show arg6.view.read (Elt Ideal) (harg6.unread xs0) y = _
    rw [harg6.read_unread]
    refine Eq.trans ?_ (hK ⟨(y 0).val, by omega⟩ (y 1))
    congr 1
    exact eq_ix2 y

theorem fillB' (hx : Rows x0 f) (y : S528x512.Idx) (hy : 16 ≤ (y 0).val) :
    arg6.view.read (Elt Ideal) (arg6.view.writes (Elt Ideal) arg6.view.junk (kernelRun0_B.sl.HS0_1 c arg2 harg2 x0)) y = f (y 0).val (y 1).val := by
  unfold kernelRun0_B.sl.HS0_1
  exact own arg2 harg2 x0 f hx _ _ _ y hy

theorem fillA (hx : Rows x0 f) (hK : ∀ (a : Fin 16) (j : Fin 512), f a.val j.val = 0) (y : S528x512.Idx) (_ : 0 ≤ (y 0).val) :
    arg6.view.read (Elt Ideal) (arg6.view.writes (Elt Ideal) arg6.view.junk (kernelRun0_A.sl.HS0_2 c arg2 harg2 x0)) y = f (y 0).val (y 1).val := by
  unfold kernelRun0_A.sl.HS0_2
  by_cases h : 16 ≤ (y 0).val
  · exact own arg2 harg2 x0 f hx _ _ _ y h
  · refine (above _ _ _ _ y (by omega)).trans ?_
    refine (View.read_writes_cons_rows_of_mem _ _ inb_S528x512_S16x512_0_0 _ _ y (ix2 ⟨(y 0).val, by omega⟩ (y 1) : S16x512.Idx) rfl ?_ rfl).trans ?_
    · show (y 0).val = 0 + (y 0).val; omega
    · exact (pay1_apply ⟨(y 0).val, by omega⟩ (y 1)).trans (hK ⟨(y 0).val, by omega⟩ (y 1)).symm

/-- A load of the last sixteen rows. -/
theorem last_rows {sp : Space} (v : View sig .tc sp S528x512 .f32) (L : List (View.Piece (Elt Ideal) S528x512 .f32)) (f : ℕ → ℕ → EReal)
    (h : ∀ y : S528x512.Idx, 16 ≤ (y 0).val → v.read (Elt Ideal) (v.writes (Elt Ideal) v.junk L) y = f (y 0).val (y 1).val) (a : Fin 16) (j : Fin 512) :
    v.readCov L (Rect.unit (s := S528x512) ![512, 0] S16x512.size inb_S528x512_S16x512_512_0).toLoadRect (ix2 a j) = f (512 + a.val) j.val := by
  show View.readAt (Elt Ideal) v _ (v.writes (Elt Ideal) v.junk L) _ = _
  rw [View.readAt_eq_ld]
  refine (h ((Rect.unit (s := S528x512) ![512, 0] S16x512.size inb_S528x512_S16x512_512_0).toLoadRect.idx (ix2 a j)) ?_).trans ?_
  · show 16 ≤ 512 + 1 * a.val; omega
  · show f (512 + 1 * a.val) (0 + 1 * j.val) = f (512 + a.val) j.val
    rw [Nat.one_mul, Nat.one_mul, Nat.zero_add]

theorem lastA (hx : Rows x0 f) (y : S528x512.Idx) (hy : 16 ≤ (y 0).val) :
    arg6.view.read (Elt Ideal) (arg6.view.writes (Elt Ideal) arg6.view.junk (kernelRun0_A.sl.HS0_2 c arg2 harg2 x0)) y = f (y 0).val (y 1).val := by
  unfold kernelRun0_A.sl.HS0_2
  exact own arg2 harg2 x0 f hx _ _ _ y hy

set_option maxHeartbeats 4000000 in
/-- A later tile: the result block. -/
theorem out_B (hc0 : ¬cond0_0 i) (hx : Rows x0 f) (hK : ∀ (a : Fin 16) (j : Fin 512), xs0 (ix2 ⟨a.val, by omega⟩ j) = f a.val j.val) :
    out0_B_3 c i arg2 harg2 arg3 harg3 arg4 harg4 arg5 harg5 arg6 harg6 hc0 x0 x1 x2 xs0 = outT i f x1 x2 := by
  have hcov := cover0_B_3 c i arg2 harg2 arg3 harg3 arg4 harg4 arg5 harg5 arg6 harg6 hc0 x0 x1 x2 xs0
  unfold out0_B_3
  rw [View.read_writes_junk_eq_canon]
  funext y
  refine View.canon_apply_of_pieces (Val := Elt Ideal) (outT i f x1 x2) _ (View.PiecesOf.mem ?_) y (hcov y)
  unfold kernelRun0_B
  dsimp only
  have hB := fillB c arg2 harg2 arg6 harg6 x0 xs0 f hx hK
  have hB' := fillB' c arg2 harg2 arg6 x0 f hx
  refine ⟨?_, ?_, ?_, ?_, ?_, ?_, ?_, ?_, ?_, ?_, ?_, ?_, ?_, ?_, ?_, ?_, trivial⟩
  · refine fun z => (congrFun (gate_384_3 _ _ _ _ _ _ _ _ _ _ _ _ _ _ _ _ _ _ _ ) z).trans (piece_ok i f x1 x2 3 384 384 (by decide) rfl inb_S1x512x512_S1x128x128_0_384_384 rfl rfl ?_ ?_ ?_ ?_ z)
    · exact cov_load _ _ f 16 400 384 hB' (by decide) _
    · refine sum_succ ?_ (cov_load _ _ f 16 385 384 hB' (by decide) _)
      refine sum_succ ?_ (cov_load _ _ f 16 386 384 hB' (by decide) _)
      refine sum_succ ?_ (cov_load _ _ f 16 387 384 hB' (by decide) _)
      refine sum_succ ?_ (cov_load _ _ f 16 388 384 hB' (by decide) _)
      refine sum_succ ?_ (cov_load _ _ f 16 389 384 hB' (by decide) _)
      refine sum_succ ?_ (cov_load _ _ f 16 390 384 hB' (by decide) _)
      refine sum_succ ?_ (cov_load _ _ f 16 391 384 hB' (by decide) _)
      refine sum_succ ?_ (cov_load _ _ f 16 392 384 hB' (by decide) _)
      refine sum_succ ?_ (cov_load _ _ f 16 393 384 hB' (by decide) _)
      refine sum_succ ?_ (cov_load _ _ f 16 394 384 hB' (by decide) _)
      refine sum_succ ?_ (cov_load _ _ f 16 395 384 hB' (by decide) _)
      refine sum_succ ?_ (cov_load _ _ f 16 396 384 hB' (by decide) _)
      refine sum_succ ?_ (cov_load _ _ f 16 397 384 hB' (by decide) _)
      refine sum_succ ?_ (cov_load _ _ f 16 398 384 hB' (by decide) _)
      refine sum_succ ?_ (cov_load _ _ f 16 399 384 hB' (by decide) _)
      exact cov_load _ _ f 16 400 384 hB' (by decide) _
    · exact load1 arg3 harg3 x1 3 3 rfl _
    · exact load2 arg4 harg4 x2 384 (by decide) _
  · refine fun z => (congrFun (gate_384_2 _ _ _ _ _ _ _ _ _ _ _ ) z).trans (piece_ok i f x1 x2 2 384 256 (by decide) rfl inb_S1x512x512_S1x128x128_0_384_256 rfl rfl ?_ ?_ ?_ ?_ z)
    · exact cov_load _ _ f 16 400 256 hB' (by decide) _
    · refine sum_succ ?_ (cov_load _ _ f 16 393 256 hB' (by decide) _)
      refine sum_succ ?_ (cov_load _ _ f 16 394 256 hB' (by decide) _)
      refine sum_succ ?_ (cov_load _ _ f 16 395 256 hB' (by decide) _)
      refine sum_succ ?_ (cov_load _ _ f 16 396 256 hB' (by decide) _)
      refine sum_succ ?_ (cov_load _ _ f 16 397 256 hB' (by decide) _)
      refine sum_succ ?_ (cov_load _ _ f 16 398 256 hB' (by decide) _)
      refine sum_succ ?_ (cov_load _ _ f 16 399 256 hB' (by decide) _)
      exact cov_load _ _ f 16 400 256 hB' (by decide) _
    · exact load1 arg3 harg3 x1 2 2 rfl _
    · exact load2 arg4 harg4 x2 256 (by decide) _
  · refine fun z => (congrFun (gate_384_1 _ _ _ _ _ _ _ ) z).trans (piece_ok i f x1 x2 1 384 128 (by decide) rfl inb_S1x512x512_S1x128x128_0_384_128 rfl rfl ?_ ?_ ?_ ?_ z)
    · exact cov_load _ _ f 16 400 128 hB' (by decide) _
    · refine sum_succ ?_ (cov_load _ _ f 16 397 128 hB' (by decide) _)
      refine sum_succ ?_ (cov_load _ _ f 16 398 128 hB' (by decide) _)
      refine sum_succ ?_ (cov_load _ _ f 16 399 128 hB' (by decide) _)
      exact cov_load _ _ f 16 400 128 hB' (by decide) _
    · exact load1 arg3 harg3 x1 1 1 rfl _
    · exact load2 arg4 harg4 x2 128 (by decide) _
  · refine fun z => (congrFun (gate_384_0 _ _ _ _ _ ) z).trans (piece_ok i f x1 x2 0 384 0 (by decide) rfl inb_S1x512x512_S1x128x128_0_384_0 rfl rfl ?_ ?_ ?_ ?_ z)
    · exact cov_load _ _ f 16 400 0 hB' (by decide) _
    · refine sum_succ ?_ (cov_load _ _ f 16 399 0 hB' (by decide) _)
      exact cov_load _ _ f 16 400 0 hB' (by decide) _
    · exact load1 arg3 harg3 x1 0 0 rfl _
    · exact load2 arg4 harg4 x2 0 (by decide) _
  · refine fun z => (congrFun (gate_256_3 _ _ _ _ _ _ _ _ _ _ _ _ _ _ _ _ _ _ _ ) z).trans (piece_ok i f x1 x2 3 256 384 (by decide) rfl inb_S1x512x512_S1x128x128_0_256_384 rfl rfl ?_ ?_ ?_ ?_ z)
    · exact cov_load _ _ f 16 272 384 hB' (by decide) _
    · refine sum_succ ?_ (cov_load _ _ f 16 257 384 hB' (by decide) _)
      refine sum_succ ?_ (cov_load _ _ f 16 258 384 hB' (by decide) _)
      refine sum_succ ?_ (cov_load _ _ f 16 259 384 hB' (by decide) _)
      refine sum_succ ?_ (cov_load _ _ f 16 260 384 hB' (by decide) _)
      refine sum_succ ?_ (cov_load _ _ f 16 261 384 hB' (by decide) _)
      refine sum_succ ?_ (cov_load _ _ f 16 262 384 hB' (by decide) _)
      refine sum_succ ?_ (cov_load _ _ f 16 263 384 hB' (by decide) _)
      refine sum_succ ?_ (cov_load _ _ f 16 264 384 hB' (by decide) _)
      refine sum_succ ?_ (cov_load _ _ f 16 265 384 hB' (by decide) _)
      refine sum_succ ?_ (cov_load _ _ f 16 266 384 hB' (by decide) _)
      refine sum_succ ?_ (cov_load _ _ f 16 267 384 hB' (by decide) _)
      refine sum_succ ?_ (cov_load _ _ f 16 268 384 hB' (by decide) _)
      refine sum_succ ?_ (cov_load _ _ f 16 269 384 hB' (by decide) _)
      refine sum_succ ?_ (cov_load _ _ f 16 270 384 hB' (by decide) _)
      refine sum_succ ?_ (cov_load _ _ f 16 271 384 hB' (by decide) _)
      exact cov_load _ _ f 16 272 384 hB' (by decide) _
    · exact load1 arg3 harg3 x1 3 3 rfl _
    · exact load2 arg4 harg4 x2 384 (by decide) _
  · refine fun z => (congrFun (gate_256_2 _ _ _ _ _ _ _ _ _ _ _ ) z).trans (piece_ok i f x1 x2 2 256 256 (by decide) rfl inb_S1x512x512_S1x128x128_0_256_256 rfl rfl ?_ ?_ ?_ ?_ z)
    · exact cov_load _ _ f 16 272 256 hB' (by decide) _
    · refine sum_succ ?_ (cov_load _ _ f 16 265 256 hB' (by decide) _)
      refine sum_succ ?_ (cov_load _ _ f 16 266 256 hB' (by decide) _)
      refine sum_succ ?_ (cov_load _ _ f 16 267 256 hB' (by decide) _)
      refine sum_succ ?_ (cov_load _ _ f 16 268 256 hB' (by decide) _)
      refine sum_succ ?_ (cov_load _ _ f 16 269 256 hB' (by decide) _)
      refine sum_succ ?_ (cov_load _ _ f 16 270 256 hB' (by decide) _)
      refine sum_succ ?_ (cov_load _ _ f 16 271 256 hB' (by decide) _)
      exact cov_load _ _ f 16 272 256 hB' (by decide) _
    · exact load1 arg3 harg3 x1 2 2 rfl _
    · exact load2 arg4 harg4 x2 256 (by decide) _
  · refine fun z => (congrFun (gate_256_1 _ _ _ _ _ _ _ ) z).trans (piece_ok i f x1 x2 1 256 128 (by decide) rfl inb_S1x512x512_S1x128x128_0_256_128 rfl rfl ?_ ?_ ?_ ?_ z)
    · exact cov_load _ _ f 16 272 128 hB' (by decide) _
    · refine sum_succ ?_ (cov_load _ _ f 16 269 128 hB' (by decide) _)
      refine sum_succ ?_ (cov_load _ _ f 16 270 128 hB' (by decide) _)
      refine sum_succ ?_ (cov_load _ _ f 16 271 128 hB' (by decide) _)
      exact cov_load _ _ f 16 272 128 hB' (by decide) _
    · exact load1 arg3 harg3 x1 1 1 rfl _
    · exact load2 arg4 harg4 x2 128 (by decide) _
  · refine fun z => (congrFun (gate_256_0 _ _ _ _ _ ) z).trans (piece_ok i f x1 x2 0 256 0 (by decide) rfl inb_S1x512x512_S1x128x128_0_256_0 rfl rfl ?_ ?_ ?_ ?_ z)
    · exact cov_load _ _ f 16 272 0 hB' (by decide) _
    · refine sum_succ ?_ (cov_load _ _ f 16 271 0 hB' (by decide) _)
      exact cov_load _ _ f 16 272 0 hB' (by decide) _
    · exact load1 arg3 harg3 x1 0 0 rfl _
    · exact load2 arg4 harg4 x2 0 (by decide) _
  · refine fun z => (congrFun (gate_128_3 _ _ _ _ _ _ _ _ _ _ _ _ _ _ _ _ _ _ _ ) z).trans (piece_ok i f x1 x2 3 128 384 (by decide) rfl inb_S1x512x512_S1x128x128_0_128_384 rfl rfl ?_ ?_ ?_ ?_ z)
    · exact cov_load _ _ f 16 144 384 hB' (by decide) _
    · refine sum_succ ?_ (cov_load _ _ f 16 129 384 hB' (by decide) _)
      refine sum_succ ?_ (cov_load _ _ f 16 130 384 hB' (by decide) _)
      refine sum_succ ?_ (cov_load _ _ f 16 131 384 hB' (by decide) _)
      refine sum_succ ?_ (cov_load _ _ f 16 132 384 hB' (by decide) _)
      refine sum_succ ?_ (cov_load _ _ f 16 133 384 hB' (by decide) _)
      refine sum_succ ?_ (cov_load _ _ f 16 134 384 hB' (by decide) _)
      refine sum_succ ?_ (cov_load _ _ f 16 135 384 hB' (by decide) _)
      refine sum_succ ?_ (cov_load _ _ f 16 136 384 hB' (by decide) _)
      refine sum_succ ?_ (cov_load _ _ f 16 137 384 hB' (by decide) _)
      refine sum_succ ?_ (cov_load _ _ f 16 138 384 hB' (by decide) _)
      refine sum_succ ?_ (cov_load _ _ f 16 139 384 hB' (by decide) _)
      refine sum_succ ?_ (cov_load _ _ f 16 140 384 hB' (by decide) _)
      refine sum_succ ?_ (cov_load _ _ f 16 141 384 hB' (by decide) _)
      refine sum_succ ?_ (cov_load _ _ f 16 142 384 hB' (by decide) _)
      refine sum_succ ?_ (cov_load _ _ f 16 143 384 hB' (by decide) _)
      exact cov_load _ _ f 16 144 384 hB' (by decide) _
    · exact load1 arg3 harg3 x1 3 3 rfl _
    · exact load2 arg4 harg4 x2 384 (by decide) _
  · refine fun z => (congrFun (gate_128_2 _ _ _ _ _ _ _ _ _ _ _ ) z).trans (piece_ok i f x1 x2 2 128 256 (by decide) rfl inb_S1x512x512_S1x128x128_0_128_256 rfl rfl ?_ ?_ ?_ ?_ z)
    · exact cov_load _ _ f 16 144 256 hB' (by decide) _
    · refine sum_succ ?_ (cov_load _ _ f 16 137 256 hB' (by decide) _)
      refine sum_succ ?_ (cov_load _ _ f 16 138 256 hB' (by decide) _)
      refine sum_succ ?_ (cov_load _ _ f 16 139 256 hB' (by decide) _)
      refine sum_succ ?_ (cov_load _ _ f 16 140 256 hB' (by decide) _)
      refine sum_succ ?_ (cov_load _ _ f 16 141 256 hB' (by decide) _)
      refine sum_succ ?_ (cov_load _ _ f 16 142 256 hB' (by decide) _)
      refine sum_succ ?_ (cov_load _ _ f 16 143 256 hB' (by decide) _)
      exact cov_load _ _ f 16 144 256 hB' (by decide) _
    · exact load1 arg3 harg3 x1 2 2 rfl _
    · exact load2 arg4 harg4 x2 256 (by decide) _
  · refine fun z => (congrFun (gate_128_1 _ _ _ _ _ _ _ ) z).trans (piece_ok i f x1 x2 1 128 128 (by decide) rfl inb_S1x512x512_S1x128x128_0_128_128 rfl rfl ?_ ?_ ?_ ?_ z)
    · exact cov_load _ _ f 16 144 128 hB' (by decide) _
    · refine sum_succ ?_ (cov_load _ _ f 16 141 128 hB' (by decide) _)
      refine sum_succ ?_ (cov_load _ _ f 16 142 128 hB' (by decide) _)
      refine sum_succ ?_ (cov_load _ _ f 16 143 128 hB' (by decide) _)
      exact cov_load _ _ f 16 144 128 hB' (by decide) _
    · exact load1 arg3 harg3 x1 1 1 rfl _
    · exact load2 arg4 harg4 x2 128 (by decide) _
  · refine fun z => (congrFun (gate_128_0 _ _ _ _ _ ) z).trans (piece_ok i f x1 x2 0 128 0 (by decide) rfl inb_S1x512x512_S1x128x128_0_128_0 rfl rfl ?_ ?_ ?_ ?_ z)
    · exact cov_load _ _ f 16 144 0 hB' (by decide) _
    · refine sum_succ ?_ (cov_load _ _ f 16 143 0 hB' (by decide) _)
      exact cov_load _ _ f 16 144 0 hB' (by decide) _
    · exact load1 arg3 harg3 x1 0 0 rfl _
    · exact load2 arg4 harg4 x2 0 (by decide) _
  · refine fun z => (congrFun (gate_0_3 i _ _ _ _ _ _ _ _ _ _ _ _ _ _ _ _ _ _ ) z).trans (piece_ok i f x1 x2 3 0 384 (by decide) rfl inb_S1x512x512_S1x128x128_0_0_384 rfl rfl ?_ ?_ ?_ ?_ z)
    · exact cov_load _ _ f 16 16 384 hB' (by decide) _
    · refine sum_succ ?_ (at_load _ _ _ f 0 1 384 hB (Nat.zero_le _) _)
      refine sum_succ ?_ (at_load _ _ _ f 0 2 384 hB (Nat.zero_le _) _)
      refine sum_succ ?_ (at_load _ _ _ f 0 3 384 hB (Nat.zero_le _) _)
      refine sum_succ ?_ (at_load _ _ _ f 0 4 384 hB (Nat.zero_le _) _)
      refine sum_succ ?_ (at_load _ _ _ f 0 5 384 hB (Nat.zero_le _) _)
      refine sum_succ ?_ (at_load _ _ _ f 0 6 384 hB (Nat.zero_le _) _)
      refine sum_succ ?_ (at_load _ _ _ f 0 7 384 hB (Nat.zero_le _) _)
      refine sum_succ ?_ (at_load _ _ _ f 0 8 384 hB (Nat.zero_le _) _)
      refine sum_succ ?_ (at_load _ _ _ f 0 9 384 hB (Nat.zero_le _) _)
      refine sum_succ ?_ (at_load _ _ _ f 0 10 384 hB (Nat.zero_le _) _)
      refine sum_succ ?_ (at_load _ _ _ f 0 11 384 hB (Nat.zero_le _) _)
      refine sum_succ ?_ (at_load _ _ _ f 0 12 384 hB (Nat.zero_le _) _)
      refine sum_succ ?_ (at_load _ _ _ f 0 13 384 hB (Nat.zero_le _) _)
      refine sum_succ ?_ (at_load _ _ _ f 0 14 384 hB (Nat.zero_le _) _)
      refine sum_succ ?_ (at_load _ _ _ f 0 15 384 hB (Nat.zero_le _) _)
      exact cov_load _ _ f 16 16 384 hB' (by decide) _
    · exact load1 arg3 harg3 x1 3 3 rfl _
    · exact load2 arg4 harg4 x2 384 (by decide) _
  · refine fun z => (congrFun (gate_0_2 i _ _ _ _ _ _ _ _ _ _ ) z).trans (piece_ok i f x1 x2 2 0 256 (by decide) rfl inb_S1x512x512_S1x128x128_0_0_256 rfl rfl ?_ ?_ ?_ ?_ z)
    · exact cov_load _ _ f 16 16 256 hB' (by decide) _
    · refine sum_succ ?_ (at_load _ _ _ f 0 9 256 hB (Nat.zero_le _) _)
      refine sum_succ ?_ (at_load _ _ _ f 0 10 256 hB (Nat.zero_le _) _)
      refine sum_succ ?_ (at_load _ _ _ f 0 11 256 hB (Nat.zero_le _) _)
      refine sum_succ ?_ (at_load _ _ _ f 0 12 256 hB (Nat.zero_le _) _)
      refine sum_succ ?_ (at_load _ _ _ f 0 13 256 hB (Nat.zero_le _) _)
      refine sum_succ ?_ (at_load _ _ _ f 0 14 256 hB (Nat.zero_le _) _)
      refine sum_succ ?_ (at_load _ _ _ f 0 15 256 hB (Nat.zero_le _) _)
      exact cov_load _ _ f 16 16 256 hB' (by decide) _
    · exact load1 arg3 harg3 x1 2 2 rfl _
    · exact load2 arg4 harg4 x2 256 (by decide) _
  · refine fun z => (congrFun (gate_0_1 i _ _ _ _ _ _ ) z).trans (piece_ok i f x1 x2 1 0 128 (by decide) rfl inb_S1x512x512_S1x128x128_0_0_128 rfl rfl ?_ ?_ ?_ ?_ z)
    · exact cov_load _ _ f 16 16 128 hB' (by decide) _
    · refine sum_succ ?_ (at_load _ _ _ f 0 13 128 hB (Nat.zero_le _) _)
      refine sum_succ ?_ (at_load _ _ _ f 0 14 128 hB (Nat.zero_le _) _)
      refine sum_succ ?_ (at_load _ _ _ f 0 15 128 hB (Nat.zero_le _) _)
      exact cov_load _ _ f 16 16 128 hB' (by decide) _
    · exact load1 arg3 harg3 x1 1 1 rfl _
    · exact load2 arg4 harg4 x2 128 (by decide) _
  · refine fun z => (congrFun (gate_0_0 i _ _ _ _ ) z).trans (piece_ok i f x1 x2 0 0 0 (by decide) rfl inb_S1x512x512_S1x128x128_0_0_0 rfl rfl ?_ ?_ ?_ ?_ z)
    · exact cov_load _ _ f 16 16 0 hB' (by decide) _
    · refine sum_succ ?_ (at_load _ _ _ f 0 15 0 hB (Nat.zero_le _) _)
      exact cov_load _ _ f 16 16 0 hB' (by decide) _
    · exact load1 arg3 harg3 x1 0 0 rfl _
    · exact load2 arg4 harg4 x2 0 (by decide) _

set_option maxHeartbeats 1000000 in
/-- A later tile: the sixteen rows it carries on are its last. -/
theorem sout_B (hc0 : ¬cond0_0 i) (hx : Rows x0 f) (a : Fin 16) (j : Fin 512) :
    sout0_B_0 c i arg2 harg2 arg3 harg3 arg4 harg4 arg5 harg5 arg6 harg6 hc0 x0 x1 x2 xs0 (ix2 ⟨a.val, by omega⟩ j) = f (512 + a.val) j.val := by
  unfold sout0_B_0 kernelRun0_B
  dsimp only
  refine (View.read_writes_cons_rows_of_mem _ _ inb_S528x512_S16x512_0_0 _ _ (ix2 ⟨a.val, by omega⟩ j) (ix2 a j : S16x512.Idx) rfl ?_ rfl).trans ?_
  · show a.val = 0 + a.val; omega
  refine (pay41_apply _ a j).trans ?_
  exact last_rows arg6.view _ f (fillB' c arg2 harg2 arg6 x0 f hx) a j

set_option maxHeartbeats 4000000 in
/-- A batch element's first tile: the result block. -/
theorem out_A (hc0 : cond0_0 i) (hx : Rows x0 f) (hK : ∀ (a : Fin 16) (j : Fin 512), f a.val j.val = 0) :
    out0_A_3 c i arg2 harg2 arg3 harg3 arg4 harg4 arg5 harg5 arg6 harg6 hc0 x0 x1 x2 = outT i f x1 x2 := by
  have hcov := cover0_A_3 c i arg2 harg2 arg3 harg3 arg4 harg4 arg5 harg5 arg6 harg6 hc0 x0 x1 x2
  unfold out0_A_3
  rw [View.read_writes_junk_eq_canon]
  funext y
  refine View.canon_apply_of_pieces (Val := Elt Ideal) (outT i f x1 x2) _ (View.PiecesOf.mem ?_) y (hcov y)
  unfold kernelRun0_A
  dsimp only
  have hA := fillA c arg2 harg2 arg6 x0 f hx hK
  refine ⟨?_, ?_, ?_, ?_, ?_, ?_, ?_, ?_, ?_, ?_, ?_, ?_, ?_, ?_, ?_, ?_, trivial⟩
  · refine fun z => (congrFun (gate_384_3 _ _ _ _ _ _ _ _ _ _ _ _ _ _ _ _ _ _ _ ) z).trans (piece_ok i f x1 x2 3 384 384 (by decide) rfl inb_S1x512x512_S1x128x128_0_384_384 rfl rfl ?_ ?_ ?_ ?_ z)
    · exact cov_load _ _ f 0 400 384 hA (Nat.zero_le _) _
    · refine sum_succ ?_ (cov_load _ _ f 0 385 384 hA (Nat.zero_le _) _)
      refine sum_succ ?_ (cov_load _ _ f 0 386 384 hA (Nat.zero_le _) _)
      refine sum_succ ?_ (cov_load _ _ f 0 387 384 hA (Nat.zero_le _) _)
      refine sum_succ ?_ (cov_load _ _ f 0 388 384 hA (Nat.zero_le _) _)
      refine sum_succ ?_ (cov_load _ _ f 0 389 384 hA (Nat.zero_le _) _)
      refine sum_succ ?_ (cov_load _ _ f 0 390 384 hA (Nat.zero_le _) _)
      refine sum_succ ?_ (cov_load _ _ f 0 391 384 hA (Nat.zero_le _) _)
      refine sum_succ ?_ (cov_load _ _ f 0 392 384 hA (Nat.zero_le _) _)
      refine sum_succ ?_ (cov_load _ _ f 0 393 384 hA (Nat.zero_le _) _)
      refine sum_succ ?_ (cov_load _ _ f 0 394 384 hA (Nat.zero_le _) _)
      refine sum_succ ?_ (cov_load _ _ f 0 395 384 hA (Nat.zero_le _) _)
      refine sum_succ ?_ (cov_load _ _ f 0 396 384 hA (Nat.zero_le _) _)
      refine sum_succ ?_ (cov_load _ _ f 0 397 384 hA (Nat.zero_le _) _)
      refine sum_succ ?_ (cov_load _ _ f 0 398 384 hA (Nat.zero_le _) _)
      refine sum_succ ?_ (cov_load _ _ f 0 399 384 hA (Nat.zero_le _) _)
      exact cov_load _ _ f 0 400 384 hA (Nat.zero_le _) _
    · exact load1 arg3 harg3 x1 3 3 rfl _
    · exact load2 arg4 harg4 x2 384 (by decide) _
  · refine fun z => (congrFun (gate_384_2 _ _ _ _ _ _ _ _ _ _ _ ) z).trans (piece_ok i f x1 x2 2 384 256 (by decide) rfl inb_S1x512x512_S1x128x128_0_384_256 rfl rfl ?_ ?_ ?_ ?_ z)
    · exact cov_load _ _ f 0 400 256 hA (Nat.zero_le _) _
    · refine sum_succ ?_ (cov_load _ _ f 0 393 256 hA (Nat.zero_le _) _)
      refine sum_succ ?_ (cov_load _ _ f 0 394 256 hA (Nat.zero_le _) _)
      refine sum_succ ?_ (cov_load _ _ f 0 395 256 hA (Nat.zero_le _) _)
      refine sum_succ ?_ (cov_load _ _ f 0 396 256 hA (Nat.zero_le _) _)
      refine sum_succ ?_ (cov_load _ _ f 0 397 256 hA (Nat.zero_le _) _)
      refine sum_succ ?_ (cov_load _ _ f 0 398 256 hA (Nat.zero_le _) _)
      refine sum_succ ?_ (cov_load _ _ f 0 399 256 hA (Nat.zero_le _) _)
      exact cov_load _ _ f 0 400 256 hA (Nat.zero_le _) _
    · exact load1 arg3 harg3 x1 2 2 rfl _
    · exact load2 arg4 harg4 x2 256 (by decide) _
  · refine fun z => (congrFun (gate_384_1 _ _ _ _ _ _ _ ) z).trans (piece_ok i f x1 x2 1 384 128 (by decide) rfl inb_S1x512x512_S1x128x128_0_384_128 rfl rfl ?_ ?_ ?_ ?_ z)
    · exact cov_load _ _ f 0 400 128 hA (Nat.zero_le _) _
    · refine sum_succ ?_ (cov_load _ _ f 0 397 128 hA (Nat.zero_le _) _)
      refine sum_succ ?_ (cov_load _ _ f 0 398 128 hA (Nat.zero_le _) _)
      refine sum_succ ?_ (cov_load _ _ f 0 399 128 hA (Nat.zero_le _) _)
      exact cov_load _ _ f 0 400 128 hA (Nat.zero_le _) _
    · exact load1 arg3 harg3 x1 1 1 rfl _
    · exact load2 arg4 harg4 x2 128 (by decide) _
  · refine fun z => (congrFun (gate_384_0 _ _ _ _ _ ) z).trans (piece_ok i f x1 x2 0 384 0 (by decide) rfl inb_S1x512x512_S1x128x128_0_384_0 rfl rfl ?_ ?_ ?_ ?_ z)
    · exact cov_load _ _ f 0 400 0 hA (Nat.zero_le _) _
    · refine sum_succ ?_ (cov_load _ _ f 0 399 0 hA (Nat.zero_le _) _)
      exact cov_load _ _ f 0 400 0 hA (Nat.zero_le _) _
    · exact load1 arg3 harg3 x1 0 0 rfl _
    · exact load2 arg4 harg4 x2 0 (by decide) _
  · refine fun z => (congrFun (gate_256_3 _ _ _ _ _ _ _ _ _ _ _ _ _ _ _ _ _ _ _ ) z).trans (piece_ok i f x1 x2 3 256 384 (by decide) rfl inb_S1x512x512_S1x128x128_0_256_384 rfl rfl ?_ ?_ ?_ ?_ z)
    · exact cov_load _ _ f 0 272 384 hA (Nat.zero_le _) _
    · refine sum_succ ?_ (cov_load _ _ f 0 257 384 hA (Nat.zero_le _) _)
      refine sum_succ ?_ (cov_load _ _ f 0 258 384 hA (Nat.zero_le _) _)
      refine sum_succ ?_ (cov_load _ _ f 0 259 384 hA (Nat.zero_le _) _)
      refine sum_succ ?_ (cov_load _ _ f 0 260 384 hA (Nat.zero_le _) _)
      refine sum_succ ?_ (cov_load _ _ f 0 261 384 hA (Nat.zero_le _) _)
      refine sum_succ ?_ (cov_load _ _ f 0 262 384 hA (Nat.zero_le _) _)
      refine sum_succ ?_ (cov_load _ _ f 0 263 384 hA (Nat.zero_le _) _)
      refine sum_succ ?_ (cov_load _ _ f 0 264 384 hA (Nat.zero_le _) _)
      refine sum_succ ?_ (cov_load _ _ f 0 265 384 hA (Nat.zero_le _) _)
      refine sum_succ ?_ (cov_load _ _ f 0 266 384 hA (Nat.zero_le _) _)
      refine sum_succ ?_ (cov_load _ _ f 0 267 384 hA (Nat.zero_le _) _)
      refine sum_succ ?_ (cov_load _ _ f 0 268 384 hA (Nat.zero_le _) _)
      refine sum_succ ?_ (cov_load _ _ f 0 269 384 hA (Nat.zero_le _) _)
      refine sum_succ ?_ (cov_load _ _ f 0 270 384 hA (Nat.zero_le _) _)
      refine sum_succ ?_ (cov_load _ _ f 0 271 384 hA (Nat.zero_le _) _)
      exact cov_load _ _ f 0 272 384 hA (Nat.zero_le _) _
    · exact load1 arg3 harg3 x1 3 3 rfl _
    · exact load2 arg4 harg4 x2 384 (by decide) _
  · refine fun z => (congrFun (gate_256_2 _ _ _ _ _ _ _ _ _ _ _ ) z).trans (piece_ok i f x1 x2 2 256 256 (by decide) rfl inb_S1x512x512_S1x128x128_0_256_256 rfl rfl ?_ ?_ ?_ ?_ z)
    · exact cov_load _ _ f 0 272 256 hA (Nat.zero_le _) _
    · refine sum_succ ?_ (cov_load _ _ f 0 265 256 hA (Nat.zero_le _) _)
      refine sum_succ ?_ (cov_load _ _ f 0 266 256 hA (Nat.zero_le _) _)
      refine sum_succ ?_ (cov_load _ _ f 0 267 256 hA (Nat.zero_le _) _)
      refine sum_succ ?_ (cov_load _ _ f 0 268 256 hA (Nat.zero_le _) _)
      refine sum_succ ?_ (cov_load _ _ f 0 269 256 hA (Nat.zero_le _) _)
      refine sum_succ ?_ (cov_load _ _ f 0 270 256 hA (Nat.zero_le _) _)
      refine sum_succ ?_ (cov_load _ _ f 0 271 256 hA (Nat.zero_le _) _)
      exact cov_load _ _ f 0 272 256 hA (Nat.zero_le _) _
    · exact load1 arg3 harg3 x1 2 2 rfl _
    · exact load2 arg4 harg4 x2 256 (by decide) _
  · refine fun z => (congrFun (gate_256_1 _ _ _ _ _ _ _ ) z).trans (piece_ok i f x1 x2 1 256 128 (by decide) rfl inb_S1x512x512_S1x128x128_0_256_128 rfl rfl ?_ ?_ ?_ ?_ z)
    · exact cov_load _ _ f 0 272 128 hA (Nat.zero_le _) _
    · refine sum_succ ?_ (cov_load _ _ f 0 269 128 hA (Nat.zero_le _) _)
      refine sum_succ ?_ (cov_load _ _ f 0 270 128 hA (Nat.zero_le _) _)
      refine sum_succ ?_ (cov_load _ _ f 0 271 128 hA (Nat.zero_le _) _)
      exact cov_load _ _ f 0 272 128 hA (Nat.zero_le _) _
    · exact load1 arg3 harg3 x1 1 1 rfl _
    · exact load2 arg4 harg4 x2 128 (by decide) _
  · refine fun z => (congrFun (gate_256_0 _ _ _ _ _ ) z).trans (piece_ok i f x1 x2 0 256 0 (by decide) rfl inb_S1x512x512_S1x128x128_0_256_0 rfl rfl ?_ ?_ ?_ ?_ z)
    · exact cov_load _ _ f 0 272 0 hA (Nat.zero_le _) _
    · refine sum_succ ?_ (cov_load _ _ f 0 271 0 hA (Nat.zero_le _) _)
      exact cov_load _ _ f 0 272 0 hA (Nat.zero_le _) _
    · exact load1 arg3 harg3 x1 0 0 rfl _
    · exact load2 arg4 harg4 x2 0 (by decide) _
  · refine fun z => (congrFun (gate_128_3 _ _ _ _ _ _ _ _ _ _ _ _ _ _ _ _ _ _ _ ) z).trans (piece_ok i f x1 x2 3 128 384 (by decide) rfl inb_S1x512x512_S1x128x128_0_128_384 rfl rfl ?_ ?_ ?_ ?_ z)
    · exact cov_load _ _ f 0 144 384 hA (Nat.zero_le _) _
    · refine sum_succ ?_ (cov_load _ _ f 0 129 384 hA (Nat.zero_le _) _)
      refine sum_succ ?_ (cov_load _ _ f 0 130 384 hA (Nat.zero_le _) _)
      refine sum_succ ?_ (cov_load _ _ f 0 131 384 hA (Nat.zero_le _) _)
      refine sum_succ ?_ (cov_load _ _ f 0 132 384 hA (Nat.zero_le _) _)
      refine sum_succ ?_ (cov_load _ _ f 0 133 384 hA (Nat.zero_le _) _)
      refine sum_succ ?_ (cov_load _ _ f 0 134 384 hA (Nat.zero_le _) _)
      refine sum_succ ?_ (cov_load _ _ f 0 135 384 hA (Nat.zero_le _) _)
      refine sum_succ ?_ (cov_load _ _ f 0 136 384 hA (Nat.zero_le _) _)
      refine sum_succ ?_ (cov_load _ _ f 0 137 384 hA (Nat.zero_le _) _)
      refine sum_succ ?_ (cov_load _ _ f 0 138 384 hA (Nat.zero_le _) _)
      refine sum_succ ?_ (cov_load _ _ f 0 139 384 hA (Nat.zero_le _) _)
      refine sum_succ ?_ (cov_load _ _ f 0 140 384 hA (Nat.zero_le _) _)
      refine sum_succ ?_ (cov_load _ _ f 0 141 384 hA (Nat.zero_le _) _)
      refine sum_succ ?_ (cov_load _ _ f 0 142 384 hA (Nat.zero_le _) _)
      refine sum_succ ?_ (cov_load _ _ f 0 143 384 hA (Nat.zero_le _) _)
      exact cov_load _ _ f 0 144 384 hA (Nat.zero_le _) _
    · exact load1 arg3 harg3 x1 3 3 rfl _
    · exact load2 arg4 harg4 x2 384 (by decide) _
  · refine fun z => (congrFun (gate_128_2 _ _ _ _ _ _ _ _ _ _ _ ) z).trans (piece_ok i f x1 x2 2 128 256 (by decide) rfl inb_S1x512x512_S1x128x128_0_128_256 rfl rfl ?_ ?_ ?_ ?_ z)
    · exact cov_load _ _ f 0 144 256 hA (Nat.zero_le _) _
    · refine sum_succ ?_ (cov_load _ _ f 0 137 256 hA (Nat.zero_le _) _)
      refine sum_succ ?_ (cov_load _ _ f 0 138 256 hA (Nat.zero_le _) _)
      refine sum_succ ?_ (cov_load _ _ f 0 139 256 hA (Nat.zero_le _) _)
      refine sum_succ ?_ (cov_load _ _ f 0 140 256 hA (Nat.zero_le _) _)
      refine sum_succ ?_ (cov_load _ _ f 0 141 256 hA (Nat.zero_le _) _)
      refine sum_succ ?_ (cov_load _ _ f 0 142 256 hA (Nat.zero_le _) _)
      refine sum_succ ?_ (cov_load _ _ f 0 143 256 hA (Nat.zero_le _) _)
      exact cov_load _ _ f 0 144 256 hA (Nat.zero_le _) _
    · exact load1 arg3 harg3 x1 2 2 rfl _
    · exact load2 arg4 harg4 x2 256 (by decide) _
  · refine fun z => (congrFun (gate_128_1 _ _ _ _ _ _ _ ) z).trans (piece_ok i f x1 x2 1 128 128 (by decide) rfl inb_S1x512x512_S1x128x128_0_128_128 rfl rfl ?_ ?_ ?_ ?_ z)
    · exact cov_load _ _ f 0 144 128 hA (Nat.zero_le _) _
    · refine sum_succ ?_ (cov_load _ _ f 0 141 128 hA (Nat.zero_le _) _)
      refine sum_succ ?_ (cov_load _ _ f 0 142 128 hA (Nat.zero_le _) _)
      refine sum_succ ?_ (cov_load _ _ f 0 143 128 hA (Nat.zero_le _) _)
      exact cov_load _ _ f 0 144 128 hA (Nat.zero_le _) _
    · exact load1 arg3 harg3 x1 1 1 rfl _
    · exact load2 arg4 harg4 x2 128 (by decide) _
  · refine fun z => (congrFun (gate_128_0 _ _ _ _ _ ) z).trans (piece_ok i f x1 x2 0 128 0 (by decide) rfl inb_S1x512x512_S1x128x128_0_128_0 rfl rfl ?_ ?_ ?_ ?_ z)
    · exact cov_load _ _ f 0 144 0 hA (Nat.zero_le _) _
    · refine sum_succ ?_ (cov_load _ _ f 0 143 0 hA (Nat.zero_le _) _)
      exact cov_load _ _ f 0 144 0 hA (Nat.zero_le _) _
    · exact load1 arg3 harg3 x1 0 0 rfl _
    · exact load2 arg4 harg4 x2 0 (by decide) _
  · refine fun z => (congrFun (gate_0_3 i _ _ _ _ _ _ _ _ _ _ _ _ _ _ _ _ _ _ ) z).trans (piece_ok i f x1 x2 3 0 384 (by decide) rfl inb_S1x512x512_S1x128x128_0_0_384 rfl rfl ?_ ?_ ?_ ?_ z)
    · exact cov_load _ _ f 0 16 384 hA (Nat.zero_le _) _
    · refine sum_succ ?_ (cov_load _ _ f 0 1 384 hA (Nat.zero_le _) _)
      refine sum_succ ?_ (cov_load _ _ f 0 2 384 hA (Nat.zero_le _) _)
      refine sum_succ ?_ (cov_load _ _ f 0 3 384 hA (Nat.zero_le _) _)
      refine sum_succ ?_ (cov_load _ _ f 0 4 384 hA (Nat.zero_le _) _)
      refine sum_succ ?_ (cov_load _ _ f 0 5 384 hA (Nat.zero_le _) _)
      refine sum_succ ?_ (cov_load _ _ f 0 6 384 hA (Nat.zero_le _) _)
      refine sum_succ ?_ (cov_load _ _ f 0 7 384 hA (Nat.zero_le _) _)
      refine sum_succ ?_ (cov_load _ _ f 0 8 384 hA (Nat.zero_le _) _)
      refine sum_succ ?_ (cov_load _ _ f 0 9 384 hA (Nat.zero_le _) _)
      refine sum_succ ?_ (cov_load _ _ f 0 10 384 hA (Nat.zero_le _) _)
      refine sum_succ ?_ (cov_load _ _ f 0 11 384 hA (Nat.zero_le _) _)
      refine sum_succ ?_ (cov_load _ _ f 0 12 384 hA (Nat.zero_le _) _)
      refine sum_succ ?_ (cov_load _ _ f 0 13 384 hA (Nat.zero_le _) _)
      refine sum_succ ?_ (cov_load _ _ f 0 14 384 hA (Nat.zero_le _) _)
      refine sum_succ ?_ (cov_load _ _ f 0 15 384 hA (Nat.zero_le _) _)
      exact cov_load _ _ f 0 16 384 hA (Nat.zero_le _) _
    · exact load1 arg3 harg3 x1 3 3 rfl _
    · exact load2 arg4 harg4 x2 384 (by decide) _
  · refine fun z => (congrFun (gate_0_2 i _ _ _ _ _ _ _ _ _ _ ) z).trans (piece_ok i f x1 x2 2 0 256 (by decide) rfl inb_S1x512x512_S1x128x128_0_0_256 rfl rfl ?_ ?_ ?_ ?_ z)
    · exact cov_load _ _ f 0 16 256 hA (Nat.zero_le _) _
    · refine sum_succ ?_ (cov_load _ _ f 0 9 256 hA (Nat.zero_le _) _)
      refine sum_succ ?_ (cov_load _ _ f 0 10 256 hA (Nat.zero_le _) _)
      refine sum_succ ?_ (cov_load _ _ f 0 11 256 hA (Nat.zero_le _) _)
      refine sum_succ ?_ (cov_load _ _ f 0 12 256 hA (Nat.zero_le _) _)
      refine sum_succ ?_ (cov_load _ _ f 0 13 256 hA (Nat.zero_le _) _)
      refine sum_succ ?_ (cov_load _ _ f 0 14 256 hA (Nat.zero_le _) _)
      refine sum_succ ?_ (cov_load _ _ f 0 15 256 hA (Nat.zero_le _) _)
      exact cov_load _ _ f 0 16 256 hA (Nat.zero_le _) _
    · exact load1 arg3 harg3 x1 2 2 rfl _
    · exact load2 arg4 harg4 x2 256 (by decide) _
  · refine fun z => (congrFun (gate_0_1 i _ _ _ _ _ _ ) z).trans (piece_ok i f x1 x2 1 0 128 (by decide) rfl inb_S1x512x512_S1x128x128_0_0_128 rfl rfl ?_ ?_ ?_ ?_ z)
    · exact cov_load _ _ f 0 16 128 hA (Nat.zero_le _) _
    · refine sum_succ ?_ (cov_load _ _ f 0 13 128 hA (Nat.zero_le _) _)
      refine sum_succ ?_ (cov_load _ _ f 0 14 128 hA (Nat.zero_le _) _)
      refine sum_succ ?_ (cov_load _ _ f 0 15 128 hA (Nat.zero_le _) _)
      exact cov_load _ _ f 0 16 128 hA (Nat.zero_le _) _
    · exact load1 arg3 harg3 x1 1 1 rfl _
    · exact load2 arg4 harg4 x2 128 (by decide) _
  · refine fun z => (congrFun (gate_0_0 i _ _ _ _ ) z).trans (piece_ok i f x1 x2 0 0 0 (by decide) rfl inb_S1x512x512_S1x128x128_0_0_0 rfl rfl ?_ ?_ ?_ ?_ z)
    · exact cov_load _ _ f 0 16 0 hA (Nat.zero_le _) _
    · refine sum_succ ?_ (cov_load _ _ f 0 15 0 hA (Nat.zero_le _) _)
      exact cov_load _ _ f 0 16 0 hA (Nat.zero_le _) _
    · exact load1 arg3 harg3 x1 0 0 rfl _
    · exact load2 arg4 harg4 x2 0 (by decide) _

set_option maxHeartbeats 1000000 in
/-- A batch element's first tile: the sixteen rows it carries on are its last. -/
theorem sout_A (hc0 : cond0_0 i) (hx : Rows x0 f) (a : Fin 16) (j : Fin 512) :
    sout0_A_0 c i arg2 harg2 arg3 harg3 arg4 harg4 arg5 harg5 arg6 harg6 hc0 x0 x1 x2 (ix2 ⟨a.val, by omega⟩ j) = f (512 + a.val) j.val := by
  unfold sout0_A_0 kernelRun0_A
  dsimp only
  refine (View.read_writes_cons_rows_of_mem _ _ inb_S528x512_S16x512_0_0 _ _ (ix2 ⟨a.val, by omega⟩ j) (ix2 a j : S16x512.Idx) rfl ?_ rfl).trans ?_
  · show a.val = 0 + a.val; omega
  refine (pay41_apply _ a j).trans ?_
  exact last_rows arg6.view _ f (lastA c arg2 harg2 arg6 x0 f hx) a j

end Cert.Proof.PoolTile

end
-- ==== Proof.PoolSpec.lean ====
/- The pooling mixer (the call `pool_b`): the whole result, entry by entry, as a formula in the arguments. -/
module

public import proofs.«01_k».proof.Proof.PoolTile

@[expose] public section

noncomputable section

open Idealize.ShloMosaic Idealize.ShloMosaic.TcCoe Idealize.SL.Sem

namespace Cert.Proof.PoolTile

open Cert.Kernel7Ideal

/-- The sequence with sixteen zero rows before it: row `N` is row `N - 16` of the argument. -/
def padR (x : FVec Ideal S2x8192x512 .f32) (b : Fin 2) (N j : ℕ) : EReal :=
  if h : 16 ≤ N ∧ N - 16 < 8192 ∧ j < 512 then x (ix3 b ⟨N - 16, h.2.1⟩ ⟨j, h.2.2⟩) else 0

theorem padR_of (x : FVec Ideal S2x8192x512 .f32) (b : Fin 2) (n : Fin 8192) (j : Fin 512) : padR x b (16 + n.val) j.val = x (ix3 b n j) := by
  unfold padR
  rw [dif_pos ⟨by omega, by omega, j.isLt⟩]
  congr 2
  apply Fin.ext
  show 16 + n.val - 16 = n.val
  omega

theorem padR_zero (x : FVec Ideal S2x8192x512 .f32) (b : Fin 2) (N j : ℕ) (h : N < 16) : padR x b N j = 0 := by
  unfold padR
  rw [dif_neg (by omega)]

/-- An entry of the pooled result. -/
def poolG (x : FVec Ideal S2x8192x512 .f32) (w : FVec Ideal S4x128x128 .f32) (s : FVec Ideal S512 .f32) (b : Fin 2) (n : Fin 8192) (q : Fin 512) : EReal :=
  ent (padR x b) (16 + n.val) (posAt n.val) (fun k => w (ix3 ⟨q.val / 128, by omega⟩ k ⟨q.val % 128, by omega⟩)) (s (ix1 q)) ⟨q.val / 128, by omega⟩

theorem num_shift (p : ℕ → ℕ → EReal) (T N j : ℕ) : ∀ n, n ≤ N → num (fun n j => p (T + n) j) N j n = num p (T + N) j n
  | 0, _ => rfl
  | n + 1, h => by
    show num _ N j n + p (T + (N - (n + 1))) j = num p (T + N) j n + p (T + N - (n + 1)) j
    rw [num_shift p T N j n (by omega)]
    congr 2
    omega

theorem ent_shift (p : ℕ → ℕ → EReal) (T N : ℕ) (h : 16 ≤ N) (pos : EReal) (pw : Fin 128 → EReal) (sc : EReal) (g : Fin 4) :
    ent (fun n j => p (T + n) j) N pos pw sc g = ent p (T + N) pos pw sc g := by
  have hb : back g ≤ 15 := by fin_cases g <;> decide
  unfold ent
  simp only [num_shift p T N _ (back g) (by omega)]

end Cert.Proof.PoolTile

end
-- ==== Proof.PoolValue.lean ====
/- The pooling mixer (the call `pool_b`, program `Kernel7`): the array after the tiled kernel is the formula, entry by entry. -/
module

public import proofs.«01_k».proof.Proof.PoolCases
public import proofs.«01_k».proof.Proof.PoolSpec

@[expose] public section

set_option maxRecDepth 16384

noncomputable section

open Idealize.ShloMosaic Idealize.ShloMosaic.TcCoe Idealize.SL.Sem
open Idealize.ShloMosaic.Pipeline (Dat)

namespace Cert.Proof.PoolValue

open Cert.Kernel7Ideal Cert.Kernel7Ideal.Gen Cert.Proof.PoolTile

variable (m : (ℓ : Loc nD τ sig) → Buf (Elt Ideal) ℓ)

theorem V_v0 (c : Dev nD) : V m c main_v0 = m ((c : Thread nD τ).loc main_arg1) := by
  unfold_abbrev_sides
  after_results
  rfl
theorem V_v1 (c : Dev nD) : V m c main_v1 = shapeCast S1x512 (m ((c : Thread nD τ).loc main_arg2)) shapeCasts_S512_S1x512 := by
  unfold_abbrev_sides
  after_results
  rfl

theorem cast_row (x : FVec Ideal S512 .f32) (k : Fin 512) : shapeCast S1x512 x shapeCasts_S512_S1x512 (ix2 0 k) = x (ix1 k) := by
  pointwise

/-- The batch element of a grid point, its tile within it, and a tile's row of the sequence. -/
def bat (t : Fin cfg0.N) : Fin 2 := ⟨t.val / 16, by have := t.isLt; have h : cfg0.N = 32 := N_0; omega⟩
def til (t : Fin cfg0.N) : Fin 16 := ⟨t.val % 16, by omega⟩
def tok (T : Fin 16) (r : Fin 512) : Fin 8192 := ⟨T.val * 512 + r.val, by omega⟩

theorem coords_1 (t : Fin cfg0.N) : (grid0.coords t 1).val = t.val % 16 :=
  (by decide +kernel : ∀ t : Fin grid0.N, (grid0.coords t 1).val = t.val % 16) t

theorem blk0 (c : Dev nD) (t : Fin cfg0.N) (r : Fin 512) (k : Fin 512) :
    iblk m c 0 t (ix3 0 r k) = m ((c : Thread nD τ).loc main_arg0) (ix3 (bat t) (tok (til t) r) k) := by
  have hi : ∀ t : Fin cfg0.N, win0_0.index t 0 = t.val / 16 ∧ win0_0.index t 1 = t.val % 16 ∧ win0_0.index t 2 = 0 :=
    (by decide +kernel : ∀ t : Fin grid0.N, win0_0.index t 0 = t.val / 16 ∧ win0_0.index t 1 = t.val % 16 ∧ win0_0.index t 2 = 0)
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 16; rw [(hi t).1]; omega
  | ⟨1, _⟩ => show win0_0.index t 1 * 512 + 1 * r.val = t.val % 16 * 512 + r.val; rw [(hi t).2.1]; omega
  | ⟨2, _⟩ => show win0_0.index t 2 * 512 + 1 * k.val = k.val; rw [(hi t).2.2]; omega

theorem blk1 (c : Dev nD) (t : Fin cfg0.N) (g : Fin 4) (k l : Fin 128) :
    iblk m c 1 t (ix3 g k l) = m ((c : Thread nD τ).loc main_arg1) (ix3 g k l) := by
  have hi : ∀ t : Fin cfg0.N, win0_1.index t 0 = 0 ∧ win0_1.index t 1 = 0 ∧ win0_1.index t 2 = 0 :=
    (by decide +kernel : ∀ t : Fin grid0.N, win0_1.index t 0 = 0 ∧ win0_1.index t 1 = 0 ∧ win0_1.index t 2 = 0)
  unfold iblk
  rw [View.read_apply]
  show V m c main_v0 _ = m (c.tc.loc main_arg1) _
  rw [V_v0]
  congr 1
  funext a
  apply Fin.ext
  match a with
  | ⟨0, _⟩ => show win0_1.index t 0 * 4 + 1 * g.val = g.val; rw [(hi t).1]; omega
  | ⟨1, _⟩ => show win0_1.index t 1 * 128 + 1 * k.val = k.val; rw [(hi t).2.1]; omega
  | ⟨2, _⟩ => show win0_1.index t 2 * 128 + 1 * l.val = l.val; rw [(hi t).2.2]; omega

theorem blk2 (c : Dev nD) (t : Fin cfg0.N) (k : Fin 512) :
    iblk m c 2 t (ix2 0 k) = m ((c : Thread nD τ).loc main_arg2) (ix1 k) := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply]
  show V m c main_v1 _ = _
  rw [V_v1]
  refine Eq.trans ?_ (cast_row (m ((c : Thread nD τ).loc main_arg2)) k)
  congr 1
  funext d
  apply Fin.ext
  match d with
  | ⟨0, _⟩ => show win0_2.index t 0 * 1 + 1 * 0 = 0; rw [(hi t).1]
  | ⟨1, _⟩ => show win0_2.index t 1 * 512 + 1 * k.val = k.val; rw [(hi t).2]; omega

/-- The rows a tile works over: its sixteen carried rows, then its own. -/
def rowF (c : Dev nD) (t : Fin cfg0.N) (n j : ℕ) : EReal := padR (m ((c : Thread nD τ).loc main_arg0)) (bat t) ((til t).val * 512 + n) j

theorem rows (c : Dev nD) (t : Fin cfg0.N) : Rows (iblk m c 0 t) (rowF m c t) := by
  intro r j
  rw [blk0]
  unfold rowF
  refine Eq.trans (padR_of _ _ _ _).symm ?_
  congr 1
  show 16 + (t.val % 16 * 512 + r.val) = t.val % 16 * 512 + (16 + r.val)
  omega

/-- What a point leaves in the sixteen carried rows: its last sixteen. -/
theorem carried (c : Dev nD) (t : Fin cfg0.N) (a : Fin 16) (j : Fin 512) :
    (outsAt0 m c t.val t.isLt).2 (ix2 ⟨a.val, by omega⟩ j) = rowF m c t (512 + a.val) j.val := by
  by_cases h0 : t.val % 16 = 0
  · rw [outsAt0_A m c t h0]; dsimp only; exact sout_A _ _ _ _ _ _ _ _ _ _ _ _ _ _ _ _ _ (rows m c t) a j
  · rw [outsAt0_B m c t h0]; dsimp only; exact sout_B _ _ _ _ _ _ _ _ _ _ _ _ _ _ _ _ _ _ (rows m c t) a j

/-- The carried rows a later tile finds: the sixteen before its first. -/
theorem carried_before (c : Dev nD) (t : Fin cfg0.N) (h0 : ¬t.val % 16 = 0) (a : Fin 16) (j : Fin 512) :
    (outsAt0 m c (t.val - 1) (Nat.lt_of_le_of_lt (Nat.sub_le _ _) t.isLt)).2 (ix2 ⟨a.val, by omega⟩ j) = rowF m c t a.val j.val := by
  have hN : cfg0.N = 32 := N_0
  have ht := t.isLt
  refine (carried m c ⟨t.val - 1, by omega⟩ a j).trans ?_
  unfold rowF
  have hb : bat ⟨t.val - 1, by omega⟩ = bat t := by apply Fin.ext; show (t.val - 1) / 16 = t.val / 16; omega
  rw [hb]
  congr 1
  show (t.val - 1) % 16 * 512 + (512 + a.val) = t.val % 16 * 512 + a.val
  omega

/-- The result, entry by entry, as a function of the argument arrays. -/
def G3 (c : Dev nD) : S2x8192x512.Idx → EReal := fun i =>
  poolG (m ((c : Thread nD τ).loc main_arg0)) (m ((c : Thread nD τ).loc main_arg1)) (m ((c : Thread nD τ).loc main_arg2)) (i 0) (i 1) (i 2)

theorem emb3 (t : Fin cfg0.N) (r : Fin 512) (q : Fin 512) :
    (win0_3.blk t).view.emb (ix3 0 r q) = (ix3 (bat t) (tok (til t) r) q : S2x8192x512.Idx) := by
  have hi : ∀ t : Fin cfg0.N, win0_3.index t 0 = t.val / 16 ∧ win0_3.index t 1 = t.val % 16 ∧ win0_3.index t 2 = 0 :=
    (by decide +kernel : ∀ t : Fin grid0.N, win0_3.index t 0 = t.val / 16 ∧ win0_3.index t 1 = t.val % 16 ∧ win0_3.index t 2 = 0)
  funext a
  apply Fin.ext
  match a with
  | ⟨0, _⟩ => show win0_3.index t 0 * 1 + 1 * 0 = t.val / 16; rw [(hi t).1]; omega
  | ⟨1, _⟩ => show win0_3.index t 1 * 512 + 1 * r.val = t.val % 16 * 512 + r.val; rw [(hi t).2.1]; omega
  | ⟨2, _⟩ => show win0_3.index t 2 * 512 + 1 * q.val = q.val; rw [(hi t).2.2]; omega

theorem block_eq (c : Dev nD) (t : Fin cfg0.N) :
    outT (grid0.coords t) (rowF m c t) (iblk m c 1 t) (iblk m c 2 t) = (win0_3.blk t).view.read (Elt Ideal) (G3 m c) := by
  funext y
  obtain ⟨r, q, rfl⟩ : ∃ (r : Fin 512) (q : Fin 512), y = ix3 0 r q := by
    refine ⟨y 1, y 2, ?_⟩
    have h1 : y 0 = (0 : Fin 1) := Fin.ext (by have h : (y 0).val < 1 := (y 0).isLt; show (y 0).val = 0; omega)
    rw [← h1]; exact eq_ix3 y
  rw [View.read_apply, emb3]
  show ent (fun n j => padR (m ((c : Thread nD τ).loc main_arg0)) (bat t) ((til t).val * 512 + n) j) (16 + r.val)
      (posAt ((grid0.coords t 1).val * 512 + r.val))
      (fun k => iblk m c 1 t (ix3 ⟨q.val / 128, by omega⟩ k ⟨q.val % 128, by omega⟩)) (iblk m c 2 t (ix2 0 q)) ⟨q.val / 128, by omega⟩
    = poolG (m ((c : Thread nD τ).loc main_arg0)) (m ((c : Thread nD τ).loc main_arg1)) (m ((c : Thread nD τ).loc main_arg2)) (bat t) (tok (til t) r) q
  rw [ent_shift _ _ _ (by omega), coords_1, blk2]
  simp only [blk1]
  unfold poolG
  have e : (til t).val * 512 + (16 + r.val) = 16 + (tok (til t) r).val := by
    show t.val % 16 * 512 + (16 + r.val) = 16 + (t.val % 16 * 512 + r.val); omega
  rw [e]
  rfl

theorem flushed3_eq (c : Dev nD) (t : Fin cfg0.N) :
    (dats m 0 c).flushed 3 t = (win0_3.blk t).view.read (Elt Ideal) (G3 m c) := by
  by_cases h0 : t.val % 16 = 0
  · rw [Value.flushed3_A m c t h0]
    refine (congrArg ((cfg0.win 3).cut (grid0.coords t)) (out_A _ _ _ _ _ _ _ _ _ _ _ _ _ _ _ _ _ (rows m c t) ?_)).trans ?_
    · intro a j
      unfold rowF
      exact padR_zero _ _ _ _ (by show t.val % 16 * 512 + a.val < 16; omega)
    · refine Eq.trans ?_ (block_eq m c t)
      rfl
  · rw [Value.flushed3_B m c t h0]
    refine (congrArg ((cfg0.win 3).cut (grid0.coords t)) (out_B _ _ _ _ _ _ _ _ _ _ _ _ _ _ _ _ _ _ (rows m c t) (carried_before m c t h0))).trans ?_
    refine Eq.trans ?_ (block_eq m c t)
    rfl

theorem mem_blk3 (t : Fin cfg0.N) (i : S2x8192x512.Idx) :
    i ∈ ((cfg0.win 3).blk t).view.set ↔ (i 0 : Nat) = t.val / 16
      ∧ t.val % 16 * 512 ≤ (i 1 : Nat) ∧ (i 1 : Nat) < t.val % 16 * 512 + 512 := by
  have e : ∀ t : Fin cfg0.N, win0_3.index t 0 = t.val / 16 ∧ win0_3.index t 1 = t.val % 16 ∧ win0_3.index t 2 = 0 :=
    (by decide +kernel : ∀ t : Fin grid0.N, win0_3.index t 0 = t.val / 16 ∧ win0_3.index t 1 = t.val % 16 ∧ win0_3.index t 2 = 0)
  show i ∈ ((View.whole main_v2).slice (win0_3.rect t)).set ↔ _
  rw [View.set_slice_whole, Rect.mem_set_unit]
  have h2 : (i 2 : Nat) < 512 := (i 2).isLt
  refine ⟨fun h => ?_, fun h a => ?_⟩
  · have a0 : win0_3.index t 0 * 1 ≤ (i 0 : Nat) ∧ (i 0 : Nat) < win0_3.index t 0 * 1 + 1 := h 0
    have a1 : win0_3.index t 1 * 512 ≤ (i 1 : Nat) ∧ (i 1 : Nat) < win0_3.index t 1 * 512 + 512 := h 1
    rw [(e t).1] at a0
    rw [(e t).2.1] at a1
    exact ⟨by omega, a1⟩
  · match a with
    | ⟨0, _⟩ => show win0_3.index t 0 * 1 ≤ (i 0 : Nat) ∧ (i 0 : Nat) < win0_3.index t 0 * 1 + 1
                rw [(e t).1]; omega
    | ⟨1, _⟩ => show win0_3.index t 1 * 512 ≤ (i 1 : Nat) ∧ (i 1 : Nat) < win0_3.index t 1 * 512 + 512
                rw [(e t).2.1]; exact h.2
    | ⟨2, _⟩ => show win0_3.index t 2 * 512 ≤ (i 2 : Nat) ∧ (i 2 : Nat) < win0_3.index t 2 * 512 + 512
                rw [(e t).2.2, Nat.zero_mul, Nat.zero_add]; exact ⟨Nat.zero_le _, h2⟩

theorem cover3 (i : S2x8192x512.Idx) :
    ∃ t : Fin cfg0.N, (cfg0.win 3).flush t = true ∧ i ∈ ((cfg0.win 3).blk t).view.set := by
  have h0 : (i 0 : Nat) < 2 := (i 0).isLt
  have h1 : (i 1 : Nat) < 8192 := (i 1).isLt
  have hN : cfg0.N = 32 := N_0
  obtain ⟨t, ht⟩ : ∃ t : Fin cfg0.N, t.val = (i 0 : Nat) * 16 + (i 1 : Nat) / 512 := ⟨⟨_, by rw [hN]; omega⟩, rfl⟩
  refine ⟨t, flush0_3 t, ?_⟩
  rw [mem_blk3]
  omega

theorem final3 (c : Dev nD) : (dats m 0 c).arrAt 3 cfg0.N = G3 m c :=
  (dats m 0 c).arrAt_eq_of_cover 3 (G3 m c) (fun t _ => flushed3_eq m c t) cover3

end Cert.Proof.PoolValue

end
-- ==== Proof.PoolRef.lean ====
/- The pooling mixer's reference (program `Reference7Ideal`): its result is the formula, entry by entry. -/
module

public import proofs.«01_k».proof.Proof.PoolSpec
public import proofs.«01_k».proof.Proof.Gen.Reference7Ideal.Run

@[expose] public section

set_option maxRecDepth 16384

noncomputable section

open Idealize.ShloMosaic Idealize.ShloMosaic.TcCoe Idealize.SL.Sem

namespace Cert.Proof.PoolRef

open Cert.Reference7Ideal Cert.Reference7Ideal.Gen Cert.Reference7Ideal.Value
open Cert.Proof.PoolTile (padR poolG ent num posAt cap back)

/-- A row of the sequence with fifteen zero rows before it. -/
theorem dif_back (x : FVec Ideal S2x8192x512 .f32) (b : Fin 2) (o : ℕ) (n : Fin 8192) (j : Fin 512) (ho : o ≤ 15)
    (h' : ¬ o + n.val < 15 → o + n.val - 15 < 8192) :
    (if h : o + n.val < 15 then (0 : EReal) else x (ix3 b ⟨o + n.val - 15, h' h⟩ j)) = padR x b (16 + n.val - (15 - o)) j.val := by
  unfold padR
  by_cases h : o + n.val < 15
  · rw [dif_pos h, dif_neg (by omega)]
  · rw [dif_neg h, dif_pos ⟨by omega, by omega, j.isLt⟩]
    congr 2
    apply Fin.ext
    show o + n.val - 15 = 16 + n.val - (15 - o) - 16
    omega

theorem dif_first (x : FVec Ideal S2x8192x512 .f32) (b : Fin 2) (n : Fin 8192) (j : Fin 512) (h' : ¬ n.val < 15 → n.val - 15 < 8192) :
    (if h : n.val < 15 then (0 : EReal) else x (ix3 b ⟨n.val - 15, h' h⟩ j)) = padR x b (16 + n.val - 15) j.val := by
  refine Eq.trans ?_ (dif_back x b 0 n j (by decide) (fun _ => by omega))
  simp only [Nat.zero_add]

/-- An entry of the sequence, as one of the padded one. -/
theorem cur_row (x : FVec Ideal S2x8192x512 .f32) (b : Fin 2) (n : Fin 8192) (j : Fin 512) : x (ix3 b n j) = padR x b (16 + n.val) j.val :=
  (Cert.Proof.PoolTile.padR_of x b n j).symm

variable (m : (ℓ : Loc nD τ sig) → Buf (Elt Ideal) ℓ)

theorem num_step {f : ℕ → ℕ → EReal} {N j n : ℕ} {A B : EReal} (hA : A = num f N j n) (hB : B = f (N - (n + 1)) j) : A + B = num f N j (n + 1) := by
  rw [hA, hB]; rfl

/- The result by its four groups of columns. -/

set_option maxHeartbeats 2000000 in
theorem group_0 (c : Dev nD) (b : Fin 2) (n : Fin 8192) (l : Fin 128) :
    res_main_v112 m c (ix3 b n ⟨l.val, by omega⟩) = poolG (m ((c.tc : Thread nD τ).loc main_arg0)) (m ((c.tc : Thread nD τ).loc main_arg1)) (m ((c.tc : Thread nD τ).loc main_arg2)) b n ⟨l.val, by omega⟩ := by
  have h1 : Ideal.ofBits .f32 0x3F800000#32 = 1 := by pointwise
  have e1 : (⟨(l.val) / 128, by omega⟩ : Fin 4) = 0 := Fin.ext (by show (l.val) / 128 = 0; omega)
  have e2 : (⟨(l.val) % 128, by omega⟩ : Fin 128) = l := Fin.ext (by show (l.val) % 128 = l.val; omega)
  unfold poolG
  rw [e1, e2]
  unfold ent
  rw [h1]
  have ek : ∀ k : Fin 128, 128 * (0 : Fin 4).val + k.val = k.val := fun k => by show 128 * 0 + k.val = _; omega
  simp only [ek]
  unfold res_main_v112 cap posAt
  pointwise
  refine (congrArg₂ (· * ·) (Finset.sum_congr rfl fun k _ =>
    congrArg₂ (· * ·) (congrArg₂ (· - ·) (congrArg₂ Ideal.div ?_ rfl) (cur_row (m ((c.tc : Thread nD τ).loc main_arg0)) b n ⟨k.val, by omega⟩)) rfl) rfl)
  · show _ = num _ _ _ 1
    refine num_step (n := 0) ?_ (dif_back (m ((c.tc : Thread nD τ).loc main_arg0)) b 14 n ⟨k.val, by omega⟩ (by decide) _)
    exact cur_row (m ((c.tc : Thread nD τ).loc main_arg0)) b n ⟨k.val, by omega⟩

set_option maxHeartbeats 2000000 in
theorem group_1 (c : Dev nD) (b : Fin 2) (n : Fin 8192) (l : Fin 128) :
    res_main_v112 m c (ix3 b n ⟨128 + l.val, by omega⟩) = poolG (m ((c.tc : Thread nD τ).loc main_arg0)) (m ((c.tc : Thread nD τ).loc main_arg1)) (m ((c.tc : Thread nD τ).loc main_arg2)) b n ⟨128 + l.val, by omega⟩ := by
  have h1 : Ideal.ofBits .f32 0x3F800000#32 = 1 := by pointwise
  have e1 : (⟨(128 + l.val) / 128, by omega⟩ : Fin 4) = 1 := Fin.ext (by show (128 + l.val) / 128 = 1; omega)
  have e2 : (⟨(128 + l.val) % 128, by omega⟩ : Fin 128) = l := Fin.ext (by show (128 + l.val) % 128 = l.val; omega)
  unfold poolG
  rw [e1, e2]
  unfold ent
  rw [h1]
  have ek : ∀ k : Fin 128, 128 * (1 : Fin 4).val + k.val = 128 + k.val := fun k => by show 128 * 1 + k.val = _; omega
  simp only [ek]
  unfold res_main_v112 cap posAt
  pointwise
  refine (congrArg₂ (· * ·) (Finset.sum_congr rfl fun k _ =>
    congrArg₂ (· * ·) (congrArg₂ (· - ·) (congrArg₂ Ideal.div ?_ rfl) (cur_row (m ((c.tc : Thread nD τ).loc main_arg0)) b n ⟨128 + k.val, by omega⟩)) rfl) rfl)
  · show _ = num _ _ _ 3
    refine num_step (n := 2) ?_ (dif_back (m ((c.tc : Thread nD τ).loc main_arg0)) b 12 n ⟨128 + k.val, by omega⟩ (by decide) _)
    refine num_step (n := 1) ?_ (dif_back (m ((c.tc : Thread nD τ).loc main_arg0)) b 13 n ⟨128 + k.val, by omega⟩ (by decide) _)
    refine num_step (n := 0) ?_ (dif_back (m ((c.tc : Thread nD τ).loc main_arg0)) b 14 n ⟨128 + k.val, by omega⟩ (by decide) _)
    exact cur_row (m ((c.tc : Thread nD τ).loc main_arg0)) b n ⟨128 + k.val, by omega⟩

set_option maxHeartbeats 2000000 in
theorem group_2 (c : Dev nD) (b : Fin 2) (n : Fin 8192) (l : Fin 128) :
    res_main_v112 m c (ix3 b n ⟨256 + l.val, by omega⟩) = poolG (m ((c.tc : Thread nD τ).loc main_arg0)) (m ((c.tc : Thread nD τ).loc main_arg1)) (m ((c.tc : Thread nD τ).loc main_arg2)) b n ⟨256 + l.val, by omega⟩ := by
  have h1 : Ideal.ofBits .f32 0x3F800000#32 = 1 := by pointwise
  have e1 : (⟨(256 + l.val) / 128, by omega⟩ : Fin 4) = 2 := Fin.ext (by show (256 + l.val) / 128 = 2; omega)
  have e2 : (⟨(256 + l.val) % 128, by omega⟩ : Fin 128) = l := Fin.ext (by show (256 + l.val) % 128 = l.val; omega)
  unfold poolG
  rw [e1, e2]
  unfold ent
  rw [h1]
  have ek : ∀ k : Fin 128, 128 * (2 : Fin 4).val + k.val = 256 + k.val := fun k => by show 128 * 2 + k.val = _; omega
  simp only [ek]
  unfold res_main_v112 cap posAt
  pointwise
  refine (congrArg₂ (· * ·) ((dif_neg (by omega)).trans ((dif_neg (by omega)).trans ((dif_pos (by omega)).trans (Finset.sum_congr rfl fun k _ =>
    congrArg₂ (· * ·) (congrArg₂ (· - ·) (congrArg₂ Ideal.div ?_ rfl) (cur_row (m ((c.tc : Thread nD τ).loc main_arg0)) b n ⟨256 + k.val, by omega⟩)) (congrArg (fun q : Fin 128 => (m ((c.tc : Thread nD τ).loc main_arg1) : FVec Ideal S4x128x128 .f32) (ix3 2 k q)) (Fin.ext (by show 256 + l.val - 128 - 128 = l.val; omega))))))) rfl)
  · show _ = num _ _ _ 7
    refine num_step (n := 6) ?_ (dif_back (m ((c.tc : Thread nD τ).loc main_arg0)) b 8 n ⟨256 + k.val, by omega⟩ (by decide) _)
    refine num_step (n := 5) ?_ (dif_back (m ((c.tc : Thread nD τ).loc main_arg0)) b 9 n ⟨256 + k.val, by omega⟩ (by decide) _)
    refine num_step (n := 4) ?_ (dif_back (m ((c.tc : Thread nD τ).loc main_arg0)) b 10 n ⟨256 + k.val, by omega⟩ (by decide) _)
    refine num_step (n := 3) ?_ (dif_back (m ((c.tc : Thread nD τ).loc main_arg0)) b 11 n ⟨256 + k.val, by omega⟩ (by decide) _)
    refine num_step (n := 2) ?_ (dif_back (m ((c.tc : Thread nD τ).loc main_arg0)) b 12 n ⟨256 + k.val, by omega⟩ (by decide) _)
    refine num_step (n := 1) ?_ (dif_back (m ((c.tc : Thread nD τ).loc main_arg0)) b 13 n ⟨256 + k.val, by omega⟩ (by decide) _)
    refine num_step (n := 0) ?_ (dif_back (m ((c.tc : Thread nD τ).loc main_arg0)) b 14 n ⟨256 + k.val, by omega⟩ (by decide) _)
    exact cur_row (m ((c.tc : Thread nD τ).loc main_arg0)) b n ⟨256 + k.val, by omega⟩

set_option maxHeartbeats 2000000 in
theorem group_3 (c : Dev nD) (b : Fin 2) (n : Fin 8192) (l : Fin 128) :
    res_main_v112 m c (ix3 b n ⟨384 + l.val, by omega⟩) = poolG (m ((c.tc : Thread nD τ).loc main_arg0)) (m ((c.tc : Thread nD τ).loc main_arg1)) (m ((c.tc : Thread nD τ).loc main_arg2)) b n ⟨384 + l.val, by omega⟩ := by
  have h1 : Ideal.ofBits .f32 0x3F800000#32 = 1 := by pointwise
  have e1 : (⟨(384 + l.val) / 128, by omega⟩ : Fin 4) = 3 := Fin.ext (by show (384 + l.val) / 128 = 3; omega)
  have e2 : (⟨(384 + l.val) % 128, by omega⟩ : Fin 128) = l := Fin.ext (by show (384 + l.val) % 128 = l.val; omega)
  unfold poolG
  rw [e1, e2]
  unfold ent
  rw [h1]
  have ek : ∀ k : Fin 128, 128 * (3 : Fin 4).val + k.val = 384 + k.val := fun k => by show 128 * 3 + k.val = _; omega
  simp only [ek]
  unfold res_main_v112 cap posAt
  pointwise
  refine (congrArg₂ (· * ·) ((dif_neg (by omega)).trans ((dif_neg (by omega)).trans ((dif_neg (by omega)).trans (Finset.sum_congr rfl fun k _ =>
    congrArg₂ (· * ·) (congrArg₂ (· - ·) (congrArg₂ Ideal.div ?_ rfl) (cur_row (m ((c.tc : Thread nD τ).loc main_arg0)) b n ⟨384 + k.val, by omega⟩)) (congrArg (fun q : Fin 128 => (m ((c.tc : Thread nD τ).loc main_arg1) : FVec Ideal S4x128x128 .f32) (ix3 3 k q)) (Fin.ext (by show 384 + l.val - 128 - 128 - 128 = l.val; omega))))))) rfl)
  · show _ = num _ _ _ 15
    refine num_step (n := 14) ?_ (dif_first (m ((c.tc : Thread nD τ).loc main_arg0)) b n ⟨384 + k.val, by omega⟩ _)
    refine num_step (n := 13) ?_ (dif_back (m ((c.tc : Thread nD τ).loc main_arg0)) b 1 n ⟨384 + k.val, by omega⟩ (by decide) _)
    refine num_step (n := 12) ?_ (dif_back (m ((c.tc : Thread nD τ).loc main_arg0)) b 2 n ⟨384 + k.val, by omega⟩ (by decide) _)
    refine num_step (n := 11) ?_ (dif_back (m ((c.tc : Thread nD τ).loc main_arg0)) b 3 n ⟨384 + k.val, by omega⟩ (by decide) _)
    refine num_step (n := 10) ?_ (dif_back (m ((c.tc : Thread nD τ).loc main_arg0)) b 4 n ⟨384 + k.val, by omega⟩ (by decide) _)
    refine num_step (n := 9) ?_ (dif_back (m ((c.tc : Thread nD τ).loc main_arg0)) b 5 n ⟨384 + k.val, by omega⟩ (by decide) _)
    refine num_step (n := 8) ?_ (dif_back (m ((c.tc : Thread nD τ).loc main_arg0)) b 6 n ⟨384 + k.val, by omega⟩ (by decide) _)
    refine num_step (n := 7) ?_ (dif_back (m ((c.tc : Thread nD τ).loc main_arg0)) b 7 n ⟨384 + k.val, by omega⟩ (by decide) _)
    refine num_step (n := 6) ?_ (dif_back (m ((c.tc : Thread nD τ).loc main_arg0)) b 8 n ⟨384 + k.val, by omega⟩ (by decide) _)
    refine num_step (n := 5) ?_ (dif_back (m ((c.tc : Thread nD τ).loc main_arg0)) b 9 n ⟨384 + k.val, by omega⟩ (by decide) _)
    refine num_step (n := 4) ?_ (dif_back (m ((c.tc : Thread nD τ).loc main_arg0)) b 10 n ⟨384 + k.val, by omega⟩ (by decide) _)
    refine num_step (n := 3) ?_ (dif_back (m ((c.tc : Thread nD τ).loc main_arg0)) b 11 n ⟨384 + k.val, by omega⟩ (by decide) _)
    refine num_step (n := 2) ?_ (dif_back (m ((c.tc : Thread nD τ).loc main_arg0)) b 12 n ⟨384 + k.val, by omega⟩ (by decide) _)
    refine num_step (n := 1) ?_ (dif_back (m ((c.tc : Thread nD τ).loc main_arg0)) b 13 n ⟨384 + k.val, by omega⟩ (by decide) _)
    refine num_step (n := 0) ?_ (dif_back (m ((c.tc : Thread nD τ).loc main_arg0)) b 14 n ⟨384 + k.val, by omega⟩ (by decide) _)
    exact cur_row (m ((c.tc : Thread nD τ).loc main_arg0)) b n ⟨384 + k.val, by omega⟩

/-- The reference's result, entry by entry. -/
theorem v112_apply (c : Dev nD) (b : Fin 2) (n : Fin 8192) (q : Fin 512) :
    res_main_v112 m c (ix3 b n q) = poolG (m ((c.tc : Thread nD τ).loc main_arg0)) (m ((c.tc : Thread nD τ).loc main_arg1)) (m ((c.tc : Thread nD τ).loc main_arg2)) b n q := by
  have hq := q.isLt
  rcases (by omega : q.val < 128 ∨ 128 ≤ q.val ∧ q.val < 256 ∨ 256 ≤ q.val ∧ q.val < 384 ∨ 384 ≤ q.val) with h | h | h | h
  · exact group_0 m c b n ⟨q.val, h⟩
  · have e : q = ⟨128 + (⟨q.val - 128, by omega⟩ : Fin 128).val, by show 128 + (q.val - 128) < 512; omega⟩ := Fin.ext (by show q.val = 128 + (q.val - 128); omega)
    rw [e]; exact group_1 m c b n ⟨q.val - 128, by omega⟩
  · have e : q = ⟨256 + (⟨q.val - 256, by omega⟩ : Fin 128).val, by show 256 + (q.val - 256) < 512; omega⟩ := Fin.ext (by show q.val = 256 + (q.val - 256); omega)
    rw [e]; exact group_2 m c b n ⟨q.val - 256, by omega⟩
  · have e : q = ⟨384 + (⟨q.val - 384, by omega⟩ : Fin 128).val, by show 384 + (q.val - 384) < 512; omega⟩ := Fin.ext (by show q.val = 384 + (q.val - 384); omega)
    rw [e]; exact group_3 m c b n ⟨q.val - 384, by omega⟩

end Cert.Proof.PoolRef

end
-- ==== Proof.Pool.lean ====
/- The call `pool_b` (program `Kernel7`): the claims of the call. -/
module

public import proofs.«01_k».proof.Defs
public import proofs.«01_k».proof.Proof.Gen.Kernel7.Frame
public import proofs.«01_k».proof.Proof.PoolValue
public import proofs.«01_k».proof.Proof.PoolRef
public import proofs.«01_k».proof.Proof.Gen.Reference7Ideal.Run
public import Idealize.ShloMosaic.Lib.Quiescent

@[expose] public section

set_option maxRecDepth 16384

noncomputable section

open Idealize.ShloMosaic Idealize.ShloMosaic.TcCoe Idealize.SL.Sem

namespace Cert.Proof.Pool

theorem frame_k : Cert.quiescent_Kernel7 := fun m ρ _ => Cert.Kernel7.Gen.frame m ρ
theorem frame_ki : Cert.quiescent_Kernel7Ideal := fun m ρ _ => Cert.Kernel7Ideal.Gen.frame m ρ
theorem frame_r : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem preserves : Cert.preserves_Kernel7_Kernel7Ideal := trivial

theorem algebraic : Cert.algebraic_Kernel7Ideal_Reference7Ideal := by
  intro m ρ m' ρ' _ hagree
  refine ⟨fun c => PoolValue.G3 m c, ?_, ?_⟩
  · exact (θ_run Cert.Kernel7Ideal.defs _ _).mono (fun _ h c => ⟨(h c).1.trans (PoolValue.final3 m c), (h c).2⟩)
      (Cert.Kernel7Ideal.Value.run_blocks (F := Ideal) m ρ)
  refine (θ_run Cert.Reference7Ideal.defs _ _).mono (fun _ h c => ⟨(h c).1.trans ?_, (h c).2⟩)
    (Cert.Reference7Ideal.Value.run (F := Ideal) m' ρ')
  obtain ⟨h0, h1, h2⟩ := hagree c
  funext i
  obtain ⟨b, n, q, rfl⟩ : ∃ b n q, i = ix3 b n q := ⟨i 0, i 1, i 2, eq_ix3 i⟩
  refine (PoolRef.v112_apply m' c b n q).trans ?_
  rw [h0, h1, h2]
  rfl

end Cert.Proof.Pool

end
-- ==== Proof.CmpTile.lean ====
/- The compression of keys and values (the call `compress`, program `Kernel8`): what the body leaves at a point, the second half of a
   block coming from the segment after, through a scratch whose rows below the last segment are zero. -/
module

public import proofs.«01_k».proof.Defs
public import proofs.«01_k».proof.Proof.Gen.Kernel8Ideal.Value
public import Idealize.ShloMosaic.Lib.Pipeline.Value
public import Idealize.ShloMosaic.Lib.Pipeline.ReadBack
public import Idealize.ShloMosaic.Lib.WritesUnit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.CmpTile

open Cert.Kernel8Ideal Cert.Kernel8Ideal.Gen

/-- The activation, by its approximation with a hyperbolic tangent. -/
def gelu (x : EReal) : EReal :=
  (Ideal.ofBits .f32 0x3F000000#32 * x) * (Ideal.ofBits .f32 0x3F800000#32
    + Ideal.tanh (Ideal.ofBits .f32 0x3F4C422A#32 * (x + Ideal.ofBits .f32 0x3D372713#32 * (x * x * x))))

theorem pay3_apply (x : Vec Ideal S1x512x4096 .f32) (p : Vec Ideal S1x4096 .f32) (w : Vec Ideal S4096x256 .bf16) (r : Fin 512) (q : Fin 256) :
    k0_pay3 x p w (ix2 r q) = ∑ k, (x (ix3 0 r k) + p (ix2 0 k)) * w (ix2 k q) := by
  unfold k0_pay3 k0_pay2
  pointwise

theorem pay4_apply (a : Fin 8) (q : Fin 256) : k0_pay4 (F := Ideal) (ix2 a q) = 0 := by
  unfold k0_pay4
  pointwise

theorem pay5_apply (x : Vec Ideal S1x512x4096 .f32) (p : Vec Ideal S1x4096 .f32) (w : Vec Ideal S4096x256 .bf16) (u : Vec Ideal S512x256 .f32) (r : Fin 512) (q : Fin 256) :
    k0_pay5 x p w u (ix2 r q) = (∑ k, (x (ix3 0 r k) + p (ix2 0 k)) * w (ix2 k q)) + u (ix2 r q) := by
  unfold k0_pay5 k0_pay2
  pointwise

theorem pay1_apply (x : Vec Ideal S1x512x4096 .f32) (p : Vec Ideal S1x4096 .f32) (w : Vec Ideal S4096x256 .bf16) (u : Vec Ideal S512x256 .f32) (v : Vec Ideal S256x256 .bf16) (r : Fin 512) (q : Fin 256) :
    k0_pay1 (k0_pay6 x p w u) (k0_pay7 x p w u) (Scalar.ofBits .f32 0x3F4C422A#32) v (ix3 0 r q) = ∑ k, gelu (k0_pay5 x p w u (ix2 r k)) * v (ix2 k q) := by
  unfold k0_pay1 k0_pay6 k0_pay7 gelu
  pointwise

/-- The second halves at a segment: those of the segment after, none after the last. -/
def later (x0 : Vec Ideal S1x512x4096 .f32) (x2 : Vec Ideal S1x4096 .f32) (x4 : Vec Ideal S4096x256 .bf16) (r : Fin 512) (q : Fin 256) : EReal :=
  if h : r.val < 511 then ∑ k, (x0 (ix3 0 ⟨r.val + 1, by omega⟩ k) + x2 (ix2 0 k)) * x4 (ix2 k q) else 0

/-- A point's result block. -/
def outB (x0 : Vec Ideal S1x512x4096 .f32) (x1 x2 : Vec Ideal S1x4096 .f32) (x3 x4 : Vec Ideal S4096x256 .bf16) (x5 : Vec Ideal S256x256 .bf16) :
    Vec Ideal S1x512x256 .f32 := fun y =>
  ∑ k : Fin 256, gelu ((∑ p, (x0 (ix3 0 (y 1) p) + x1 (ix2 0 p)) * x3 (ix2 p k)) + later x0 x2 x4 (y 1) k) * x5 (ix2 k (y 2))

theorem hz2 : (![0, 0] : Fin 2 → ℕ) = fun _ => 0 := funext fun a => by fin_cases a <;> rfl
theorem hz3 : (![0, 0, 0] : Fin 3 → ℕ) = fun _ => 0 := funext fun a => by fin_cases a <;> rfl

/-- A load of a whole block. -/
theorem rdz {sp : Space} {s : Shape} {e : EltTy} {a : Memref sig .tc sp s e} (ha : a.IsWhole) (X : Vec Ideal s e) {off : Fin s.rank → ℕ}
    (h : off = fun _ => 0) (i : ∀ a, off a + s.size a ≤ s.size a) :
    View.readAt (Elt Ideal) a.view (Rect.unit (s := s) off s.size i).toLoadRect (ha.unread X) = X := by
  rw [View.readAt_eq_ld, ha.read_unread, View.ld_unit_zero h]

/-- The scratch read back one row on. -/
theorem load_later {sp : Space} (v : View sig .tc sp S520x256 .f32) (x0 : Vec Ideal S1x512x4096 .f32) (x2 : Vec Ideal S1x4096 .f32) (x4 : Vec Ideal S4096x256 .bf16)
    (r : Fin 512) (q : Fin 256) :
    v.readCov (Val := Elt Ideal) [(⟨Rect.unit (s := S520x256) ![512, 0] S8x256.size inb_S520x256_S8x256_512_0, k0_pay4 (F := Ideal)⟩ : View.Piece (Elt Ideal) S520x256 .f32),
        ⟨Rect.unit (s := S520x256) ![0, 0] S512x256.size inb_S520x256_S512x256_0_0, k0_pay3 x0 x2 x4⟩]
      (Rect.unit (s := S520x256) ![1, 0] S512x256.size inb_S520x256_S512x256_1_0).toLoadRect (ix2 r q) = later x0 x2 x4 r q := by
  show View.readAt (Elt Ideal) v _ (v.writes (Elt Ideal) v.junk _) _ = _
  rw [View.readAt_eq_ld]
  have e : (Rect.unit (s := S520x256) ![1, 0] S512x256.size inb_S520x256_S512x256_1_0).toLoadRect.idx (ix2 r q) = (ix2 ⟨r.val + 1, by omega⟩ q : S520x256.Idx) := by
    funext a; apply Fin.ext
    match a with
    | ⟨0, _⟩ => show 1 + 1 * r.val = r.val + 1; omega
    | ⟨1, _⟩ => show 0 + 1 * q.val = q.val; omega
  show v.read (Elt Ideal) _ ((Rect.unit (s := S520x256) ![1, 0] S512x256.size inb_S520x256_S512x256_1_0).toLoadRect.idx (ix2 r q)) = _
  rw [e]
  unfold later
  by_cases h : r.val < 511
  · rw [dif_pos h]
    refine (View.read_writes_cons_rows_of_not_mem v v.junk inb_S520x256_S8x256_512_0 _ _ _ rfl (W := 8) rfl (Or.inl (show r.val + 1 < 512 by omega))).trans ?_
    refine (View.read_writes_cons_rows_of_mem v v.junk inb_S520x256_S512x256_0_0 _ _ _ (ix2 ⟨r.val + 1, by omega⟩ q : S512x256.Idx) rfl ?_ rfl).trans ?_
    · show r.val + 1 = 0 + (r.val + 1); omega
    · exact pay3_apply x0 x2 x4 ⟨r.val + 1, by omega⟩ q
  · rw [dif_neg h]
    refine (View.read_writes_cons_rows_of_mem v v.junk inb_S520x256_S8x256_512_0 _ _ _ (ix2 0 q : S8x256.Idx) rfl ?_ rfl).trans (pay4_apply 0 q)
    show r.val + 1 = 512 + 0; omega

variable (c : Dev nD) (i : grid0.Coords) (arg1 : Memref sig .tc .vmem S1x512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x256 .bf16) (harg6 : arg6.IsWhole) (arg7 : Memref sig .tc .vmem S1x512x256 .f32) (harg7 : arg7.IsWhole) (arg8 : Memref sig .tc .vmem S520x256 .f32) (harg8 : arg8.IsWhole)
variable (x0 : Vec Ideal S1x512x4096 .f32) (x1 x2 : Vec Ideal S1x4096 .f32) (x3 x4 : Vec Ideal S4096x256 .bf16) (x5 : Vec Ideal S256x256 .bf16)

/-- The stored block, from its loads. -/
theorem piece_ok {y0 : Vec Ideal S1x512x4096 .f32} {y1 : Vec Ideal S1x4096 .f32} {y3 : Vec Ideal S4096x256 .bf16} {y5 : Vec Ideal S256x256 .bf16} {u : Vec Ideal S512x256 .f32}
    (h0 : y0 = x0) (h1 : y1 = x1) (h3 : y3 = x3) (h5 : y5 = x5) (hu : ∀ (r : Fin 512) (q : Fin 256), u (ix2 r q) = later x0 x2 x4 r q) (z : S1x512x256.Idx) :
    k0_pay1 (k0_pay6 y0 y1 y3 u) (k0_pay7 y0 y1 y3 u) (Scalar.ofBits .f32 0x3F4C422A#32) y5 z
      = outB x0 x1 x2 x3 x4 x5 ((Rect.unit (s := S1x512x256) ![0, 0, 0] S1x512x256.size inb_S1x512x256_S1x512x256_0_0_0).emb z) := by
  subst h0 h1 h3 h5
  have e : (Rect.unit (s := S1x512x256) ![0, 0, 0] S1x512x256.size inb_S1x512x256_S1x512x256_0_0_0).emb z = z := by
    funext a; apply Fin.ext
    match a with
    | ⟨0, _⟩ => show 0 + 1 * (z 0).val = (z 0).val; omega
    | ⟨1, _⟩ => show 0 + 1 * (z 1).val = (z 1).val; omega
    | ⟨2, _⟩ => show 0 + 1 * (z 2).val = (z 2).val; omega
  rw [e]
  obtain ⟨r, q, rfl⟩ : ∃ (r : Fin 512) (q : Fin 256), z = ix3 0 r q := ⟨z 1, z 2, (eq_ix3 z).trans (by congr 1; exact Fin.fin_one_eq_zero _)⟩
  rw [pay1_apply]
  refine Finset.sum_congr rfl fun k _ => congrArg (fun t : EReal => gelu t * y5 (ix2 k q)) ?_
  rw [pay5_apply, hu]
  rfl

theorem out_A : out0_A_6 c i arg1 harg1 arg2 harg2 arg3 harg3 arg4 harg4 arg5 harg5 arg6 harg6 arg7 harg7 arg8 harg8 x0 x1 x2 x3 x4 x5 = outB x0 x1 x2 x3 x4 x5 := by
  have hcov := cover0_A_6 c i arg1 harg1 arg2 harg2 arg3 harg3 arg4 harg4 arg5 harg5 arg6 harg6 arg7 harg7 arg8 harg8 x0 x1 x2 x3 x4 x5
  unfold out0_A_6
  rw [View.read_writes_junk_eq_canon]
  funext y
  refine View.canon_apply_of_pieces (Val := Elt Ideal) (outB x0 x1 x2 x3 x4 x5) _ (View.PiecesOf.mem ?_) y (hcov y)
  unfold kernelRun0_A
  dsimp only
  refine ⟨?_, trivial⟩
  refine fun z => piece_ok x0 x1 x2 x3 x4 x5 (rdz harg1 x0 hz3 _) (rdz harg2 x1 hz2 _) (rdz harg4 x3 hz2 _) (rdz harg6 x5 hz2 _) ?_ z
  intro r q
  refine Eq.trans ?_ (load_later arg8.view x0 x2 x4 r q)
  unfold kernelRun0_A.sl.v25
  unfold kernelRun0_A.sl.HS0_2
  rw [rdz harg1 x0 hz3 _, rdz harg3 x2 hz2 _, rdz harg5 x4 hz2 _]

end Cert.Proof.CmpTile

end
-- ==== Proof.CmpSpec.lean ====
/- The compression of keys and values (the call `compress`, program `Kernel8`): the formula of its result, and the sums over spread weights. -/
module

public import proofs.«01_k».proof.Proof.CmpTile
public import Idealize.ShloMosaic.Lib.Pointwise

@[expose] public section

set_option maxRecDepth 16384

noncomputable section

open Idealize.ShloMosaic Idealize.ShloMosaic.TcCoe Idealize.SL.Sem

namespace Cert.Proof.CmpSpec

open Cert.Kernel8Ideal
open Cert.Proof.CmpTile (gelu)

/-- The position, in a segment's 4096 numbers, of number `s` of a kind and a group. -/
def at1 (k g : Fin 2) (s : Fin 1024) : Fin 4096 := ⟨s.val / 64 * 256 + k.val * 128 + g.val * 64 + s.val % 64, by omega⟩

/-- The column of a kind, a group and a hidden unit. -/
def at2 (k g : Fin 2) (s : Fin 64) : Fin 256 := ⟨k.val * 128 + g.val * 64 + s.val, by omega⟩

theorem spread_zero (y w : EReal) (a b : Prop) [Decidable a] [Decidable b] (h : ¬(a ∧ b)) :
    y * (w * (if a then (1 : EReal) else 0) * (if b then (1 : EReal) else 0)) = 0 := by
  by_cases ha : a
  · rw [if_neg (fun hb => h ⟨ha, hb⟩), mul_zero, mul_zero]
  · rw [if_neg ha, mul_zero, zero_mul, mul_zero]

/-- A sum over a segment against spread weights is the sum over one kind and group. -/
theorem sum_spread (k g : Fin 2) (y w : Fin 4096 → EReal) :
    (∑ p, y p * (w p * (if p.val / 128 % 2 = k.val then (1 : EReal) else 0) * (if p.val / 64 % 2 = g.val then (1 : EReal) else 0)))
      = ∑ s, y (at1 k g s) * w (at1 k g s) := by
  symm
  refine Finset.sum_of_injOn (at1 k g) ?_ (fun _ _ => Finset.mem_coe.mpr (Finset.mem_univ _)) ?_ ?_
  · intro a _ b _ h
    have h' : a.val / 64 * 256 + k.val * 128 + g.val * 64 + a.val % 64 = b.val / 64 * 256 + k.val * 128 + g.val * 64 + b.val % 64 := congrArg Fin.val h
    apply Fin.ext; omega
  · intro p _ hp
    refine spread_zero _ _ _ _ fun h => hp ⟨⟨p.val / 256 * 64 + p.val % 64, by omega⟩, Finset.mem_coe.mpr (Finset.mem_univ _), ?_⟩
    apply Fin.ext
    show (p.val / 256 * 64 + p.val % 64) / 64 * 256 + k.val * 128 + g.val * 64 + (p.val / 256 * 64 + p.val % 64) % 64 = p.val
    omega
  · intro s _
    have h1 : (at1 k g s).val / 128 % 2 = k.val := by
      show (s.val / 64 * 256 + k.val * 128 + g.val * 64 + s.val % 64) / 128 % 2 = k.val; omega
    have h2 : (at1 k g s).val / 64 % 2 = g.val := by
      show (s.val / 64 * 256 + k.val * 128 + g.val * 64 + s.val % 64) / 64 % 2 = g.val; omega
    rw [if_pos h1, if_pos h2, mul_one, mul_one]

theorem sum_spread2 (k g : Fin 2) (y w : Fin 256 → EReal) :
    (∑ p, y p * (w p * (if p.val / 128 = k.val then (1 : EReal) else 0) * (if p.val / 64 % 2 = g.val then (1 : EReal) else 0)))
      = ∑ s, y (at2 k g s) * w (at2 k g s) := by
  symm
  refine Finset.sum_of_injOn (at2 k g) ?_ (fun _ _ => Finset.mem_coe.mpr (Finset.mem_univ _)) ?_ ?_
  · intro a _ b _ h
    have h' : k.val * 128 + g.val * 64 + a.val = k.val * 128 + g.val * 64 + b.val := congrArg Fin.val h
    apply Fin.ext; omega
  · intro p _ hp
    refine spread_zero _ _ _ _ fun h => hp ⟨⟨p.val % 64, by omega⟩, Finset.mem_coe.mpr (Finset.mem_univ _), ?_⟩
    apply Fin.ext
    show k.val * 128 + g.val * 64 + p.val % 64 = p.val
    omega
  · intro s _
    have h1 : (at2 k g s).val / 128 = k.val := by
      show (k.val * 128 + g.val * 64 + s.val) / 128 = k.val; omega
    have h2 : (at2 k g s).val / 64 % 2 = g.val := by
      show (k.val * 128 + g.val * 64 + s.val) / 64 % 2 = g.val; omega
    rw [if_pos h1, if_pos h2, mul_one, mul_one]

variable (x : FVec Ideal S2x8192x256 .f32) (pe : FVec Ideal S2x32x64 .f32) (w : FVec Ideal S2x2048x64 .f32) (v : FVec Ideal S2x64x64 .f32)

/-- What the first (`o = 0`) or second half of a block, lying in segment `n`, adds to a hidden unit. -/
def half (o : Fin 2) (b : Fin 2) (n : Fin 512) (l g : Fin 2) (e : Fin 64) : EReal :=
  ∑ s : Fin 1024, (x (ix3 b ⟨n.val * 16 + s.val / 64, by omega⟩ ⟨l.val * 128 + g.val * 64 + s.val % 64, by omega⟩)
      + pe (ix3 l ⟨o.val * 16 + s.val / 64, by omega⟩ ⟨s.val % 64, by omega⟩)) * w (ix3 l ⟨o.val * 1024 + s.val, by omega⟩ e)

/-- The hidden unit of the block starting at segment `n`. -/
def hid1 (b : Fin 2) (n : Fin 512) (l g : Fin 2) (e : Fin 64) : EReal :=
  half x pe w 0 b n l g e + (if h : n.val < 511 then half x pe w 1 b ⟨n.val + 1, by omega⟩ l g e else 0)

/-- The compressed entry of a kind and a group. -/
def entry (b : Fin 2) (n : Fin 512) (l g : Fin 2) (e : Fin 64) : EReal :=
  ∑ k : Fin 64, gelu (hid1 x pe w b n l g k) * v (ix3 l k e)

/-- The compressed entry at a column. -/
def cmpG (b : Fin 2) (n : Fin 512) (q : Fin 256) : EReal :=
  entry x pe w v b n ⟨q.val / 128, by omega⟩ ⟨q.val / 64 % 2, by omega⟩ ⟨q.val % 64, by omega⟩

end Cert.Proof.CmpSpec

end
-- ==== Proof.CmpHost.lean ====
/- The compression of keys and values (the call `compress`, program `Kernel8`): the arrays that the host code prepares, entry by
   entry. A lane of a segment's 4096 is a token (of 16), a kind (key or value), a group and a column of a head. -/
module

public import proofs.«01_k».proof.Defs
public import proofs.«01_k».proof.Proof.Gen.Kernel8Ideal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.Proof.CmpHost

open Cert.Kernel8Ideal Cert.Kernel8Ideal.Gen

/-- The identity matrix of size 2, as the host builds it. -/
def eye : FVec Ideal S2x2 .f32 :=
  uitofp .f32 (cmpi .eq (addi (iotaInDim S2x2 32 0) (broadcastInDim S2x2 ![] bcast_S_S2x2 (constantI S_ 32 0#32))) (iotaInDim S2x2 32 1))

theorem eye_apply (a b : Fin 2) : eye (ix2 a b) = if a = b then (1 : EReal) else 0 := by
  unfold eye
  pointwise
  fin_cases a <;> fin_cases b <;> (show ((_ : ℝ) : EReal) = _) <;> norm_num [IntOp.cmpi, IntOp.addi] <;> rfl

/-- Half of the first weights, spread over the kinds and groups: zero where the kind or the group differs. -/
def wide (w : FVec Ideal S2x16x64x64 .f32) : FVec Ideal S4096x256 .f32 :=
  shapeCast S4096x256 (mulf (broadcastInDim S16x2x2x64x2x2x64 ![0, 1, 2, 3, 4, 5, 6] bcast_S16x2x1x64x2x1x64_S16x2x2x64x2x2x64_0_1_2_3_4_5_6
    (mulf (broadcastInDim S16x2x1x64x2x1x64 ![0, 1, 2, 3, 4, 5, 6] bcast_S16x2x1x64x1x1x64_S16x2x1x64x2x1x64_0_1_2_3_4_5_6
      (broadcastInDim S16x2x1x64x1x1x64 ![0, 1, 3, 6] bcast_S16x2x64x64_S16x2x1x64x1x1x64_0_1_3_6 (transpose S16x2x64x64 [1, 0, 2, 3] w transposes_S2x16x64x64_S16x2x64x64_1_0_2_3)))
      (broadcastInDim S16x2x1x64x2x1x64 ![0, 1, 2, 3, 4, 5, 6] bcast_S1x2x1x1x2x1x1_S16x2x1x64x2x1x64_0_1_2_3_4_5_6 (broadcastInDim S1x2x1x1x2x1x1 ![1, 4] bcast_S2x2_S1x2x1x1x2x1x1_1_4 eye))))
    (broadcastInDim S16x2x2x64x2x2x64 ![0, 1, 2, 3, 4, 5, 6] bcast_S1x1x2x1x1x2x1_S16x2x2x64x2x2x64_0_1_2_3_4_5_6 (broadcastInDim S1x1x2x1x1x2x1 ![2, 5] bcast_S2x2_S1x1x2x1x1x2x1_2_5 eye)))
    shapeCasts_S16x2x2x64x2x2x64_S4096x256

theorem wide_apply (w : FVec Ideal S2x16x64x64 .f32) (p : Fin 4096) (q : Fin 256) :
    wide w (ix2 p q) = w (ix4 ⟨p.val / 128 % 2, by omega⟩ ⟨p.val / 256, by omega⟩ ⟨p.val % 64, by omega⟩ ⟨q.val % 64, by omega⟩)
      * (if p.val / 128 % 2 = q.val / 128 then (1 : EReal) else 0) * (if p.val / 64 % 2 = q.val / 64 % 2 then (1 : EReal) else 0) := by
  unfold wide
  pointwise
  simp only [eye_apply, Fin.mk.injEq]

/-- The second weights, spread likewise. -/
def wide2 (w : FVec Ideal S2x64x64 .f32) : FVec Ideal S256x256 .f32 :=
  shapeCast S256x256 (mulf (broadcastInDim S2x2x64x2x2x64 ![0, 1, 2, 3, 4, 5] bcast_S2x1x64x2x1x64_S2x2x64x2x2x64_0_1_2_3_4_5
    (mulf (broadcastInDim S2x1x64x2x1x64 ![0, 1, 2, 3, 4, 5] bcast_S2x1x64x1x1x64_S2x1x64x2x1x64_0_1_2_3_4_5 (broadcastInDim S2x1x64x1x1x64 ![0, 2, 5] bcast_S2x64x64_S2x1x64x1x1x64_0_2_5 w))
      (broadcastInDim S2x1x64x2x1x64 ![0, 1, 2, 3, 4, 5] bcast_S2x1x1x2x1x1_S2x1x64x2x1x64_0_1_2_3_4_5 (broadcastInDim S2x1x1x2x1x1 ![0, 3] bcast_S2x2_S2x1x1x2x1x1_0_3 eye))))
    (broadcastInDim S2x2x64x2x2x64 ![0, 1, 2, 3, 4, 5] bcast_S1x2x1x1x2x1_S2x2x64x2x2x64_0_1_2_3_4_5 (broadcastInDim S1x2x1x1x2x1 ![1, 4] bcast_S2x2_S1x2x1x1x2x1_1_4 eye)))
    shapeCasts_S2x2x64x2x2x64_S256x256

theorem wide2_apply (w : FVec Ideal S2x64x64 .f32) (p : Fin 256) (q : Fin 256) :
    wide2 w (ix2 p q) = w (ix3 ⟨p.val / 128, by omega⟩ ⟨p.val % 64, by omega⟩ ⟨q.val % 64, by omega⟩)
      * (if p.val / 128 = q.val / 128 then (1 : EReal) else 0) * (if p.val / 64 % 2 = q.val / 64 % 2 then (1 : EReal) else 0) := by
  unfold wide2
  pointwise
  simp only [eye_apply, Fin.mk.injEq]

/-- Half of the positional rows, laid out like a segment. -/
def peRow (p : FVec Ideal S2x16x64 .f32) : FVec Ideal S1x4096 .f32 :=
  shapeCast S1x4096 (broadcastInDim S16x2x2x64 ![0, 1, 2, 3] bcast_S16x2x1x64_S16x2x2x64_0_1_2_3 (broadcastInDim S16x2x1x64 ![0, 1, 3] bcast_S16x2x64_S16x2x1x64_0_1_3
    (transpose S16x2x64 [1, 0, 2] p transposes_S2x16x64_S16x2x64_1_0_2))) shapeCasts_S16x2x2x64_S1x4096

theorem peRow_apply (x : FVec Ideal S2x16x64 .f32) (p : Fin 4096) :
    peRow x (ix2 0 p) = x (ix3 ⟨p.val / 128 % 2, by omega⟩ ⟨p.val / 256, by omega⟩ ⟨p.val % 64, by omega⟩) := by
  unfold peRow
  pointwise

variable (m : (ℓ : Loc nD τ sig) → Buf (Elt Ideal) ℓ) (c : Dev nD)

abbrev xm : FVec Ideal S2x8192x256 .f32 := m ((c : Thread nD τ).loc main_arg0)
abbrev pm : FVec Ideal S2x32x64 .f32 := m ((c : Thread nD τ).loc main_arg1)
abbrev wm : FVec Ideal S2x2048x64 .f32 := m ((c : Thread nD τ).loc main_arg2)
abbrev vm : FVec Ideal S2x64x64 .f32 := m ((c : Thread nD τ).loc main_arg3)

theorem V_v19 : V m c main_v19 = wide (extractStridedSlice S2x16x64x64 ![0, 0, 0, 0] (shapeCast S2x32x64x64 (wm m c) shapeCasts_S2x2048x64_S2x32x64x64) slices_S2x32x64x64_S2x16x64x64_0_0_0_0) := by
  unfold_abbrev_sides
  after_results
  rfl
theorem V_v32 : V m c main_v32 = wide (extractStridedSlice S2x16x64x64 ![0, 16, 0, 0] (shapeCast S2x32x64x64 (wm m c) shapeCasts_S2x2048x64_S2x32x64x64) slices_S2x32x64x64_S2x16x64x64_0_16_0_0) := by
  unfold_abbrev_sides
  after_results
  rfl
theorem V_v43 : V m c main_v43 = wide2 (vm m c) := by
  unfold_abbrev_sides
  after_results
  rfl
theorem V_v48 : V m c main_v48 = peRow (extractStridedSlice S2x16x64 ![0, 0, 0] (pm m c) slices_S2x32x64_S2x16x64_0_0_0) := by
  unfold_abbrev_sides
  after_results
  rfl
theorem V_v53 : V m c main_v53 = peRow (extractStridedSlice S2x16x64 ![0, 16, 0] (pm m c) slices_S2x32x64_S2x16x64_0_16_0) := by
  unfold_abbrev_sides
  after_results
  rfl
theorem V_v54 : V m c main_v54 = shapeCast S2x512x4096 (xm m c) shapeCasts_S2x8192x256_S2x512x4096 := by
  unfold_abbrev_sides
  after_results
  rfl

end Cert.Proof.CmpHost

end
-- ==== Proof.CmpValue.lean ====
/- The compression of keys and values (the call `compress`, program `Kernel8`): the array after the tiled kernel is the formula, entry by entry. -/
module

public import proofs.«01_k».proof.Proof.CmpSpec
public import proofs.«01_k».proof.Proof.CmpHost

@[expose] public section

set_option maxRecDepth 16384

noncomputable section

open Idealize.ShloMosaic Idealize.ShloMosaic.TcCoe Idealize.SL.Sem
open Idealize.ShloMosaic.Pipeline (Dat)

namespace Cert.Proof.CmpValue

open Cert.Kernel8Ideal Cert.Kernel8Ideal.Gen Cert.Proof.CmpHost Cert.Proof.CmpSpec
open Cert.Proof.CmpTile (gelu later outB out_A)

variable (m : (ℓ : Loc nD τ sig) → Buf (Elt Ideal) ℓ) (c : Dev nD)

/-- The batch element of a grid point. -/
def bat (t : Fin cfg0.N) : Fin 2 := ⟨t.val, by have := t.isLt; have h : cfg0.N = 2 := N_0; omega⟩

theorem blk0 (t : Fin cfg0.N) (r : Fin 512) (k : Fin 4096) : iblk m c 0 t (ix3 0 r k) = V m c main_v54 (ix3 (bat t) r k) := by
  have hi : ∀ t : Fin cfg0.N, win0_0.index t 0 = t.val ∧ win0_0.index t 1 = 0 ∧ win0_0.index t 2 = 0 :=
    (by decide +kernel : ∀ t : Fin grid0.N, win0_0.index t 0 = t.val ∧ win0_0.index t 1 = 0 ∧ win0_0.index t 2 = 0)
  unfold iblk
  rw [View.read_apply]
  show V m c main_v54 _ = _
  congr 1
  funext a
  apply Fin.ext
  match a with
  | ⟨0, _⟩ => show win0_0.index t 0 * 1 + 1 * 0 = t.val; rw [(hi t).1]; omega
  | ⟨1, _⟩ => show win0_0.index t 1 * 512 + 1 * r.val = r.val; rw [(hi t).2.1]; omega
  | ⟨2, _⟩ => show win0_0.index t 2 * 4096 + 1 * k.val = k.val; rw [(hi t).2.2]; omega

theorem blk1 (t : Fin cfg0.N) (k : Fin 4096) : iblk m c 1 t (ix2 0 k) = V m c main_v48 (ix2 0 k) := by
  have hi : ∀ t : Fin cfg0.N, win0_1.index t 0 = 0 ∧ win0_1.index t 1 = 0 :=
    (by decide +kernel : ∀ t : Fin grid0.N, win0_1.index t 0 = 0 ∧ win0_1.index t 1 = 0)
  unfold iblk
  rw [View.read_apply]
  show V m c main_v48 _ = _
  congr 1
  funext a
  apply Fin.ext
  match a with
  | ⟨0, _⟩ => show win0_1.index t 0 * 1 + 1 * 0 = 0; rw [(hi t).1]
  | ⟨1, _⟩ => show win0_1.index t 1 * 4096 + 1 * k.val = k.val; rw [(hi t).2]; omega

theorem blk2 (t : Fin cfg0.N) (k : Fin 4096) : iblk m c 2 t (ix2 0 k) = V m c main_v53 (ix2 0 k) := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply]
  show V m c main_v53 _ = _
  congr 1
  funext a
  apply Fin.ext
  match a with
  | ⟨0, _⟩ => show win0_2.index t 0 * 1 + 1 * 0 = 0; rw [(hi t).1]
  | ⟨1, _⟩ => show win0_2.index t 1 * 4096 + 1 * k.val = k.val; rw [(hi t).2]; omega

theorem blk3 (t : Fin cfg0.N) (k : Fin 4096) (q : Fin 256) : iblk m c 3 t (ix2 k q) = V m c main_v19 (ix2 k q) := by
  have hi : ∀ t : Fin cfg0.N, win0_3.index t 0 = 0 ∧ win0_3.index t 1 = 0 :=
    (by decide +kernel : ∀ t : Fin grid0.N, win0_3.index t 0 = 0 ∧ win0_3.index t 1 = 0)
  unfold iblk
  rw [View.read_apply]
  show V m c main_v19 _ = _
  congr 1
  funext a
  apply Fin.ext
  match a with
  | ⟨0, _⟩ => show win0_3.index t 0 * 4096 + 1 * k.val = k.val; rw [(hi t).1]; omega
  | ⟨1, _⟩ => show win0_3.index t 1 * 256 + 1 * q.val = q.val; rw [(hi t).2]; omega

theorem blk4 (t : Fin cfg0.N) (k : Fin 4096) (q : Fin 256) : iblk m c 4 t (ix2 k q) = V m c main_v32 (ix2 k q) := by
  have hi : ∀ t : Fin cfg0.N, win0_4.index t 0 = 0 ∧ win0_4.index t 1 = 0 :=
    (by decide +kernel : ∀ t : Fin grid0.N, win0_4.index t 0 = 0 ∧ win0_4.index t 1 = 0)
  unfold iblk
  rw [View.read_apply]
  show V m c main_v32 _ = _
  congr 1
  funext a
  apply Fin.ext
  match a with
  | ⟨0, _⟩ => show win0_4.index t 0 * 4096 + 1 * k.val = k.val; rw [(hi t).1]; omega
  | ⟨1, _⟩ => show win0_4.index t 1 * 256 + 1 * q.val = q.val; rw [(hi t).2]; omega

theorem blk5 (t : Fin cfg0.N) (k q : Fin 256) : iblk m c 5 t (ix2 k q) = V m c main_v43 (ix2 k q) := by
  have hi : ∀ t : Fin cfg0.N, win0_5.index t 0 = 0 ∧ win0_5.index t 1 = 0 :=
    (by decide +kernel : ∀ t : Fin grid0.N, win0_5.index t 0 = 0 ∧ win0_5.index t 1 = 0)
  unfold iblk
  rw [View.read_apply]
  show V m c main_v43 _ = _
  congr 1
  funext a
  apply Fin.ext
  match a with
  | ⟨0, _⟩ => show win0_5.index t 0 * 256 + 1 * k.val = k.val; rw [(hi t).1]; omega
  | ⟨1, _⟩ => show win0_5.index t 1 * 256 + 1 * q.val = q.val; rw [(hi t).2]; omega

/-- The reshaped and sliced arguments. -/
theorem seg_apply (x : FVec Ideal S2x8192x256 .f32) (b : Fin 2) (n : Fin 512) (p : Fin 4096) :
    shapeCast S2x512x4096 x shapeCasts_S2x8192x256_S2x512x4096 (ix3 b n p) = x (ix3 b ⟨n.val * 16 + p.val / 256, by omega⟩ ⟨p.val % 256, by omega⟩) := by
  pointwise
theorem cut_pe (o : ℕ) (ho : o + 16 ≤ 32) (h : S2x32x64.Slices ![0, o, 0] S2x16x64) (pe : FVec Ideal S2x32x64 .f32) (a : Fin 2) (j : Fin 16) (d : Fin 64) :
    extractStridedSlice S2x16x64 ![0, o, 0] pe h (ix3 a j d) = pe (ix3 a ⟨o + j.val, by omega⟩ d) := by
  pointwise
theorem cut_w (o : ℕ) (ho : o + 16 ≤ 32) (h : S2x32x64x64.Slices ![0, o, 0, 0] S2x16x64x64) (w : FVec Ideal S2x2048x64 .f32) (a : Fin 2) (j : Fin 16) (d e : Fin 64) :
    extractStridedSlice S2x16x64x64 ![0, o, 0, 0] (shapeCast S2x32x64x64 w shapeCasts_S2x2048x64_S2x32x64x64) h (ix4 a j d e) = w (ix3 a ⟨(o + j.val) * 64 + d.val, by omega⟩ e) := by
  pointwise

/-- A half of a block, against the spread weights. -/
theorem half_eq (x : FVec Ideal S2x8192x256 .f32) (pe : FVec Ideal S2x32x64 .f32) (w : FVec Ideal S2x2048x64 .f32)
    (o : Fin 2) (ho : S2x32x64.Slices ![0, o.val * 16, 0] S2x16x64) (hw : S2x32x64x64.Slices ![0, o.val * 16, 0, 0] S2x16x64x64)
    (b : Fin 2) (n : Fin 512) (l g : Fin 2) (e : Fin 64) :
    (∑ p, (shapeCast S2x512x4096 x shapeCasts_S2x8192x256_S2x512x4096 (ix3 b n p) + peRow (extractStridedSlice S2x16x64 ![0, o.val * 16, 0] pe ho) (ix2 0 p))
        * wide (extractStridedSlice S2x16x64x64 ![0, o.val * 16, 0, 0] (shapeCast S2x32x64x64 w shapeCasts_S2x2048x64_S2x32x64x64) hw) (ix2 p (at2 l g e)))
      = half x pe w o b n l g e := by
  have e1 : (at2 l g e).val / 128 = l.val := by show (l.val * 128 + g.val * 64 + e.val) / 128 = l.val; omega
  have e2 : (at2 l g e).val / 64 % 2 = g.val := by show (l.val * 128 + g.val * 64 + e.val) / 64 % 2 = g.val; omega
  have e3 : (⟨(at2 l g e).val % 64, by omega⟩ : Fin 64) = e := by
    apply Fin.ext; show (l.val * 128 + g.val * 64 + e.val) % 64 = e.val; omega
  refine (Finset.sum_congr rfl fun p _ => ?_).trans ((sum_spread l g
    (fun p => x (ix3 b ⟨n.val * 16 + p.val / 256, by omega⟩ ⟨p.val % 256, by omega⟩) + pe (ix3 ⟨p.val / 128 % 2, by omega⟩ ⟨o.val * 16 + p.val / 256, by omega⟩ ⟨p.val % 64, by omega⟩))
    (fun p => w (ix3 ⟨p.val / 128 % 2, by omega⟩ ⟨(o.val * 16 + p.val / 256) * 64 + p.val % 64, by omega⟩ e))).trans ?_)
  · rw [seg_apply, peRow_apply, cut_pe _ (by omega), wide_apply, cut_w _ (by omega), e1, e2, e3]
  · unfold half
    refine Finset.sum_congr rfl fun s _ => congrArg₂ (fun p q : EReal => p * q) (congrArg₂ (fun p q : EReal => p + q) (congrArg x ?_) (congrArg pe ?_)) (congrArg w ?_)
    · congr 1 <;> apply Fin.ext
      · show n.val * 16 + (s.val / 64 * 256 + l.val * 128 + g.val * 64 + s.val % 64) / 256 = n.val * 16 + s.val / 64; omega
      · show (s.val / 64 * 256 + l.val * 128 + g.val * 64 + s.val % 64) % 256 = l.val * 128 + g.val * 64 + s.val % 64; omega
    · congr 1 <;> apply Fin.ext
      · show (s.val / 64 * 256 + l.val * 128 + g.val * 64 + s.val % 64) / 128 % 2 = l.val; omega
      · show o.val * 16 + (s.val / 64 * 256 + l.val * 128 + g.val * 64 + s.val % 64) / 256 = o.val * 16 + s.val / 64; omega
      · show (s.val / 64 * 256 + l.val * 128 + g.val * 64 + s.val % 64) % 64 = s.val % 64; omega
    · congr 1 <;> apply Fin.ext
      · show (s.val / 64 * 256 + l.val * 128 + g.val * 64 + s.val % 64) / 128 % 2 = l.val; omega
      · show (o.val * 16 + (s.val / 64 * 256 + l.val * 128 + g.val * 64 + s.val % 64) / 256) * 64 + (s.val / 64 * 256 + l.val * 128 + g.val * 64 + s.val % 64) % 64 = o.val * 1024 + s.val; omega

section
variable (x : FVec Ideal S2x8192x256 .f32) (pe : FVec Ideal S2x32x64 .f32) (w : FVec Ideal S2x2048x64 .f32) (v : FVec Ideal S2x64x64 .f32)
variable {x0 : Vec Ideal S1x512x4096 .f32} {x1 : Vec Ideal S1x4096 .f32} {x3 : Vec Ideal S4096x256 .bf16} {x2 : Vec Ideal S1x4096 .f32} {x4 : Vec Ideal S4096x256 .bf16} {x5 : Vec Ideal S256x256 .bf16}

/-- A half of a block, from the loaded blocks. -/
theorem half_of (o : Fin 2) (ho : S2x32x64.Slices ![0, o.val * 16, 0] S2x16x64) (hw : S2x32x64x64.Slices ![0, o.val * 16, 0, 0] S2x16x64x64) (b : Fin 2)
    (h0 : ∀ r k, x0 (ix3 0 r k) = shapeCast S2x512x4096 x shapeCasts_S2x8192x256_S2x512x4096 (ix3 b r k))
    (h1 : ∀ k, x1 (ix2 0 k) = peRow (extractStridedSlice S2x16x64 ![0, o.val * 16, 0] pe ho) (ix2 0 k))
    (h3 : ∀ k q, x3 (ix2 k q) = wide (extractStridedSlice S2x16x64x64 ![0, o.val * 16, 0, 0] (shapeCast S2x32x64x64 w shapeCasts_S2x2048x64_S2x32x64x64) hw) (ix2 k q))
    (r : Fin 512) (l g : Fin 2) (e : Fin 64) :
    (∑ p, (x0 (ix3 0 r p) + x1 (ix2 0 p)) * x3 (ix2 p (at2 l g e))) = half x pe w o b r l g e :=
  (Finset.sum_congr rfl fun p _ => congrArg₂ (fun p q : EReal => p * q) (congrArg₂ (fun p q : EReal => p + q) (h0 r p) (h1 p)) (h3 p _)).trans (half_eq x pe w o ho hw b r l g e)

/-- A point's entry, from its halves. -/
theorem entry_of (b : Fin 2)
    (ha : ∀ (r : Fin 512) (l g : Fin 2) (e : Fin 64), (∑ p, (x0 (ix3 0 r p) + x1 (ix2 0 p)) * x3 (ix2 p (at2 l g e))) = half x pe w 0 b r l g e)
    (hb : ∀ (r : Fin 512) (l g : Fin 2) (e : Fin 64), (∑ p, (x0 (ix3 0 r p) + x2 (ix2 0 p)) * x4 (ix2 p (at2 l g e))) = half x pe w 1 b r l g e)
    (h5 : ∀ k q, x5 (ix2 k q) = wide2 v (ix2 k q)) (r : Fin 512) (q : Fin 256) :
    outB x0 x1 x2 x3 x4 x5 (ix3 0 r q) = cmpG x pe w v b r q := by
  unfold cmpG entry
  refine (Finset.sum_congr rfl fun k _ => ?_).trans ((sum_spread2 ⟨q.val / 128, by omega⟩ ⟨q.val / 64 % 2, by omega⟩
    (fun k => gelu ((∑ p, (x0 (ix3 0 r p) + x1 (ix2 0 p)) * x3 (ix2 p k)) + later x0 x2 x4 r k))
    (fun k => v (ix3 ⟨k.val / 128, by omega⟩ ⟨k.val % 64, by omega⟩ ⟨q.val % 64, by omega⟩))).trans ?_)
  · refine congrArg₂ (fun a b : EReal => a * b) rfl ((h5 k q).trans (wide2_apply v k q))
  · refine Finset.sum_congr rfl fun e _ => congrArg₂ (fun a b : EReal => gelu a * b) ?_ (congrArg v ?_)
    · refine congrArg₂ (fun a b : EReal => a + b) (ha r _ _ e) ?_
      unfold later
      by_cases h : r.val < 511
      · rw [dif_pos h, dif_pos h]
        exact hb _ _ _ e
      · rw [dif_neg h, dif_neg h]
    · congr 1 <;> apply Fin.ext
      · show (q.val / 128 * 128 + q.val / 64 % 2 * 64 + e.val) / 128 = q.val / 128; omega
      · show (q.val / 128 * 128 + q.val / 64 % 2 * 64 + e.val) % 64 = e.val; omega

end

/-- The result, entry by entry, as a function of the argument arrays. -/
def G (c : Dev nD) : S2x512x256.Idx → EReal := fun i => cmpG (xm m c) (pm m c) (wm m c) (vm m c) (i 0) (i 1) (i 2)

theorem entry_eq (t : Fin cfg0.N) (r : Fin 512) (q : Fin 256) :
    outB (iblk m c 0 t) (iblk m c 1 t) (iblk m c 2 t) (iblk m c 3 t) (iblk m c 4 t) (iblk m c 5 t) (ix3 0 r q) = cmpG (xm m c) (pm m c) (wm m c) (vm m c) (bat t) r q := by
  have h0 : ∀ (r : Fin 512) (k : Fin 4096), (iblk m c 0 t : Vec Ideal S1x512x4096 .f32) (ix3 0 r k) = shapeCast S2x512x4096 (xm m c) shapeCasts_S2x8192x256_S2x512x4096 (ix3 (bat t) r k) :=
    fun r k => (blk0 m c t r k).trans (congrFun (V_v54 m c) _)
  exact entry_of (xm m c) (pm m c) (wm m c) (vm m c) (bat t)
    (half_of (xm m c) (pm m c) (wm m c) 0 slices_S2x32x64_S2x16x64_0_0_0 slices_S2x32x64x64_S2x16x64x64_0_0_0_0 (bat t) h0
      (fun k => (blk1 m c t k).trans (congrFun (V_v48 m c) _)) (fun k q => (blk3 m c t k q).trans (congrFun (V_v19 m c) _)))
    (half_of (xm m c) (pm m c) (wm m c) 1 slices_S2x32x64_S2x16x64_0_16_0 slices_S2x32x64x64_S2x16x64x64_0_16_0_0 (bat t) h0
      (fun k => (blk2 m c t k).trans (congrFun (V_v53 m c) _)) (fun k q => (blk4 m c t k q).trans (congrFun (V_v32 m c) _)))
    (fun k q => (blk5 m c t k q).trans (congrFun (V_v43 m c) _)) r q

theorem emb6 (t : Fin cfg0.N) (r : Fin 512) (q : Fin 256) : (win0_6.blk t).view.emb (ix3 0 r q) = (ix3 (bat t) r q : S2x512x256.Idx) := by
  have hi : ∀ t : Fin cfg0.N, win0_6.index t 0 = t.val ∧ win0_6.index t 1 = 0 ∧ win0_6.index t 2 = 0 :=
    (by decide +kernel : ∀ t : Fin grid0.N, win0_6.index t 0 = t.val ∧ win0_6.index t 1 = 0 ∧ win0_6.index t 2 = 0)
  funext a
  apply Fin.ext
  match a with
  | ⟨0, _⟩ => show win0_6.index t 0 * 1 + 1 * 0 = t.val; rw [(hi t).1]; omega
  | ⟨1, _⟩ => show win0_6.index t 1 * 512 + 1 * r.val = r.val; rw [(hi t).2.1]; omega
  | ⟨2, _⟩ => show win0_6.index t 2 * 256 + 1 * q.val = q.val; rw [(hi t).2.2]; omega

theorem block_eq (t : Fin cfg0.N) :
    outB (iblk m c 0 t) (iblk m c 1 t) (iblk m c 2 t) (iblk m c 3 t) (iblk m c 4 t) (iblk m c 5 t) = (win0_6.blk t).view.read (Elt Ideal) (G m c) := by
  funext y
  obtain ⟨r, q, rfl⟩ : ∃ (r : Fin 512) (q : Fin 256), y = ix3 0 r q := by
    refine ⟨y 1, y 2, ?_⟩
    have h1 : y 0 = (0 : Fin 1) := Fin.ext (by have h : (y 0).val < 1 := (y 0).isLt; show (y 0).val = 0; omega)
    rw [← h1]; exact eq_ix3 y
  rw [View.read_apply, emb6]
  exact entry_eq m c t r q

theorem flushed6_eq (t : Fin cfg0.N) : (dats m 0 c).flushed 6 t = (win0_6.blk t).view.read (Elt Ideal) (G m c) := by
  rw [Value.flushed6_A]
  refine (congrArg ((cfg0.win 6).cut (grid0.coords t)) (out_A _ _ _ _ _ _ _ _ _ _ _ _ _ _ _ _ _ _ _ _ _ _ _ _)).trans ?_
  refine Eq.trans ?_ (block_eq m c t)
  rfl

theorem mem_blk6 (t : Fin cfg0.N) (i : S2x512x256.Idx) : i ∈ ((cfg0.win 6).blk t).view.set ↔ (i 0 : Nat) = t.val := by
  have e : ∀ t : Fin cfg0.N, win0_6.index t 0 = t.val ∧ win0_6.index t 1 = 0 ∧ win0_6.index t 2 = 0 :=
    (by decide +kernel : ∀ t : Fin grid0.N, win0_6.index t 0 = t.val ∧ win0_6.index t 1 = 0 ∧ win0_6.index t 2 = 0)
  show i ∈ ((View.whole main_v55).slice (win0_6.rect t)).set ↔ _
  rw [View.set_slice_whole, Rect.mem_set_unit]
  have h1 : (i 1 : Nat) < 512 := (i 1).isLt
  have h2 : (i 2 : Nat) < 256 := (i 2).isLt
  refine ⟨fun h => ?_, fun h a => ?_⟩
  · have a0 : win0_6.index t 0 * 1 ≤ (i 0 : Nat) ∧ (i 0 : Nat) < win0_6.index t 0 * 1 + 1 := h 0
    rw [(e t).1] at a0
    omega
  · match a with
    | ⟨0, _⟩ => show win0_6.index t 0 * 1 ≤ (i 0 : Nat) ∧ (i 0 : Nat) < win0_6.index t 0 * 1 + 1
                rw [(e t).1]; omega
    | ⟨1, _⟩ => show win0_6.index t 1 * 512 ≤ (i 1 : Nat) ∧ (i 1 : Nat) < win0_6.index t 1 * 512 + 512
                rw [(e t).2.1, Nat.zero_mul, Nat.zero_add]; exact ⟨Nat.zero_le _, h1⟩
    | ⟨2, _⟩ => show win0_6.index t 2 * 256 ≤ (i 2 : Nat) ∧ (i 2 : Nat) < win0_6.index t 2 * 256 + 256
                rw [(e t).2.2, Nat.zero_mul, Nat.zero_add]; exact ⟨Nat.zero_le _, h2⟩

theorem cover6 (i : S2x512x256.Idx) : ∃ t : Fin cfg0.N, (cfg0.win 6).flush t = true ∧ i ∈ ((cfg0.win 6).blk t).view.set := by
  have h0 : (i 0 : Nat) < 2 := (i 0).isLt
  have hN : cfg0.N = 2 := N_0
  refine ⟨⟨(i 0 : Nat), Nat.lt_of_lt_of_eq h0 hN.symm⟩, flush0_6 _, ?_⟩
  rw [mem_blk6]

theorem final6 : (dats m 0 c).arrAt 6 cfg0.N = G m c :=
  (dats m 0 c).arrAt_eq_of_cover 6 (G m c) (fun t _ => flushed6_eq m c t) cover6

end Cert.Proof.CmpValue

end
-- ==== Proof.CmpBlocks.lean ====
/- The compression's reference (program `Reference8Ideal`): its blocks and its two products, entry by entry. -/
module

public import proofs.«01_k».proof.Proof.CmpSpec
public import proofs.«01_k».proof.Proof.Gen.Reference8Ideal.Run

@[expose] public section

set_option maxRecDepth 16384

noncomputable section

open Idealize.ShloMosaic Idealize.ShloMosaic.TcCoe Idealize.SL.Sem

namespace Cert.Proof.CmpRef

open Cert.Reference8Ideal Cert.Reference8Ideal.Gen Cert.Reference8Ideal.Value
open Cert.Proof.CmpTile (gelu)

variable (U : FVec Ideal S2x8192x64 .f32) (P0 P1 : FVec Ideal S1x16x64 .f32) (W : FVec Ideal S1x2048x64 .f32) (O : FVec Ideal S1x64x64 .f32)

/-- The blocks of a kind and a group, with their positional rows. -/
def blocks : FVec Ideal S2x512x32x64 .f32 :=
  concatenate S2x512x32x64 2 [⟨S2x512x16x64, addf (shapeCast _ U shapeCasts_S2x8192x64_S2x512x16x64) (broadcastInDim S2x512x16x64 ![0, 1, 2, 3] bcast_S1x1x16x64_S2x512x16x64_0_1_2_3 (broadcastInDim S1x1x16x64 ![2, 3] bcast_S16x64_S1x1x16x64_2_3 (shapeCast _ P0 shapeCasts_S1x16x64_S16x64)))⟩,
    ⟨S2x512x16x64, concatenate S2x512x16x64 1 [⟨S2x511x16x64, addf (extractStridedSlice S2x511x16x64 ![0, 1, 0, 0] (shapeCast _ U shapeCasts_S2x8192x64_S2x512x16x64) slices_S2x512x16x64_S2x511x16x64_0_1_0_0) (broadcastInDim S2x511x16x64 ![0, 1, 2, 3] bcast_S1x1x16x64_S2x511x16x64_0_1_2_3 (broadcastInDim S1x1x16x64 ![2, 3] bcast_S16x64_S1x1x16x64_2_3 (shapeCast _ P1 shapeCasts_S1x16x64_S16x64)))⟩,
      ⟨S2x1x16x64, broadcastInDim S2x1x16x64 ![] bcast_S_S2x1x16x64 (constant S_ .f32 0x00000000#32)⟩] concatenates_S2x511x16x64_S2x1x16x64_S2x512x16x64_d1⟩] concatenates_S2x512x16x64_S2x512x16x64_S2x512x32x64_d2

/-- The first product. -/
def hid : FVec Ideal S2x512x64 .f32 :=
  Host.dotGeneral dot_S2x512x2048_S2048x64_S2x512x64_2_0_01_1_n_n none (shapeCast _ (blocks U P0 P1) shapeCasts_S2x512x32x64_S2x512x2048) (shapeCast _ W shapeCasts_S1x2048x64_S2048x64)

/-- The compressed entries of a kind and a group. -/
def part : FVec Ideal S2x512x64 .f32 :=
  Host.dotGeneral dot_S2x512x64_S64x64_S2x512x64_2_0_01_1_n_n none
    (mulf (hid U P0 P1 W) (mulf (broadcastInDim S2x512x64 ![] bcast_S_S2x512x64 (constant S_ .f32 0x3F000000#32)) (addf (broadcastInDim S2x512x64 ![] bcast_S_S2x512x64 (constant S_ .f32 0x3F800000#32)) (Host.tanh (mulf (broadcastInDim S2x512x64 ![] bcast_S_S2x512x64 (constant S_ .f32 0x3F4C422A#32))
      (addf (hid U P0 P1 W) (mulf (broadcastInDim S2x512x64 ![] bcast_S_S2x512x64 (constant S_ .f32 0x3D372713#32)) (mulf (mulf (hid U P0 P1 W) (hid U P0 P1 W)) (hid U P0 P1 W)))))))))
    (shapeCast _ O shapeCasts_S1x64x64_S64x64)

theorem blocks_apply (b : Fin 2) (n : Fin 512) (j : Fin 32) (d : Fin 64) : blocks U P0 P1 (ix4 b n j d) =
    if h : j.val < 16 then U (ix3 b ⟨n.val * 16 + j.val, by omega⟩ d) + P0 (ix3 0 ⟨j.val, h⟩ d)
    else if h' : n.val < 511 then U (ix3 b ⟨(1 + n.val) * 16 + (j.val - 16), by omega⟩ d) + P1 (ix3 0 ⟨j.val - 16, by omega⟩ d) else 0 := by
  unfold blocks
  pointwise

theorem hid_apply (b : Fin 2) (n : Fin 512) (e : Fin 64) : hid U P0 P1 W (ix3 b n e)
    = ∑ s : Fin 2048, blocks U P0 P1 (ix4 b n ⟨s.val / 64, by omega⟩ ⟨s.val % 64, by omega⟩) * W (ix3 0 s e) := by
  unfold hid
  pointwise

theorem part_eq (b : Fin 2) (n : Fin 512) (e : Fin 64) : part U P0 P1 W O (ix3 b n e) = ∑ k, gelu (hid U P0 P1 W (ix3 b n k)) * O (ix3 0 k e) := by
  unfold part gelu
  pointwise
  refine Finset.sum_congr rfl fun k _ => congrArg (fun t : EReal => t * O (ix3 0 k e)) ?_
  rw [← mul_assoc, mul_comm (hid U P0 P1 W (ix3 b n k) : EReal) (Ideal.ofBits FTy.f32 1056964608#32)]

theorem cat_apply (A B C D : FVec Ideal S2x512x64 .f32) (h : Shape.Concatenates [S2x512x64, S2x512x64, S2x512x64, S2x512x64] S2x512x256 2) (b : Fin 2) (n : Fin 512) (q : Fin 256) :
    concatenate S2x512x256 2 [⟨S2x512x64, A⟩, ⟨S2x512x64, B⟩, ⟨S2x512x64, C⟩, ⟨S2x512x64, D⟩] h (ix3 b n q)
     = if h : q.val < 64 then A (ix3 b n ⟨q.val, h⟩) else if h : q.val - 64 < 64 then B (ix3 b n ⟨q.val - 64, by omega⟩)
       else if h : q.val - 64 - 64 < 64 then C (ix3 b n ⟨q.val - 64 - 64, by omega⟩) else D (ix3 b n ⟨q.val - 64 - 64 - 64, by omega⟩) := by
  pointwise

theorem blocks_lo (b : Fin 2) (n : Fin 512) (j : Fin 32) (d : Fin 64) (h : j.val < 16) :
    blocks U P0 P1 (ix4 b n j d) = U (ix3 b ⟨n.val * 16 + j.val, by omega⟩ d) + P0 (ix3 0 ⟨j.val, h⟩ d) := by
  rw [blocks_apply, dif_pos h]
theorem blocks_hi (b : Fin 2) (n : Fin 512) (j : Fin 32) (d : Fin 64) (h : ¬j.val < 16) (hn : n.val < 511) :
    blocks U P0 P1 (ix4 b n j d) = U (ix3 b ⟨(1 + n.val) * 16 + (j.val - 16), by omega⟩ d) + P1 (ix3 0 ⟨j.val - 16, by omega⟩ d) := by
  rw [blocks_apply, dif_neg h, dif_pos hn]
theorem blocks_end (b : Fin 2) (n : Fin 512) (j : Fin 32) (d : Fin 64) (h : ¬j.val < 16) (hn : ¬n.val < 511) :
    blocks U P0 P1 (ix4 b n j d) = 0 := by
  rw [blocks_apply, dif_neg h, dif_neg hn]

end Cert.Proof.CmpRef

end
-- ==== Proof.CmpRef.lean ====
/- The compression's reference (program `Reference8Ideal`): its result is the formula, entry by entry. -/
module

public import proofs.«01_k».proof.Proof.CmpBlocks

@[expose] public section

set_option maxRecDepth 16384

noncomputable section

open Idealize.ShloMosaic Idealize.ShloMosaic.TcCoe Idealize.SL.Sem

namespace Cert.Proof.CmpRef

open Cert.Reference8Ideal Cert.Reference8Ideal.Gen Cert.Reference8Ideal.Value
open Cert.Proof.CmpTile (gelu)
open Cert.Proof.CmpSpec (half hid1 entry cmpG)

section
variable (x : FVec Ideal S2x8192x256 .f32) (pe : FVec Ideal S2x32x64 .f32) (w : FVec Ideal S2x2048x64 .f32) (v : FVec Ideal S2x64x64 .f32)
variable {U : FVec Ideal S2x8192x64 .f32} {P0 P1 : FVec Ideal S1x16x64 .f32} {W : FVec Ideal S1x2048x64 .f32} {O : FVec Ideal S1x64x64 .f32} {l g : Fin 2}

/-- The first product is the sum of a block's two halves, -/
theorem hid_eq (hU : ∀ b j d, U (ix3 b j d) = x (ix3 b j ⟨l.val * 128 + g.val * 64 + d.val, by omega⟩))
    (hP0 : ∀ j d, P0 (ix3 0 j d) = pe (ix3 l ⟨j.val, by omega⟩ d)) (hP1 : ∀ j d, P1 (ix3 0 j d) = pe (ix3 l ⟨16 + j.val, by omega⟩ d))
    (hW : ∀ s e, W (ix3 0 s e) = w (ix3 l s e)) (b : Fin 2) (n : Fin 512) (e : Fin 64) :
    hid U P0 P1 W (ix3 b n e) = hid1 x pe w b n l g e := by
  rw [hid_apply]
  refine (Fin.sum_univ_add (a := 1024) (b := 1024) _).trans ?_
  unfold hid1
  refine congrArg₂ (fun p q : EReal => p + q) ?_ ?_
  · unfold half
    refine Finset.sum_congr rfl fun s _ => congrArg₂ (fun p q : EReal => p * q) ?_ ?_
    · refine (blocks_lo U P0 P1 b n _ _ (by show s.val / 64 < 16; omega)).trans ?_
      refine congrArg₂ (fun p q : EReal => p + q) ((hU _ _ _).trans rfl) ((hP0 _ _).trans (congrArg pe ?_))
      congr 1 <;> apply Fin.ext <;> (show s.val / 64 = 0 * 16 + s.val / 64) <;> omega
    · refine (hW _ e).trans (congrArg w ?_)
      congr 1 <;> apply Fin.ext <;> (show s.val = 0 * 1024 + s.val) <;> omega
  · by_cases hn : n.val < 511
    · rw [dif_pos hn]
      unfold half
      refine Finset.sum_congr rfl fun s _ => congrArg₂ (fun p q : EReal => p * q) ?_ ?_
      · refine (blocks_hi U P0 P1 b n _ _ (by show ¬(1024 + s.val) / 64 < 16; omega) hn).trans ?_
        refine congrArg₂ (fun p q : EReal => p + q) ((hU _ _ _).trans (congrArg x ?_)) ((hP1 _ _).trans (congrArg pe ?_))
        · congr 1 <;> apply Fin.ext
          · show (1 + n.val) * 16 + ((1024 + s.val) / 64 - 16) = (n.val + 1) * 16 + s.val / 64; omega
          · show l.val * 128 + g.val * 64 + (1024 + s.val) % 64 = l.val * 128 + g.val * 64 + s.val % 64; omega
        · congr 1 <;> apply Fin.ext
          · show 16 + ((1024 + s.val) / 64 - 16) = 1 * 16 + s.val / 64; omega
          · show (1024 + s.val) % 64 = s.val % 64; omega
      · refine (hW _ e).trans (congrArg w ?_)
        congr 1 <;> apply Fin.ext <;> (show 1024 + s.val = 1 * 1024 + s.val) <;> omega
    · rw [dif_neg hn]
      refine Finset.sum_eq_zero fun s _ => ?_
      refine (congrArg (fun t : EReal => t * W _) (blocks_end U P0 P1 b n _ _ (by show ¬(1024 + s.val) / 64 < 16; omega) hn)).trans ?_
      exact zero_mul (W _ : EReal)

/-- and so the entries are the formula's. -/
theorem part_apply (hU : ∀ b j d, U (ix3 b j d) = x (ix3 b j ⟨l.val * 128 + g.val * 64 + d.val, by omega⟩))
    (hP0 : ∀ j d, P0 (ix3 0 j d) = pe (ix3 l ⟨j.val, by omega⟩ d)) (hP1 : ∀ j d, P1 (ix3 0 j d) = pe (ix3 l ⟨16 + j.val, by omega⟩ d))
    (hW : ∀ s e, W (ix3 0 s e) = w (ix3 l s e)) (hO : ∀ k e, O (ix3 0 k e) = v (ix3 l k e)) (b : Fin 2) (n : Fin 512) (e : Fin 64) :
    part U P0 P1 W O (ix3 b n e) = entry x pe w v b n l g e := by
  rw [part_eq]
  unfold entry
  refine Finset.sum_congr rfl fun k _ => congrArg₂ (fun p q : EReal => gelu p * q) (hid_eq x pe w hU hP0 hP1 hW b n k) (hO k e)

/-- The slices of the arguments. -/
theorem sU (o : ℕ) (ho : o + 64 ≤ 256) (h : S2x8192x256.Slices ![0, 0, o] S2x8192x64) (b : Fin 2) (j : Fin 8192) (d : Fin 64) :
    extractStridedSlice S2x8192x64 ![0, 0, o] x h (ix3 b j d) = x (ix3 b j ⟨o + d.val, by omega⟩) := by
  pointwise
theorem sP (l : Fin 2) (o : ℕ) (ho : o + 16 ≤ 32) (h : S2x32x64.Slices ![l.val, o, 0] S1x16x64) (j : Fin 16) (d : Fin 64) :
    extractStridedSlice S1x16x64 ![l.val, o, 0] pe h (ix3 0 j d) = pe (ix3 l ⟨o + j.val, by omega⟩ d) := by
  pointwise
theorem sW (l : Fin 2) (h : S2x2048x64.Slices ![l.val, 0, 0] S1x2048x64) (s : Fin 2048) (e : Fin 64) :
    extractStridedSlice S1x2048x64 ![l.val, 0, 0] w h (ix3 0 s e) = w (ix3 l s e) := by
  pointwise
theorem sO (l : Fin 2) (h : S2x64x64.Slices ![l.val, 0, 0] S1x64x64) (s : Fin 64) (e : Fin 64) :
    extractStridedSlice S1x64x64 ![l.val, 0, 0] v h (ix3 0 s e) = v (ix3 l s e) := by
  pointwise

/-- The part of a kind and a group, from the arguments. -/
def partOf (l g : ℕ) (hU : S2x8192x256.Slices ![0, 0, l * 128 + g * 64] S2x8192x64) (h0 : S2x32x64.Slices ![l, 0, 0] S1x16x64) (h1 : S2x32x64.Slices ![l, 16, 0] S1x16x64)
    (hW : S2x2048x64.Slices ![l, 0, 0] S1x2048x64) (hO : S2x64x64.Slices ![l, 0, 0] S1x64x64) : FVec Ideal S2x512x64 .f32 :=
  part (extractStridedSlice S2x8192x64 ![0, 0, l * 128 + g * 64] x hU) (extractStridedSlice S1x16x64 ![l, 0, 0] pe h0) (extractStridedSlice S1x16x64 ![l, 16, 0] pe h1)
    (extractStridedSlice S1x2048x64 ![l, 0, 0] w hW) (extractStridedSlice S1x64x64 ![l, 0, 0] v hO)

theorem partOf_apply (l g : Fin 2) (hU h0 h1 hW hO) (b : Fin 2) (n : Fin 512) (e : Fin 64) :
    partOf x pe w v l.val g.val hU h0 h1 hW hO (ix3 b n e) = entry x pe w v b n l g e := by
  refine part_apply x pe w v (fun b j d => sU x _ (by omega) hU b j d) (fun j d => (sP pe l 0 (by omega) h0 j d).trans ?_) (fun j d => sP pe l 16 (by omega) h1 j d)
    (fun s e => sW w l hW s e) (fun s e => sO v l hO s e) b n e
  congr 2
  apply Fin.ext
  exact Nat.zero_add _

end

variable (m : (ℓ : Loc nD τ sig) → Buf (Elt Ideal) ℓ) (c : Dev nD)

abbrev xr : FVec Ideal S2x8192x256 .f32 := m ((c.tc : Thread nD τ).loc main_arg0)
abbrev pr : FVec Ideal S2x32x64 .f32 := m ((c.tc : Thread nD τ).loc main_arg1)
abbrev wr : FVec Ideal S2x2048x64 .f32 := m ((c.tc : Thread nD τ).loc main_arg2)
abbrev vr : FVec Ideal S2x64x64 .f32 := m ((c.tc : Thread nD τ).loc main_arg3)

theorem res_eq : res_out0 m c = concatenate S2x512x256 2
    [⟨S2x512x64, partOf (xr m c) (pr m c) (wr m c) (vr m c) 0 0 slices_S2x8192x256_S2x8192x64_0_0_0 slices_S2x32x64_S1x16x64_0_0_0 slices_S2x32x64_S1x16x64_0_16_0 slices_S2x2048x64_S1x2048x64_0_0_0 slices_S2x64x64_S1x64x64_0_0_0⟩,
     ⟨S2x512x64, partOf (xr m c) (pr m c) (wr m c) (vr m c) 0 1 slices_S2x8192x256_S2x8192x64_0_0_64 slices_S2x32x64_S1x16x64_0_0_0 slices_S2x32x64_S1x16x64_0_16_0 slices_S2x2048x64_S1x2048x64_0_0_0 slices_S2x64x64_S1x64x64_0_0_0⟩,
     ⟨S2x512x64, partOf (xr m c) (pr m c) (wr m c) (vr m c) 1 0 slices_S2x8192x256_S2x8192x64_0_0_128 slices_S2x32x64_S1x16x64_1_0_0 slices_S2x32x64_S1x16x64_1_16_0 slices_S2x2048x64_S1x2048x64_1_0_0 slices_S2x64x64_S1x64x64_1_0_0⟩,
     ⟨S2x512x64, partOf (xr m c) (pr m c) (wr m c) (vr m c) 1 1 slices_S2x8192x256_S2x8192x64_0_0_192 slices_S2x32x64_S1x16x64_1_0_0 slices_S2x32x64_S1x16x64_1_16_0 slices_S2x2048x64_S1x2048x64_1_0_0 slices_S2x64x64_S1x64x64_1_0_0⟩]
    concatenates_S2x512x64_S2x512x64_S2x512x64_S2x512x64_S2x512x256_d2 := by
  unfold res_out0 res_main_v144 partOf part hid blocks
  rfl

/-- The reference's result. -/
theorem res_apply (b : Fin 2) (n : Fin 512) (q : Fin 256) : res_out0 m c (ix3 b n q) = cmpG (xr m c) (pr m c) (wr m c) (vr m c) b n q := by
  rw [res_eq, cat_apply]
  unfold cmpG
  by_cases h0 : q.val < 64
  · rw [dif_pos h0]
    refine (partOf_apply _ _ _ _ 0 0 _ _ _ _ _ b n _).trans ?_
    congr 1 <;> apply Fin.ext
    · show 0 = q.val / 128; omega
    · show 0 = q.val / 64 % 2; omega
    · show q.val = q.val % 64; omega
  rw [dif_neg h0]
  by_cases h1 : q.val - 64 < 64
  · rw [dif_pos h1]
    refine (partOf_apply _ _ _ _ 0 1 _ _ _ _ _ b n _).trans ?_
    congr 1 <;> apply Fin.ext
    · show 0 = q.val / 128; omega
    · show 1 = q.val / 64 % 2; omega
    · show q.val - 64 = q.val % 64; omega
  rw [dif_neg h1]
  by_cases h2 : q.val - 64 - 64 < 64
  · rw [dif_pos h2]
    refine (partOf_apply _ _ _ _ 1 0 _ _ _ _ _ b n _).trans ?_
    congr 1 <;> apply Fin.ext
    · show 1 = q.val / 128; omega
    · show 0 = q.val / 64 % 2; omega
    · show q.val - 64 - 64 = q.val % 64; omega
  · rw [dif_neg h2]
    refine (partOf_apply _ _ _ _ 1 1 _ _ _ _ _ b n _).trans ?_
    congr 1 <;> apply Fin.ext
    · show 1 = q.val / 128; omega
    · show 1 = q.val / 64 % 2; omega
    · show q.val - 64 - 64 - 64 = q.val % 64; omega

end Cert.Proof.CmpRef

end
-- ==== Proof.Cmp.lean ====
/- The compression of keys and values (the call `compress`, program `Kernel8`): the claims of the call. -/
module

public import proofs.«01_k».proof.Defs
public import proofs.«01_k».proof.Proof.Gen.Kernel8.Frame
public import proofs.«01_k».proof.Proof.CmpValue
public import proofs.«01_k».proof.Proof.CmpRef
public import Idealize.ShloMosaic.Lib.Quiescent

@[expose] public section

set_option maxRecDepth 16384

noncomputable section

open Idealize.ShloMosaic Idealize.ShloMosaic.TcCoe Idealize.SL.Sem

namespace Cert.Proof.Cmp

theorem frame_k : Cert.quiescent_Kernel8 := fun m ρ _ => Cert.Kernel8.Gen.frame m ρ
theorem frame_ki : Cert.quiescent_Kernel8Ideal := fun m ρ _ => Cert.Kernel8Ideal.Gen.frame m ρ
theorem frame_r : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem preserves : Cert.preserves_Kernel8_Kernel8Ideal := trivial

/-- The compressed keys and values are the reference's. -/
theorem algebraic : Cert.algebraic_Kernel8Ideal_Reference8Ideal := by
  intro m ρ m' ρ' _ hagree
  refine ⟨fun c => CmpValue.G m c, ?_, ?_⟩
  · exact (θ_run Cert.Kernel8Ideal.defs _ _).mono (fun _ h c => ⟨(h c).1.trans (CmpValue.final6 m c), (h c).2⟩)
      (Cert.Kernel8Ideal.Value.run_blocks (F := Ideal) m ρ)
  refine (θ_run Cert.Reference8Ideal.defs _ _).mono (fun _ h c => ⟨(h c).1.trans ?_, (h c).2⟩)
    (Cert.Reference8Ideal.Value.run (F := Ideal) m' ρ')
  obtain ⟨h0, h1, h2, h3⟩ := hagree c
  funext i
  obtain ⟨b, n, q, rfl⟩ : ∃ b n q, i = ix3 b n q := ⟨i 0, i 1, i 2, eq_ix3 i⟩
  refine (CmpRef.res_apply m' c b n q).trans ?_
  show CmpSpec.cmpG (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) b n q
    = CmpSpec.cmpG (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) b n q
  rw [h0, h1, h2, h3]

end Cert.Proof.Cmp

end
-- ==== Proof.lean ====
module

public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Ffn
public import proofs.«01_k».proof.Proof.Merge
public import proofs.«01_k».proof.Proof.Proj
public import proofs.«01_k».proof.Proof.Norm
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Frame
public import proofs.«01_k».proof.Proof.Conv
public import proofs.«01_k».proof.Proof.Pool
public import proofs.«01_k».proof.Proof.Cmp
public import Idealize.ShloMosaic.Adequacy
public import Idealize.ShloMosaic.Init

@[expose] public section

noncomputable section

namespace Cert.Proof

open Idealize.ShloMosaic Idealize.SL.Sem

theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Ffn.frame_k, Ffn.frame_ki, Ffn.frame_r, Merge.frame_k, Merge.frame_ki, Merge.frame_r,
  Proj.frame_k, Proj.frame_ki, Proj.frame_r, Norm.frame_k, Norm.frame_ki, Norm.frame_r,
  Conv.frame_k, Conv.frame_ki, Conv.frame_r, Pool.frame_k, Pool.frame_ki, Pool.frame_r, Cmp.frame_k, Cmp.frame_ki, Cmp.frame_r,
  Ffn.preserves, Ffn.algebraic, Merge.preserves, Merge.algebraic, Proj.preserves, Proj.algebraic, Norm.preserves, Norm.algebraic,
  Conv.preserves, Conv.algebraic, Pool.preserves, Pool.algebraic,
  Cmp.preserves, Cmp.algebraic⟩

end Cert.Proof

end
